-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed_KernelIdeal [hPre_well_formed_KernelIdeal : Cert.Pre_well_formed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed_ReferenceIdeal [hPre_well_formed_ReferenceIdeal : Cert.Pre_well_formed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed_KernelIdeal [hKernelIdeal : Cert.KernelIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed_ReferenceIdeal [hReferenceIdeal : Cert.ReferenceIdeal.Facts] [hPre_well_formed_ReferenceIdeal : Cert.Pre_well_formed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_well_formed_KernelIdeal [hKernelIdeal : Cert.KernelIdeal.Facts] [hReferenceIdeal : Cert.ReferenceIdeal.Facts] [hPre_well_formed_KernelIdeal : Cert.Pre_well_formed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![256, 32, 16, 128]⟩ ⟨4, ![1024, 32, 16, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![256, 32, 16, 128]⟩ ⟨4, ![1024, 32, 16, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed_KernelIdeal : Cert.Pre_well_formed_KernelIdeal.Facts) (hPre_well_formed_ReferenceIdeal : Cert.Pre_well_formed_ReferenceIdeal.Facts),
    quiescent_Kernel (hKernel := hKernel)
    ∧ quiescent_KernelIdeal (hKernelIdeal := hKernelIdeal)
    ∧ quiescent_KernelIdeal_pre_well_formed_KernelIdeal (hKernelIdeal := hKernelIdeal) (hPre_well_formed_KernelIdeal := hPre_well_formed_KernelIdeal)
    ∧ quiescent_ReferenceIdeal (hReferenceIdeal := hReferenceIdeal)
    ∧ quiescent_ReferenceIdeal_pre_well_formed_ReferenceIdeal (hReferenceIdeal := hReferenceIdeal) (hPre_well_formed_ReferenceIdeal := hPre_well_formed_ReferenceIdeal)
    ∧ preserves_Kernel_KernelIdeal
    ∧ algebraic_KernelIdeal_ReferenceIdeal_pre_well_formed_KernelIdeal (hKernelIdeal := hKernelIdeal) (hReferenceIdeal := hReferenceIdeal) (hPre_well_formed_KernelIdeal := hPre_well_formed_KernelIdeal)
-- ==== Pre_well_formed_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S_ : Shape := ⟨0, ![]⟩
abbrev S32x1 : Shape := ⟨2, ![32, 1]⟩

class Facts : Prop where
  bcast_S256_S1x256_1 : S256.BroadcastsInDim S1x256 (![1] : Fin 1 → Fin S1x256.rank)
  bcast_S_S32x256 : S_.BroadcastsInDim S32x256 (![] : Fin 0 → Fin S32x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_part1 {F : FTy → Type} [FloatOps F] (main_arg4 : IVec S32 32) (main_v11 : IVec S32x256 1) (main_v15 : IVec S_ 1) (main_v18 : IVec S256x32x16x128 1) : IVec S_ 1 :=
  let main_c_3 : IVec S_ 1 := constantI S_ 1 1#1
  let main_v19 : IVec S_ 1 := (fun x v => Host.reduce IntOp.andi x v reducesTo_S256x32x16x128_S_d0_1_2_3 h_S_) main_v18 main_c_3
  let main_v20 : IVec S_ 1 := andi main_v15 main_v19
  let main_c_4 : IVec S_ 32 := constantI S_ 32 1#32
  let main_v21 : IVec S32 32 := broadcastInDim S32 ![] bcast_S_S32 main_c_4
  let main_v22 : IVec S32 1 := cmpi .sge main_arg4 main_v21
  let main_c_5 : IVec S_ 1 := constantI S_ 1 1#1
  let main_v23 : IVec S_ 1 := (fun x v => Host.reduce IntOp.andi x v reducesTo_S32_S_d0 h_S_) main_v22 main_c_5
  let main_v24 : IVec S_ 1 := andi main_v20 main_v23
  let main_c_6 : IVec S_ 1 := constantI S_ 1 1#1
  let main_v25 : IVec S_ 1 := (fun x v => Host.reduce IntOp.andi x v reducesTo_S32x256_S_d0_1 h_S_) main_v11 main_c_6
  let main_v26 : IVec S_ 1 := andi main_v24 main_v25
  main_v26

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_c : IVec S_ 32 := constantI S_ 32 0#32
  let main_v2 : IVec S32x256 32 := broadcastInDim S32x256 ![] bcast_S_S32x256 main_c
  let main_v3 : IVec S32x256 1 := cmpi .sge main_arg3 main_v2
  let main_c_0 : IVec S_ 32 := constantI S_ 32 1024#32
  let main_v4 : IVec S32x256 32 := broadcastInDim S32x256 ![] bcast_S_S32x256 main_c_0
  let main_v5 : IVec S32x256 1 := cmpi .slt main_arg3 main_v4
  let main_v6 : IVec S32x256 1 := andi main_v3 main_v5
  let main_v7 : IVec S32x1 32 := broadcastInDim S32x1 ![0] bcast_S32_S32x1_0 main_arg4
  let main_v8 : IVec S32x256 32 := broadcastInDim S32x256 ![0, 1] bcast_S1x256_S32x256_0_1 main_v1
  let main_v9 : IVec S32x256 32 := broadcastInDim S32x256 ![0, 1] bcast_S32x1_S32x256_0_1 main_v7
  let main_v10 : IVec S32x256 1 := cmpi .sge main_v8 main_v9
  let main_v11 : IVec S32x256 1 := ori main_v6 main_v10
  let main_v12 : FVec F S32x1x16x128 .f32 := Host.absf main_arg0
  let main_cst : FVec F S_ .f32 := constant S_ .f32 0x7F800000#32
  let main_v13 : FVec F S32x1x16x128 .f32 := broadcastInDim S32x1x16x128 ![] bcast_S_S32x1x16x128 main_cst
  let main_v14 : IVec S32x1x16x128 1 := cmpf .olt main_v12 main_v13
  let main_c_1 : IVec S_ 1 := constantI S_ 1 1#1
  let main_v15 : IVec S_ 1 := (fun x v => Host.reduce IntOp.andi x v reducesTo_S32x1x16x128_S_d0_1_2_3 h_S_) main_v14 main_c_1
  let main_v16 : FVec F S256x32x16x128 .f32 := Host.absf main_arg1
  let main_cst_2 : FVec F S_ .f32 := constant S_ .f32 0x7F800000#32
  let main_v17 : FVec F S256x32x16x128 .f32 := broadcastInDim S256x32x16x128 ![] bcast_S_S256x32x16x128 main_cst_2
  let main_v18 : IVec S256x32x16x128 1 := cmpf .olt main_v16 main_v17
  fn_part1 (F := F) main_arg4 main_v11 main_v15 main_v18
-- ==== Pre_well_formed_ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S_ : Shape := ⟨0, ![]⟩
abbrev S32x1 : Shape := ⟨2, ![32, 1]⟩

class Facts : Prop where
  bcast_S256_S1x256_1 : S256.BroadcastsInDim S1x256 (![1] : Fin 1 → Fin S1x256.rank)
  bcast_S_S32x256 : S_.BroadcastsInDim S32x256 (![] : Fin 0 → Fin S32x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S1024x32x16x128 : S_.BroadcastsInDim S1024x32x16x128 (![] : Fin 0 → Fin S1024x32x16x128.rank)
  reducesTo_S1024x32x16x128_S_d0_1_2_3 : S1024x32x16x128.ReducesTo [0, 1, 2, 3] S_
  bcast_S_S32 : S_.BroadcastsInDim S32 (![] : Fin 0 → Fin S32.rank)
  reducesTo_S32_S_d0 : S32.ReducesTo [0] S_
  reducesTo_S32x256_S_d0_1 : S32x256.ReducesTo [0, 1] S_

variable [Facts]

def fn_part1 {F : FTy → Type} [FloatOps F] (main_arg4 : IVec S32 32) (main_v11 : IVec S32x256 1) (main_v15 : IVec S_ 1) (main_v18 : IVec S1024x32x16x128 1) : IVec S_ 1 :=
  let main_c_3 : IVec S_ 1 := constantI S_ 1 1#1
  let main_v19 : IVec S_ 1 := (fun x v => Host.reduce IntOp.andi x v reducesTo_S1024x32x16x128_S_d0_1_2_3 h_S_) main_v18 main_c_3
  let main_v20 : IVec S_ 1 := andi main_v15 main_v19
  let main_c_4 : IVec S_ 32 := constantI S_ 32 1#32
  let main_v21 : IVec S32 32 := broadcastInDim S32 ![] bcast_S_S32 main_c_4
  let main_v22 : IVec S32 1 := cmpi .sge main_arg4 main_v21
  let main_c_5 : IVec S_ 1 := constantI S_ 1 1#1
  let main_v23 : IVec S_ 1 := (fun x v => Host.reduce IntOp.andi x v reducesTo_S32_S_d0 h_S_) main_v22 main_c_5
  let main_v24 : IVec S_ 1 := andi main_v20 main_v23
  let main_c_6 : IVec S_ 1 := constantI S_ 1 1#1
  let main_v25 : IVec S_ 1 := (fun x v => Host.reduce IntOp.andi x v reducesTo_S32x256_S_d0_1 h_S_) main_v11 main_c_6
  let main_v26 : IVec S_ 1 := andi main_v24 main_v25
  main_v26

def fn {F : FTy → Type} [FloatOps F] (main_arg0 : FVec F S32x1x16x128 .f32) (main_arg1 : FVec F S1024x32x16x128 .f32) (main_arg2 : FVec F S1024x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_c : IVec S_ 32 := constantI S_ 32 0#32
  let main_v2 : IVec S32x256 32 := broadcastInDim S32x256 ![] bcast_S_S32x256 main_c
  let main_v3 : IVec S32x256 1 := cmpi .sge main_arg3 main_v2
  let main_c_0 : IVec S_ 32 := constantI S_ 32 1024#32
  let main_v4 : IVec S32x256 32 := broadcastInDim S32x256 ![] bcast_S_S32x256 main_c_0
  let main_v5 : IVec S32x256 1 := cmpi .slt main_arg3 main_v4
  let main_v6 : IVec S32x256 1 := andi main_v3 main_v5
  let main_v7 : IVec S32x1 32 := broadcastInDim S32x1 ![0] bcast_S32_S32x1_0 main_arg4
  let main_v8 : IVec S32x256 32 := broadcastInDim S32x256 ![0, 1] bcast_S1x256_S32x256_0_1 main_v1
  let main_v9 : IVec S32x256 32 := broadcastInDim S32x256 ![0, 1] bcast_S32x1_S32x256_0_1 main_v7
  let main_v10 : IVec S32x256 1 := cmpi .sge main_v8 main_v9
  let main_v11 : IVec S32x256 1 := ori main_v6 main_v10
  let main_v12 : FVec F S32x1x16x128 .f32 := Host.absf main_arg0
  let main_cst : FVec F S_ .f32 := constant S_ .f32 0x7F800000#32
  let main_v13 : FVec F S32x1x16x128 .f32 := broadcastInDim S32x1x16x128 ![] bcast_S_S32x1x16x128 main_cst
  let main_v14 : IVec S32x1x16x128 1 := cmpf .olt main_v12 main_v13
  let main_c_1 : IVec S_ 1 := constantI S_ 1 1#1
  let main_v15 : IVec S_ 1 := (fun x v => Host.reduce IntOp.andi x v reducesTo_S32x1x16x128_S_d0_1_2_3 h_S_) main_v14 main_c_1
  let main_v16 : FVec F S1024x32x16x128 .f32 := Host.absf main_arg1
  let main_cst_2 : FVec F S_ .f32 := constant S_ .f32 0x7F800000#32
  let main_v17 : FVec F S1024x32x16x128 .f32 := broadcastInDim S1024x32x16x128 ![] bcast_S_S1024x32x16x128 main_cst_2
  let main_v18 : IVec S1024x32x16x128 1 := cmpf .olt main_v16 main_v17
  fn_part1 (F := F) main_arg4 main_v11 main_v15 main_v18
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x256x1 : Shape := ⟨3, ![32, 256, 1]⟩
abbrev S1 : Shape := ⟨1, ![1]⟩
abbrev S1x1x1 : Shape := ⟨3, ![1, 1, 1]⟩
abbrev S4x3x32x16x128 : Shape := ⟨5, ![4, 3, 32, 16, 128]⟩
abbrev S2x8x32x16x128 : Shape := ⟨5, ![2, 8, 32, 16, 128]⟩
abbrev S2x2x8 : Shape := ⟨3, ![2, 2, 8]⟩
abbrev S4 : Shape := ⟨1, ![4]⟩
abbrev S128x1 : Shape := ⟨2, ![128, 1]⟩
abbrev S1x1x16x128 : Shape := ⟨4, ![1, 1, 16, 128]⟩
abbrev S16x128 : Shape := ⟨2, ![16, 128]⟩
abbrev S1x1 : Shape := ⟨2, ![1, 1]⟩
abbrev S1x1x32x16x128 : Shape := ⟨5, ![1, 1, 32, 16, 128]⟩
abbrev S32x16x128 : Shape := ⟨3, ![32, 16, 128]⟩
abbrev S1x32x16x128 : Shape := ⟨4, ![1, 32, 16, 128]⟩
abbrev S16x1 : Shape := ⟨2, ![16, 1]⟩
abbrev S1x8x32x16x128 : Shape := ⟨5, ![1, 8, 32, 16, 128]⟩
abbrev S8x32x16x128 : Shape := ⟨4, ![8, 32, 16, 128]⟩
abbrev S256x16x128 : Shape := ⟨3, ![256, 16, 128]⟩
abbrev S1x16x128 : Shape := ⟨3, ![1, 16, 128]⟩
abbrev S4096x128 : Shape := ⟨2, ![4096, 128]⟩
abbrev S4096x1 : Shape := ⟨2, ![4096, 1]⟩
abbrev S256x16x1 : Shape := ⟨3, ![256, 16, 1]⟩
abbrev S1x16x1 : Shape := ⟨3, ![1, 16, 1]⟩
abbrev S1x1x1x16x128 : Shape := ⟨5, ![1, 1, 1, 16, 128]⟩
abbrev S1x3x32x16x128 : Shape := ⟨5, ![1, 3, 32, 16, 128]⟩
abbrev S3x32x16x128 : Shape := ⟨4, ![3, 32, 16, 128]⟩
abbrev S4x1x32x16x128 : Shape := ⟨5, ![4, 1, 32, 16, 128]⟩
abbrev S4x32x16x128 : Shape := ⟨4, ![4, 32, 16, 128]⟩

abbrev nBuf : Space → Nat
  | .hbm => 80
  | .vmem => 5
  | .smem => 2
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S1x256, .i32⟩
  | .hbm, ⟨13, _⟩ => ⟨S_, .i32⟩
  | .hbm, ⟨14, _⟩ => ⟨S_, .i32⟩
  | .hbm, ⟨15, _⟩ => ⟨S32x256, .i32⟩
  | .hbm, ⟨16, _⟩ => ⟨S32x256, .i32⟩
  | .hbm, ⟨17, _⟩ => ⟨S32x256, .i32⟩
  | .hbm, ⟨18, _⟩ => ⟨S_, .i32⟩
  | .hbm, ⟨19, _⟩ => ⟨S32x256, .i32⟩
  | .hbm, ⟨20, _⟩ => ⟨S32x256, .i1⟩
  | .hbm, ⟨21, _⟩ => ⟨S32x256, .i32⟩
  | .hbm, ⟨22, _⟩ => ⟨S32x256, .i32⟩
  | .hbm, ⟨23, _⟩ => ⟨S_, .i32⟩
  | .hbm, ⟨24, _⟩ => ⟨S32x256, .i32⟩
  | .hbm, ⟨25, _⟩ => ⟨S32x256, .i1⟩
  | .hbm, ⟨26, _⟩ => ⟨S32x256, .i1⟩
  | .hbm, ⟨27, _⟩ => ⟨S_, .i32⟩
  | .hbm, ⟨28, _⟩ => ⟨S32x256, .i32⟩
  | .hbm, ⟨29, _⟩ => ⟨S32x256, .i32⟩
  | .hbm, ⟨30, _⟩ => ⟨S32x256, .i32⟩
  | .hbm, ⟨31, _⟩ => ⟨S32x256, .i32⟩
  | .hbm, ⟨32, _⟩ => ⟨S32x256, .i1⟩
  | .hbm, ⟨33, _⟩ => ⟨S32x1, .i32⟩
  | .hbm, ⟨34, _⟩ => ⟨S32x256, .i32⟩
  | .hbm, ⟨35, _⟩ => ⟨S32x256, .i32⟩
  | .hbm, ⟨36, _⟩ => ⟨S32x256, .i1⟩
  | .hbm, ⟨37, _⟩ => ⟨S32x256, .i1⟩
  | .hbm, ⟨38, _⟩ => ⟨S32x256, .i1⟩
  | .hbm, ⟨39, _⟩ => ⟨S32x256, .i32⟩
  | .hbm, ⟨40, _⟩ => ⟨S32x256, .i1⟩
  | .hbm, ⟨41, _⟩ => ⟨S32x256, .i32⟩
  | .hbm, ⟨42, _⟩ => ⟨S_, .i32⟩
  | .hbm, ⟨43, _⟩ => ⟨S32x256, .i32⟩
  | .hbm, ⟨44, _⟩ => ⟨S32x256, .i1⟩
  | .hbm, ⟨45, _⟩ => ⟨S_, .i32⟩
  | .hbm, ⟨46, _⟩ => ⟨S32x256, .i32⟩
  | .hbm, ⟨47, _⟩ => ⟨S32x256, .i32⟩
  | .hbm, ⟨48, _⟩ => ⟨S32x256, .i32⟩
  | .hbm, ⟨49, _⟩ => ⟨S32x256x1, .i32⟩
  | .hbm, ⟨50, _⟩ => ⟨S1, .i32⟩
  | .hbm, ⟨51, _⟩ => ⟨S_, .i32⟩
  | .hbm, ⟨52, _⟩ => ⟨S32x256x1, .i32⟩
  | .hbm, ⟨53, _⟩ => ⟨S32x256x1, .i1⟩
  | .hbm, ⟨54, _⟩ => ⟨S1x1x1, .i32⟩
  | .hbm, ⟨55, _⟩ => ⟨S32x256x1, .i32⟩
  | .hbm, ⟨56, _⟩ => ⟨S32x256x1, .i1⟩
  | .hbm, ⟨57, _⟩ => ⟨S32x256x1, .i1⟩
  | .hbm, ⟨58, _⟩ => ⟨S_, .i1⟩
  | .hbm, ⟨59, _⟩ => ⟨S32x256, .i1⟩
  | .hbm, ⟨60, _⟩ => ⟨S32x256, .i32⟩
  | .hbm, ⟨61, _⟩ => ⟨S_, .i32⟩
  | .hbm, ⟨62, _⟩ => ⟨S32x256, .i32⟩
  | .hbm, ⟨63, _⟩ => ⟨S32x256, .i32⟩
  | .hbm, ⟨64, _⟩ => ⟨S_, .i32⟩
  | .hbm, ⟨65, _⟩ => ⟨S_, .i32⟩
  | .hbm, ⟨66, _⟩ => ⟨S32x256, .i32⟩
  | .hbm, ⟨67, _⟩ => ⟨S32x256, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S32x256, .i32⟩
  | .hbm, ⟨72, _⟩ => ⟨S32x256, .i32⟩
  | .hbm, ⟨73, _⟩ => ⟨S_, .i32⟩
  | .hbm, ⟨74, _⟩ => ⟨S32x256, .i32⟩
  | .hbm, ⟨75, _⟩ => ⟨S32x256, .i32⟩
  | .hbm, ⟨76, _⟩ => ⟨S32x256, .i32⟩
  | .hbm, ⟨77, _⟩ => ⟨S_, .i32⟩
  | .hbm, ⟨78, _⟩ => ⟨S32, .i32⟩
  | .hbm, ⟨79, _⟩ => ⟨S32x1x16x128, .f32⟩
  | .local _ .vmem, ⟨0, _⟩ => ⟨S32x1x16x128, .f32⟩
  | .local _ .vmem, ⟨1, _⟩ => ⟨S32x1x16x128, .f32⟩
  | .local _ .vmem, ⟨2, _⟩ => ⟨S4x3x32x16x128, .f32⟩
  | .local _ .vmem, ⟨3, _⟩ => ⟨S2x8x32x16x128, .f32⟩
  | .local _ .vmem, ⟨4, _⟩ => ⟨S2x8x32x16x128, .f32⟩
  | .local _ .smem, ⟨0, _⟩ => ⟨S32x256, .i32⟩
  | .local _ .smem, ⟨1, _⟩ => ⟨S32, .i32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call1_v0 : Ref sig .tc := ⟨.hbm, 39, rfl⟩
abbrev main_call1_v1_0 : Ref sig .tc := ⟨.hbm, 40, rfl⟩
abbrev main_v16 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_c_4 : Ref sig .tc := ⟨.hbm, 61, rfl⟩
abbrev main_call2_v14 : Ref sig .tc := ⟨.hbm, 62, rfl⟩
abbrev main_v17 : Ref sig .tc := ⟨.hbm, 63, rfl⟩
abbrev main_c_2 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_c_3 : Ref sig .tc := ⟨.hbm, 68, rfl⟩
abbrev main_c_4 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v21 : Ref sig .tc := ⟨.hbm, 75, rfl⟩
abbrev main_v22 : Ref sig .tc := ⟨.hbm, 76, rfl⟩
abbrev main_c_5 : Ref sig .tc := ⟨.hbm, 77, rfl⟩
abbrev main_v23 : Ref sig .tc := ⟨.hbm, 78, rfl⟩
abbrev main_v24 : Ref sig .tc := ⟨.hbm, 79, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v4 : BitVec 32 := Scalar.addi c0_i32 c32_i32
  let c1_i32_0 : BitVec 32 := 1#32
  ⟨c0_i32, v4, c1_i32_0⟩
def k0_off1 (k0_t1 : Fin k0_t1_loop.trips) : Fin 1 → Nat :=
  let c0_i32 : BitVec 32 := 0#32
  let c1_i32_0 : BitVec 32 := 1#32
  let arg12 : BitVec 32 := Scf.iv c0_i32 c1_i32_0 k0_t1
  let v115 : Index := Scalar.indexCast arg12
  ![v115.toNat]
def k0_off2 (k0_t1 : Fin k0_t1_loop.trips) : Fin 4 → Nat :=
  let c0_i32 : BitVec 32 := 0#32
  let c1_i32_0 : BitVec 32 := 1#32
  let arg12 : BitVec 32 := Scf.iv c0_i32 c1_i32_0 k0_t1
  let v120 : Index := Scalar.indexCast arg12
  let c0_166 : Index := 0#32
  let c0_167 : Index := 0#32
  let c0_168 : Index := 0#32
  ![v120.toNat, 0, 0, 0]
def k0_off3 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v154 : Index := Scalar.indexCast arg12
  let c0_191 : Index := 0#32
  ![v154.toNat, 0]
def k0_off4 (v155 : BitVec 32) : Fin 4 → Nat :=
  let c0_i32_200 : BitVec 32 := 0#32
  let c0_i32_201 : BitVec 32 := 0#32
  let c0_i32_202 : BitVec 32 := 0#32
  ![v155.toNat, 0, 0, 0]
def k0_cond1 (v116 : BitVec 32) : BitVec 1 :=
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let c0_i32_170 : BitVec 32 := 0#32
  let v125 : BitVec 1 := Scalar.cmpi .sgt v119 c0_i32_170
  let v126 : BitVec 32 := Scalar.extui v125
  let c0_i32_171 : BitVec 32 := 0#32
  let v127 : BitVec 1 := Scalar.cmpi .ne v126 c0_i32_171
  v127

def k0_chk1 (v116 : BitVec 32) (v155 : BitVec 32) : Prop :=
  (∀ (k0_h1 : k0_cond1 v116 = 1#1), ∀ a, (k0_off4 v155) a + S1x32x16x128.size a ≤ S256x32x16x128.size a)
theorem k0_off4_inb : ∀ (v116 : BitVec 32) (v155 : BitVec 32) (k0_hw1 : k0_chk1 v116 v155), ∀ (k0_h1 : k0_cond1 v116 = 1#1), ∀ a, (k0_off4 v155) a + S1x32x16x128.size a ≤ S256x32x16x128.size a := fun v116 v155 k0_hw1 k0_h1 => k0_hw1 k0_h1

def k0_off5 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v168 : Index := Scalar.indexCast arg12
  let c1_214 : Index := 1#32
  ![v168.toNat, 1]
def k0_off6 (v169 : BitVec 32) : Fin 4 → Nat :=
  let c0_i32_223 : BitVec 32 := 0#32
  let c0_i32_224 : BitVec 32 := 0#32
  let c0_i32_225 : BitVec 32 := 0#32
  ![v169.toNat, 0, 0, 0]

def k0_chk2 (v116 : BitVec 32) (v169 : BitVec 32) : Prop :=
  (∀ (k0_h1 : k0_cond1 v116 = 1#1), ∀ a, (k0_off6 v169) a + S1x32x16x128.size a ≤ S256x32x16x128.size a)
theorem k0_off6_inb : ∀ (v116 : BitVec 32) (v169 : BitVec 32) (k0_hw2 : k0_chk2 v116 v169), ∀ (k0_h1 : k0_cond1 v116 = 1#1), ∀ a, (k0_off6 v169) a + S1x32x16x128.size a ≤ S256x32x16x128.size a := fun v116 v169 k0_hw2 k0_h1 => k0_hw2 k0_h1

def k0_off7 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v182 : Index := Scalar.indexCast arg12
  let c2_237 : Index := 2#32
  ![v182.toNat, 2]
def k0_off8 (v183 : BitVec 32) : Fin 4 → Nat :=
  let c0_i32_246 : BitVec 32 := 0#32
  let c0_i32_247 : BitVec 32 := 0#32
  let c0_i32_248 : BitVec 32 := 0#32
  ![v183.toNat, 0, 0, 0]

def k0_chk3 (v116 : BitVec 32) (v183 : BitVec 32) : Prop :=
  (∀ (k0_h1 : k0_cond1 v116 = 1#1), ∀ a, (k0_off8 v183) a + S1x32x16x128.size a ≤ S256x32x16x128.size a)
theorem k0_off8_inb : ∀ (v116 : BitVec 32) (v183 : BitVec 32) (k0_hw3 : k0_chk3 v116 v183), ∀ (k0_h1 : k0_cond1 v116 = 1#1), ∀ a, (k0_off8 v183) a + S1x32x16x128.size a ≤ S256x32x16x128.size a := fun v116 v183 k0_hw3 k0_h1 => k0_hw3 k0_h1

def k0_off9 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v196 : Index := Scalar.indexCast arg12
  let c3 : Index := 3#32
  ![v196.toNat, 3]
def k0_off10 (v197 : BitVec 32) : Fin 4 → Nat :=
  let c0_i32_268 : BitVec 32 := 0#32
  let c0_i32_269 : BitVec 32 := 0#32
  let c0_i32_270 : BitVec 32 := 0#32
  ![v197.toNat, 0, 0, 0]

def k0_chk4 (v116 : BitVec 32) (v197 : BitVec 32) : Prop :=
  (∀ (k0_h1 : k0_cond1 v116 = 1#1), ∀ a, (k0_off10 v197) a + S1x32x16x128.size a ≤ S256x32x16x128.size a)
theorem k0_off10_inb : ∀ (v116 : BitVec 32) (v197 : BitVec 32) (k0_hw4 : k0_chk4 v116 v197), ∀ (k0_h1 : k0_cond1 v116 = 1#1), ∀ a, (k0_off10 v197) a + S1x32x16x128.size a ≤ S256x32x16x128.size a := fun v116 v197 k0_hw4 k0_h1 => k0_hw4 k0_h1

def k0_off11 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v210 : Index := Scalar.indexCast arg12
  let c4 : Index := 4#32
  ![v210.toNat, 4]
def k0_off12 (v211 : BitVec 32) : Fin 4 → Nat :=
  let c0_i32_290 : BitVec 32 := 0#32
  let c0_i32_291 : BitVec 32 := 0#32
  let c0_i32_292 : BitVec 32 := 0#32
  ![v211.toNat, 0, 0, 0]

def k0_chk5 (v116 : BitVec 32) (v211 : BitVec 32) : Prop :=
  (∀ (k0_h1 : k0_cond1 v116 = 1#1), ∀ a, (k0_off12 v211) a + S1x32x16x128.size a ≤ S256x32x16x128.size a)
theorem k0_off12_inb : ∀ (v116 : BitVec 32) (v211 : BitVec 32) (k0_hw5 : k0_chk5 v116 v211), ∀ (k0_h1 : k0_cond1 v116 = 1#1), ∀ a, (k0_off12 v211) a + S1x32x16x128.size a ≤ S256x32x16x128.size a := fun v116 v211 k0_hw5 k0_h1 => k0_hw5 k0_h1

def k0_off13 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v224 : Index := Scalar.indexCast arg12
  let c5 : Index := 5#32
  ![v224.toNat, 5]
def k0_off14 (v225 : BitVec 32) : Fin 4 → Nat :=
  let c0_i32_311 : BitVec 32 := 0#32
  let c0_i32_312 : BitVec 32 := 0#32
  let c0_i32_313 : BitVec 32 := 0#32
  ![v225.toNat, 0, 0, 0]

def k0_chk6 (v116 : BitVec 32) (v225 : BitVec 32) : Prop :=
  (∀ (k0_h1 : k0_cond1 v116 = 1#1), ∀ a, (k0_off14 v225) a + S1x32x16x128.size a ≤ S256x32x16x128.size a)
theorem k0_off14_inb : ∀ (v116 : BitVec 32) (v225 : BitVec 32) (k0_hw6 : k0_chk6 v116 v225), ∀ (k0_h1 : k0_cond1 v116 = 1#1), ∀ a, (k0_off14 v225) a + S1x32x16x128.size a ≤ S256x32x16x128.size a := fun v116 v225 k0_hw6 k0_h1 => k0_hw6 k0_h1

def k0_off15 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v238 : Index := Scalar.indexCast arg12
  let c6 : Index := 6#32
  ![v238.toNat, 6]
def k0_off16 (v239 : BitVec 32) : Fin 4 → Nat :=
  let c0_i32_332 : BitVec 32 := 0#32
  let c0_i32_333 : BitVec 32 := 0#32
  let c0_i32_334 : BitVec 32 := 0#32
  ![v239.toNat, 0, 0, 0]

def k0_chk7 (v116 : BitVec 32) (v239 : BitVec 32) : Prop :=
  (∀ (k0_h1 : k0_cond1 v116 = 1#1), ∀ a, (k0_off16 v239) a + S1x32x16x128.size a ≤ S256x32x16x128.size a)
theorem k0_off16_inb : ∀ (v116 : BitVec 32) (v239 : BitVec 32) (k0_hw7 : k0_chk7 v116 v239), ∀ (k0_h1 : k0_cond1 v116 = 1#1), ∀ a, (k0_off16 v239) a + S1x32x16x128.size a ≤ S256x32x16x128.size a := fun v116 v239 k0_hw7 k0_h1 => k0_hw7 k0_h1

def k0_off17 (k0_t1 : Fin k0_t1_loop.trips) : Fin 2 → Nat :=
  let c0_i32 : BitVec 32 := 0#32
  let c1_i32_0 : BitVec 32 := 1#32
  let arg12 : BitVec 32 := Scf.iv c0_i32 c1_i32_0 k0_t1
  let v252 : Index := Scalar.indexCast arg12
  let c7 : Index := 7#32
  ![v252.toNat, 7]
def k0_off18 (v253 : BitVec 32) : Fin 4 → Nat :=
  let c0_i32_353 : BitVec 32 := 0#32
  let c0_i32_354 : BitVec 32 := 0#32
  let c0_i32_355 : BitVec 32 := 0#32
  ![v253.toNat, 0, 0, 0]

def k0_chk8 (v116 : BitVec 32) (v253 : BitVec 32) : Prop :=
  (∀ (k0_h1 : k0_cond1 v116 = 1#1), ∀ a, (k0_off18 v253) a + S1x32x16x128.size a ≤ S256x32x16x128.size a)
theorem k0_off18_inb : ∀ (v116 : BitVec 32) (v253 : BitVec 32) (k0_hw8 : k0_chk8 v116 v253), ∀ (k0_h1 : k0_cond1 v116 = 1#1), ∀ a, (k0_off18 v253) a + S1x32x16x128.size a ≤ S256x32x16x128.size a := fun v116 v253 k0_hw8 k0_h1 => k0_hw8 k0_h1

@[reducible] def k0_t2_loop (v116 : BitVec 32) : Scf.Loop 32 :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_177 : BitVec 32 := 1#32
  ⟨c0_i32_175, v135, c1_i32_177⟩

def k0_off19 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v325 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_375 : BitVec 32 := 8#32
  let v323 : BitVec 32 := Scalar.muli v320 c8_i32_375
  let c0_i32_376 : BitVec 32 := 0#32
  let v324 : BitVec 32 := Scalar.addi v323 c0_i32_376
  let v326 : Index := Scalar.indexCast v324
  ![v325.toNat, v326.toNat]
def k0_cond2 (v116 : BitVec 32) (k0_t2 : Fin (k0_t2_loop v116).trips) : BitVec 1 :=
  let c0_i32_175 : BitVec 32 := 0#32
  let c1_i32_177 : BitVec 32 := 1#32
  let arg13 : BitVec 32 := Scf.iv c0_i32_175 c1_i32_177 k0_t2
  let c1_i32_192 : BitVec 32 := 1#32
  let v155 : BitVec 32 := Scalar.addi arg13 c1_i32_192
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v156 : BitVec 1 := Scalar.cmpi .slt v155 v119
  let v157 : BitVec 32 := Scalar.extui v156
  let c0_i32_193 : BitVec 32 := 0#32
  let v158 : BitVec 1 := Scalar.cmpi .ne v157 c0_i32_193
  v158

def k0_off20 (v116 : BitVec 32) (k0_t2 : Fin (k0_t2_loop v116).trips) : Fin 3 → Nat :=
  let c0_i32_378 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c0_i32_379 : BitVec 32 := 0#32
  ![0, v322.toNat, 0]
def k0_off21 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c0_i32_377 : BitVec 32 := 0#32
  let c0_i32_380 : BitVec 32 := 0#32
  let c0_i32_381 : BitVec 32 := 0#32
  let c0_i32_382 : BitVec 32 := 0#32
  ![v322.toNat, 0, 0, 0, 0]
def k0_off22 (v327 : BitVec 32) : Fin 4 → Nat :=
  let c0_i32_383 : BitVec 32 := 0#32
  let c0_i32_384 : BitVec 32 := 0#32
  let c0_i32_385 : BitVec 32 := 0#32
  ![v327.toNat, 0, 0, 0]

def k0_chk10 (v116 : BitVec 32) (k0_t2 : Fin (k0_t2_loop v116).trips) (v327 : BitVec 32) : Prop :=
  (∀ (k0_h2 : k0_cond2 v116 k0_t2 = 1#1), ∀ a, (k0_off22 v327) a + S1x32x16x128.size a ≤ S256x32x16x128.size a)
theorem k0_off22_inb : ∀ (v116 : BitVec 32) (k0_t2 : Fin (k0_t2_loop v116).trips) (v327 : BitVec 32) (k0_hw10 : k0_chk10 v116 k0_t2 v327), ∀ (k0_h2 : k0_cond2 v116 k0_t2 = 1#1), ∀ a, (k0_off22 v327) a + S1x32x16x128.size a ≤ S256x32x16x128.size a := fun v116 k0_t2 v327 k0_hw10 k0_h2 => k0_hw10 k0_h2

def k0_off23 (v116 : BitVec 32) (k0_t2 : Fin (k0_t2_loop v116).trips) : Fin 3 → Nat :=
  let c1_i32_387 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c0_i32_388 : BitVec 32 := 0#32
  ![1, v322.toNat, 0]
def k0_off24 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c0_i32_386 : BitVec 32 := 0#32
  let c0_i32_389 : BitVec 32 := 0#32
  let c0_i32_390 : BitVec 32 := 0#32
  let c0_i32_391 : BitVec 32 := 0#32
  ![v322.toNat, 0, 0, 0, 0]
def k0_off25 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v342 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_395 : BitVec 32 := 8#32
  let v340 : BitVec 32 := Scalar.muli v320 c8_i32_395
  let c1_i32_396 : BitVec 32 := 1#32
  let v341 : BitVec 32 := Scalar.addi v340 c1_i32_396
  let v343 : Index := Scalar.indexCast v341
  ![v342.toNat, v343.toNat]
def k0_off26 (v116 : BitVec 32) (k0_t2 : Fin (k0_t2_loop v116).trips) : Fin 3 → Nat :=
  let c0_i32_398 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c1_i32_399 : BitVec 32 := 1#32
  ![0, v322.toNat, 1]
def k0_off27 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c1_i32_397 : BitVec 32 := 1#32
  let c0_i32_400 : BitVec 32 := 0#32
  let c0_i32_401 : BitVec 32 := 0#32
  let c0_i32_402 : BitVec 32 := 0#32
  ![v322.toNat, 1, 0, 0, 0]
def k0_off28 (v344 : BitVec 32) : Fin 4 → Nat :=
  let c0_i32_403 : BitVec 32 := 0#32
  let c0_i32_404 : BitVec 32 := 0#32
  let c0_i32_405 : BitVec 32 := 0#32
  ![v344.toNat, 0, 0, 0]

def k0_chk11 (v116 : BitVec 32) (k0_t2 : Fin (k0_t2_loop v116).trips) (v344 : BitVec 32) : Prop :=
  (∀ (k0_h2 : k0_cond2 v116 k0_t2 = 1#1), ∀ a, (k0_off28 v344) a + S1x32x16x128.size a ≤ S256x32x16x128.size a)
theorem k0_off28_inb : ∀ (v116 : BitVec 32) (k0_t2 : Fin (k0_t2_loop v116).trips) (v344 : BitVec 32) (k0_hw11 : k0_chk11 v116 k0_t2 v344), ∀ (k0_h2 : k0_cond2 v116 k0_t2 = 1#1), ∀ a, (k0_off28 v344) a + S1x32x16x128.size a ≤ S256x32x16x128.size a := fun v116 k0_t2 v344 k0_hw11 k0_h2 => k0_hw11 k0_h2

def k0_off29 (v116 : BitVec 32) (k0_t2 : Fin (k0_t2_loop v116).trips) : Fin 3 → Nat :=
  let c1_i32_407 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c1_i32_408 : BitVec 32 := 1#32
  ![1, v322.toNat, 1]
def k0_off30 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c1_i32_406 : BitVec 32 := 1#32
  let c0_i32_409 : BitVec 32 := 0#32
  let c0_i32_410 : BitVec 32 := 0#32
  let c0_i32_411 : BitVec 32 := 0#32
  ![v322.toNat, 1, 0, 0, 0]
def k0_off31 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v359 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_415 : BitVec 32 := 8#32
  let v357 : BitVec 32 := Scalar.muli v320 c8_i32_415
  let c2_i32_416 : BitVec 32 := 2#32
  let v358 : BitVec 32 := Scalar.addi v357 c2_i32_416
  let v360 : Index := Scalar.indexCast v358
  ![v359.toNat, v360.toNat]
def k0_off32 (v116 : BitVec 32) (k0_t2 : Fin (k0_t2_loop v116).trips) : Fin 3 → Nat :=
  let c0_i32_418 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c2_i32_419 : BitVec 32 := 2#32
  ![0, v322.toNat, 2]
def k0_off33 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c2_i32_417 : BitVec 32 := 2#32
  let c0_i32_420 : BitVec 32 := 0#32
  let c0_i32_421 : BitVec 32 := 0#32
  let c0_i32_422 : BitVec 32 := 0#32
  ![v322.toNat, 2, 0, 0, 0]
def k0_off34 (v361 : BitVec 32) : Fin 4 → Nat :=
  let c0_i32_423 : BitVec 32 := 0#32
  let c0_i32_424 : BitVec 32 := 0#32
  let c0_i32_425 : BitVec 32 := 0#32
  ![v361.toNat, 0, 0, 0]

def k0_chk12 (v116 : BitVec 32) (k0_t2 : Fin (k0_t2_loop v116).trips) (v361 : BitVec 32) : Prop :=
  (∀ (k0_h2 : k0_cond2 v116 k0_t2 = 1#1), ∀ a, (k0_off34 v361) a + S1x32x16x128.size a ≤ S256x32x16x128.size a)
theorem k0_off34_inb : ∀ (v116 : BitVec 32) (k0_t2 : Fin (k0_t2_loop v116).trips) (v361 : BitVec 32) (k0_hw12 : k0_chk12 v116 k0_t2 v361), ∀ (k0_h2 : k0_cond2 v116 k0_t2 = 1#1), ∀ a, (k0_off34 v361) a + S1x32x16x128.size a ≤ S256x32x16x128.size a := fun v116 k0_t2 v361 k0_hw12 k0_h2 => k0_hw12 k0_h2

def k0_off35 (v116 : BitVec 32) (k0_t2 : Fin (k0_t2_loop v116).trips) : Fin 3 → Nat :=
  let c1_i32_427 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c2_i32_428 : BitVec 32 := 2#32
  ![1, v322.toNat, 2]
def k0_off36 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c2_i32_426 : BitVec 32 := 2#32
  let c0_i32_429 : BitVec 32 := 0#32
  let c0_i32_430 : BitVec 32 := 0#32
  let c0_i32_431 : BitVec 32 := 0#32
  ![v322.toNat, 2, 0, 0, 0]
def k0_off37 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v376 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_435 : BitVec 32 := 8#32
  let v374 : BitVec 32 := Scalar.muli v320 c8_i32_435
  let c3_i32_436 : BitVec 32 := 3#32
  let v375 : BitVec 32 := Scalar.addi v374 c3_i32_436
  let v377 : Index := Scalar.indexCast v375
  ![v376.toNat, v377.toNat]
def k0_off38 (v116 : BitVec 32) (k0_t2 : Fin (k0_t2_loop v116).trips) : Fin 3 → Nat :=
  let c0_i32_438 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c3_i32_439 : BitVec 32 := 3#32
  ![0, v322.toNat, 3]
def k0_off39 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c3_i32_437 : BitVec 32 := 3#32
  let c0_i32_440 : BitVec 32 := 0#32
  let c0_i32_441 : BitVec 32 := 0#32
  let c0_i32_442 : BitVec 32 := 0#32
  ![v322.toNat, 3, 0, 0, 0]
def k0_off40 (v378 : BitVec 32) : Fin 4 → Nat :=
  let c0_i32_443 : BitVec 32 := 0#32
  let c0_i32_444 : BitVec 32 := 0#32
  let c0_i32_445 : BitVec 32 := 0#32
  ![v378.toNat, 0, 0, 0]

def k0_chk13 (v116 : BitVec 32) (k0_t2 : Fin (k0_t2_loop v116).trips) (v378 : BitVec 32) : Prop :=
  (∀ (k0_h2 : k0_cond2 v116 k0_t2 = 1#1), ∀ a, (k0_off40 v378) a + S1x32x16x128.size a ≤ S256x32x16x128.size a)
theorem k0_off40_inb : ∀ (v116 : BitVec 32) (k0_t2 : Fin (k0_t2_loop v116).trips) (v378 : BitVec 32) (k0_hw13 : k0_chk13 v116 k0_t2 v378), ∀ (k0_h2 : k0_cond2 v116 k0_t2 = 1#1), ∀ a, (k0_off40 v378) a + S1x32x16x128.size a ≤ S256x32x16x128.size a := fun v116 k0_t2 v378 k0_hw13 k0_h2 => k0_hw13 k0_h2

def k0_off41 (v116 : BitVec 32) (k0_t2 : Fin (k0_t2_loop v116).trips) : Fin 3 → Nat :=
  let c1_i32_447 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c3_i32_448 : BitVec 32 := 3#32
  ![1, v322.toNat, 3]
def k0_off42 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c3_i32_446 : BitVec 32 := 3#32
  let c0_i32_449 : BitVec 32 := 0#32
  let c0_i32_450 : BitVec 32 := 0#32
  let c0_i32_451 : BitVec 32 := 0#32
  ![v322.toNat, 3, 0, 0, 0]
def k0_off43 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v393 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_455 : BitVec 32 := 8#32
  let v391 : BitVec 32 := Scalar.muli v320 c8_i32_455
  let c4_i32_456 : BitVec 32 := 4#32
  let v392 : BitVec 32 := Scalar.addi v391 c4_i32_456
  let v394 : Index := Scalar.indexCast v392
  ![v393.toNat, v394.toNat]
def k0_off44 (v116 : BitVec 32) (k0_t2 : Fin (k0_t2_loop v116).trips) : Fin 3 → Nat :=
  let c0_i32_458 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c4_i32_459 : BitVec 32 := 4#32
  ![0, v322.toNat, 4]
def k0_off45 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c4_i32_457 : BitVec 32 := 4#32
  let c0_i32_460 : BitVec 32 := 0#32
  let c0_i32_461 : BitVec 32 := 0#32
  let c0_i32_462 : BitVec 32 := 0#32
  ![v322.toNat, 4, 0, 0, 0]
def k0_off46 (v395 : BitVec 32) : Fin 4 → Nat :=
  let c0_i32_463 : BitVec 32 := 0#32
  let c0_i32_464 : BitVec 32 := 0#32
  let c0_i32_465 : BitVec 32 := 0#32
  ![v395.toNat, 0, 0, 0]

def k0_chk14 (v116 : BitVec 32) (k0_t2 : Fin (k0_t2_loop v116).trips) (v395 : BitVec 32) : Prop :=
  (∀ (k0_h2 : k0_cond2 v116 k0_t2 = 1#1), ∀ a, (k0_off46 v395) a + S1x32x16x128.size a ≤ S256x32x16x128.size a)
theorem k0_off46_inb : ∀ (v116 : BitVec 32) (k0_t2 : Fin (k0_t2_loop v116).trips) (v395 : BitVec 32) (k0_hw14 : k0_chk14 v116 k0_t2 v395), ∀ (k0_h2 : k0_cond2 v116 k0_t2 = 1#1), ∀ a, (k0_off46 v395) a + S1x32x16x128.size a ≤ S256x32x16x128.size a := fun v116 k0_t2 v395 k0_hw14 k0_h2 => k0_hw14 k0_h2

def k0_off47 (v116 : BitVec 32) (k0_t2 : Fin (k0_t2_loop v116).trips) : Fin 3 → Nat :=
  let c1_i32_467 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c4_i32_468 : BitVec 32 := 4#32
  ![1, v322.toNat, 4]
def k0_off48 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c4_i32_466 : BitVec 32 := 4#32
  let c0_i32_469 : BitVec 32 := 0#32
  let c0_i32_470 : BitVec 32 := 0#32
  let c0_i32_471 : BitVec 32 := 0#32
  ![v322.toNat, 4, 0, 0, 0]
def k0_off49 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v410 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_475 : BitVec 32 := 8#32
  let v408 : BitVec 32 := Scalar.muli v320 c8_i32_475
  let c5_i32_476 : BitVec 32 := 5#32
  let v409 : BitVec 32 := Scalar.addi v408 c5_i32_476
  let v411 : Index := Scalar.indexCast v409
  ![v410.toNat, v411.toNat]
def k0_off50 (v116 : BitVec 32) (k0_t2 : Fin (k0_t2_loop v116).trips) : Fin 3 → Nat :=
  let c0_i32_478 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c5_i32_479 : BitVec 32 := 5#32
  ![0, v322.toNat, 5]
def k0_off51 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c5_i32_477 : BitVec 32 := 5#32
  let c0_i32_480 : BitVec 32 := 0#32
  let c0_i32_481 : BitVec 32 := 0#32
  let c0_i32_482 : BitVec 32 := 0#32
  ![v322.toNat, 5, 0, 0, 0]
def k0_off52 (v412 : BitVec 32) : Fin 4 → Nat :=
  let c0_i32_483 : BitVec 32 := 0#32
  let c0_i32_484 : BitVec 32 := 0#32
  let c0_i32_485 : BitVec 32 := 0#32
  ![v412.toNat, 0, 0, 0]

def k0_chk15 (v116 : BitVec 32) (k0_t2 : Fin (k0_t2_loop v116).trips) (v412 : BitVec 32) : Prop :=
  (∀ (k0_h2 : k0_cond2 v116 k0_t2 = 1#1), ∀ a, (k0_off52 v412) a + S1x32x16x128.size a ≤ S256x32x16x128.size a)
theorem k0_off52_inb : ∀ (v116 : BitVec 32) (k0_t2 : Fin (k0_t2_loop v116).trips) (v412 : BitVec 32) (k0_hw15 : k0_chk15 v116 k0_t2 v412), ∀ (k0_h2 : k0_cond2 v116 k0_t2 = 1#1), ∀ a, (k0_off52 v412) a + S1x32x16x128.size a ≤ S256x32x16x128.size a := fun v116 k0_t2 v412 k0_hw15 k0_h2 => k0_hw15 k0_h2

def k0_off53 (v116 : BitVec 32) (k0_t2 : Fin (k0_t2_loop v116).trips) : Fin 3 → Nat :=
  let c1_i32_487 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c5_i32_488 : BitVec 32 := 5#32
  ![1, v322.toNat, 5]
def k0_off54 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c5_i32_486 : BitVec 32 := 5#32
  let c0_i32_489 : BitVec 32 := 0#32
  let c0_i32_490 : BitVec 32 := 0#32
  let c0_i32_491 : BitVec 32 := 0#32
  ![v322.toNat, 5, 0, 0, 0]
def k0_off55 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v427 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_495 : BitVec 32 := 8#32
  let v425 : BitVec 32 := Scalar.muli v320 c8_i32_495
  let c6_i32_496 : BitVec 32 := 6#32
  let v426 : BitVec 32 := Scalar.addi v425 c6_i32_496
  let v428 : Index := Scalar.indexCast v426
  ![v427.toNat, v428.toNat]
def k0_off56 (v116 : BitVec 32) (k0_t2 : Fin (k0_t2_loop v116).trips) : Fin 3 → Nat :=
  let c0_i32_498 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c6_i32_499 : BitVec 32 := 6#32
  ![0, v322.toNat, 6]
def k0_off57 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c6_i32_497 : BitVec 32 := 6#32
  let c0_i32_500 : BitVec 32 := 0#32
  let c0_i32_501 : BitVec 32 := 0#32
  let c0_i32_502 : BitVec 32 := 0#32
  ![v322.toNat, 6, 0, 0, 0]
def k0_off58 (v429 : BitVec 32) : Fin 4 → Nat :=
  let c0_i32_503 : BitVec 32 := 0#32
  let c0_i32_504 : BitVec 32 := 0#32
  let c0_i32_505 : BitVec 32 := 0#32
  ![v429.toNat, 0, 0, 0]

def k0_chk16 (v116 : BitVec 32) (k0_t2 : Fin (k0_t2_loop v116).trips) (v429 : BitVec 32) : Prop :=
  (∀ (k0_h2 : k0_cond2 v116 k0_t2 = 1#1), ∀ a, (k0_off58 v429) a + S1x32x16x128.size a ≤ S256x32x16x128.size a)
theorem k0_off58_inb : ∀ (v116 : BitVec 32) (k0_t2 : Fin (k0_t2_loop v116).trips) (v429 : BitVec 32) (k0_hw16 : k0_chk16 v116 k0_t2 v429), ∀ (k0_h2 : k0_cond2 v116 k0_t2 = 1#1), ∀ a, (k0_off58 v429) a + S1x32x16x128.size a ≤ S256x32x16x128.size a := fun v116 k0_t2 v429 k0_hw16 k0_h2 => k0_hw16 k0_h2

def k0_off59 (v116 : BitVec 32) (k0_t2 : Fin (k0_t2_loop v116).trips) : Fin 3 → Nat :=
  let c1_i32_507 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c6_i32_508 : BitVec 32 := 6#32
  ![1, v322.toNat, 6]
def k0_off60 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c6_i32_506 : BitVec 32 := 6#32
  let c0_i32_509 : BitVec 32 := 0#32
  let c0_i32_510 : BitVec 32 := 0#32
  let c0_i32_511 : BitVec 32 := 0#32
  ![v322.toNat, 6, 0, 0, 0]
def k0_off61 (k0_t1 : Fin k0_t1_loop.trips) (v116 : BitVec 32) (k0_t2 : Fin (k0_t2_loop v116).trips) : Fin 2 → Nat :=
  let c0_i32 : BitVec 32 := 0#32
  let c1_i32_0 : BitVec 32 := 1#32
  let arg12 : BitVec 32 := Scf.iv c0_i32 c1_i32_0 k0_t1
  let v444 : Index := Scalar.indexCast arg12
  let c0_i32_175 : BitVec 32 := 0#32
  let c1_i32_177 : BitVec 32 := 1#32
  let arg13 : BitVec 32 := Scf.iv c0_i32_175 c1_i32_177 k0_t2
  let c1_i32_372 : BitVec 32 := 1#32
  let v320 : BitVec 32 := Scalar.addi arg13 c1_i32_372
  let c8_i32_515 : BitVec 32 := 8#32
  let v442 : BitVec 32 := Scalar.muli v320 c8_i32_515
  let c7_i32_516 : BitVec 32 := 7#32
  let v443 : BitVec 32 := Scalar.addi v442 c7_i32_516
  let v445 : Index := Scalar.indexCast v443
  ![v444.toNat, v445.toNat]
def k0_off62 (v116 : BitVec 32) (k0_t2 : Fin (k0_t2_loop v116).trips) : Fin 3 → Nat :=
  let c0_i32_518 : BitVec 32 := 0#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c7_i32_519 : BitVec 32 := 7#32
  ![0, v322.toNat, 7]
def k0_off63 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c7_i32_517 : BitVec 32 := 7#32
  let c0_i32_520 : BitVec 32 := 0#32
  let c0_i32_521 : BitVec 32 := 0#32
  let c0_i32_522 : BitVec 32 := 0#32
  ![v322.toNat, 7, 0, 0, 0]
def k0_off64 (v446 : BitVec 32) : Fin 4 → Nat :=
  let c0_i32_523 : BitVec 32 := 0#32
  let c0_i32_524 : BitVec 32 := 0#32
  let c0_i32_525 : BitVec 32 := 0#32
  ![v446.toNat, 0, 0, 0]

def k0_chk17 (v116 : BitVec 32) (k0_t2 : Fin (k0_t2_loop v116).trips) (v446 : BitVec 32) : Prop :=
  (∀ (k0_h2 : k0_cond2 v116 k0_t2 = 1#1), ∀ a, (k0_off64 v446) a + S1x32x16x128.size a ≤ S256x32x16x128.size a)
theorem k0_off64_inb : ∀ (v116 : BitVec 32) (k0_t2 : Fin (k0_t2_loop v116).trips) (v446 : BitVec 32) (k0_hw17 : k0_chk17 v116 k0_t2 v446), ∀ (k0_h2 : k0_cond2 v116 k0_t2 = 1#1), ∀ a, (k0_off64 v446) a + S1x32x16x128.size a ≤ S256x32x16x128.size a := fun v116 k0_t2 v446 k0_hw17 k0_h2 => k0_hw17 k0_h2

def k0_off65 (v116 : BitVec 32) (k0_t2 : Fin (k0_t2_loop v116).trips) : Fin 3 → Nat :=
  let c1_i32_527 : BitVec 32 := 1#32
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c7_i32_528 : BitVec 32 := 7#32
  ![1, v322.toNat, 7]
def k0_off66 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c1_i32_373 : BitVec 32 := 1#32
  let v321 : BitVec 32 := Scalar.addi arg13 c1_i32_373
  let c2_i32_374 : BitVec 32 := 2#32
  let v322 : BitVec 32 := Scalar.remsi v321 c2_i32_374
  let c7_i32_526 : BitVec 32 := 7#32
  let c0_i32_529 : BitVec 32 := 0#32
  let c0_i32_530 : BitVec 32 := 0#32
  let c0_i32_531 : BitVec 32 := 0#32
  ![v322.toNat, 7, 0, 0, 0]
def k0_off67 (v116 : BitVec 32) (k0_t2 : Fin (k0_t2_loop v116).trips) : Fin 3 → Nat :=
  let c0_i32_196 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c0_i32_197 : BitVec 32 := 0#32
  ![0, v154.toNat, 0]
def k0_off68 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c0_i32_195 : BitVec 32 := 0#32
  let c0_i32_198 : BitVec 32 := 0#32
  let c0_i32_199 : BitVec 32 := 0#32
  let c0_i32_200 : BitVec 32 := 0#32
  ![v154.toNat, 0, 0, 0, 0]
def k0_off69 (v116 : BitVec 32) (k0_t2 : Fin (k0_t2_loop v116).trips) : Fin 3 → Nat :=
  let c1_i32_206 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c0_i32_207 : BitVec 32 := 0#32
  ![1, v154.toNat, 0]
def k0_off70 (v116 : BitVec 32) (k0_t2 : Fin (k0_t2_loop v116).trips) : Fin 3 → Nat :=
  let c0_i32_216 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c1_i32_217 : BitVec 32 := 1#32
  ![0, v154.toNat, 1]
def k0_off71 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c1_i32_215 : BitVec 32 := 1#32
  let c0_i32_218 : BitVec 32 := 0#32
  let c0_i32_219 : BitVec 32 := 0#32
  let c0_i32_220 : BitVec 32 := 0#32
  ![v154.toNat, 1, 0, 0, 0]
def k0_off72 (v116 : BitVec 32) (k0_t2 : Fin (k0_t2_loop v116).trips) : Fin 3 → Nat :=
  let c1_i32_226 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c1_i32_227 : BitVec 32 := 1#32
  ![1, v154.toNat, 1]
def k0_off73 (v116 : BitVec 32) (k0_t2 : Fin (k0_t2_loop v116).trips) : Fin 3 → Nat :=
  let c0_i32_236 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c2_i32_237 : BitVec 32 := 2#32
  ![0, v154.toNat, 2]
def k0_off74 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c2_i32_235 : BitVec 32 := 2#32
  let c0_i32_238 : BitVec 32 := 0#32
  let c0_i32_239 : BitVec 32 := 0#32
  let c0_i32_240 : BitVec 32 := 0#32
  ![v154.toNat, 2, 0, 0, 0]
def k0_off75 (v116 : BitVec 32) (k0_t2 : Fin (k0_t2_loop v116).trips) : Fin 3 → Nat :=
  let c1_i32_246 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c2_i32_247 : BitVec 32 := 2#32
  ![1, v154.toNat, 2]
def k0_off76 (v116 : BitVec 32) (k0_t2 : Fin (k0_t2_loop v116).trips) : Fin 3 → Nat :=
  let c0_i32_256 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c3_i32_257 : BitVec 32 := 3#32
  ![0, v154.toNat, 3]
def k0_off77 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c3_i32_255 : BitVec 32 := 3#32
  let c0_i32_258 : BitVec 32 := 0#32
  let c0_i32_259 : BitVec 32 := 0#32
  let c0_i32_260 : BitVec 32 := 0#32
  ![v154.toNat, 3, 0, 0, 0]
def k0_off78 (v116 : BitVec 32) (k0_t2 : Fin (k0_t2_loop v116).trips) : Fin 3 → Nat :=
  let c1_i32_266 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c3_i32_267 : BitVec 32 := 3#32
  ![1, v154.toNat, 3]
def k0_off79 (v116 : BitVec 32) (k0_t2 : Fin (k0_t2_loop v116).trips) : Fin 3 → Nat :=
  let c0_i32_276 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c4_i32_277 : BitVec 32 := 4#32
  ![0, v154.toNat, 4]
def k0_off80 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c4_i32_275 : BitVec 32 := 4#32
  let c0_i32_278 : BitVec 32 := 0#32
  let c0_i32_279 : BitVec 32 := 0#32
  let c0_i32_280 : BitVec 32 := 0#32
  ![v154.toNat, 4, 0, 0, 0]
def k0_off81 (v116 : BitVec 32) (k0_t2 : Fin (k0_t2_loop v116).trips) : Fin 3 → Nat :=
  let c1_i32_286 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c4_i32_287 : BitVec 32 := 4#32
  ![1, v154.toNat, 4]
def k0_off82 (v116 : BitVec 32) (k0_t2 : Fin (k0_t2_loop v116).trips) : Fin 3 → Nat :=
  let c0_i32_295 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c5_i32_296 : BitVec 32 := 5#32
  ![0, v154.toNat, 5]
def k0_off83 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c5_i32 : BitVec 32 := 5#32
  let c0_i32_297 : BitVec 32 := 0#32
  let c0_i32_298 : BitVec 32 := 0#32
  let c0_i32_299 : BitVec 32 := 0#32
  ![v154.toNat, 5, 0, 0, 0]
def k0_off84 (v116 : BitVec 32) (k0_t2 : Fin (k0_t2_loop v116).trips) : Fin 3 → Nat :=
  let c1_i32_305 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c5_i32_306 : BitVec 32 := 5#32
  ![1, v154.toNat, 5]
def k0_off85 (v116 : BitVec 32) (k0_t2 : Fin (k0_t2_loop v116).trips) : Fin 3 → Nat :=
  let c0_i32_314 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c6_i32_315 : BitVec 32 := 6#32
  ![0, v154.toNat, 6]
def k0_off86 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c6_i32 : BitVec 32 := 6#32
  let c0_i32_316 : BitVec 32 := 0#32
  let c0_i32_317 : BitVec 32 := 0#32
  let c0_i32_318 : BitVec 32 := 0#32
  ![v154.toNat, 6, 0, 0, 0]
def k0_off87 (v116 : BitVec 32) (k0_t2 : Fin (k0_t2_loop v116).trips) : Fin 3 → Nat :=
  let c1_i32_324 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c6_i32_325 : BitVec 32 := 6#32
  ![1, v154.toNat, 6]
def k0_off88 (v116 : BitVec 32) (k0_t2 : Fin (k0_t2_loop v116).trips) : Fin 3 → Nat :=
  let c0_i32_333 : BitVec 32 := 0#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c7_i32_334 : BitVec 32 := 7#32
  ![0, v154.toNat, 7]
def k0_off89 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c7_i32 : BitVec 32 := 7#32
  let c0_i32_335 : BitVec 32 := 0#32
  let c0_i32_336 : BitVec 32 := 0#32
  let c0_i32_337 : BitVec 32 := 0#32
  ![v154.toNat, 7, 0, 0, 0]
def k0_off90 (v116 : BitVec 32) (k0_t2 : Fin (k0_t2_loop v116).trips) : Fin 3 → Nat :=
  let c1_i32_343 : BitVec 32 := 1#32
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let c7_i32_344 : BitVec 32 := 7#32
  ![1, v154.toNat, 7]
def k0_off91 (v116 : BitVec 32) (k0_t2 : Fin (k0_t2_loop v116).trips) : Fin 5 → Nat :=
  let c0_i32_175 : BitVec 32 := 0#32
  let c1_i32_177 : BitVec 32 := 1#32
  let arg13 : BitVec 32 := Scf.iv c0_i32_175 c1_i32_177 k0_t2
  let c2_i32_191 : BitVec 32 := 2#32
  let v154 : BitVec 32 := Scalar.remsi arg13 c2_i32_191
  let v255 : Index := Scalar.indexCast v154
  let c0_351 : Index := 0#32
  let c0_352 : Index := 0#32
  let c0_353 : Index := 0#32
  let c0_354 : Index := 0#32
  ![v255.toNat, 0, 0, 0, 0]
@[reducible] def k0_t3_loop (v116 : BitVec 32) : Scf.Loop 32 :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let v132 : BitVec 32 := Scalar.addi c0_i32_175 v131
  let c1_i32_178 : BitVec 32 := 1#32
  ⟨v135, v132, c1_i32_178⟩
def k0_off92 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v325 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_375 : BitVec 32 := 8#32
  let v323 : BitVec 32 := Scalar.muli v320 c8_i32_375
  let c0_i32_376 : BitVec 32 := 0#32
  let v324 : BitVec 32 := Scalar.addi v323 c0_i32_376
  let v326 : Index := Scalar.indexCast v324
  ![v325.toNat, v326.toNat]
def k0_cond3 (v116 : BitVec 32) (k0_t3 : Fin (k0_t3_loop v116).trips) : BitVec 1 :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_192 : BitVec 32 := 1#32
  let v155 : BitVec 32 := Scalar.addi arg13 c1_i32_192
  let v156 : BitVec 1 := Scalar.cmpi .slt v155 v119
  let v157 : BitVec 32 := Scalar.extui v156
  let c0_i32_193 : BitVec 32 := 0#32
  let v158 : BitVec 1 := Scalar.cmpi .ne v157 c0_i32_193
  v158

def k0_off93 (v116 : BitVec 32) (k0_t3 : Fin (k0_t3_loop v116).trips) : Fin 3 → Nat :=
  let c0_i32_378 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c0_i32_379 : BitVec 32 := 0#32
  ![0, v322.toNat, 0]
def k0_off94 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c0_i32_377 : BitVec 32 := 0#32
  let c0_i32_380 : BitVec 32 := 0#32
  let c0_i32_381 : BitVec 32 := 0#32
  let c0_i32_382 : BitVec 32 := 0#32
  ![v322.toNat, 0, 0, 0, 0]
def k0_off95 (v327 : BitVec 32) : Fin 4 → Nat :=
  let c0_i32_383 : BitVec 32 := 0#32
  let c0_i32_384 : BitVec 32 := 0#32
  let c0_i32_385 : BitVec 32 := 0#32
  ![v327.toNat, 0, 0, 0]

def k0_chk18 (v116 : BitVec 32) (k0_t3 : Fin (k0_t3_loop v116).trips) (v327 : BitVec 32) : Prop :=
  (∀ (k0_h3 : k0_cond3 v116 k0_t3 = 1#1), ∀ a, (k0_off95 v327) a + S1x32x16x128.size a ≤ S256x32x16x128.size a)
theorem k0_off95_inb : ∀ (v116 : BitVec 32) (k0_t3 : Fin (k0_t3_loop v116).trips) (v327 : BitVec 32) (k0_hw18 : k0_chk18 v116 k0_t3 v327), ∀ (k0_h3 : k0_cond3 v116 k0_t3 = 1#1), ∀ a, (k0_off95 v327) a + S1x32x16x128.size a ≤ S256x32x16x128.size a := fun v116 k0_t3 v327 k0_hw18 k0_h3 => k0_hw18 k0_h3

def k0_off96 (v116 : BitVec 32) (k0_t3 : Fin (k0_t3_loop v116).trips) : Fin 3 → Nat :=
  let c1_i32_387 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c0_i32_388 : BitVec 32 := 0#32
  ![1, v322.toNat, 0]
def k0_off97 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c0_i32_386 : BitVec 32 := 0#32
  let c0_i32_389 : BitVec 32 := 0#32
  let c0_i32_390 : BitVec 32 := 0#32
  let c0_i32_391 : BitVec 32 := 0#32
  ![v322.toNat, 0, 0, 0, 0]
def k0_off98 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v342 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_395 : BitVec 32 := 8#32
  let v340 : BitVec 32 := Scalar.muli v320 c8_i32_395
  let c1_i32_396 : BitVec 32 := 1#32
  let v341 : BitVec 32 := Scalar.addi v340 c1_i32_396
  let v343 : Index := Scalar.indexCast v341
  ![v342.toNat, v343.toNat]
def k0_off99 (v116 : BitVec 32) (k0_t3 : Fin (k0_t3_loop v116).trips) : Fin 3 → Nat :=
  let c0_i32_398 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c1_i32_399 : BitVec 32 := 1#32
  ![0, v322.toNat, 1]
def k0_off100 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c1_i32_397 : BitVec 32 := 1#32
  let c0_i32_400 : BitVec 32 := 0#32
  let c0_i32_401 : BitVec 32 := 0#32
  let c0_i32_402 : BitVec 32 := 0#32
  ![v322.toNat, 1, 0, 0, 0]
def k0_off101 (v344 : BitVec 32) : Fin 4 → Nat :=
  let c0_i32_403 : BitVec 32 := 0#32
  let c0_i32_404 : BitVec 32 := 0#32
  let c0_i32_405 : BitVec 32 := 0#32
  ![v344.toNat, 0, 0, 0]

def k0_chk19 (v116 : BitVec 32) (k0_t3 : Fin (k0_t3_loop v116).trips) (v344 : BitVec 32) : Prop :=
  (∀ (k0_h3 : k0_cond3 v116 k0_t3 = 1#1), ∀ a, (k0_off101 v344) a + S1x32x16x128.size a ≤ S256x32x16x128.size a)
theorem k0_off101_inb : ∀ (v116 : BitVec 32) (k0_t3 : Fin (k0_t3_loop v116).trips) (v344 : BitVec 32) (k0_hw19 : k0_chk19 v116 k0_t3 v344), ∀ (k0_h3 : k0_cond3 v116 k0_t3 = 1#1), ∀ a, (k0_off101 v344) a + S1x32x16x128.size a ≤ S256x32x16x128.size a := fun v116 k0_t3 v344 k0_hw19 k0_h3 => k0_hw19 k0_h3

def k0_off102 (v116 : BitVec 32) (k0_t3 : Fin (k0_t3_loop v116).trips) : Fin 3 → Nat :=
  let c1_i32_407 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c1_i32_408 : BitVec 32 := 1#32
  ![1, v322.toNat, 1]
def k0_off103 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c1_i32_406 : BitVec 32 := 1#32
  let c0_i32_409 : BitVec 32 := 0#32
  let c0_i32_410 : BitVec 32 := 0#32
  let c0_i32_411 : BitVec 32 := 0#32
  ![v322.toNat, 1, 0, 0, 0]
def k0_off104 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v359 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_415 : BitVec 32 := 8#32
  let v357 : BitVec 32 := Scalar.muli v320 c8_i32_415
  let c2_i32_416 : BitVec 32 := 2#32
  let v358 : BitVec 32 := Scalar.addi v357 c2_i32_416
  let v360 : Index := Scalar.indexCast v358
  ![v359.toNat, v360.toNat]
def k0_off105 (v116 : BitVec 32) (k0_t3 : Fin (k0_t3_loop v116).trips) : Fin 3 → Nat :=
  let c0_i32_418 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c2_i32_419 : BitVec 32 := 2#32
  ![0, v322.toNat, 2]
def k0_off106 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c2_i32_417 : BitVec 32 := 2#32
  let c0_i32_420 : BitVec 32 := 0#32
  let c0_i32_421 : BitVec 32 := 0#32
  let c0_i32_422 : BitVec 32 := 0#32
  ![v322.toNat, 2, 0, 0, 0]
def k0_off107 (v361 : BitVec 32) : Fin 4 → Nat :=
  let c0_i32_423 : BitVec 32 := 0#32
  let c0_i32_424 : BitVec 32 := 0#32
  let c0_i32_425 : BitVec 32 := 0#32
  ![v361.toNat, 0, 0, 0]

def k0_chk20 (v116 : BitVec 32) (k0_t3 : Fin (k0_t3_loop v116).trips) (v361 : BitVec 32) : Prop :=
  (∀ (k0_h3 : k0_cond3 v116 k0_t3 = 1#1), ∀ a, (k0_off107 v361) a + S1x32x16x128.size a ≤ S256x32x16x128.size a)
theorem k0_off107_inb : ∀ (v116 : BitVec 32) (k0_t3 : Fin (k0_t3_loop v116).trips) (v361 : BitVec 32) (k0_hw20 : k0_chk20 v116 k0_t3 v361), ∀ (k0_h3 : k0_cond3 v116 k0_t3 = 1#1), ∀ a, (k0_off107 v361) a + S1x32x16x128.size a ≤ S256x32x16x128.size a := fun v116 k0_t3 v361 k0_hw20 k0_h3 => k0_hw20 k0_h3

def k0_off108 (v116 : BitVec 32) (k0_t3 : Fin (k0_t3_loop v116).trips) : Fin 3 → Nat :=
  let c1_i32_427 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c2_i32_428 : BitVec 32 := 2#32
  ![1, v322.toNat, 2]
def k0_off109 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c2_i32_426 : BitVec 32 := 2#32
  let c0_i32_429 : BitVec 32 := 0#32
  let c0_i32_430 : BitVec 32 := 0#32
  let c0_i32_431 : BitVec 32 := 0#32
  ![v322.toNat, 2, 0, 0, 0]
def k0_off110 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v376 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_435 : BitVec 32 := 8#32
  let v374 : BitVec 32 := Scalar.muli v320 c8_i32_435
  let c3_i32_436 : BitVec 32 := 3#32
  let v375 : BitVec 32 := Scalar.addi v374 c3_i32_436
  let v377 : Index := Scalar.indexCast v375
  ![v376.toNat, v377.toNat]
def k0_off111 (v116 : BitVec 32) (k0_t3 : Fin (k0_t3_loop v116).trips) : Fin 3 → Nat :=
  let c0_i32_438 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c3_i32_439 : BitVec 32 := 3#32
  ![0, v322.toNat, 3]
def k0_off112 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c3_i32_437 : BitVec 32 := 3#32
  let c0_i32_440 : BitVec 32 := 0#32
  let c0_i32_441 : BitVec 32 := 0#32
  let c0_i32_442 : BitVec 32 := 0#32
  ![v322.toNat, 3, 0, 0, 0]
def k0_off113 (v378 : BitVec 32) : Fin 4 → Nat :=
  let c0_i32_443 : BitVec 32 := 0#32
  let c0_i32_444 : BitVec 32 := 0#32
  let c0_i32_445 : BitVec 32 := 0#32
  ![v378.toNat, 0, 0, 0]

def k0_chk21 (v116 : BitVec 32) (k0_t3 : Fin (k0_t3_loop v116).trips) (v378 : BitVec 32) : Prop :=
  (∀ (k0_h3 : k0_cond3 v116 k0_t3 = 1#1), ∀ a, (k0_off113 v378) a + S1x32x16x128.size a ≤ S256x32x16x128.size a)
theorem k0_off113_inb : ∀ (v116 : BitVec 32) (k0_t3 : Fin (k0_t3_loop v116).trips) (v378 : BitVec 32) (k0_hw21 : k0_chk21 v116 k0_t3 v378), ∀ (k0_h3 : k0_cond3 v116 k0_t3 = 1#1), ∀ a, (k0_off113 v378) a + S1x32x16x128.size a ≤ S256x32x16x128.size a := fun v116 k0_t3 v378 k0_hw21 k0_h3 => k0_hw21 k0_h3

def k0_off114 (v116 : BitVec 32) (k0_t3 : Fin (k0_t3_loop v116).trips) : Fin 3 → Nat :=
  let c1_i32_447 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c3_i32_448 : BitVec 32 := 3#32
  ![1, v322.toNat, 3]
def k0_off115 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c3_i32_446 : BitVec 32 := 3#32
  let c0_i32_449 : BitVec 32 := 0#32
  let c0_i32_450 : BitVec 32 := 0#32
  let c0_i32_451 : BitVec 32 := 0#32
  ![v322.toNat, 3, 0, 0, 0]
def k0_off116 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v393 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_455 : BitVec 32 := 8#32
  let v391 : BitVec 32 := Scalar.muli v320 c8_i32_455
  let c4_i32_456 : BitVec 32 := 4#32
  let v392 : BitVec 32 := Scalar.addi v391 c4_i32_456
  let v394 : Index := Scalar.indexCast v392
  ![v393.toNat, v394.toNat]
def k0_off117 (v116 : BitVec 32) (k0_t3 : Fin (k0_t3_loop v116).trips) : Fin 3 → Nat :=
  let c0_i32_458 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c4_i32_459 : BitVec 32 := 4#32
  ![0, v322.toNat, 4]
def k0_off118 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c4_i32_457 : BitVec 32 := 4#32
  let c0_i32_460 : BitVec 32 := 0#32
  let c0_i32_461 : BitVec 32 := 0#32
  let c0_i32_462 : BitVec 32 := 0#32
  ![v322.toNat, 4, 0, 0, 0]
def k0_off119 (v395 : BitVec 32) : Fin 4 → Nat :=
  let c0_i32_463 : BitVec 32 := 0#32
  let c0_i32_464 : BitVec 32 := 0#32
  let c0_i32_465 : BitVec 32 := 0#32
  ![v395.toNat, 0, 0, 0]

def k0_chk22 (v116 : BitVec 32) (k0_t3 : Fin (k0_t3_loop v116).trips) (v395 : BitVec 32) : Prop :=
  (∀ (k0_h3 : k0_cond3 v116 k0_t3 = 1#1), ∀ a, (k0_off119 v395) a + S1x32x16x128.size a ≤ S256x32x16x128.size a)
theorem k0_off119_inb : ∀ (v116 : BitVec 32) (k0_t3 : Fin (k0_t3_loop v116).trips) (v395 : BitVec 32) (k0_hw22 : k0_chk22 v116 k0_t3 v395), ∀ (k0_h3 : k0_cond3 v116 k0_t3 = 1#1), ∀ a, (k0_off119 v395) a + S1x32x16x128.size a ≤ S256x32x16x128.size a := fun v116 k0_t3 v395 k0_hw22 k0_h3 => k0_hw22 k0_h3

def k0_off120 (v116 : BitVec 32) (k0_t3 : Fin (k0_t3_loop v116).trips) : Fin 3 → Nat :=
  let c1_i32_467 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c4_i32_468 : BitVec 32 := 4#32
  ![1, v322.toNat, 4]
def k0_off121 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c4_i32_466 : BitVec 32 := 4#32
  let c0_i32_469 : BitVec 32 := 0#32
  let c0_i32_470 : BitVec 32 := 0#32
  let c0_i32_471 : BitVec 32 := 0#32
  ![v322.toNat, 4, 0, 0, 0]
def k0_off122 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v410 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_475 : BitVec 32 := 8#32
  let v408 : BitVec 32 := Scalar.muli v320 c8_i32_475
  let c5_i32_476 : BitVec 32 := 5#32
  let v409 : BitVec 32 := Scalar.addi v408 c5_i32_476
  let v411 : Index := Scalar.indexCast v409
  ![v410.toNat, v411.toNat]
def k0_off123 (v116 : BitVec 32) (k0_t3 : Fin (k0_t3_loop v116).trips) : Fin 3 → Nat :=
  let c0_i32_478 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c5_i32_479 : BitVec 32 := 5#32
  ![0, v322.toNat, 5]
def k0_off124 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c5_i32_477 : BitVec 32 := 5#32
  let c0_i32_480 : BitVec 32 := 0#32
  let c0_i32_481 : BitVec 32 := 0#32
  let c0_i32_482 : BitVec 32 := 0#32
  ![v322.toNat, 5, 0, 0, 0]
def k0_off125 (v412 : BitVec 32) : Fin 4 → Nat :=
  let c0_i32_483 : BitVec 32 := 0#32
  let c0_i32_484 : BitVec 32 := 0#32
  let c0_i32_485 : BitVec 32 := 0#32
  ![v412.toNat, 0, 0, 0]

def k0_chk23 (v116 : BitVec 32) (k0_t3 : Fin (k0_t3_loop v116).trips) (v412 : BitVec 32) : Prop :=
  (∀ (k0_h3 : k0_cond3 v116 k0_t3 = 1#1), ∀ a, (k0_off125 v412) a + S1x32x16x128.size a ≤ S256x32x16x128.size a)
theorem k0_off125_inb : ∀ (v116 : BitVec 32) (k0_t3 : Fin (k0_t3_loop v116).trips) (v412 : BitVec 32) (k0_hw23 : k0_chk23 v116 k0_t3 v412), ∀ (k0_h3 : k0_cond3 v116 k0_t3 = 1#1), ∀ a, (k0_off125 v412) a + S1x32x16x128.size a ≤ S256x32x16x128.size a := fun v116 k0_t3 v412 k0_hw23 k0_h3 => k0_hw23 k0_h3

def k0_off126 (v116 : BitVec 32) (k0_t3 : Fin (k0_t3_loop v116).trips) : Fin 3 → Nat :=
  let c1_i32_487 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c5_i32_488 : BitVec 32 := 5#32
  ![1, v322.toNat, 5]
def k0_off127 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c5_i32_486 : BitVec 32 := 5#32
  let c0_i32_489 : BitVec 32 := 0#32
  let c0_i32_490 : BitVec 32 := 0#32
  let c0_i32_491 : BitVec 32 := 0#32
  ![v322.toNat, 5, 0, 0, 0]
def k0_off128 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v427 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_495 : BitVec 32 := 8#32
  let v425 : BitVec 32 := Scalar.muli v320 c8_i32_495
  let c6_i32_496 : BitVec 32 := 6#32
  let v426 : BitVec 32 := Scalar.addi v425 c6_i32_496
  let v428 : Index := Scalar.indexCast v426
  ![v427.toNat, v428.toNat]
def k0_off129 (v116 : BitVec 32) (k0_t3 : Fin (k0_t3_loop v116).trips) : Fin 3 → Nat :=
  let c0_i32_498 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c6_i32_499 : BitVec 32 := 6#32
  ![0, v322.toNat, 6]
def k0_off130 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c6_i32_497 : BitVec 32 := 6#32
  let c0_i32_500 : BitVec 32 := 0#32
  let c0_i32_501 : BitVec 32 := 0#32
  let c0_i32_502 : BitVec 32 := 0#32
  ![v322.toNat, 6, 0, 0, 0]
def k0_off131 (v429 : BitVec 32) : Fin 4 → Nat :=
  let c0_i32_503 : BitVec 32 := 0#32
  let c0_i32_504 : BitVec 32 := 0#32
  let c0_i32_505 : BitVec 32 := 0#32
  ![v429.toNat, 0, 0, 0]

def k0_chk24 (v116 : BitVec 32) (k0_t3 : Fin (k0_t3_loop v116).trips) (v429 : BitVec 32) : Prop :=
  (∀ (k0_h3 : k0_cond3 v116 k0_t3 = 1#1), ∀ a, (k0_off131 v429) a + S1x32x16x128.size a ≤ S256x32x16x128.size a)
theorem k0_off131_inb : ∀ (v116 : BitVec 32) (k0_t3 : Fin (k0_t3_loop v116).trips) (v429 : BitVec 32) (k0_hw24 : k0_chk24 v116 k0_t3 v429), ∀ (k0_h3 : k0_cond3 v116 k0_t3 = 1#1), ∀ a, (k0_off131 v429) a + S1x32x16x128.size a ≤ S256x32x16x128.size a := fun v116 k0_t3 v429 k0_hw24 k0_h3 => k0_hw24 k0_h3

def k0_off132 (v116 : BitVec 32) (k0_t3 : Fin (k0_t3_loop v116).trips) : Fin 3 → Nat :=
  let c1_i32_507 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c6_i32_508 : BitVec 32 := 6#32
  ![1, v322.toNat, 6]
def k0_off133 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c6_i32_506 : BitVec 32 := 6#32
  let c0_i32_509 : BitVec 32 := 0#32
  let c0_i32_510 : BitVec 32 := 0#32
  let c0_i32_511 : BitVec 32 := 0#32
  ![v322.toNat, 6, 0, 0, 0]
def k0_off134 (k0_t1 : Fin k0_t1_loop.trips) (v116 : BitVec 32) (k0_t3 : Fin (k0_t3_loop v116).trips) : Fin 2 → Nat :=
  let c0_i32 : BitVec 32 := 0#32
  let c1_i32_0 : BitVec 32 := 1#32
  let arg12 : BitVec 32 := Scf.iv c0_i32 c1_i32_0 k0_t1
  let v444 : Index := Scalar.indexCast arg12
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_372 : BitVec 32 := 1#32
  let v320 : BitVec 32 := Scalar.addi arg13 c1_i32_372
  let c8_i32_515 : BitVec 32 := 8#32
  let v442 : BitVec 32 := Scalar.muli v320 c8_i32_515
  let c7_i32_516 : BitVec 32 := 7#32
  let v443 : BitVec 32 := Scalar.addi v442 c7_i32_516
  let v445 : Index := Scalar.indexCast v443
  ![v444.toNat, v445.toNat]
def k0_off135 (v116 : BitVec 32) (k0_t3 : Fin (k0_t3_loop v116).trips) : Fin 3 → Nat :=
  let c0_i32_518 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c7_i32_519 : BitVec 32 := 7#32
  ![0, v322.toNat, 7]
def k0_off136 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c7_i32_517 : BitVec 32 := 7#32
  let c0_i32_520 : BitVec 32 := 0#32
  let c0_i32_521 : BitVec 32 := 0#32
  let c0_i32_522 : BitVec 32 := 0#32
  ![v322.toNat, 7, 0, 0, 0]
def k0_off137 (v446 : BitVec 32) : Fin 4 → Nat :=
  let c0_i32_523 : BitVec 32 := 0#32
  let c0_i32_524 : BitVec 32 := 0#32
  let c0_i32_525 : BitVec 32 := 0#32
  ![v446.toNat, 0, 0, 0]

def k0_chk25 (v116 : BitVec 32) (k0_t3 : Fin (k0_t3_loop v116).trips) (v446 : BitVec 32) : Prop :=
  (∀ (k0_h3 : k0_cond3 v116 k0_t3 = 1#1), ∀ a, (k0_off137 v446) a + S1x32x16x128.size a ≤ S256x32x16x128.size a)
theorem k0_off137_inb : ∀ (v116 : BitVec 32) (k0_t3 : Fin (k0_t3_loop v116).trips) (v446 : BitVec 32) (k0_hw25 : k0_chk25 v116 k0_t3 v446), ∀ (k0_h3 : k0_cond3 v116 k0_t3 = 1#1), ∀ a, (k0_off137 v446) a + S1x32x16x128.size a ≤ S256x32x16x128.size a := fun v116 k0_t3 v446 k0_hw25 k0_h3 => k0_hw25 k0_h3

def k0_off138 (v116 : BitVec 32) (k0_t3 : Fin (k0_t3_loop v116).trips) : Fin 3 → Nat :=
  let c1_i32_527 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c7_i32_528 : BitVec 32 := 7#32
  ![1, v322.toNat, 7]
def k0_off139 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c1_i32_373 : BitVec 32 := 1#32
  let v321 : BitVec 32 := Scalar.addi arg13 c1_i32_373
  let c2_i32_374 : BitVec 32 := 2#32
  let v322 : BitVec 32 := Scalar.remsi v321 c2_i32_374
  let c7_i32_526 : BitVec 32 := 7#32
  let c0_i32_529 : BitVec 32 := 0#32
  let c0_i32_530 : BitVec 32 := 0#32
  let c0_i32_531 : BitVec 32 := 0#32
  ![v322.toNat, 7, 0, 0, 0]
def k0_off140 (v116 : BitVec 32) (k0_t3 : Fin (k0_t3_loop v116).trips) : Fin 3 → Nat :=
  let c0_i32_196 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c0_i32_197 : BitVec 32 := 0#32
  ![0, v154.toNat, 0]
def k0_off141 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c0_i32_195 : BitVec 32 := 0#32
  let c0_i32_198 : BitVec 32 := 0#32
  let c0_i32_199 : BitVec 32 := 0#32
  let c0_i32_200 : BitVec 32 := 0#32
  ![v154.toNat, 0, 0, 0, 0]
def k0_off142 (v116 : BitVec 32) (k0_t3 : Fin (k0_t3_loop v116).trips) : Fin 3 → Nat :=
  let c1_i32_206 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c0_i32_207 : BitVec 32 := 0#32
  ![1, v154.toNat, 0]
def k0_off143 (v116 : BitVec 32) (k0_t3 : Fin (k0_t3_loop v116).trips) : Fin 3 → Nat :=
  let c0_i32_216 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c1_i32_217 : BitVec 32 := 1#32
  ![0, v154.toNat, 1]
def k0_off144 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c1_i32_215 : BitVec 32 := 1#32
  let c0_i32_218 : BitVec 32 := 0#32
  let c0_i32_219 : BitVec 32 := 0#32
  let c0_i32_220 : BitVec 32 := 0#32
  ![v154.toNat, 1, 0, 0, 0]
def k0_off145 (v116 : BitVec 32) (k0_t3 : Fin (k0_t3_loop v116).trips) : Fin 3 → Nat :=
  let c1_i32_226 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c1_i32_227 : BitVec 32 := 1#32
  ![1, v154.toNat, 1]
def k0_off146 (v116 : BitVec 32) (k0_t3 : Fin (k0_t3_loop v116).trips) : Fin 3 → Nat :=
  let c0_i32_236 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c2_i32_237 : BitVec 32 := 2#32
  ![0, v154.toNat, 2]
def k0_off147 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c2_i32_235 : BitVec 32 := 2#32
  let c0_i32_238 : BitVec 32 := 0#32
  let c0_i32_239 : BitVec 32 := 0#32
  let c0_i32_240 : BitVec 32 := 0#32
  ![v154.toNat, 2, 0, 0, 0]
def k0_off148 (v116 : BitVec 32) (k0_t3 : Fin (k0_t3_loop v116).trips) : Fin 3 → Nat :=
  let c1_i32_246 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c2_i32_247 : BitVec 32 := 2#32
  ![1, v154.toNat, 2]
def k0_off149 (v116 : BitVec 32) (k0_t3 : Fin (k0_t3_loop v116).trips) : Fin 3 → Nat :=
  let c0_i32_256 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c3_i32_257 : BitVec 32 := 3#32
  ![0, v154.toNat, 3]
def k0_off150 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c3_i32_255 : BitVec 32 := 3#32
  let c0_i32_258 : BitVec 32 := 0#32
  let c0_i32_259 : BitVec 32 := 0#32
  let c0_i32_260 : BitVec 32 := 0#32
  ![v154.toNat, 3, 0, 0, 0]
def k0_off151 (v116 : BitVec 32) (k0_t3 : Fin (k0_t3_loop v116).trips) : Fin 3 → Nat :=
  let c1_i32_266 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c3_i32_267 : BitVec 32 := 3#32
  ![1, v154.toNat, 3]
def k0_off152 (v116 : BitVec 32) (k0_t3 : Fin (k0_t3_loop v116).trips) : Fin 3 → Nat :=
  let c0_i32_276 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c4_i32_277 : BitVec 32 := 4#32
  ![0, v154.toNat, 4]
def k0_off153 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c4_i32_275 : BitVec 32 := 4#32
  let c0_i32_278 : BitVec 32 := 0#32
  let c0_i32_279 : BitVec 32 := 0#32
  let c0_i32_280 : BitVec 32 := 0#32
  ![v154.toNat, 4, 0, 0, 0]
def k0_off154 (v116 : BitVec 32) (k0_t3 : Fin (k0_t3_loop v116).trips) : Fin 3 → Nat :=
  let c1_i32_286 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c4_i32_287 : BitVec 32 := 4#32
  ![1, v154.toNat, 4]
def k0_off155 (v116 : BitVec 32) (k0_t3 : Fin (k0_t3_loop v116).trips) : Fin 3 → Nat :=
  let c0_i32_295 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c5_i32_296 : BitVec 32 := 5#32
  ![0, v154.toNat, 5]
def k0_off156 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c5_i32 : BitVec 32 := 5#32
  let c0_i32_297 : BitVec 32 := 0#32
  let c0_i32_298 : BitVec 32 := 0#32
  let c0_i32_299 : BitVec 32 := 0#32
  ![v154.toNat, 5, 0, 0, 0]
def k0_off157 (v116 : BitVec 32) (k0_t3 : Fin (k0_t3_loop v116).trips) : Fin 3 → Nat :=
  let c1_i32_305 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c5_i32_306 : BitVec 32 := 5#32
  ![1, v154.toNat, 5]
def k0_off158 (v116 : BitVec 32) (k0_t3 : Fin (k0_t3_loop v116).trips) : Fin 3 → Nat :=
  let c0_i32_314 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c6_i32_315 : BitVec 32 := 6#32
  ![0, v154.toNat, 6]
def k0_off159 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c6_i32 : BitVec 32 := 6#32
  let c0_i32_316 : BitVec 32 := 0#32
  let c0_i32_317 : BitVec 32 := 0#32
  let c0_i32_318 : BitVec 32 := 0#32
  ![v154.toNat, 6, 0, 0, 0]
def k0_off160 (v116 : BitVec 32) (k0_t3 : Fin (k0_t3_loop v116).trips) : Fin 3 → Nat :=
  let c1_i32_324 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c6_i32_325 : BitVec 32 := 6#32
  ![1, v154.toNat, 6]
def k0_off161 (v116 : BitVec 32) (k0_t3 : Fin (k0_t3_loop v116).trips) : Fin 3 → Nat :=
  let c0_i32_333 : BitVec 32 := 0#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c7_i32_334 : BitVec 32 := 7#32
  ![0, v154.toNat, 7]
def k0_off162 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c7_i32 : BitVec 32 := 7#32
  let c0_i32_335 : BitVec 32 := 0#32
  let c0_i32_336 : BitVec 32 := 0#32
  let c0_i32_337 : BitVec 32 := 0#32
  ![v154.toNat, 7, 0, 0, 0]
def k0_off163 (v116 : BitVec 32) (k0_t3 : Fin (k0_t3_loop v116).trips) : Fin 3 → Nat :=
  let c1_i32_343 : BitVec 32 := 1#32
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let c7_i32_344 : BitVec 32 := 7#32
  ![1, v154.toNat, 7]
def k0_off164 (v116 : BitVec 32) (k0_t3 : Fin (k0_t3_loop v116).trips) : Fin 5 → Nat :=
  let c0_i32_175 : BitVec 32 := 0#32
  let c8_i32 : BitVec 32 := 8#32
  let v117 : BitVec 32 := Scalar.addi v116 c8_i32
  let c1_i32_164 : BitVec 32 := 1#32
  let v118 : BitVec 32 := Scalar.subi v117 c1_i32_164
  let c8_i32_165 : BitVec 32 := 8#32
  let v119 : BitVec 32 := Scalar.divsi v118 c8_i32_165
  let v131 : BitVec 32 := Scalar.subi v119 c0_i32_175
  let c1_i32_176 : BitVec 32 := 1#32
  let v133 : BitVec 32 := Scalar.divsi v131 c1_i32_176
  let v134 : BitVec 32 := Scalar.muli v133 c1_i32_176
  let v135 : BitVec 32 := Scalar.addi c0_i32_175 v134
  let c1_i32_178 : BitVec 32 := 1#32
  let arg13 : BitVec 32 := Scf.iv v135 c1_i32_178 k0_t3
  let c2_i32_191 : BitVec 32 := 2#32
  let v154 : BitVec 32 := Scalar.remsi arg13 c2_i32_191
  let v255 : Index := Scalar.indexCast v154
  let c0_351 : Index := 0#32
  let c0_352 : Index := 0#32
  let c0_353 : Index := 0#32
  let c0_354 : Index := 0#32
  ![v255.toNat, 0, 0, 0, 0]

def k0_chk9_0 (k0_t1 : Fin k0_t1_loop.trips) (v116 : BitVec 32) : Prop :=
  ((k0_t2_loop v116).OK) ∧
  (∀ k0_t2 : Fin (k0_t2_loop v116).trips, ∀ (k0_h2 : k0_cond2 v116 k0_t2 = 1#1), ∀ a, (k0_off19 k0_t1 v116 k0_t2) a + S1x1.size a ≤ S32x256.size a) ∧
  (∀ k0_t2 : Fin (k0_t2_loop v116).trips, ∀ (k0_h2 : k0_cond2 v116 k0_t2 = 1#1), ∀ a, (k0_off20 v116 k0_t2) a + S1x1x1.size a ≤ S2x2x8.size a) ∧
  (∀ k0_t2 : Fin (k0_t2_loop v116).trips, ∀ (k0_h2 : k0_cond2 v116 k0_t2 = 1#1), ∀ a, (k0_off21 v116 k0_t2) a + S1x1x32x16x128.size a ≤ S2x8x32x16x128.size a) ∧
  (∀ k0_t2 : Fin (k0_t2_loop v116).trips, ∀ (k0_h2 : k0_cond2 v116 k0_t2 = 1#1), ∀ a, (k0_off23 v116 k0_t2) a + S1x1x1.size a ≤ S2x2x8.size a) ∧
  (∀ k0_t2 : Fin (k0_t2_loop v116).trips, ∀ (k0_h2 : k0_cond2 v116 k0_t2 = 1#1), ∀ a, (k0_off24 v116 k0_t2) a + S1x1x32x16x128.size a ≤ S2x8x32x16x128.size a) ∧
  (∀ k0_t2 : Fin (k0_t2_loop v116).trips, ∀ (k0_h2 : k0_cond2 v116 k0_t2 = 1#1), ∀ a, (k0_off25 k0_t1 v116 k0_t2) a + S1x1.size a ≤ S32x256.size a) ∧
  (∀ k0_t2 : Fin (k0_t2_loop v116).trips, ∀ (k0_h2 : k0_cond2 v116 k0_t2 = 1#1), ∀ a, (k0_off26 v116 k0_t2) a + S1x1x1.size a ≤ S2x2x8.size a) ∧
  (∀ k0_t2 : Fin (k0_t2_loop v116).trips, ∀ (k0_h2 : k0_cond2 v116 k0_t2 = 1#1), ∀ a, (k0_off27 v116 k0_t2) a + S1x1x32x16x128.size a ≤ S2x8x32x16x128.size a) ∧
  (∀ k0_t2 : Fin (k0_t2_loop v116).trips, ∀ (k0_h2 : k0_cond2 v116 k0_t2 = 1#1), ∀ a, (k0_off29 v116 k0_t2) a + S1x1x1.size a ≤ S2x2x8.size a) ∧
  (∀ k0_t2 : Fin (k0_t2_loop v116).trips, ∀ (k0_h2 : k0_cond2 v116 k0_t2 = 1#1), ∀ a, (k0_off30 v116 k0_t2) a + S1x1x32x16x128.size a ≤ S2x8x32x16x128.size a) ∧
  (∀ k0_t2 : Fin (k0_t2_loop v116).trips, ∀ (k0_h2 : k0_cond2 v116 k0_t2 = 1#1), ∀ a, (k0_off31 k0_t1 v116 k0_t2) a + S1x1.size a ≤ S32x256.size a) ∧
  (∀ k0_t2 : Fin (k0_t2_loop v116).trips, ∀ (k0_h2 : k0_cond2 v116 k0_t2 = 1#1), ∀ a, (k0_off32 v116 k0_t2) a + S1x1x1.size a ≤ S2x2x8.size a) ∧
  (∀ k0_t2 : Fin (k0_t2_loop v116).trips, ∀ (k0_h2 : k0_cond2 v116 k0_t2 = 1#1), ∀ a, (k0_off33 v116 k0_t2) a + S1x1x32x16x128.size a ≤ S2x8x32x16x128.size a) ∧
  (∀ k0_t2 : Fin (k0_t2_loop v116).trips, ∀ (k0_h2 : k0_cond2 v116 k0_t2 = 1#1), ∀ a, (k0_off35 v116 k0_t2) a + S1x1x1.size a ≤ S2x2x8.size a) ∧
  (∀ k0_t2 : Fin (k0_t2_loop v116).trips, ∀ (k0_h2 : k0_cond2 v116 k0_t2 = 1#1), ∀ a, (k0_off36 v116 k0_t2) a + S1x1x32x16x128.size a ≤ S2x8x32x16x128.size a) ∧
  (∀ k0_t2 : Fin (k0_t2_loop v116).trips, ∀ (k0_h2 : k0_cond2 v116 k0_t2 = 1#1), ∀ a, (k0_off37 k0_t1 v116 k0_t2) a + S1x1.size a ≤ S32x256.size a) ∧
  (∀ k0_t2 : Fin (k0_t2_loop v116).trips, ∀ (k0_h2 : k0_cond2 v116 k0_t2 = 1#1), ∀ a, (k0_off38 v116 k0_t2) a + S1x1x1.size a ≤ S2x2x8.size a) ∧
  (∀ k0_t2 : Fin (k0_t2_loop v116).trips, ∀ (k0_h2 : k0_cond2 v116 k0_t2 = 1#1), ∀ a, (k0_off39 v116 k0_t2) a + S1x1x32x16x128.size a ≤ S2x8x32x16x128.size a) ∧
  (∀ k0_t2 : Fin (k0_t2_loop v116).trips, ∀ (k0_h2 : k0_cond2 v116 k0_t2 = 1#1), ∀ a, (k0_off41 v116 k0_t2) a + S1x1x1.size a ≤ S2x2x8.size a) ∧
  (∀ k0_t2 : Fin (k0_t2_loop v116).trips, ∀ (k0_h2 : k0_cond2 v116 k0_t2 = 1#1), ∀ a, (k0_off42 v116 k0_t2) a + S1x1x32x16x128.size a ≤ S2x8x32x16x128.size a) ∧
  (∀ k0_t2 : Fin (k0_t2_loop v116).trips, ∀ (k0_h2 : k0_cond2 v116 k0_t2 = 1#1), ∀ a, (k0_off43 k0_t1 v116 k0_t2) a + S1x1.size a ≤ S32x256.size a) ∧
  (∀ k0_t2 : Fin (k0_t2_loop v116).trips, ∀ (k0_h2 : k0_cond2 v116 k0_t2 = 1#1), ∀ a, (k0_off44 v116 k0_t2) a + S1x1x1.size a ≤ S2x2x8.size a) ∧
  (∀ k0_t2 : Fin (k0_t2_loop v116).trips, ∀ (k0_h2 : k0_cond2 v116 k0_t2 = 1#1), ∀ a, (k0_off45 v116 k0_t2) a + S1x1x32x16x128.size a ≤ S2x8x32x16x128.size a) ∧
  (∀ k0_t2 : Fin (k0_t2_loop v116).trips, ∀ (k0_h2 : k0_cond2 v116 k0_t2 = 1#1), ∀ a, (k0_off47 v116 k0_t2) a + S1x1x1.size a ≤ S2x2x8.size a) ∧
  (∀ k0_t2 : Fin (k0_t2_loop v116).trips, ∀ (k0_h2 : k0_cond2 v116 k0_t2 = 1#1), ∀ a, (k0_off48 v116 k0_t2) a + S1x1x32x16x128.size a ≤ S2x8x32x16x128.size a) ∧
  (∀ k0_t2 : Fin (k0_t2_loop v116).trips, ∀ (k0_h2 : k0_cond2 v116 k0_t2 = 1#1), ∀ a, (k0_off49 k0_t1 v116 k0_t2) a + S1x1.size a ≤ S32x256.size a) ∧
  (∀ k0_t2 : Fin (k0_t2_loop v116).trips, ∀ (k0_h2 : k0_cond2 v116 k0_t2 = 1#1), ∀ a, (k0_off50 v116 k0_t2) a + S1x1x1.size a ≤ S2x2x8.size a) ∧
  (∀ k0_t2 : Fin (k0_t2_loop v116).trips, ∀ (k0_h2 : k0_cond2 v116 k0_t2 = 1#1), ∀ a, (k0_off51 v116 k0_t2) a + S1x1x32x16x128.size a ≤ S2x8x32x16x128.size a) ∧
  (∀ k0_t2 : Fin (k0_t2_loop v116).trips, ∀ (k0_h2 : k0_cond2 v116 k0_t2 = 1#1), ∀ a, (k0_off53 v116 k0_t2) a + S1x1x1.size a ≤ S2x2x8.size a) ∧
  (∀ k0_t2 : Fin (k0_t2_loop v116).trips, ∀ (k0_h2 : k0_cond2 v116 k0_t2 = 1#1), ∀ a, (k0_off54 v116 k0_t2) a + S1x1x32x16x128.size a ≤ S2x8x32x16x128.size a) ∧
  (∀ k0_t2 : Fin (k0_t2_loop v116).trips, ∀ (k0_h2 : k0_cond2 v116 k0_t2 = 1#1), ∀ a, (k0_off55 k0_t1 v116 k0_t2) a + S1x1.size a ≤ S32x256.size a)
def k0_chk9_1 (k0_t1 : Fin k0_t1_loop.trips) (v116 : BitVec 32) : Prop :=
  (∀ k0_t2 : Fin (k0_t2_loop v116).trips, ∀ (k0_h2 : k0_cond2 v116 k0_t2 = 1#1), ∀ a, (k0_off56 v116 k0_t2) a + S1x1x1.size a ≤ S2x2x8.size a) ∧
  (∀ k0_t2 : Fin (k0_t2_loop v116).trips, ∀ (k0_h2 : k0_cond2 v116 k0_t2 = 1#1), ∀ a, (k0_off57 v116 k0_t2) a + S1x1x32x16x128.size a ≤ S2x8x32x16x128.size a) ∧
  (∀ k0_t2 : Fin (k0_t2_loop v116).trips, ∀ (k0_h2 : k0_cond2 v116 k0_t2 = 1#1), ∀ a, (k0_off59 v116 k0_t2) a + S1x1x1.size a ≤ S2x2x8.size a) ∧
  (∀ k0_t2 : Fin (k0_t2_loop v116).trips, ∀ (k0_h2 : k0_cond2 v116 k0_t2 = 1#1), ∀ a, (k0_off60 v116 k0_t2) a + S1x1x32x16x128.size a ≤ S2x8x32x16x128.size a) ∧
  (∀ k0_t2 : Fin (k0_t2_loop v116).trips, ∀ (k0_h2 : k0_cond2 v116 k0_t2 = 1#1), ∀ a, (k0_off61 k0_t1 v116 k0_t2) a + S1x1.size a ≤ S32x256.size a) ∧
  (∀ k0_t2 : Fin (k0_t2_loop v116).trips, ∀ (k0_h2 : k0_cond2 v116 k0_t2 = 1#1), ∀ a, (k0_off62 v116 k0_t2) a + S1x1x1.size a ≤ S2x2x8.size a) ∧
  (∀ k0_t2 : Fin (k0_t2_loop v116).trips, ∀ (k0_h2 : k0_cond2 v116 k0_t2 = 1#1), ∀ a, (k0_off63 v116 k0_t2) a + S1x1x32x16x128.size a ≤ S2x8x32x16x128.size a) ∧
  (∀ k0_t2 : Fin (k0_t2_loop v116).trips, ∀ (k0_h2 : k0_cond2 v116 k0_t2 = 1#1), ∀ a, (k0_off65 v116 k0_t2) a + S1x1x1.size a ≤ S2x2x8.size a) ∧
  (∀ k0_t2 : Fin (k0_t2_loop v116).trips, ∀ (k0_h2 : k0_cond2 v116 k0_t2 = 1#1), ∀ a, (k0_off66 v116 k0_t2) a + S1x1x32x16x128.size a ≤ S2x8x32x16x128.size a) ∧
  (∀ k0_t2 : Fin (k0_t2_loop v116).trips, ∀ a, (k0_off67 v116 k0_t2) a + S1x1x1.size a ≤ S2x2x8.size a) ∧
  (∀ k0_t2 : Fin (k0_t2_loop v116).trips, ∀ a, (k0_off68 v116 k0_t2) a + S1x1x32x16x128.size a ≤ S2x8x32x16x128.size a) ∧
  (∀ k0_t2 : Fin (k0_t2_loop v116).trips, ∀ a, (k0_off69 v116 k0_t2) a + S1x1x1.size a ≤ S2x2x8.size a) ∧
  (∀ k0_t2 : Fin (k0_t2_loop v116).trips, ∀ a, (k0_off70 v116 k0_t2) a + S1x1x1.size a ≤ S2x2x8.size a) ∧
  (∀ k0_t2 : Fin (k0_t2_loop v116).trips, ∀ a, (k0_off71 v116 k0_t2) a + S1x1x32x16x128.size a ≤ S2x8x32x16x128.size a) ∧
  (∀ k0_t2 : Fin (k0_t2_loop v116).trips, ∀ a, (k0_off72 v116 k0_t2) a + S1x1x1.size a ≤ S2x2x8.size a) ∧
  (∀ k0_t2 : Fin (k0_t2_loop v116).trips, ∀ a, (k0_off73 v116 k0_t2) a + S1x1x1.size a ≤ S2x2x8.size a) ∧
  (∀ k0_t2 : Fin (k0_t2_loop v116).trips, ∀ a, (k0_off74 v116 k0_t2) a + S1x1x32x16x128.size a ≤ S2x8x32x16x128.size a) ∧
  (∀ k0_t2 : Fin (k0_t2_loop v116).trips, ∀ a, (k0_off75 v116 k0_t2) a + S1x1x1.size a ≤ S2x2x8.size a) ∧
  (∀ k0_t2 : Fin (k0_t2_loop v116).trips, ∀ a, (k0_off76 v116 k0_t2) a + S1x1x1.size a ≤ S2x2x8.size a) ∧
  (∀ k0_t2 : Fin (k0_t2_loop v116).trips, ∀ a, (k0_off77 v116 k0_t2) a + S1x1x32x16x128.size a ≤ S2x8x32x16x128.size a) ∧
  (∀ k0_t2 : Fin (k0_t2_loop v116).trips, ∀ a, (k0_off78 v116 k0_t2) a + S1x1x1.size a ≤ S2x2x8.size a) ∧
  (∀ k0_t2 : Fin (k0_t2_loop v116).trips, ∀ a, (k0_off79 v116 k0_t2) a + S1x1x1.size a ≤ S2x2x8.size a) ∧
  (∀ k0_t2 : Fin (k0_t2_loop v116).trips, ∀ a, (k0_off80 v116 k0_t2) a + S1x1x32x16x128.size a ≤ S2x8x32x16x128.size a) ∧
  (∀ k0_t2 : Fin (k0_t2_loop v116).trips, ∀ a, (k0_off81 v116 k0_t2) a + S1x1x1.size a ≤ S2x2x8.size a) ∧
  (∀ k0_t2 : Fin (k0_t2_loop v116).trips, ∀ a, (k0_off82 v116 k0_t2) a + S1x1x1.size a ≤ S2x2x8.size a) ∧
  (∀ k0_t2 : Fin (k0_t2_loop v116).trips, ∀ a, (k0_off83 v116 k0_t2) a + S1x1x32x16x128.size a ≤ S2x8x32x16x128.size a) ∧
  (∀ k0_t2 : Fin (k0_t2_loop v116).trips, ∀ a, (k0_off84 v116 k0_t2) a + S1x1x1.size a ≤ S2x2x8.size a) ∧
  (∀ k0_t2 : Fin (k0_t2_loop v116).trips, ∀ a, (k0_off85 v116 k0_t2) a + S1x1x1.size a ≤ S2x2x8.size a) ∧
  (∀ k0_t2 : Fin (k0_t2_loop v116).trips, ∀ a, (k0_off86 v116 k0_t2) a + S1x1x32x16x128.size a ≤ S2x8x32x16x128.size a) ∧
  (∀ k0_t2 : Fin (k0_t2_loop v116).trips, ∀ a, (k0_off87 v116 k0_t2) a + S1x1x1.size a ≤ S2x2x8.size a) ∧
  (∀ k0_t2 : Fin (k0_t2_loop v116).trips, ∀ a, (k0_off88 v116 k0_t2) a + S1x1x1.size a ≤ S2x2x8.size a) ∧
  (∀ k0_t2 : Fin (k0_t2_loop v116).trips, ∀ a, (k0_off89 v116 k0_t2) a + S1x1x32x16x128.size a ≤ S2x8x32x16x128.size a)
def k0_chk9_2 (k0_t1 : Fin k0_t1_loop.trips) (v116 : BitVec 32) : Prop :=
  (∀ k0_t2 : Fin (k0_t2_loop v116).trips, ∀ a, (k0_off90 v116 k0_t2) a + S1x1x1.size a ≤ S2x2x8.size a) ∧
  (∀ k0_t2 : Fin (k0_t2_loop v116).trips, ∀ a, (k0_off91 v116 k0_t2) a + S1x8x32x16x128.size a ≤ S2x8x32x16x128.size a) ∧
  ((k0_t3_loop v116).OK) ∧
  (∀ k0_t3 : Fin (k0_t3_loop v116).trips, ∀ (k0_h3 : k0_cond3 v116 k0_t3 = 1#1), ∀ a, (k0_off92 k0_t1 v116 k0_t3) a + S1x1.size a ≤ S32x256.size a) ∧
  (∀ k0_t3 : Fin (k0_t3_loop v116).trips, ∀ (k0_h3 : k0_cond3 v116 k0_t3 = 1#1), ∀ a, (k0_off93 v116 k0_t3) a + S1x1x1.size a ≤ S2x2x8.size a) ∧
  (∀ k0_t3 : Fin (k0_t3_loop v116).trips, ∀ (k0_h3 : k0_cond3 v116 k0_t3 = 1#1), ∀ a, (k0_off94 v116 k0_t3) a + S1x1x32x16x128.size a ≤ S2x8x32x16x128.size a) ∧
  (∀ k0_t3 : Fin (k0_t3_loop v116).trips, ∀ (k0_h3 : k0_cond3 v116 k0_t3 = 1#1), ∀ a, (k0_off96 v116 k0_t3) a + S1x1x1.size a ≤ S2x2x8.size a) ∧
  (∀ k0_t3 : Fin (k0_t3_loop v116).trips, ∀ (k0_h3 : k0_cond3 v116 k0_t3 = 1#1), ∀ a, (k0_off97 v116 k0_t3) a + S1x1x32x16x128.size a ≤ S2x8x32x16x128.size a) ∧
  (∀ k0_t3 : Fin (k0_t3_loop v116).trips, ∀ (k0_h3 : k0_cond3 v116 k0_t3 = 1#1), ∀ a, (k0_off98 k0_t1 v116 k0_t3) a + S1x1.size a ≤ S32x256.size a) ∧
  (∀ k0_t3 : Fin (k0_t3_loop v116).trips, ∀ (k0_h3 : k0_cond3 v116 k0_t3 = 1#1), ∀ a, (k0_off99 v116 k0_t3) a + S1x1x1.size a ≤ S2x2x8.size a) ∧
  (∀ k0_t3 : Fin (k0_t3_loop v116).trips, ∀ (k0_h3 : k0_cond3 v116 k0_t3 = 1#1), ∀ a, (k0_off100 v116 k0_t3) a + S1x1x32x16x128.size a ≤ S2x8x32x16x128.size a) ∧
  (∀ k0_t3 : Fin (k0_t3_loop v116).trips, ∀ (k0_h3 : k0_cond3 v116 k0_t3 = 1#1), ∀ a, (k0_off102 v116 k0_t3) a + S1x1x1.size a ≤ S2x2x8.size a) ∧
  (∀ k0_t3 : Fin (k0_t3_loop v116).trips, ∀ (k0_h3 : k0_cond3 v116 k0_t3 = 1#1), ∀ a, (k0_off103 v116 k0_t3) a + S1x1x32x16x128.size a ≤ S2x8x32x16x128.size a) ∧
  (∀ k0_t3 : Fin (k0_t3_loop v116).trips, ∀ (k0_h3 : k0_cond3 v116 k0_t3 = 1#1), ∀ a, (k0_off104 k0_t1 v116 k0_t3) a + S1x1.size a ≤ S32x256.size a) ∧
  (∀ k0_t3 : Fin (k0_t3_loop v116).trips, ∀ (k0_h3 : k0_cond3 v116 k0_t3 = 1#1), ∀ a, (k0_off105 v116 k0_t3) a + S1x1x1.size a ≤ S2x2x8.size a) ∧
  (∀ k0_t3 : Fin (k0_t3_loop v116).trips, ∀ (k0_h3 : k0_cond3 v116 k0_t3 = 1#1), ∀ a, (k0_off106 v116 k0_t3) a + S1x1x32x16x128.size a ≤ S2x8x32x16x128.size a) ∧
  (∀ k0_t3 : Fin (k0_t3_loop v116).trips, ∀ (k0_h3 : k0_cond3 v116 k0_t3 = 1#1), ∀ a, (k0_off108 v116 k0_t3) a + S1x1x1.size a ≤ S2x2x8.size a) ∧
  (∀ k0_t3 : Fin (k0_t3_loop v116).trips, ∀ (k0_h3 : k0_cond3 v116 k0_t3 = 1#1), ∀ a, (k0_off109 v116 k0_t3) a + S1x1x32x16x128.size a ≤ S2x8x32x16x128.size a) ∧
  (∀ k0_t3 : Fin (k0_t3_loop v116).trips, ∀ (k0_h3 : k0_cond3 v116 k0_t3 = 1#1), ∀ a, (k0_off110 k0_t1 v116 k0_t3) a + S1x1.size a ≤ S32x256.size a) ∧
  (∀ k0_t3 : Fin (k0_t3_loop v116).trips, ∀ (k0_h3 : k0_cond3 v116 k0_t3 = 1#1), ∀ a, (k0_off111 v116 k0_t3) a + S1x1x1.size a ≤ S2x2x8.size a) ∧
  (∀ k0_t3 : Fin (k0_t3_loop v116).trips, ∀ (k0_h3 : k0_cond3 v116 k0_t3 = 1#1), ∀ a, (k0_off112 v116 k0_t3) a + S1x1x32x16x128.size a ≤ S2x8x32x16x128.size a) ∧
  (∀ k0_t3 : Fin (k0_t3_loop v116).trips, ∀ (k0_h3 : k0_cond3 v116 k0_t3 = 1#1), ∀ a, (k0_off114 v116 k0_t3) a + S1x1x1.size a ≤ S2x2x8.size a) ∧
  (∀ k0_t3 : Fin (k0_t3_loop v116).trips, ∀ (k0_h3 : k0_cond3 v116 k0_t3 = 1#1), ∀ a, (k0_off115 v116 k0_t3) a + S1x1x32x16x128.size a ≤ S2x8x32x16x128.size a) ∧
  (∀ k0_t3 : Fin (k0_t3_loop v116).trips, ∀ (k0_h3 : k0_cond3 v116 k0_t3 = 1#1), ∀ a, (k0_off116 k0_t1 v116 k0_t3) a + S1x1.size a ≤ S32x256.size a) ∧
  (∀ k0_t3 : Fin (k0_t3_loop v116).trips, ∀ (k0_h3 : k0_cond3 v116 k0_t3 = 1#1), ∀ a, (k0_off117 v116 k0_t3) a + S1x1x1.size a ≤ S2x2x8.size a) ∧
  (∀ k0_t3 : Fin (k0_t3_loop v116).trips, ∀ (k0_h3 : k0_cond3 v116 k0_t3 = 1#1), ∀ a, (k0_off118 v116 k0_t3) a + S1x1x32x16x128.size a ≤ S2x8x32x16x128.size a) ∧
  (∀ k0_t3 : Fin (k0_t3_loop v116).trips, ∀ (k0_h3 : k0_cond3 v116 k0_t3 = 1#1), ∀ a, (k0_off120 v116 k0_t3) a + S1x1x1.size a ≤ S2x2x8.size a) ∧
  (∀ k0_t3 : Fin (k0_t3_loop v116).trips, ∀ (k0_h3 : k0_cond3 v116 k0_t3 = 1#1), ∀ a, (k0_off121 v116 k0_t3) a + S1x1x32x16x128.size a ≤ S2x8x32x16x128.size a) ∧
  (∀ k0_t3 : Fin (k0_t3_loop v116).trips, ∀ (k0_h3 : k0_cond3 v116 k0_t3 = 1#1), ∀ a, (k0_off122 k0_t1 v116 k0_t3) a + S1x1.size a ≤ S32x256.size a) ∧
  (∀ k0_t3 : Fin (k0_t3_loop v116).trips, ∀ (k0_h3 : k0_cond3 v116 k0_t3 = 1#1), ∀ a, (k0_off123 v116 k0_t3) a + S1x1x1.size a ≤ S2x2x8.size a) ∧
  (∀ k0_t3 : Fin (k0_t3_loop v116).trips, ∀ (k0_h3 : k0_cond3 v116 k0_t3 = 1#1), ∀ a, (k0_off124 v116 k0_t3) a + S1x1x32x16x128.size a ≤ S2x8x32x16x128.size a) ∧
  (∀ k0_t3 : Fin (k0_t3_loop v116).trips, ∀ (k0_h3 : k0_cond3 v116 k0_t3 = 1#1), ∀ a, (k0_off126 v116 k0_t3) a + S1x1x1.size a ≤ S2x2x8.size a)
def k0_chk9_3 (k0_t1 : Fin k0_t1_loop.trips) (v116 : BitVec 32) : Prop :=
  (∀ k0_t3 : Fin (k0_t3_loop v116).trips, ∀ (k0_h3 : k0_cond3 v116 k0_t3 = 1#1), ∀ a, (k0_off127 v116 k0_t3) a + S1x1x32x16x128.size a ≤ S2x8x32x16x128.size a) ∧
  (∀ k0_t3 : Fin (k0_t3_loop v116).trips, ∀ (k0_h3 : k0_cond3 v116 k0_t3 = 1#1), ∀ a, (k0_off128 k0_t1 v116 k0_t3) a + S1x1.size a ≤ S32x256.size a) ∧
  (∀ k0_t3 : Fin (k0_t3_loop v116).trips, ∀ (k0_h3 : k0_cond3 v116 k0_t3 = 1#1), ∀ a, (k0_off129 v116 k0_t3) a + S1x1x1.size a ≤ S2x2x8.size a) ∧
  (∀ k0_t3 : Fin (k0_t3_loop v116).trips, ∀ (k0_h3 : k0_cond3 v116 k0_t3 = 1#1), ∀ a, (k0_off130 v116 k0_t3) a + S1x1x32x16x128.size a ≤ S2x8x32x16x128.size a) ∧
  (∀ k0_t3 : Fin (k0_t3_loop v116).trips, ∀ (k0_h3 : k0_cond3 v116 k0_t3 = 1#1), ∀ a, (k0_off132 v116 k0_t3) a + S1x1x1.size a ≤ S2x2x8.size a) ∧
  (∀ k0_t3 : Fin (k0_t3_loop v116).trips, ∀ (k0_h3 : k0_cond3 v116 k0_t3 = 1#1), ∀ a, (k0_off133 v116 k0_t3) a + S1x1x32x16x128.size a ≤ S2x8x32x16x128.size a) ∧
  (∀ k0_t3 : Fin (k0_t3_loop v116).trips, ∀ (k0_h3 : k0_cond3 v116 k0_t3 = 1#1), ∀ a, (k0_off134 k0_t1 v116 k0_t3) a + S1x1.size a ≤ S32x256.size a) ∧
  (∀ k0_t3 : Fin (k0_t3_loop v116).trips, ∀ (k0_h3 : k0_cond3 v116 k0_t3 = 1#1), ∀ a, (k0_off135 v116 k0_t3) a + S1x1x1.size a ≤ S2x2x8.size a) ∧
  (∀ k0_t3 : Fin (k0_t3_loop v116).trips, ∀ (k0_h3 : k0_cond3 v116 k0_t3 = 1#1), ∀ a, (k0_off136 v116 k0_t3) a + S1x1x32x16x128.size a ≤ S2x8x32x16x128.size a) ∧
  (∀ k0_t3 : Fin (k0_t3_loop v116).trips, ∀ (k0_h3 : k0_cond3 v116 k0_t3 = 1#1), ∀ a, (k0_off138 v116 k0_t3) a + S1x1x1.size a ≤ S2x2x8.size a) ∧
  (∀ k0_t3 : Fin (k0_t3_loop v116).trips, ∀ (k0_h3 : k0_cond3 v116 k0_t3 = 1#1), ∀ a, (k0_off139 v116 k0_t3) a + S1x1x32x16x128.size a ≤ S2x8x32x16x128.size a) ∧
  (∀ k0_t3 : Fin (k0_t3_loop v116).trips, ∀ a, (k0_off140 v116 k0_t3) a + S1x1x1.size a ≤ S2x2x8.size a) ∧
  (∀ k0_t3 : Fin (k0_t3_loop v116).trips, ∀ a, (k0_off141 v116 k0_t3) a + S1x1x32x16x128.size a ≤ S2x8x32x16x128.size a) ∧
  (∀ k0_t3 : Fin (k0_t3_loop v116).trips, ∀ a, (k0_off142 v116 k0_t3) a + S1x1x1.size a ≤ S2x2x8.size a) ∧
  (∀ k0_t3 : Fin (k0_t3_loop v116).trips, ∀ a, (k0_off143 v116 k0_t3) a + S1x1x1.size a ≤ S2x2x8.size a) ∧
  (∀ k0_t3 : Fin (k0_t3_loop v116).trips, ∀ a, (k0_off144 v116 k0_t3) a + S1x1x32x16x128.size a ≤ S2x8x32x16x128.size a) ∧
  (∀ k0_t3 : Fin (k0_t3_loop v116).trips, ∀ a, (k0_off145 v116 k0_t3) a + S1x1x1.size a ≤ S2x2x8.size a) ∧
  (∀ k0_t3 : Fin (k0_t3_loop v116).trips, ∀ a, (k0_off146 v116 k0_t3) a + S1x1x1.size a ≤ S2x2x8.size a) ∧
  (∀ k0_t3 : Fin (k0_t3_loop v116).trips, ∀ a, (k0_off147 v116 k0_t3) a + S1x1x32x16x128.size a ≤ S2x8x32x16x128.size a) ∧
  (∀ k0_t3 : Fin (k0_t3_loop v116).trips, ∀ a, (k0_off148 v116 k0_t3) a + S1x1x1.size a ≤ S2x2x8.size a) ∧
  (∀ k0_t3 : Fin (k0_t3_loop v116).trips, ∀ a, (k0_off149 v116 k0_t3) a + S1x1x1.size a ≤ S2x2x8.size a) ∧
  (∀ k0_t3 : Fin (k0_t3_loop v116).trips, ∀ a, (k0_off150 v116 k0_t3) a + S1x1x32x16x128.size a ≤ S2x8x32x16x128.size a) ∧
  (∀ k0_t3 : Fin (k0_t3_loop v116).trips, ∀ a, (k0_off151 v116 k0_t3) a + S1x1x1.size a ≤ S2x2x8.size a) ∧
  (∀ k0_t3 : Fin (k0_t3_loop v116).trips, ∀ a, (k0_off152 v116 k0_t3) a + S1x1x1.size a ≤ S2x2x8.size a) ∧
  (∀ k0_t3 : Fin (k0_t3_loop v116).trips, ∀ a, (k0_off153 v116 k0_t3) a + S1x1x32x16x128.size a ≤ S2x8x32x16x128.size a) ∧
  (∀ k0_t3 : Fin (k0_t3_loop v116).trips, ∀ a, (k0_off154 v116 k0_t3) a + S1x1x1.size a ≤ S2x2x8.size a) ∧
  (∀ k0_t3 : Fin (k0_t3_loop v116).trips, ∀ a, (k0_off155 v116 k0_t3) a + S1x1x1.size a ≤ S2x2x8.size a) ∧
  (∀ k0_t3 : Fin (k0_t3_loop v116).trips, ∀ a, (k0_off156 v116 k0_t3) a + S1x1x32x16x128.size a ≤ S2x8x32x16x128.size a) ∧
  (∀ k0_t3 : Fin (k0_t3_loop v116).trips, ∀ a, (k0_off157 v116 k0_t3) a + S1x1x1.size a ≤ S2x2x8.size a) ∧
  (∀ k0_t3 : Fin (k0_t3_loop v116).trips, ∀ a, (k0_off158 v116 k0_t3) a + S1x1x1.size a ≤ S2x2x8.size a) ∧
  (∀ k0_t3 : Fin (k0_t3_loop v116).trips, ∀ a, (k0_off159 v116 k0_t3) a + S1x1x32x16x128.size a ≤ S2x8x32x16x128.size a) ∧
  (∀ k0_t3 : Fin (k0_t3_loop v116).trips, ∀ a, (k0_off160 v116 k0_t3) a + S1x1x1.size a ≤ S2x2x8.size a)
def k0_chk9_4 (k0_t1 : Fin k0_t1_loop.trips) (v116 : BitVec 32) : Prop :=
  (∀ k0_t3 : Fin (k0_t3_loop v116).trips, ∀ a, (k0_off161 v116 k0_t3) a + S1x1x1.size a ≤ S2x2x8.size a) ∧
  (∀ k0_t3 : Fin (k0_t3_loop v116).trips, ∀ a, (k0_off162 v116 k0_t3) a + S1x1x32x16x128.size a ≤ S2x8x32x16x128.size a) ∧
  (∀ k0_t3 : Fin (k0_t3_loop v116).trips, ∀ a, (k0_off163 v116 k0_t3) a + S1x1x1.size a ≤ S2x2x8.size a) ∧
  (∀ k0_t3 : Fin (k0_t3_loop v116).trips, ∀ a, (k0_off164 v116 k0_t3) a + S1x8x32x16x128.size a ≤ S2x8x32x16x128.size a)
def k0_chk9 (k0_t1 : Fin k0_t1_loop.trips) (v116 : BitVec 32) : Prop :=
  k0_chk9_0 k0_t1 v116 ∧
  k0_chk9_1 k0_t1 v116 ∧
  k0_chk9_2 k0_t1 v116 ∧
  k0_chk9_3 k0_t1 v116 ∧
  k0_chk9_4 k0_t1 v116
theorem k0_t2_ok : ∀ (k0_t1 : Fin k0_t1_loop.trips) (v116 : BitVec 32) (k0_hw9 : k0_chk9 k0_t1 v116), (k0_t2_loop v116).OK := fun k0_t1 v116 k0_hw9 => k0_hw9.1.1
theorem k0_off19_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off19 k0_t1 v116 k0_t2) a + S1x1.size a ≤ S32x256.size a := fun k0_t1 v116 k0_hw9 k0_t2 k0_h2 => k0_hw9.1.2.1 k0_t2 k0_h2
theorem k0_off20_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off20 v116 k0_t2) a + S1x1x1.size a ≤ S2x2x8.size a := fun k0_t1 v116 k0_hw9 k0_t2 k0_h2 => k0_hw9.1.2.2.1 k0_t2 k0_h2
theorem k0_off21_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off21 v116 k0_t2) a + S1x1x32x16x128.size a ≤ S2x8x32x16x128.size a := fun k0_t1 v116 k0_hw9 k0_t2 k0_h2 => k0_hw9.1.2.2.2.1 k0_t2 k0_h2
theorem k0_off23_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off23 v116 k0_t2) a + S1x1x1.size a ≤ S2x2x8.size a := fun k0_t1 v116 k0_hw9 k0_t2 k0_h2 => k0_hw9.1.2.2.2.2.1 k0_t2 k0_h2
theorem k0_off24_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off24 v116 k0_t2) a + S1x1x32x16x128.size a ≤ S2x8x32x16x128.size a := fun k0_t1 v116 k0_hw9 k0_t2 k0_h2 => k0_hw9.1.2.2.2.2.2.1 k0_t2 k0_h2
theorem k0_off25_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off25 k0_t1 v116 k0_t2) a + S1x1.size a ≤ S32x256.size a := fun k0_t1 v116 k0_hw9 k0_t2 k0_h2 => k0_hw9.1.2.2.2.2.2.2.1 k0_t2 k0_h2
theorem k0_off26_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off26 v116 k0_t2) a + S1x1x1.size a ≤ S2x2x8.size a := fun k0_t1 v116 k0_hw9 k0_t2 k0_h2 => k0_hw9.1.2.2.2.2.2.2.2.1 k0_t2 k0_h2
theorem k0_off27_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off27 v116 k0_t2) a + S1x1x32x16x128.size a ≤ S2x8x32x16x128.size a := fun k0_t1 v116 k0_hw9 k0_t2 k0_h2 => k0_hw9.1.2.2.2.2.2.2.2.2.1 k0_t2 k0_h2
theorem k0_off29_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off29 v116 k0_t2) a + S1x1x1.size a ≤ S2x2x8.size a := fun k0_t1 v116 k0_hw9 k0_t2 k0_h2 => k0_hw9.1.2.2.2.2.2.2.2.2.2.1 k0_t2 k0_h2
theorem k0_off30_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off30 v116 k0_t2) a + S1x1x32x16x128.size a ≤ S2x8x32x16x128.size a := fun k0_t1 v116 k0_hw9 k0_t2 k0_h2 => k0_hw9.1.2.2.2.2.2.2.2.2.2.2.1 k0_t2 k0_h2
theorem k0_off31_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off31 k0_t1 v116 k0_t2) a + S1x1.size a ≤ S32x256.size a := fun k0_t1 v116 k0_hw9 k0_t2 k0_h2 => k0_hw9.1.2.2.2.2.2.2.2.2.2.2.2.1 k0_t2 k0_h2
theorem k0_off32_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off32 v116 k0_t2) a + S1x1x1.size a ≤ S2x2x8.size a := fun k0_t1 v116 k0_hw9 k0_t2 k0_h2 => k0_hw9.1.2.2.2.2.2.2.2.2.2.2.2.2.1 k0_t2 k0_h2
theorem k0_off33_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off33 v116 k0_t2) a + S1x1x32x16x128.size a ≤ S2x8x32x16x128.size a := fun k0_t1 v116 k0_hw9 k0_t2 k0_h2 => k0_hw9.1.2.2.2.2.2.2.2.2.2.2.2.2.2.1 k0_t2 k0_h2
theorem k0_off35_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off35 v116 k0_t2) a + S1x1x1.size a ≤ S2x2x8.size a := fun k0_t1 v116 k0_hw9 k0_t2 k0_h2 => k0_hw9.1.2.2.2.2.2.2.2.2.2.2.2.2.2.2.1 k0_t2 k0_h2
theorem k0_off36_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off36 v116 k0_t2) a + S1x1x32x16x128.size a ≤ S2x8x32x16x128.size a := fun k0_t1 v116 k0_hw9 k0_t2 k0_h2 => k0_hw9.1.2.2.2.2.2.2.2.2.2.2.2.2.2.2.2.1 k0_t2 k0_h2
theorem k0_off37_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off37 k0_t1 v116 k0_t2) a + S1x1.size a ≤ S32x256.size a := fun k0_t1 v116 k0_hw9 k0_t2 k0_h2 => k0_hw9.1.2.2.2.2.2.2.2.2.2.2.2.2.2.2.2.2.1 k0_t2 k0_h2
theorem k0_off38_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off38 v116 k0_t2) a + S1x1x1.size a ≤ S2x2x8.size a := fun k0_t1 v116 k0_hw9 k0_t2 k0_h2 => k0_hw9.1.2.2.2.2.2.2.2.2.2.2.2.2.2.2.2.2.2.1 k0_t2 k0_h2
theorem k0_off39_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off39 v116 k0_t2) a + S1x1x32x16x128.size a ≤ S2x8x32x16x128.size a := fun k0_t1 v116 k0_hw9 k0_t2 k0_h2 => k0_hw9.1.2.2.2.2.2.2.2.2.2.2.2.2.2.2.2.2.2.2.1 k0_t2 k0_h2
theorem k0_off41_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off41 v116 k0_t2) a + S1x1x1.size a ≤ S2x2x8.size a := fun k0_t1 v116 k0_hw9 k0_t2 k0_h2 => k0_hw9.1.2.2.2.2.2.2.2.2.2.2.2.2.2.2.2.2.2.2.2.1 k0_t2 k0_h2
theorem k0_off42_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off42 v116 k0_t2) a + S1x1x32x16x128.size a ≤ S2x8x32x16x128.size a := fun k0_t1 v116 k0_hw9 k0_t2 k0_h2 => k0_hw9.1.2.2.2.2.2.2.2.2.2.2.2.2.2.2.2.2.2.2.2.2.1 k0_t2 k0_h2
theorem k0_off43_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off43 k0_t1 v116 k0_t2) a + S1x1.size a ≤ S32x256.size a := fun k0_t1 v116 k0_hw9 k0_t2 k0_h2 => k0_hw9.1.2.2.2.2.2.2.2.2.2.2.2.2.2.2.2.2.2.2.2.2.2.1 k0_t2 k0_h2
theorem k0_off44_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off44 v116 k0_t2) a + S1x1x1.size a ≤ S2x2x8.size a := fun k0_t1 v116 k0_hw9 k0_t2 k0_h2 => k0_hw9.1.2.2.2.2.2.2.2.2.2.2.2.2.2.2.2.2.2.2.2.2.2.2.1 k0_t2 k0_h2
theorem k0_off45_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off45 v116 k0_t2) a + S1x1x32x16x128.size a ≤ S2x8x32x16x128.size a := fun k0_t1 v116 k0_hw9 k0_t2 k0_h2 => k0_hw9.1.2.2.2.2.2.2.2.2.2.2.2.2.2.2.2.2.2.2.2.2.2.2.2.1 k0_t2 k0_h2
theorem k0_off47_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off47 v116 k0_t2) a + S1x1x1.size a ≤ S2x2x8.size a := fun k0_t1 v116 k0_hw9 k0_t2 k0_h2 => k0_hw9.1.2.2.2.2.2.2.2.2.2.2.2.2.2.2.2.2.2.2.2.2.2.2.2.2.1 k0_t2 k0_h2
theorem k0_off48_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off48 v116 k0_t2) a + S1x1x32x16x128.size a ≤ S2x8x32x16x128.size a := fun k0_t1 v116 k0_hw9 k0_t2 k0_h2 => k0_hw9.1.2.2.2.2.2.2.2.2.2.2.2.2.2.2.2.2.2.2.2.2.2.2.2.2.2.1 k0_t2 k0_h2
theorem k0_off49_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off49 k0_t1 v116 k0_t2) a + S1x1.size a ≤ S32x256.size a := fun k0_t1 v116 k0_hw9 k0_t2 k0_h2 => k0_hw9.1.2.2.2.2.2.2.2.2.2.2.2.2.2.2.2.2.2.2.2.2.2.2.2.2.2.2.1 k0_t2 k0_h2
theorem k0_off50_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off50 v116 k0_t2) a + S1x1x1.size a ≤ S2x2x8.size a := fun k0_t1 v116 k0_hw9 k0_t2 k0_h2 => k0_hw9.1.2.2.2.2.2.2.2.2.2.2.2.2.2.2.2.2.2.2.2.2.2.2.2.2.2.2.2.1 k0_t2 k0_h2
theorem k0_off51_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off51 v116 k0_t2) a + S1x1x32x16x128.size a ≤ S2x8x32x16x128.size a := fun k0_t1 v116 k0_hw9 k0_t2 k0_h2 => k0_hw9.1.2.2.2.2.2.2.2.2.2.2.2.2.2.2.2.2.2.2.2.2.2.2.2.2.2.2.2.2.1 k0_t2 k0_h2
theorem k0_off53_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off53 v116 k0_t2) a + S1x1x1.size a ≤ S2x2x8.size a := fun k0_t1 v116 k0_hw9 k0_t2 k0_h2 => k0_hw9.1.2.2.2.2.2.2.2.2.2.2.2.2.2.2.2.2.2.2.2.2.2.2.2.2.2.2.2.2.2.1 k0_t2 k0_h2
theorem k0_off54_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off54 v116 k0_t2) a + S1x1x32x16x128.size a ≤ S2x8x32x16x128.size a := fun k0_t1 v116 k0_hw9 k0_t2 k0_h2 => k0_hw9.1.2.2.2.2.2.2.2.2.2.2.2.2.2.2.2.2.2.2.2.2.2.2.2.2.2.2.2.2.2.2.1 k0_t2 k0_h2
theorem k0_off55_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off55 k0_t1 v116 k0_t2) a + S1x1.size a ≤ S32x256.size a := fun k0_t1 v116 k0_hw9 k0_t2 k0_h2 => k0_hw9.1.2.2.2.2.2.2.2.2.2.2.2.2.2.2.2.2.2.2.2.2.2.2.2.2.2.2.2.2.2.2.2 k0_t2 k0_h2
theorem k0_off56_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off56 v116 k0_t2) a + S1x1x1.size a ≤ S2x2x8.size a := fun k0_t1 v116 k0_hw9 k0_t2 k0_h2 => k0_hw9.2.1.1 k0_t2 k0_h2
theorem k0_off57_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off57 v116 k0_t2) a + S1x1x32x16x128.size a ≤ S2x8x32x16x128.size a := fun k0_t1 v116 k0_hw9 k0_t2 k0_h2 => k0_hw9.2.1.2.1 k0_t2 k0_h2
theorem k0_off59_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off59 v116 k0_t2) a + S1x1x1.size a ≤ S2x2x8.size a := fun k0_t1 v116 k0_hw9 k0_t2 k0_h2 => k0_hw9.2.1.2.2.1 k0_t2 k0_h2
theorem k0_off60_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off60 v116 k0_t2) a + S1x1x32x16x128.size a ≤ S2x8x32x16x128.size a := fun k0_t1 v116 k0_hw9 k0_t2 k0_h2 => k0_hw9.2.1.2.2.2.1 k0_t2 k0_h2
theorem k0_off61_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off61 k0_t1 v116 k0_t2) a + S1x1.size a ≤ S32x256.size a := fun k0_t1 v116 k0_hw9 k0_t2 k0_h2 => k0_hw9.2.1.2.2.2.2.1 k0_t2 k0_h2
theorem k0_off62_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off62 v116 k0_t2) a + S1x1x1.size a ≤ S2x2x8.size a := fun k0_t1 v116 k0_hw9 k0_t2 k0_h2 => k0_hw9.2.1.2.2.2.2.2.1 k0_t2 k0_h2
theorem k0_off63_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off63 v116 k0_t2) a + S1x1x32x16x128.size a ≤ S2x8x32x16x128.size a := fun k0_t1 v116 k0_hw9 k0_t2 k0_h2 => k0_hw9.2.1.2.2.2.2.2.2.1 k0_t2 k0_h2
theorem k0_off65_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off65 v116 k0_t2) a + S1x1x1.size a ≤ S2x2x8.size a := fun k0_t1 v116 k0_hw9 k0_t2 k0_h2 => k0_hw9.2.1.2.2.2.2.2.2.2.1 k0_t2 k0_h2
theorem k0_off66_inb : ∀ (k0_t1 : Fin k0_t1_loop.trips) (v116 : BitVec 32) (k0_hw9 : k0_chk9 k0_t1 v116) (k0_t2 : Fin (k0_t2_loop v116).trips), ∀ (k0_h2 : k0_cond2 v116 k0_t2 = 1#1), ∀ a, (k0_off66 v116 k0_t2) a + S1x1x32x16x128.size a ≤ S2x8x32x16x128.size a := fun k0_t1 v116 k0_hw9 k0_t2 k0_h2 => k0_hw9.2.1.2.2.2.2.2.2.2.2.1 k0_t2 k0_h2
theorem k0_off67_inb : ∀ (k0_t1 : Fin k0_t1_loop.trips) (v116 : BitVec 32) (k0_hw9 : k0_chk9 k0_t1 v116) (k0_t2 : Fin (k0_t2_loop v116).trips), ∀ a, (k0_off67 v116 k0_t2) a + S1x1x1.size a ≤ S2x2x8.size a := fun k0_t1 v116 k0_hw9 k0_t2 => k0_hw9.2.1.2.2.2.2.2.2.2.2.2.1 k0_t2
theorem k0_off68_inb : ∀ (k0_t1 : Fin k0_t1_loop.trips) (v116 : BitVec 32) (k0_hw9 : k0_chk9 k0_t1 v116) (k0_t2 : Fin (k0_t2_loop v116).trips), ∀ a, (k0_off68 v116 k0_t2) a + S1x1x32x16x128.size a ≤ S2x8x32x16x128.size a := fun k0_t1 v116 k0_hw9 k0_t2 => k0_hw9.2.1.2.2.2.2.2.2.2.2.2.2.1 k0_t2
theorem k0_off69_inb : ∀ (k0_t1 : Fin k0_t1_loop.trips) (v116 : BitVec 32) (k0_hw9 : k0_chk9 k0_t1 v116) (k0_t2 : Fin (k0_t2_loop v116).trips), ∀ a, (k0_off69 v116 k0_t2) a + S1x1x1.size a ≤ S2x2x8.size a := fun k0_t1 v116 k0_hw9 k0_t2 => k0_hw9.2.1.2.2.2.2.2.2.2.2.2.2.2.1 k0_t2
theorem k0_off70_inb : ∀ (k0_t1 : Fin k0_t1_loop.trips) (v116 : BitVec 32) (k0_hw9 : k0_chk9 k0_t1 v116) (k0_t2 : Fin (k0_t2_loop v116).trips), ∀ a, (k0_off70 v116 k0_t2) a + S1x1x1.size a ≤ S2x2x8.size a := fun k0_t1 v116 k0_hw9 k0_t2 => k0_hw9.2.1.2.2.2.2.2.2.2.2.2.2.2.2.1 k0_t2
theorem k0_off71_inb : ∀ (k0_t1 : Fin k0_t1_loop.trips) (v116 : BitVec 32) (k0_hw9 : k0_chk9 k0_t1 v116) (k0_t2 : Fin (k0_t2_loop v116).trips), ∀ a, (k0_off71 v116 k0_t2) a + S1x1x32x16x128.size a ≤ S2x8x32x16x128.size a := fun k0_t1 v116 k0_hw9 k0_t2 => k0_hw9.2.1.2.2.2.2.2.2.2.2.2.2.2.2.2.1 k0_t2
theorem k0_off72_inb : ∀ (k0_t1 : Fin k0_t1_loop.trips) (v116 : BitVec 32) (k0_hw9 : k0_chk9 k0_t1 v116) (k0_t2 : Fin (k0_t2_loop v116).trips), ∀ a, (k0_off72 v116 k0_t2) a + S1x1x1.size a ≤ S2x2x8.size a := fun k0_t1 v116 k0_hw9 k0_t2 => k0_hw9.2.1.2.2.2.2.2.2.2.2.2.2.2.2.2.2.1 k0_t2
theorem k0_off73_inb : ∀ (k0_t1 : Fin k0_t1_loop.trips) (v116 : BitVec 32) (k0_hw9 : k0_chk9 k0_t1 v116) (k0_t2 : Fin (k0_t2_loop v116).trips), ∀ a, (k0_off73 v116 k0_t2) a + S1x1x1.size a ≤ S2x2x8.size a := fun k0_t1 v116 k0_hw9 k0_t2 => k0_hw9.2.1.2.2.2.2.2.2.2.2.2.2.2.2.2.2.2.1 k0_t2
theorem k0_off74_inb : ∀ (k0_t1 : Fin k0_t1_loop.trips) (v116 : BitVec 32) (k0_hw9 : k0_chk9 k0_t1 v116) (k0_t2 : Fin (k0_t2_loop v116).trips), ∀ a, (k0_off74 v116 k0_t2) a + S1x1x32x16x128.size a ≤ S2x8x32x16x128.size a := fun k0_t1 v116 k0_hw9 k0_t2 => k0_hw9.2.1.2.2.2.2.2.2.2.2.2.2.2.2.2.2.2.2.1 k0_t2
theorem k0_off75_inb : ∀ (k0_t1 : Fin k0_t1_loop.trips) (v116 : BitVec 32) (k0_hw9 : k0_chk9 k0_t1 v116) (k0_t2 : Fin (k0_t2_loop v116).trips), ∀ a, (k0_off75 v116 k0_t2) a + S1x1x1.size a ≤ S2x2x8.size a := fun k0_t1 v116 k0_hw9 k0_t2 => k0_hw9.2.1.2.2.2.2.2.2.2.2.2.2.2.2.2.2.2.2.2.1 k0_t2
theorem k0_off76_inb : ∀ (k0_t1 : Fin k0_t1_loop.trips) (v116 : BitVec 32) (k0_hw9 : k0_chk9 k0_t1 v116) (k0_t2 : Fin (k0_t2_loop v116).trips), ∀ a, (k0_off76 v116 k0_t2) a + S1x1x1.size a ≤ S2x2x8.size a := fun k0_t1 v116 k0_hw9 k0_t2 => k0_hw9.2.1.2.2.2.2.2.2.2.2.2.2.2.2.2.2.2.2.2.2.1 k0_t2
theorem k0_off77_inb : ∀ (k0_t1 : Fin k0_t1_loop.trips) (v116 : BitVec 32) (k0_hw9 : k0_chk9 k0_t1 v116) (k0_t2 : Fin (k0_t2_loop v116).trips), ∀ a, (k0_off77 v116 k0_t2) a + S1x1x32x16x128.size a ≤ S2x8x32x16x128.size a := fun k0_t1 v116 k0_hw9 k0_t2 => k0_hw9.2.1.2.2.2.2.2.2.2.2.2.2.2.2.2.2.2.2.2.2.2.1 k0_t2
theorem k0_off78_inb : ∀ (k0_t1 : Fin k0_t1_loop.trips) (v116 : BitVec 32) (k0_hw9 : k0_chk9 k0_t1 v116) (k0_t2 : Fin (k0_t2_loop v116).trips), ∀ a, (k0_off78 v116 k0_t2) a + S1x1x1.size a ≤ S2x2x8.size a := fun k0_t1 v116 k0_hw9 k0_t2 => k0_hw9.2.1.2.2.2.2.2.2.2.2.2.2.2.2.2.2.2.2.2.2.2.2.1 k0_t2
theorem k0_off79_inb : ∀ (k0_t1 : Fin k0_t1_loop.trips) (v116 : BitVec 32) (k0_hw9 : k0_chk9 k0_t1 v116) (k0_t2 : Fin (k0_t2_loop v116).trips), ∀ a, (k0_off79 v116 k0_t2) a + S1x1x1.size a ≤ S2x2x8.size a := fun k0_t1 v116 k0_hw9 k0_t2 => k0_hw9.2.1.2.2.2.2.2.2.2.2.2.2.2.2.2.2.2.2.2.2.2.2.2.1 k0_t2
theorem k0_off80_inb : ∀ (k0_t1 : Fin k0_t1_loop.trips) (v116 : BitVec 32) (k0_hw9 : k0_chk9 k0_t1 v116) (k0_t2 : Fin (k0_t2_loop v116).trips), ∀ a, (k0_off80 v116 k0_t2) a + S1x1x32x16x128.size a ≤ S2x8x32x16x128.size a := fun k0_t1 v116 k0_hw9 k0_t2 => k0_hw9.2.1.2.2.2.2.2.2.2.2.2.2.2.2.2.2.2.2.2.2.2.2.2.2.1 k0_t2
theorem k0_off81_inb : ∀ (k0_t1 : Fin k0_t1_loop.trips) (v116 : BitVec 32) (k0_hw9 : k0_chk9 k0_t1 v116) (k0_t2 : Fin (k0_t2_loop v116).trips), ∀ a, (k0_off81 v116 k0_t2) a + S1x1x1.size a ≤ S2x2x8.size a := fun k0_t1 v116 k0_hw9 k0_t2 => k0_hw9.2.1.2.2.2.2.2.2.2.2.2.2.2.2.2.2.2.2.2.2.2.2.2.2.2.1 k0_t2
theorem k0_off82_inb : ∀ (k0_t1 : Fin k0_t1_loop.trips) (v116 : BitVec 32) (k0_hw9 : k0_chk9 k0_t1 v116) (k0_t2 : Fin (k0_t2_loop v116).trips), ∀ a, (k0_off82 v116 k0_t2) a + S1x1x1.size a ≤ S2x2x8.size a := fun k0_t1 v116 k0_hw9 k0_t2 => k0_hw9.2.1.2.2.2.2.2.2.2.2.2.2.2.2.2.2.2.2.2.2.2.2.2.2.2.2.1 k0_t2
theorem k0_off83_inb : ∀ (k0_t1 : Fin k0_t1_loop.trips) (v116 : BitVec 32) (k0_hw9 : k0_chk9 k0_t1 v116) (k0_t2 : Fin (k0_t2_loop v116).trips), ∀ a, (k0_off83 v116 k0_t2) a + S1x1x32x16x128.size a ≤ S2x8x32x16x128.size a := fun k0_t1 v116 k0_hw9 k0_t2 => k0_hw9.2.1.2.2.2.2.2.2.2.2.2.2.2.2.2.2.2.2.2.2.2.2.2.2.2.2.2.1 k0_t2
theorem k0_off84_inb : ∀ (k0_t1 : Fin k0_t1_loop.trips) (v116 : BitVec 32) (k0_hw9 : k0_chk9 k0_t1 v116) (k0_t2 : Fin (k0_t2_loop v116).trips), ∀ a, (k0_off84 v116 k0_t2) a + S1x1x1.size a ≤ S2x2x8.size a := fun k0_t1 v116 k0_hw9 k0_t2 => k0_hw9.2.1.2.2.2.2.2.2.2.2.2.2.2.2.2.2.2.2.2.2.2.2.2.2.2.2.2.2.1 k0_t2
theorem k0_off85_inb : ∀ (k0_t1 : Fin k0_t1_loop.trips) (v116 : BitVec 32) (k0_hw9 : k0_chk9 k0_t1 v116) (k0_t2 : Fin (k0_t2_loop v116).trips), ∀ a, (k0_off85 v116 k0_t2) a + S1x1x1.size a ≤ S2x2x8.size a := fun k0_t1 v116 k0_hw9 k0_t2 => k0_hw9.2.1.2.2.2.2.2.2.2.2.2.2.2.2.2.2.2.2.2.2.2.2.2.2.2.2.2.2.2.1 k0_t2
theorem k0_off86_inb : ∀ (k0_t1 : Fin k0_t1_loop.trips) (v116 : BitVec 32) (k0_hw9 : k0_chk9 k0_t1 v116) (k0_t2 : Fin (k0_t2_loop v116).trips), ∀ a, (k0_off86 v116 k0_t2) a + S1x1x32x16x128.size a ≤ S2x8x32x16x128.size a := fun k0_t1 v116 k0_hw9 k0_t2 => k0_hw9.2.1.2.2.2.2.2.2.2.2.2.2.2.2.2.2.2.2.2.2.2.2.2.2.2.2.2.2.2.2.1 k0_t2
theorem k0_off87_inb : ∀ (k0_t1 : Fin k0_t1_loop.trips) (v116 : BitVec 32) (k0_hw9 : k0_chk9 k0_t1 v116) (k0_t2 : Fin (k0_t2_loop v116).trips), ∀ a, (k0_off87 v116 k0_t2) a + S1x1x1.size a ≤ S2x2x8.size a := fun k0_t1 v116 k0_hw9 k0_t2 => k0_hw9.2.1.2.2.2.2.2.2.2.2.2.2.2.2.2.2.2.2.2.2.2.2.2.2.2.2.2.2.2.2.2.1 k0_t2
theorem k0_off88_inb : ∀ (k0_t1 : Fin k0_t1_loop.trips) (v116 : BitVec 32) (k0_hw9 : k0_chk9 k0_t1 v116) (k0_t2 : Fin (k0_t2_loop v116).trips), ∀ a, (k0_off88 v116 k0_t2) a + S1x1x1.size a ≤ S2x2x8.size a := fun k0_t1 v116 k0_hw9 k0_t2 => k0_hw9.2.1.2.2.2.2.2.2.2.2.2.2.2.2.2.2.2.2.2.2.2.2.2.2.2.2.2.2.2.2.2.2.1 k0_t2
theorem k0_off89_inb : ∀ (k0_t1 : Fin k0_t1_loop.trips) (v116 : BitVec 32) (k0_hw9 : k0_chk9 k0_t1 v116) (k0_t2 : Fin (k0_t2_loop v116).trips), ∀ a, (k0_off89 v116 k0_t2) a + S1x1x32x16x128.size a ≤ S2x8x32x16x128.size a := fun k0_t1 v116 k0_hw9 k0_t2 => k0_hw9.2.1.2.2.2.2.2.2.2.2.2.2.2.2.2.2.2.2.2.2.2.2.2.2.2.2.2.2.2.2.2.2.2 k0_t2
theorem k0_off90_inb : ∀ (k0_t1 : Fin k0_t1_loop.trips) (v116 : BitVec 32) (k0_hw9 : k0_chk9 k0_t1 v116) (k0_t2 : Fin (k0_t2_loop v116).trips), ∀ a, (k0_off90 v116 k0_t2) a + S1x1x1.size a ≤ S2x2x8.size a := fun k0_t1 v116 k0_hw9 k0_t2 => k0_hw9.2.2.1.1 k0_t2
theorem k0_off91_inb : ∀ (k0_t1 : Fin k0_t1_loop.trips) (v116 : BitVec 32) (k0_hw9 : k0_chk9 k0_t1 v116) (k0_t2 : Fin (k0_t2_loop v116).trips), ∀ a, (k0_off91 v116 k0_t2) a + S1x8x32x16x128.size a ≤ S2x8x32x16x128.size a := fun k0_t1 v116 k0_hw9 k0_t2 => k0_hw9.2.2.1.2.1 k0_t2
theorem k0_t3_ok : ∀ (k0_t1 : Fin k0_t1_loop.trips) (v116 : BitVec 32) (k0_hw9 : k0_chk9 k0_t1 v116), (k0_t3_loop v116).OK := fun k0_t1 v116 k0_hw9 => k0_hw9.2.2.1.2.2.1
theorem k0_off92_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off92 k0_t1 v116 k0_t3) a + S1x1.size a ≤ S32x256.size a := fun k0_t1 v116 k0_hw9 k0_t3 k0_h3 => k0_hw9.2.2.1.2.2.2.1 k0_t3 k0_h3
theorem k0_off93_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off93 v116 k0_t3) a + S1x1x1.size a ≤ S2x2x8.size a := fun k0_t1 v116 k0_hw9 k0_t3 k0_h3 => k0_hw9.2.2.1.2.2.2.2.1 k0_t3 k0_h3
theorem k0_off94_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off94 v116 k0_t3) a + S1x1x32x16x128.size a ≤ S2x8x32x16x128.size a := fun k0_t1 v116 k0_hw9 k0_t3 k0_h3 => k0_hw9.2.2.1.2.2.2.2.2.1 k0_t3 k0_h3
theorem k0_off96_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off96 v116 k0_t3) a + S1x1x1.size a ≤ S2x2x8.size a := fun k0_t1 v116 k0_hw9 k0_t3 k0_h3 => k0_hw9.2.2.1.2.2.2.2.2.2.1 k0_t3 k0_h3
theorem k0_off97_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off97 v116 k0_t3) a + S1x1x32x16x128.size a ≤ S2x8x32x16x128.size a := fun k0_t1 v116 k0_hw9 k0_t3 k0_h3 => k0_hw9.2.2.1.2.2.2.2.2.2.2.1 k0_t3 k0_h3
theorem k0_off98_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off98 k0_t1 v116 k0_t3) a + S1x1.size a ≤ S32x256.size a := fun k0_t1 v116 k0_hw9 k0_t3 k0_h3 => k0_hw9.2.2.1.2.2.2.2.2.2.2.2.1 k0_t3 k0_h3
theorem k0_off99_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off99 v116 k0_t3) a + S1x1x1.size a ≤ S2x2x8.size a := fun k0_t1 v116 k0_hw9 k0_t3 k0_h3 => k0_hw9.2.2.1.2.2.2.2.2.2.2.2.2.1 k0_t3 k0_h3
theorem k0_off100_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off100 v116 k0_t3) a + S1x1x32x16x128.size a ≤ S2x8x32x16x128.size a := fun k0_t1 v116 k0_hw9 k0_t3 k0_h3 => k0_hw9.2.2.1.2.2.2.2.2.2.2.2.2.2.1 k0_t3 k0_h3
theorem k0_off102_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off102 v116 k0_t3) a + S1x1x1.size a ≤ S2x2x8.size a := fun k0_t1 v116 k0_hw9 k0_t3 k0_h3 => k0_hw9.2.2.1.2.2.2.2.2.2.2.2.2.2.2.1 k0_t3 k0_h3
theorem k0_off103_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off103 v116 k0_t3) a + S1x1x32x16x128.size a ≤ S2x8x32x16x128.size a := fun k0_t1 v116 k0_hw9 k0_t3 k0_h3 => k0_hw9.2.2.1.2.2.2.2.2.2.2.2.2.2.2.2.1 k0_t3 k0_h3
theorem k0_off104_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off104 k0_t1 v116 k0_t3) a + S1x1.size a ≤ S32x256.size a := fun k0_t1 v116 k0_hw9 k0_t3 k0_h3 => k0_hw9.2.2.1.2.2.2.2.2.2.2.2.2.2.2.2.2.1 k0_t3 k0_h3
theorem k0_off105_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off105 v116 k0_t3) a + S1x1x1.size a ≤ S2x2x8.size a := fun k0_t1 v116 k0_hw9 k0_t3 k0_h3 => k0_hw9.2.2.1.2.2.2.2.2.2.2.2.2.2.2.2.2.2.1 k0_t3 k0_h3
theorem k0_off106_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off106 v116 k0_t3) a + S1x1x32x16x128.size a ≤ S2x8x32x16x128.size a := fun k0_t1 v116 k0_hw9 k0_t3 k0_h3 => k0_hw9.2.2.1.2.2.2.2.2.2.2.2.2.2.2.2.2.2.2.1 k0_t3 k0_h3
theorem k0_off108_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off108 v116 k0_t3) a + S1x1x1.size a ≤ S2x2x8.size a := fun k0_t1 v116 k0_hw9 k0_t3 k0_h3 => k0_hw9.2.2.1.2.2.2.2.2.2.2.2.2.2.2.2.2.2.2.2.1 k0_t3 k0_h3
theorem k0_off109_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off109 v116 k0_t3) a + S1x1x32x16x128.size a ≤ S2x8x32x16x128.size a := fun k0_t1 v116 k0_hw9 k0_t3 k0_h3 => k0_hw9.2.2.1.2.2.2.2.2.2.2.2.2.2.2.2.2.2.2.2.2.1 k0_t3 k0_h3
theorem k0_off110_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off110 k0_t1 v116 k0_t3) a + S1x1.size a ≤ S32x256.size a := fun k0_t1 v116 k0_hw9 k0_t3 k0_h3 => k0_hw9.2.2.1.2.2.2.2.2.2.2.2.2.2.2.2.2.2.2.2.2.2.1 k0_t3 k0_h3
theorem k0_off111_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off111 v116 k0_t3) a + S1x1x1.size a ≤ S2x2x8.size a := fun k0_t1 v116 k0_hw9 k0_t3 k0_h3 => k0_hw9.2.2.1.2.2.2.2.2.2.2.2.2.2.2.2.2.2.2.2.2.2.2.1 k0_t3 k0_h3
theorem k0_off112_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off112 v116 k0_t3) a + S1x1x32x16x128.size a ≤ S2x8x32x16x128.size a := fun k0_t1 v116 k0_hw9 k0_t3 k0_h3 => k0_hw9.2.2.1.2.2.2.2.2.2.2.2.2.2.2.2.2.2.2.2.2.2.2.2.1 k0_t3 k0_h3
theorem k0_off114_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off114 v116 k0_t3) a + S1x1x1.size a ≤ S2x2x8.size a := fun k0_t1 v116 k0_hw9 k0_t3 k0_h3 => k0_hw9.2.2.1.2.2.2.2.2.2.2.2.2.2.2.2.2.2.2.2.2.2.2.2.2.1 k0_t3 k0_h3
theorem k0_off115_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off115 v116 k0_t3) a + S1x1x32x16x128.size a ≤ S2x8x32x16x128.size a := fun k0_t1 v116 k0_hw9 k0_t3 k0_h3 => k0_hw9.2.2.1.2.2.2.2.2.2.2.2.2.2.2.2.2.2.2.2.2.2.2.2.2.2.1 k0_t3 k0_h3
theorem k0_off116_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off116 k0_t1 v116 k0_t3) a + S1x1.size a ≤ S32x256.size a := fun k0_t1 v116 k0_hw9 k0_t3 k0_h3 => k0_hw9.2.2.1.2.2.2.2.2.2.2.2.2.2.2.2.2.2.2.2.2.2.2.2.2.2.2.1 k0_t3 k0_h3
theorem k0_off117_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off117 v116 k0_t3) a + S1x1x1.size a ≤ S2x2x8.size a := fun k0_t1 v116 k0_hw9 k0_t3 k0_h3 => k0_hw9.2.2.1.2.2.2.2.2.2.2.2.2.2.2.2.2.2.2.2.2.2.2.2.2.2.2.2.1 k0_t3 k0_h3
theorem k0_off118_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off118 v116 k0_t3) a + S1x1x32x16x128.size a ≤ S2x8x32x16x128.size a := fun k0_t1 v116 k0_hw9 k0_t3 k0_h3 => k0_hw9.2.2.1.2.2.2.2.2.2.2.2.2.2.2.2.2.2.2.2.2.2.2.2.2.2.2.2.2.1 k0_t3 k0_h3
theorem k0_off120_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off120 v116 k0_t3) a + S1x1x1.size a ≤ S2x2x8.size a := fun k0_t1 v116 k0_hw9 k0_t3 k0_h3 => k0_hw9.2.2.1.2.2.2.2.2.2.2.2.2.2.2.2.2.2.2.2.2.2.2.2.2.2.2.2.2.2.1 k0_t3 k0_h3
theorem k0_off121_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off121 v116 k0_t3) a + S1x1x32x16x128.size a ≤ S2x8x32x16x128.size a := fun k0_t1 v116 k0_hw9 k0_t3 k0_h3 => k0_hw9.2.2.1.2.2.2.2.2.2.2.2.2.2.2.2.2.2.2.2.2.2.2.2.2.2.2.2.2.2.2.1 k0_t3 k0_h3
theorem k0_off122_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off122 k0_t1 v116 k0_t3) a + S1x1.size a ≤ S32x256.size a := fun k0_t1 v116 k0_hw9 k0_t3 k0_h3 => k0_hw9.2.2.1.2.2.2.2.2.2.2.2.2.2.2.2.2.2.2.2.2.2.2.2.2.2.2.2.2.2.2.2.1 k0_t3 k0_h3
theorem k0_off123_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off123 v116 k0_t3) a + S1x1x1.size a ≤ S2x2x8.size a := fun k0_t1 v116 k0_hw9 k0_t3 k0_h3 => k0_hw9.2.2.1.2.2.2.2.2.2.2.2.2.2.2.2.2.2.2.2.2.2.2.2.2.2.2.2.2.2.2.2.2.1 k0_t3 k0_h3
theorem k0_off124_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off124 v116 k0_t3) a + S1x1x32x16x128.size a ≤ S2x8x32x16x128.size a := fun k0_t1 v116 k0_hw9 k0_t3 k0_h3 => k0_hw9.2.2.1.2.2.2.2.2.2.2.2.2.2.2.2.2.2.2.2.2.2.2.2.2.2.2.2.2.2.2.2.2.2.1 k0_t3 k0_h3
theorem k0_off126_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off126 v116 k0_t3) a + S1x1x1.size a ≤ S2x2x8.size a := fun k0_t1 v116 k0_hw9 k0_t3 k0_h3 => k0_hw9.2.2.1.2.2.2.2.2.2.2.2.2.2.2.2.2.2.2.2.2.2.2.2.2.2.2.2.2.2.2.2.2.2.2 k0_t3 k0_h3
theorem k0_off127_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off127 v116 k0_t3) a + S1x1x32x16x128.size a ≤ S2x8x32x16x128.size a := fun k0_t1 v116 k0_hw9 k0_t3 k0_h3 => k0_hw9.2.2.2.1.1 k0_t3 k0_h3
theorem k0_off128_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off128 k0_t1 v116 k0_t3) a + S1x1.size a ≤ S32x256.size a := fun k0_t1 v116 k0_hw9 k0_t3 k0_h3 => k0_hw9.2.2.2.1.2.1 k0_t3 k0_h3
theorem k0_off129_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off129 v116 k0_t3) a + S1x1x1.size a ≤ S2x2x8.size a := fun k0_t1 v116 k0_hw9 k0_t3 k0_h3 => k0_hw9.2.2.2.1.2.2.1 k0_t3 k0_h3
theorem k0_off130_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off130 v116 k0_t3) a + S1x1x32x16x128.size a ≤ S2x8x32x16x128.size a := fun k0_t1 v116 k0_hw9 k0_t3 k0_h3 => k0_hw9.2.2.2.1.2.2.2.1 k0_t3 k0_h3
theorem k0_off132_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off132 v116 k0_t3) a + S1x1x1.size a ≤ S2x2x8.size a := fun k0_t1 v116 k0_hw9 k0_t3 k0_h3 => k0_hw9.2.2.2.1.2.2.2.2.1 k0_t3 k0_h3
theorem k0_off133_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off133 v116 k0_t3) a + S1x1x32x16x128.size a ≤ S2x8x32x16x128.size a := fun k0_t1 v116 k0_hw9 k0_t3 k0_h3 => k0_hw9.2.2.2.1.2.2.2.2.2.1 k0_t3 k0_h3
theorem k0_off134_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off134 k0_t1 v116 k0_t3) a + S1x1.size a ≤ S32x256.size a := fun k0_t1 v116 k0_hw9 k0_t3 k0_h3 => k0_hw9.2.2.2.1.2.2.2.2.2.2.1 k0_t3 k0_h3
theorem k0_off135_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off135 v116 k0_t3) a + S1x1x1.size a ≤ S2x2x8.size a := fun k0_t1 v116 k0_hw9 k0_t3 k0_h3 => k0_hw9.2.2.2.1.2.2.2.2.2.2.2.1 k0_t3 k0_h3
theorem k0_off136_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off136 v116 k0_t3) a + S1x1x32x16x128.size a ≤ S2x8x32x16x128.size a := fun k0_t1 v116 k0_hw9 k0_t3 k0_h3 => k0_hw9.2.2.2.1.2.2.2.2.2.2.2.2.1 k0_t3 k0_h3
theorem k0_off138_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off138 v116 k0_t3) a + S1x1x1.size a ≤ S2x2x8.size a := fun k0_t1 v116 k0_hw9 k0_t3 k0_h3 => k0_hw9.2.2.2.1.2.2.2.2.2.2.2.2.2.1 k0_t3 k0_h3
theorem k0_off139_inb : ∀ (k0_t1 : Fin k0_t1_loop.trips) (v116 : BitVec 32) (k0_hw9 : k0_chk9 k0_t1 v116) (k0_t3 : Fin (k0_t3_loop v116).trips), ∀ (k0_h3 : k0_cond3 v116 k0_t3 = 1#1), ∀ a, (k0_off139 v116 k0_t3) a + S1x1x32x16x128.size a ≤ S2x8x32x16x128.size a := fun k0_t1 v116 k0_hw9 k0_t3 k0_h3 => k0_hw9.2.2.2.1.2.2.2.2.2.2.2.2.2.2.1 k0_t3 k0_h3
theorem k0_off140_inb : ∀ (k0_t1 : Fin k0_t1_loop.trips) (v116 : BitVec 32) (k0_hw9 : k0_chk9 k0_t1 v116) (k0_t3 : Fin (k0_t3_loop v116).trips), ∀ a, (k0_off140 v116 k0_t3) a + S1x1x1.size a ≤ S2x2x8.size a := fun k0_t1 v116 k0_hw9 k0_t3 => k0_hw9.2.2.2.1.2.2.2.2.2.2.2.2.2.2.2.1 k0_t3
theorem k0_off141_inb : ∀ (k0_t1 : Fin k0_t1_loop.trips) (v116 : BitVec 32) (k0_hw9 : k0_chk9 k0_t1 v116) (k0_t3 : Fin (k0_t3_loop v116).trips), ∀ a, (k0_off141 v116 k0_t3) a + S1x1x32x16x128.size a ≤ S2x8x32x16x128.size a := fun k0_t1 v116 k0_hw9 k0_t3 => k0_hw9.2.2.2.1.2.2.2.2.2.2.2.2.2.2.2.2.1 k0_t3
theorem k0_off142_inb : ∀ (k0_t1 : Fin k0_t1_loop.trips) (v116 : BitVec 32) (k0_hw9 : k0_chk9 k0_t1 v116) (k0_t3 : Fin (k0_t3_loop v116).trips), ∀ a, (k0_off142 v116 k0_t3) a + S1x1x1.size a ≤ S2x2x8.size a := fun k0_t1 v116 k0_hw9 k0_t3 => k0_hw9.2.2.2.1.2.2.2.2.2.2.2.2.2.2.2.2.2.1 k0_t3
theorem k0_off143_inb : ∀ (k0_t1 : Fin k0_t1_loop.trips) (v116 : BitVec 32) (k0_hw9 : k0_chk9 k0_t1 v116) (k0_t3 : Fin (k0_t3_loop v116).trips), ∀ a, (k0_off143 v116 k0_t3) a + S1x1x1.size a ≤ S2x2x8.size a := fun k0_t1 v116 k0_hw9 k0_t3 => k0_hw9.2.2.2.1.2.2.2.2.2.2.2.2.2.2.2.2.2.2.1 k0_t3
theorem k0_off144_inb : ∀ (k0_t1 : Fin k0_t1_loop.trips) (v116 : BitVec 32) (k0_hw9 : k0_chk9 k0_t1 v116) (k0_t3 : Fin (k0_t3_loop v116).trips), ∀ a, (k0_off144 v116 k0_t3) a + S1x1x32x16x128.size a ≤ S2x8x32x16x128.size a := fun k0_t1 v116 k0_hw9 k0_t3 => k0_hw9.2.2.2.1.2.2.2.2.2.2.2.2.2.2.2.2.2.2.2.1 k0_t3
theorem k0_off145_inb : ∀ (k0_t1 : Fin k0_t1_loop.trips) (v116 : BitVec 32) (k0_hw9 : k0_chk9 k0_t1 v116) (k0_t3 : Fin (k0_t3_loop v116).trips), ∀ a, (k0_off145 v116 k0_t3) a + S1x1x1.size a ≤ S2x2x8.size a := fun k0_t1 v116 k0_hw9 k0_t3 => k0_hw9.2.2.2.1.2.2.2.2.2.2.2.2.2.2.2.2.2.2.2.2.1 k0_t3
theorem k0_off146_inb : ∀ (k0_t1 : Fin k0_t1_loop.trips) (v116 : BitVec 32) (k0_hw9 : k0_chk9 k0_t1 v116) (k0_t3 : Fin (k0_t3_loop v116).trips), ∀ a, (k0_off146 v116 k0_t3) a + S1x1x1.size a ≤ S2x2x8.size a := fun k0_t1 v116 k0_hw9 k0_t3 => k0_hw9.2.2.2.1.2.2.2.2.2.2.2.2.2.2.2.2.2.2.2.2.2.1 k0_t3
theorem k0_off147_inb : ∀ (k0_t1 : Fin k0_t1_loop.trips) (v116 : BitVec 32) (k0_hw9 : k0_chk9 k0_t1 v116) (k0_t3 : Fin (k0_t3_loop v116).trips), ∀ a, (k0_off147 v116 k0_t3) a + S1x1x32x16x128.size a ≤ S2x8x32x16x128.size a := fun k0_t1 v116 k0_hw9 k0_t3 => k0_hw9.2.2.2.1.2.2.2.2.2.2.2.2.2.2.2.2.2.2.2.2.2.2.1 k0_t3
theorem k0_off148_inb : ∀ (k0_t1 : Fin k0_t1_loop.trips) (v116 : BitVec 32) (k0_hw9 : k0_chk9 k0_t1 v116) (k0_t3 : Fin (k0_t3_loop v116).trips), ∀ a, (k0_off148 v116 k0_t3) a + S1x1x1.size a ≤ S2x2x8.size a := fun k0_t1 v116 k0_hw9 k0_t3 => k0_hw9.2.2.2.1.2.2.2.2.2.2.2.2.2.2.2.2.2.2.2.2.2.2.2.1 k0_t3
theorem k0_off149_inb : ∀ (k0_t1 : Fin k0_t1_loop.trips) (v116 : BitVec 32) (k0_hw9 : k0_chk9 k0_t1 v116) (k0_t3 : Fin (k0_t3_loop v116).trips), ∀ a, (k0_off149 v116 k0_t3) a + S1x1x1.size a ≤ S2x2x8.size a := fun k0_t1 v116 k0_hw9 k0_t3 => k0_hw9.2.2.2.1.2.2.2.2.2.2.2.2.2.2.2.2.2.2.2.2.2.2.2.2.1 k0_t3
theorem k0_off150_inb : ∀ (k0_t1 : Fin k0_t1_loop.trips) (v116 : BitVec 32) (k0_hw9 : k0_chk9 k0_t1 v116) (k0_t3 : Fin (k0_t3_loop v116).trips), ∀ a, (k0_off150 v116 k0_t3) a + S1x1x32x16x128.size a ≤ S2x8x32x16x128.size a := fun k0_t1 v116 k0_hw9 k0_t3 => k0_hw9.2.2.2.1.2.2.2.2.2.2.2.2.2.2.2.2.2.2.2.2.2.2.2.2.2.1 k0_t3
theorem k0_off151_inb : ∀ (k0_t1 : Fin k0_t1_loop.trips) (v116 : BitVec 32) (k0_hw9 : k0_chk9 k0_t1 v116) (k0_t3 : Fin (k0_t3_loop v116).trips), ∀ a, (k0_off151 v116 k0_t3) a + S1x1x1.size a ≤ S2x2x8.size a := fun k0_t1 v116 k0_hw9 k0_t3 => k0_hw9.2.2.2.1.2.2.2.2.2.2.2.2.2.2.2.2.2.2.2.2.2.2.2.2.2.2.1 k0_t3
theorem k0_off152_inb : ∀ (k0_t1 : Fin k0_t1_loop.trips) (v116 : BitVec 32) (k0_hw9 : k0_chk9 k0_t1 v116) (k0_t3 : Fin (k0_t3_loop v116).trips), ∀ a, (k0_off152 v116 k0_t3) a + S1x1x1.size a ≤ S2x2x8.size a := fun k0_t1 v116 k0_hw9 k0_t3 => k0_hw9.2.2.2.1.2.2.2.2.2.2.2.2.2.2.2.2.2.2.2.2.2.2.2.2.2.2.2.1 k0_t3
theorem k0_off153_inb : ∀ (k0_t1 : Fin k0_t1_loop.trips) (v116 : BitVec 32) (k0_hw9 : k0_chk9 k0_t1 v116) (k0_t3 : Fin (k0_t3_loop v116).trips), ∀ a, (k0_off153 v116 k0_t3) a + S1x1x32x16x128.size a ≤ S2x8x32x16x128.size a := fun k0_t1 v116 k0_hw9 k0_t3 => k0_hw9.2.2.2.1.2.2.2.2.2.2.2.2.2.2.2.2.2.2.2.2.2.2.2.2.2.2.2.2.1 k0_t3
theorem k0_off154_inb : ∀ (k0_t1 : Fin k0_t1_loop.trips) (v116 : BitVec 32) (k0_hw9 : k0_chk9 k0_t1 v116) (k0_t3 : Fin (k0_t3_loop v116).trips), ∀ a, (k0_off154 v116 k0_t3) a + S1x1x1.size a ≤ S2x2x8.size a := fun k0_t1 v116 k0_hw9 k0_t3 => k0_hw9.2.2.2.1.2.2.2.2.2.2.2.2.2.2.2.2.2.2.2.2.2.2.2.2.2.2.2.2.2.1 k0_t3
theorem k0_off155_inb : ∀ (k0_t1 : Fin k0_t1_loop.trips) (v116 : BitVec 32) (k0_hw9 : k0_chk9 k0_t1 v116) (k0_t3 : Fin (k0_t3_loop v116).trips), ∀ a, (k0_off155 v116 k0_t3) a + S1x1x1.size a ≤ S2x2x8.size a := fun k0_t1 v116 k0_hw9 k0_t3 => k0_hw9.2.2.2.1.2.2.2.2.2.2.2.2.2.2.2.2.2.2.2.2.2.2.2.2.2.2.2.2.2.2.1 k0_t3
theorem k0_off156_inb : ∀ (k0_t1 : Fin k0_t1_loop.trips) (v116 : BitVec 32) (k0_hw9 : k0_chk9 k0_t1 v116) (k0_t3 : Fin (k0_t3_loop v116).trips), ∀ a, (k0_off156 v116 k0_t3) a + S1x1x32x16x128.size a ≤ S2x8x32x16x128.size a := fun k0_t1 v116 k0_hw9 k0_t3 => k0_hw9.2.2.2.1.2.2.2.2.2.2.2.2.2.2.2.2.2.2.2.2.2.2.2.2.2.2.2.2.2.2.2.1 k0_t3
theorem k0_off157_inb : ∀ (k0_t1 : Fin k0_t1_loop.trips) (v116 : BitVec 32) (k0_hw9 : k0_chk9 k0_t1 v116) (k0_t3 : Fin (k0_t3_loop v116).trips), ∀ a, (k0_off157 v116 k0_t3) a + S1x1x1.size a ≤ S2x2x8.size a := fun k0_t1 v116 k0_hw9 k0_t3 => k0_hw9.2.2.2.1.2.2.2.2.2.2.2.2.2.2.2.2.2.2.2.2.2.2.2.2.2.2.2.2.2.2.2.2.1 k0_t3
theorem k0_off158_inb : ∀ (k0_t1 : Fin k0_t1_loop.trips) (v116 : BitVec 32) (k0_hw9 : k0_chk9 k0_t1 v116) (k0_t3 : Fin (k0_t3_loop v116).trips), ∀ a, (k0_off158 v116 k0_t3) a + S1x1x1.size a ≤ S2x2x8.size a := fun k0_t1 v116 k0_hw9 k0_t3 => k0_hw9.2.2.2.1.2.2.2.2.2.2.2.2.2.2.2.2.2.2.2.2.2.2.2.2.2.2.2.2.2.2.2.2.2.1 k0_t3
theorem k0_off159_inb : ∀ (k0_t1 : Fin k0_t1_loop.trips) (v116 : BitVec 32) (k0_hw9 : k0_chk9 k0_t1 v116) (k0_t3 : Fin (k0_t3_loop v116).trips), ∀ a, (k0_off159 v116 k0_t3) a + S1x1x32x16x128.size a ≤ S2x8x32x16x128.size a := fun k0_t1 v116 k0_hw9 k0_t3 => k0_hw9.2.2.2.1.2.2.2.2.2.2.2.2.2.2.2.2.2.2.2.2.2.2.2.2.2.2.2.2.2.2.2.2.2.2.1 k0_t3
theorem k0_off160_inb : ∀ (k0_t1 : Fin k0_t1_loop.trips) (v116 : BitVec 32) (k0_hw9 : k0_chk9 k0_t1 v116) (k0_t3 : Fin (k0_t3_loop v116).trips), ∀ a, (k0_off160 v116 k0_t3) a + S1x1x1.size a ≤ S2x2x8.size a := fun k0_t1 v116 k0_hw9 k0_t3 => k0_hw9.2.2.2.1.2.2.2.2.2.2.2.2.2.2.2.2.2.2.2.2.2.2.2.2.2.2.2.2.2.2.2.2.2.2.2 k0_t3
theorem k0_off161_inb : ∀ (k0_t1 : Fin k0_t1_loop.trips) (v116 : BitVec 32) (k0_hw9 : k0_chk9 k0_t1 v116) (k0_t3 : Fin (k0_t3_loop v116).trips), ∀ a, (k0_off161 v116 k0_t3) a + S1x1x1.size a ≤ S2x2x8.size a := fun k0_t1 v116 k0_hw9 k0_t3 => k0_hw9.2.2.2.2.1 k0_t3
theorem k0_off162_inb : ∀ (k0_t1 : Fin k0_t1_loop.trips) (v116 : BitVec 32) (k0_hw9 : k0_chk9 k0_t1 v116) (k0_t3 : Fin (k0_t3_loop v116).trips), ∀ a, (k0_off162 v116 k0_t3) a + S1x1x32x16x128.size a ≤ S2x8x32x16x128.size a := fun k0_t1 v116 k0_hw9 k0_t3 => k0_hw9.2.2.2.2.2.1 k0_t3
theorem k0_off163_inb : ∀ (k0_t1 : Fin k0_t1_loop.trips) (v116 : BitVec 32) (k0_hw9 : k0_chk9 k0_t1 v116) (k0_t3 : Fin (k0_t3_loop v116).trips), ∀ a, (k0_off163 v116 k0_t3) a + S1x1x1.size a ≤ S2x2x8.size a := fun k0_t1 v116 k0_hw9 k0_t3 => k0_hw9.2.2.2.2.2.2.1 k0_t3
theorem k0_off164_inb : ∀ (k0_t1 : Fin k0_t1_loop.trips) (v116 : BitVec 32) (k0_hw9 : k0_chk9 k0_t1 v116) (k0_t3 : Fin (k0_t3_loop v116).trips), ∀ a, (k0_off164 v116 k0_t3) a + S1x8x32x16x128.size a ≤ S2x8x32x16x128.size a := fun k0_t1 v116 k0_hw9 k0_t3 => k0_hw9.2.2.2.2.2.2.2 k0_t3

def k0_off165 (k0_t1 : Fin k0_t1_loop.trips) : Fin 5 → Nat :=
  let c0_179 : Index := 0#32
  let c0_180 : Index := 0#32
  let c0_i32 : BitVec 32 := 0#32
  let c1_i32_0 : BitVec 32 := 1#32
  let arg12 : BitVec 32 := Scf.iv c0_i32 c1_i32_0 k0_t1
  let v138 : Index := Scalar.indexCast arg12
  let c0_181 : Index := 0#32
  let c0_182 : Index := 0#32
  ![0, 0, v138.toNat, 0, 0]
def k0_off166 (k0_t1 : Fin k0_t1_loop.trips) : Fin 5 → Nat :=
  let c0_183 : Index := 0#32
  let c1_184 : Index := 1#32
  let c0_i32 : BitVec 32 := 0#32
  let c1_i32_0 : BitVec 32 := 1#32
  let arg12 : BitVec 32 := Scf.iv c0_i32 c1_i32_0 k0_t1
  let v144 : Index := Scalar.indexCast arg12
  let c0_185 : Index := 0#32
  let c0_186 : Index := 0#32
  ![0, 1, v144.toNat, 0, 0]
def k0_off167 (k0_t1 : Fin k0_t1_loop.trips) : Fin 5 → Nat :=
  let c0_187 : Index := 0#32
  let c2_188 : Index := 2#32
  let c0_i32 : BitVec 32 := 0#32
  let c1_i32_0 : BitVec 32 := 1#32
  let arg12 : BitVec 32 := Scf.iv c0_i32 c1_i32_0 k0_t1
  let v150 : Index := Scalar.indexCast arg12
  let c0_189 : Index := 0#32
  let c0_190 : Index := 0#32
  ![0, 2, v150.toNat, 0, 0]
def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c4_i32_3 : BitVec 32 := 4#32
  let v7 : BitVec 32 := Scalar.remsi v6 c4_i32_3
  let c1_i32_5 : BitVec 32 := 1#32
  let v8 : BitVec 32 := Scalar.muli v7 c1_i32_5
  let v9 : BitVec 32 := Scalar.addi c0_i32_6 v8
  v9.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 32 := Scalar.addi v2 c2_i32
  let c4_i32_7 : BitVec 32 := 4#32
  let v11 : BitVec 32 := Scalar.remsi v10 c4_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_11 : BitVec 32 := 4#32
  let v15 : BitVec 32 := Scalar.remsi v14 c4_i32_11
  let c1_i32_13 : BitVec 32 := 1#32
  let v16 : BitVec 32 := Scalar.muli v15 c1_i32_13
  let v17 : BitVec 32 := Scalar.addi c0_i32_14 v16
  v17.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v18 : BitVec 32 := Scalar.addi v2 c1_i32_16
  let c4_i32_17 : BitVec 32 := 4#32
  let v19 : BitVec 32 := Scalar.remsi v18 c4_i32_17
  let c1_i32_22 : BitVec 32 := 1#32
  let v20 : BitVec 32 := Scalar.muli v19 c1_i32_22
  let v21 : BitVec 32 := Scalar.addi c0_i32_23 v20
  v21.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v30 : BitVec 32 := Scalar.addi v2 c2_i32_32
  let c4_i32_33 : BitVec 32 := 4#32
  let v31 : BitVec 32 := Scalar.remsi v30 c4_i32_33
  let c1_i32_38 : BitVec 32 := 1#32
  let v32 : BitVec 32 := Scalar.muli v31 c1_i32_38
  let v33 : BitVec 32 := Scalar.addi c0_i32_39 v32
  v33.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v42 : BitVec 32 := Scalar.addi v2 c3_i32_48
  let c4_i32_49 : BitVec 32 := 4#32
  let v43 : BitVec 32 := Scalar.remsi v42 c4_i32_49
  let c1_i32_54 : BitVec 32 := 1#32
  let v44 : BitVec 32 := Scalar.muli v43 c1_i32_54
  let v45 : BitVec 32 := Scalar.addi c0_i32_55 v44
  v45.toNat
abbrev stage0_0 : Fin 1 → Memref sig .tc .vmem S32x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S32x16x128 : Shape := ⟨3, ![32, 16, 128]⟩
abbrev S_ : Shape := ⟨0, ![]⟩
abbrev S32x256x1 : Shape := ⟨3, ![32, 256, 1]⟩
abbrev S32x256x32x16x128 : Shape := ⟨5, ![32, 256, 32, 16, 128]⟩
abbrev S32x16x256x32 : Shape := ⟨4, ![32, 16, 256, 32]⟩
abbrev S256 : Shape := ⟨1, ![256]⟩
abbrev S1x256 : Shape := ⟨2, ![1, 256]⟩
abbrev S32x1 : Shape := ⟨2, ![32, 1]⟩
abbrev S32x1x256x1 : Shape := ⟨4, ![32, 1, 256, 1]⟩
abbrev S32x16 : Shape := ⟨2, ![32, 16]⟩
abbrev S32x16x1x1 : Shape := ⟨4, ![32, 16, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S1024x32x16x128, .f32⟩
  | .hbm, ⟨2, _⟩ => ⟨S1024x32x16x128, .f32⟩
  | .hbm, ⟨3, _⟩ => ⟨S32x256, .i32⟩
  | .hbm, ⟨4, _⟩ => ⟨S32, .i32⟩
  | .hbm, ⟨5, _⟩ => ⟨S32x16x128, .f32⟩
  | .hbm, ⟨6, _⟩ => ⟨S_, .i32⟩
  | .hbm, ⟨7, _⟩ => ⟨S32x256, .i32⟩
  | .hbm, ⟨8, _⟩ => ⟨S32x256, .i1⟩
  | .hbm, ⟨9, _⟩ => ⟨S_, .i32⟩
  | .hbm, ⟨10, _⟩ => ⟨S32x256, .i32⟩
  | .hbm, ⟨11, _⟩ => ⟨S32x256, .i32⟩
  | .hbm, ⟨12, _⟩ => ⟨S32x256, .i32⟩
  | .hbm, ⟨13, _⟩ => ⟨S32x256x1, .i32⟩
  | .hbm, ⟨14, _⟩ => ⟨S32x256x32x16x128, .f32⟩
  | .hbm, ⟨15, _⟩ => ⟨S32x16x256x32, .f32⟩
  | .hbm, ⟨16, _⟩ => ⟨S_, .f32⟩
  | .hbm, ⟨17, _⟩ => ⟨S32x16x256x32, .f32⟩
  | .hbm, ⟨18, _⟩ => ⟨S32x16x256x32, .f32⟩
  | .hbm, ⟨19, _⟩ => ⟨S256, .i32⟩
  | .hbm, ⟨20, _⟩ => ⟨S1x256, .i32⟩
  | .hbm, ⟨21, _⟩ => ⟨S32x1, .i32⟩
  | .hbm, ⟨22, _⟩ => ⟨S32x256, .i32⟩
  | .hbm, ⟨23, _⟩ => ⟨S32x256, .i32⟩
  | .hbm, ⟨24, _⟩ => ⟨S32x256, .i1⟩
  | .hbm, ⟨25, _⟩ => ⟨S32x1x256x1, .i1⟩
  | .hbm, ⟨26, _⟩ => ⟨S_, .f32⟩
  | .hbm, ⟨27, _⟩ => ⟨S_, .f32⟩
  | .hbm, ⟨28, _⟩ => ⟨S32x16x256x32, .i1⟩
  | .hbm, ⟨29, _⟩ => ⟨S32x16x256x32, .f32⟩
  | .hbm, ⟨30, _⟩ => ⟨S32x16x256x32, .f32⟩
  | .hbm, ⟨31, _⟩ => ⟨S_, .f32⟩
  | .hbm, ⟨32, _⟩ => ⟨S32x16, .f32⟩
  | .hbm, ⟨33, _⟩ => ⟨S32x16x1x1, .f32⟩
  | .hbm, ⟨34, _⟩ => ⟨S32x16x256x32, .f32⟩
  | .hbm, ⟨35, _⟩ => ⟨S32x16x256x32, .f32⟩
  | .hbm, ⟨36, _⟩ => ⟨S32x16x256x32, .f32⟩
  | .hbm, ⟨37, _⟩ => ⟨S_, .f32⟩
  | .hbm, ⟨38, _⟩ => ⟨S32x16, .f32⟩
  | .hbm, ⟨39, _⟩ => ⟨S32x16x1x1, .f32⟩
  | .hbm, ⟨40, _⟩ => ⟨S32x16x256x32, .f32⟩
  | .hbm, ⟨41, _⟩ => ⟨S32x16x256x32, .f32⟩
  | .hbm, ⟨42, _⟩ => ⟨S_, .i32⟩
  | .hbm, ⟨43, _⟩ => ⟨S32x256, .i32⟩
  | .hbm, ⟨44, _⟩ => ⟨S32x256, .i1⟩
  | .hbm, ⟨45, _⟩ => ⟨S_, .i32⟩
  | .hbm, ⟨46, _⟩ => ⟨S32x256, .i32⟩
  | .hbm, ⟨47, _⟩ => ⟨S32x256, .i32⟩
  | .hbm, ⟨48, _⟩ => ⟨S32x256, .i32⟩
  | .hbm, ⟨49, _⟩ => ⟨S32x256x1, .i32⟩
  | .hbm, ⟨50, _⟩ => ⟨S32x256x32x16x128, .f32⟩
  | .hbm, ⟨51, _⟩ => ⟨S32x16x128, .f32⟩
  | .hbm, ⟨52, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.KernelIdeal.Words.lean ====
/-
  The words the kernel's local phase computes from a row's page count and a trip, in closed form: how many chunks of eight
  pages there are, which of the two slots a chunk uses, which page columns it lists; and that every check the body makes
  on a count of at most 256 holds.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Affine
public import Idealize.ShloMosaic.Lib.Tactic

@[expose] public section

noncomputable section

namespace Cert.PagedKernelIdeal

open Cert.KernelIdeal Cert.KernelIdeal.Gen
open Idealize.ShloMosaic Idealize.ShloMosaic.Tactic Affine

/-! ## Counts and chunks -/

/-- The number of chunks of eight pages covering `T` pages. -/
def chunks (T : ℕ) : ℕ := (T + 7) / 8

theorem chunks_le {T : ℕ} (h : T ≤ 256) : chunks T ≤ 32 := by unfold chunks; omega
theorem chunks_pos {T : ℕ} : 0 < chunks T ↔ 0 < T := by unfold chunks; omega
theorem lt_chunks {T t : ℕ} : t < chunks T ↔ 8 * t < T := by unfold chunks; omega

theorem toInt_eq {x : BitVec 32} {e : Int} (h : IsInt x e) : x.toInt = e := by
  delta Affine.IsInt at h; exact h
theorem toNat_eq {x : BitVec 32} {n : ℕ} (h : IsInt x (n : Int)) : x.toNat = n := by
  have h1 := toInt_eq h
  have h2 := BitVec.toInt_eq_toNat_cond x
  have := x.isLt
  split at h2 <;> omega

section Count
variable {v : BitVec 32} (hv : v.toNat ≤ 256)
include hv

theorem isInt_count : IsInt v (v.toNat : Int) := by
  have h := word v
  have h2 : v.toInt = (v.toNat : Int) := by rw [BitVec.toInt_eq_toNat_cond]; split <;> omega
  rwa [h2] at h

theorem isInt_chunks : IsInt (Scalar.divsi (Scalar.subi (Scalar.addi v 8#32) 1#32) 8#32) (chunks v.toNat : Int) := by
  have h1 : IsInt (Scalar.addi v 8#32) ((v.toNat : Int) + 8) :=
    addi (isInt_count hv) (ofNat (e := 8) 8 ⟨rfl, by decide⟩) ⟨rfl, by omega, by omega⟩
  have h2 : IsInt (Scalar.subi (Scalar.addi v 8#32) 1#32) ((v.toNat : Int) + 7) :=
    subi h1 (ofNat (e := 1) 1 ⟨rfl, by decide⟩) ⟨by omega, by omega, by omega⟩
  exact divsi h2 (ofNat (e := 8) 8 ⟨rfl, by decide⟩) ⟨by unfold chunks; omega, by omega, by omega⟩

theorem isInt_diff : IsInt (Scalar.subi (Scalar.divsi (Scalar.subi (Scalar.addi v 8#32) 1#32) 8#32) 0#32) (chunks v.toNat : Int) := by
  have := chunks_le hv
  exact subi (isInt_chunks hv) (ofNat (e := 0) 0 ⟨rfl, by decide⟩) ⟨by omega, by omega, by omega⟩

theorem isInt_bound : IsInt (Scalar.addi 0#32 (Scalar.muli (Scalar.divsi (Scalar.subi (Scalar.divsi (Scalar.subi (Scalar.addi v 8#32) 1#32) 8#32) 0#32) 1#32) 1#32))
    (chunks v.toNat : Int) := by
  have := chunks_le hv
  have h1 := divsi_one (e := (chunks v.toNat : Int)) (isInt_diff hv) (ofNat (e := 1) 1 ⟨rfl, by decide⟩) ⟨rfl, rfl⟩
  have h2 := muli (e := (chunks v.toNat : Int)) h1 (ofNat (e := 1) 1 ⟨rfl, by decide⟩) ⟨by omega, by omega, by omega⟩
  exact addi (ofNat (e := 0) 0 ⟨rfl, by decide⟩) h2 ⟨by omega, by omega, by omega⟩

theorem isInt_end : IsInt (Scalar.addi 0#32 (Scalar.subi (Scalar.divsi (Scalar.subi (Scalar.addi v 8#32) 1#32) 8#32) 0#32)) (chunks v.toNat : Int) := by
  have := chunks_le hv
  exact addi (ofNat (e := 0) 0 ⟨rfl, by decide⟩) (isInt_diff hv) ⟨by omega, by omega, by omega⟩

/-- The chunk loop runs once per chunk; -/
theorem trips2_eq : (k0_t2_loop v).trips = chunks v.toNat := by
  show Scf.trips 0#32 _ 1#32 = _
  unfold Scf.trips; rw [toInt_eq (isInt_bound hv)]; simp
/-- the remainder loop not at all. -/
theorem trips3_eq : (k0_t3_loop v).trips = 0 := by
  show Scf.trips _ _ 1#32 = 0
  unfold Scf.trips; rw [toInt_eq (isInt_bound hv), toInt_eq (isInt_end hv)]; simp

theorem ok2 : (k0_t2_loop v).OK := by
  have h1 := trips2_eq hv
  have h2 := chunks_le hv
  refine ⟨show 0 < (1#32 : BitVec 32).toInt by decide, ?_⟩
  show (0#32 : BitVec 32).toInt + ((k0_t2_loop v).trips : Int) * (1#32 : BitVec 32).toInt < 2 ^ (32 - 1)
  rw [h1]
  simp only [show (0#32 : BitVec 32).toInt = 0 from rfl, show (1#32 : BitVec 32).toInt = 1 from rfl]
  omega
theorem ok3 : (k0_t3_loop v).OK := by
  have h1 := trips3_eq hv
  have h2 := chunks_le hv
  refine ⟨show 0 < (1#32 : BitVec 32).toInt by decide, ?_⟩
  show (Scalar.addi 0#32 (Scalar.muli (Scalar.divsi (Scalar.subi (Scalar.divsi (Scalar.subi (Scalar.addi v 8#32) 1#32) 8#32) 0#32) 1#32) 1#32)).toInt
    + ((k0_t3_loop v).trips : Int) * (1#32 : BitVec 32).toInt < 2 ^ (32 - 1)
  rw [h1, toInt_eq (isInt_bound hv)]
  simp only [show (1#32 : BitVec 32).toInt = 1 from rfl]
  omega

theorem trip_lt (k : Fin (k0_t2_loop v).trips) : k.val < chunks v.toNat := Nat.lt_of_lt_of_eq k.isLt (trips2_eq hv)
theorem trip_lt32 (k : Fin (k0_t2_loop v).trips) : k.val < 32 := Nat.lt_of_lt_of_le (trip_lt hv k) (chunks_le hv)

theorem isInt_iv (k : Fin (k0_t2_loop v).trips) : IsInt (Scf.iv 0#32 1#32 k.val) (k.val : Int) := by
  have := trip_lt32 hv k
  exact iv (e := k.val) (ofNat (e := 0) 0 ⟨rfl, by decide⟩) (ofNat (e := 1) 1 ⟨rfl, by decide⟩) k.val ⟨by omega, by omega, by omega⟩
theorem isInt_next (k : Fin (k0_t2_loop v).trips) : IsInt (Scalar.addi (Scf.iv 0#32 1#32 k.val) 1#32) ((k.val + 1 : ℕ) : Int) := by
  have := trip_lt32 hv k
  exact addi (isInt_iv hv k) (ofNat (e := 1) 1 ⟨rfl, by decide⟩) ⟨by omega, by omega, by omega⟩

/-- The slot of trip `k`'s chunk, and of the next one's. -/
theorem cur_eq (k : Fin (k0_t2_loop v).trips) : (Scalar.remsi (Scf.iv 0#32 1#32 k.val) 2#32).toNat = k.val % 2 :=
  toNat_eq (remsi (e := (k.val % 2 : ℕ)) (isInt_iv hv k) (ofNat (e := 2) 2 ⟨rfl, by decide⟩) ⟨by omega, by omega, by omega⟩)
theorem next_eq (k : Fin (k0_t2_loop v).trips) :
    (Scalar.remsi (Scalar.addi (Scf.iv 0#32 1#32 k.val) 1#32) 2#32).toNat = (k.val + 1) % 2 :=
  toNat_eq (remsi (e := ((k.val + 1) % 2 : ℕ)) (isInt_next hv k) (ofNat (e := 2) 2 ⟨rfl, by decide⟩) ⟨by omega, by omega, by omega⟩)
/-- The column listing page `j` of the next chunk. -/
theorem col_eq (k : Fin (k0_t2_loop v).trips) (j : ℕ) (hj : j < 8) :
    (Scalar.addi (Scalar.muli (Scalar.addi (Scf.iv 0#32 1#32 k.val) 1#32) 8#32) (BitVec.ofNat 32 j)).toNat = 8 * (k.val + 1) + j := by
  have := trip_lt32 hv k
  have h := muli (e := (8 * (k.val + 1) : ℕ)) (isInt_next hv k) (ofNat (e := 8) 8 ⟨rfl, by decide⟩) ⟨by omega, by omega, by omega⟩
  exact toNat_eq (addi (e := (8 * (k.val + 1) + j : ℕ)) h (ofNat (e := (j : ℕ)) j ⟨rfl, by omega⟩) ⟨by omega, by omega, by omega⟩)

/-- A first chunk is started where the row lists a page at all; -/
theorem cond1_iff : k0_cond1 v = 1#1 ↔ 0 < chunks v.toNat := by
  have h := isInt_chunks hv
  have z : IsInt (0#32) 0 := ofNat (e := 0) 0 ⟨rfl, by decide⟩
  constructor
  · intro hc
    by_contra hn
    have h0 : Fails (Scalar.cmpi .sgt (Scalar.divsi (Scalar.subi (Scalar.addi v 8#32) 1#32) 8#32) 0#32) := sgt_fails h z (by omega)
    exact (ne_fails (extui_fails h0 rfl) z rfl) hc
  · intro hn
    have h0 : Holds (Scalar.cmpi .sgt (Scalar.divsi (Scalar.subi (Scalar.addi v 8#32) 1#32) 8#32) 0#32) := sgt_holds h z (by omega)
    exact ne_holds (extui_holds h0 rfl) z (by decide)
/-- the next one where there is a next one. -/
theorem cond2_iff (k : Fin (k0_t2_loop v).trips) : k0_cond2 v k = 1#1 ↔ k.val + 1 < chunks v.toNat := by
  have h := isInt_chunks hv
  have h1 := isInt_next hv k
  have z : IsInt (0#32) 0 := ofNat (e := 0) 0 ⟨rfl, by decide⟩
  constructor
  · intro hc
    by_contra hn
    have h0 : Fails (Scalar.cmpi .slt (Scalar.addi (Scf.iv 0#32 1#32 k.val) 1#32) (Scalar.divsi (Scalar.subi (Scalar.addi v 8#32) 1#32) 8#32)) :=
      slt_fails h1 h (by omega)
    exact (ne_fails (extui_fails h0 rfl) z rfl) hc
  · intro hn
    have h0 : Holds (Scalar.cmpi .slt (Scalar.addi (Scf.iv 0#32 1#32 k.val) 1#32) (Scalar.divsi (Scalar.subi (Scalar.addi v 8#32) 1#32) 8#32)) :=
      slt_holds h1 h (by omega)
    exact ne_holds (extui_holds h0 rfl) z (by decide)

/-! ## The offsets stay in range -/

theorem colOff_eq (r : Fin k0_t1_loop.trips) (k : Fin (k0_t2_loop v).trips) (j : ℕ) (hj : j < 8) :
    (![(Scf.iv 0#32 1#32 r.val).toNat, (Scalar.addi (Scalar.muli (Scalar.addi (Scf.iv 0#32 1#32 k.val) 1#32) 8#32) (BitVec.ofNat 32 j)).toNat] : Fin 2 → ℕ)
      = ![r.val, 8 * (k.val + 1) + j] := by
  rw [col_eq hv k j hj]
  have hr : r.val < 32 := r.isLt
  have := toNat_eq (n := r.val) (iv (e := r.val) (ofNat (e := 0) 0 ⟨rfl, by decide⟩) (ofNat (e := 1) 1 ⟨rfl, by decide⟩) r.val ⟨by omega, by omega, by omega⟩)
  rw [this]

theorem nextSemOff_eq (b : ℕ) (k : Fin (k0_t2_loop v).trips) (j : ℕ) :
    (![b, (Scalar.remsi (Scalar.addi (Scf.iv 0#32 1#32 k.val) 1#32) 2#32).toNat, j] : Fin 3 → ℕ) = ![b, (k.val + 1) % 2, j] := by
  rw [next_eq hv]
theorem curSemOff_eq (b : ℕ) (k : Fin (k0_t2_loop v).trips) (j : ℕ) :
    (![b, (Scalar.remsi (Scf.iv 0#32 1#32 k.val) 2#32).toNat, j] : Fin 3 → ℕ) = ![b, k.val % 2, j] := by
  rw [cur_eq hv]
theorem nextSlotOff_eq (k : Fin (k0_t2_loop v).trips) (j : ℕ) :
    (![(Scalar.remsi (Scalar.addi (Scf.iv 0#32 1#32 k.val) 1#32) 2#32).toNat, j, 0, 0, 0] : Fin 5 → ℕ) = ![(k.val + 1) % 2, j, 0, 0, 0] := by
  rw [next_eq hv]
theorem curSlotOff_eq (k : Fin (k0_t2_loop v).trips) (j : ℕ) :
    (![(Scalar.remsi (Scf.iv 0#32 1#32 k.val) 2#32).toNat, j, 0, 0, 0] : Fin 5 → ℕ) = ![k.val % 2, j, 0, 0, 0] := by
  rw [cur_eq hv]

end Count

theorem inb_sem {o : Fin 3 → ℕ} {b s j : ℕ} (e : o = ![b, s, j]) (hb : b < 2) (hs : s < 2) (hj : j < 8) :
    ∀ a, o a + S1x1x1.size a ≤ S2x2x8.size a := by
  subst e; intro a; fin_cases a
  · show b + 1 ≤ 2; omega
  · show s + 1 ≤ 2; omega
  · show j + 1 ≤ 8; omega
theorem inb_slot {o : Fin 5 → ℕ} {s j : ℕ} (e : o = ![s, j, 0, 0, 0]) (hs : s < 2) (hj : j < 8) :
    ∀ a, o a + S1x1x32x16x128.size a ≤ S2x8x32x16x128.size a := by
  subst e; intro a; fin_cases a
  · show s + 1 ≤ 2; omega
  · show j + 1 ≤ 8; omega
  · show 0 + 32 ≤ 32; omega
  · show 0 + 16 ≤ 16; omega
  · show 0 + 128 ≤ 128; omega
theorem inb_half {o : Fin 5 → ℕ} {s : ℕ} (e : o = ![s, 0, 0, 0, 0]) (hs : s < 2) :
    ∀ a, o a + S1x8x32x16x128.size a ≤ S2x8x32x16x128.size a := by
  subst e; intro a; fin_cases a
  · show s + 1 ≤ 2; omega
  · show 0 + 8 ≤ 8; omega
  · show 0 + 32 ≤ 32; omega
  · show 0 + 16 ≤ 16; omega
  · show 0 + 128 ≤ 128; omega
theorem inb_col {o : Fin 2 → ℕ} {r p : ℕ} (e : o = ![r, p]) (hr : r < 32) (hp : p < 256) :
    ∀ a, o a + S1x1.size a ≤ S32x256.size a := by
  subst e; intro a; fin_cases a
  · show r + 1 ≤ 32; omega
  · show p + 1 ≤ 256; omega
/-- A page index below 256 names a page. -/
theorem inb_page {o : Fin 4 → ℕ} {p : ℕ} (e : o = ![p, 0, 0, 0]) (hp : p < 256) :
    ∀ a, o a + S1x32x16x128.size a ≤ S256x32x16x128.size a := by
  subst e; intro a; fin_cases a
  · show p + 1 ≤ 256; omega
  · show 0 + 32 ≤ 32; omega
  · show 0 + 16 ≤ 16; omega
  · show 0 + 128 ≤ 128; omega

section Checks
variable {v : BitVec 32} (hv : v.toNat ≤ 256) (r : Fin k0_t1_loop.trips)
include hv

theorem chk_next_sem (b j : ℕ) (hb : b < 2) (hj : j < 8) (k : Fin (k0_t2_loop v).trips) (_ : k0_cond2 v k = 1#1) :
    ∀ a, (![b, (Scalar.remsi (Scalar.addi (Scf.iv 0#32 1#32 k.val) 1#32) 2#32).toNat, j] : Fin 3 → ℕ) a + S1x1x1.size a ≤ S2x2x8.size a :=
  inb_sem (nextSemOff_eq hv b k j) hb (Nat.mod_lt _ (by decide)) hj
theorem chk_next_slot (j : ℕ) (hj : j < 8) (k : Fin (k0_t2_loop v).trips) (_ : k0_cond2 v k = 1#1) :
    ∀ a, (![(Scalar.remsi (Scalar.addi (Scf.iv 0#32 1#32 k.val) 1#32) 2#32).toNat, j, 0, 0, 0] : Fin 5 → ℕ) a + S1x1x32x16x128.size a ≤ S2x8x32x16x128.size a :=
  inb_slot (nextSlotOff_eq hv k j) (Nat.mod_lt _ (by decide)) hj
theorem chk_next_col (j : ℕ) (hj : j < 8) (k : Fin (k0_t2_loop v).trips) (hc : k0_cond2 v k = 1#1) :
    ∀ a, (![(Scf.iv 0#32 1#32 r.val).toNat, (Scalar.addi (Scalar.muli (Scalar.addi (Scf.iv 0#32 1#32 k.val) 1#32) 8#32) (BitVec.ofNat 32 j)).toNat] : Fin 2 → ℕ) a
      + S1x1.size a ≤ S32x256.size a := by
  have h1 := (cond2_iff hv k).mp hc
  have h2 := chunks_le hv
  have h3 : r.val < 32 := r.isLt
  exact inb_col (colOff_eq hv r k j hj) h3 (by omega)
theorem chk_cur_sem (b j : ℕ) (hb : b < 2) (hj : j < 8) (k : Fin (k0_t2_loop v).trips) :
    ∀ a, (![b, (Scalar.remsi (Scf.iv 0#32 1#32 k.val) 2#32).toNat, j] : Fin 3 → ℕ) a + S1x1x1.size a ≤ S2x2x8.size a :=
  inb_sem (curSemOff_eq hv b k j) hb (Nat.mod_lt _ (by decide)) hj
theorem chk_cur_slot (j : ℕ) (hj : j < 8) (k : Fin (k0_t2_loop v).trips) :
    ∀ a, (![(Scalar.remsi (Scf.iv 0#32 1#32 k.val) 2#32).toNat, j, 0, 0, 0] : Fin 5 → ℕ) a + S1x1x32x16x128.size a ≤ S2x8x32x16x128.size a :=
  inb_slot (curSlotOff_eq hv k j) (Nat.mod_lt _ (by decide)) hj
theorem chk_cur_half (k : Fin (k0_t2_loop v).trips) :
    ∀ a, (![(Scalar.remsi (Scf.iv 0#32 1#32 k.val) 2#32).toNat, 0, 0, 0, 0] : Fin 5 → ℕ) a + S1x8x32x16x128.size a ≤ S2x8x32x16x128.size a :=
  inb_half (curSlotOff_eq hv k 0) (Nat.mod_lt _ (by decide))
theorem no_trip3 {p : Fin (k0_t3_loop v).trips → Prop} : ∀ k, p k := fun k => absurd (Nat.lt_of_lt_of_eq k.isLt (trips3_eq hv)) (Nat.not_lt_zero _)

set_option maxHeartbeats 1600000 in
theorem chk9_0_of_le : k0_chk9_0 r v := by
  unfold k0_chk9_0
  refine ⟨ok2 hv, ?_⟩
  repeat' apply And.intro
  all_goals first
    | exact chk_next_sem hv _ _ (by decide) (by decide)
    | exact chk_next_slot hv _ (by decide)
    | exact chk_next_col hv r _ (by decide)

set_option maxHeartbeats 1600000 in
theorem chk9_1_of_le : k0_chk9_1 r v := by
  unfold k0_chk9_1
  repeat' apply And.intro
  all_goals first
    | exact chk_next_sem hv _ _ (by decide) (by decide)
    | exact chk_next_slot hv _ (by decide)
    | exact chk_next_col hv r _ (by decide)
    | exact chk_cur_sem hv _ _ (by decide) (by decide)
    | exact chk_cur_slot hv _ (by decide)

set_option maxHeartbeats 1600000 in
theorem chk9_2_of_le : k0_chk9_2 r v := by
  unfold k0_chk9_2
  refine ⟨chk_cur_sem hv _ _ (by decide) (by decide), chk_cur_half hv, ok3 hv, ?_⟩
  repeat' apply And.intro
  all_goals exact no_trip3 hv

theorem chk9_3_of_le : k0_chk9_3 r v := by
  unfold k0_chk9_3
  repeat' apply And.intro
  all_goals exact no_trip3 hv

theorem chk9_4_of_le : k0_chk9_4 r v := by
  unfold k0_chk9_4
  repeat' apply And.intro
  all_goals exact no_trip3 hv

/-- Every check the body makes on a count of at most 256 holds. -/
theorem chk9_of_le : k0_chk9 r v :=
  ⟨chk9_0_of_le hv r, chk9_1_of_le hv r, chk9_2_of_le hv r, chk9_3_of_le hv r, chk9_4_of_le hv r⟩

end Checks

end Cert.PagedKernelIdeal
-- ==== Proof.KernelIdeal.Pages.lean ====
/-
  The local phase's copies. A row's pages come from the two arrays in HBM (lane 0 the keys, lane 1 the values) into the two
  slots of eight pages of a buffer in VMEM, one counter per lane, slot and place. Named here: a page, a place of a slot, its
  counter; what a device holds of a place at rest, with a copy in flight, and after the wait; and the two steps between.
-/
module

public import proofs.«01_k».proof.Proof.KernelIdeal.Words
public import Idealize.ShloMosaic.Lib.Pipeline.Kit
public import Idealize.ShloMosaic.Lib.Transfers
public import Idealize.ShloMosaic.Lib.Ring
public import Idealize.ShloMosaic.Lib.ValueLayout

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

/-! ## The algebra: the pipeline's rounds, the exchange's rounds, the counters the local copies ride on -/

abbrev XR : Type := Rounds.URounds (GSem nD τ sig) (Fin 3)
abbrev UU : Type := UR sig nD τ × (XR × Counters)
local notation "𝕄" => MT nD τ sig Unit (Elt F) ℕ UU ℕ
abbrev EP : Emb (UR sig nD τ) (MT nD τ sig Unit (Elt F) ℕ UU ℕ) := embL
def ER : Emb XR (MT nD τ sig Unit (Elt F) ℕ UU ℕ) :=
  (Emb.inl : Emb XR (XR × Counters)).trans embR
instance ER_landsIn : (ER (F := F)).LandsIn (upEmb : UEmb _ 𝕄) := by unfold ER embR; infer_instance
abbrev 𝒱₀ : Variants := Variants.none

/-! ## Pages, places, counters -/

abbrev laneArr : Fin 2 → Memref sig .tc .hbm S256x32x16x128 .f32
  | 0 => Memref.whole main_arg1
  | 1 => Memref.whole main_arg2
abbrev laneBuf : Fin 2 → Memref sig .tc .vmem S2x8x32x16x128 .f32
  | 0 => Memref.whole cc0_scratch1
  | 1 => Memref.whole cc0_scratch2

/-- Page `p` of a lane's array. -/
def page (b : Fin 2) (p : Fin 256) : Memref sig .tc .hbm S32x16x128 .f32 :=
  ((laneArr b).slice (Rect.unit (s := S256x32x16x128) ![p.val, 0, 0, 0] S1x32x16x128.size (inb_page rfl p.isLt)) (fun _ => rfl)).squeeze
    S32x16x128 squeezes_S1x32x16x128_S32x16x128
/-- Place `j` of slot `s` of a lane's buffer. -/
def place (b : Fin 2) (s : Fin 2) (j : Fin 8) : Memref sig .tc .vmem S32x16x128 .f32 :=
  ((laneBuf b).slice (Rect.unit (s := S2x8x32x16x128) ![s.val, j.val, 0, 0, 0] S1x1x32x16x128.size (inb_slot rfl s.isLt j.isLt)) (fun _ => rfl)).squeeze
    S32x16x128 squeezes_S1x1x32x16x128_S32x16x128
/-- Its counter. -/
def cell (b : Fin 2) (s : Fin 2) (j : Fin 8) : DmaSems sig S_ :=
  (cc0_scratch3.slice (Rect.unit (s := S2x2x8) ![b.val, s.val, j.val] S1x1x1.size (inb_sem rfl b.isLt s.isLt j.isLt))).squeeze S_ squeezes_S1x1x1_S_

theorem page_eq₀ {o : Fin 4 → ℕ} {h} {p : Fin 256} (e : o = ![p.val, 0, 0, 0]) :
    (((Memref.whole main_arg1 : Memref sig .tc .hbm S256x32x16x128 .f32).slice (Rect.unit (s := S256x32x16x128) o S1x32x16x128.size h) (fun _ => rfl)).squeeze
      S32x16x128 squeezes_S1x32x16x128_S32x16x128) = page 0 p := by subst e; rfl
theorem page_eq₁ {o : Fin 4 → ℕ} {h} {p : Fin 256} (e : o = ![p.val, 0, 0, 0]) :
    (((Memref.whole main_arg2 : Memref sig .tc .hbm S256x32x16x128 .f32).slice (Rect.unit (s := S256x32x16x128) o S1x32x16x128.size h) (fun _ => rfl)).squeeze
      S32x16x128 squeezes_S1x32x16x128_S32x16x128) = page 1 p := by subst e; rfl
theorem place_eq₀ {o : Fin 5 → ℕ} {h} {s : Fin 2} {j : Fin 8} (e : o = ![s.val, j.val, 0, 0, 0]) :
    (((Memref.whole cc0_scratch1 : Memref sig .tc .vmem S2x8x32x16x128 .f32).slice (Rect.unit (s := S2x8x32x16x128) o S1x1x32x16x128.size h) (fun _ => rfl)).squeeze
      S32x16x128 squeezes_S1x1x32x16x128_S32x16x128) = place 0 s j := by subst e; rfl
theorem place_eq₁ {o : Fin 5 → ℕ} {h} {s : Fin 2} {j : Fin 8} (e : o = ![s.val, j.val, 0, 0, 0]) :
    (((Memref.whole cc0_scratch2 : Memref sig .tc .vmem S2x8x32x16x128 .f32).slice (Rect.unit (s := S2x8x32x16x128) o S1x1x32x16x128.size h) (fun _ => rfl)).squeeze
      S32x16x128 squeezes_S1x1x32x16x128_S32x16x128) = place 1 s j := by subst e; rfl
theorem cell_eq {o : Fin 3 → ℕ} {h} {b s : Fin 2} {j : Fin 8} (e : o = ![b.val, s.val, j.val]) :
    ((cc0_scratch3.slice (Rect.unit (s := S2x2x8) o S1x1x1.size h)).squeeze S_ squeezes_S1x1x1_S_) = cell b s j := by subst e; rfl

/-- The bytes of one page. -/
abbrev NP : ℕ := (place 0 0 0).view.dmaCredit
theorem NP_pos : 0 < NP := View.dmaCredit_pos _ (by decide)
theorem place_credit (b s : Fin 2) (j : Fin 8) : (place b s j).view.dmaCredit = NP := by
  fin_cases b <;> rfl

/-- The arrays' contents at a device. -/
abbrev Arr (c : Dev nD) (b : Fin 2) : Type := Buf (Elt F) ((laneArr b).view.loc (c : Thread nD τ))
abbrev Bufs (c : Dev nD) (b : Fin 2) : Type := Buf (Elt F) ((laneBuf b).view.loc (c : Thread nD τ))

/-- A buffer every place of which holds page `p`. -/
def rows (c : Dev nD) : (b : Fin 2) → Arr (F := F) c b → Fin 256 → Bufs (F := F) c b
  | 0, X, p => fun y => X (ix4 p (y 2) (y 3) (y 4))
  | 1, X, p => fun y => X (ix4 p (y 2) (y 3) (y 4))

/-! ## Where an element of a page, and of a place, lies -/

theorem idx3 (x : S32x16x128.Idx) : x = ix3 (n0 := 32) (n1 := 16) (n2 := 128) (x 0) (x 1) (x 2) := by
  funext i; fin_cases i <;> rfl

/-- Where the element `(a, h, d)` of a page lies in the array. -/
theorem page_emb₀ (p : Fin 256) (x : S32x16x128.Idx) : (page 0 p).view.emb x = ix4 (n0 := 256) (n1 := 32) (n2 := 16) (n3 := 128) p (x 0) (x 1) (x 2) := by
  refine (congrArg (fun z => (Rect.unit (s := S256x32x16x128) ![p.val, 0, 0, 0] S1x32x16x128.size (inb_page rfl p.isLt)).idx z)
    ((congrArg _ (idx3 x)).trans (reshapeEquiv_ix3_1abc squeezes_S1x32x16x128_S32x16x128.numel_eq (x 0) (x 1) (x 2)))).trans ?_
  funext i
  apply Fin.ext
  fin_cases i <;> simp [LoadRect.idx, Rect.unit, ix4]
theorem page_emb₁ (p : Fin 256) (x : S32x16x128.Idx) : (page 1 p).view.emb x = ix4 (n0 := 256) (n1 := 32) (n2 := 16) (n3 := 128) p (x 0) (x 1) (x 2) := page_emb₀ p x

theorem place_emb₀ (s : Fin 2) (j : Fin 8) (x : S32x16x128.Idx) :
    (place 0 s j).view.emb x = ix5 (n0 := 2) (n1 := 8) (n2 := 32) (n3 := 16) (n4 := 128) s j (x 0) (x 1) (x 2) := by
  refine (congrArg (fun z => (Rect.unit (s := S2x8x32x16x128) ![s.val, j.val, 0, 0, 0] S1x1x32x16x128.size (inb_slot rfl s.isLt j.isLt)).idx z)
    ((congrArg _ (idx3 x)).trans (reshapeEquiv_ix3_11abc squeezes_S1x1x32x16x128_S32x16x128.numel_eq (x 0) (x 1) (x 2)))).trans ?_
  funext i
  apply Fin.ext
  fin_cases i <;> simp [LoadRect.idx, Rect.unit, ix5]
theorem place_emb₁ (s : Fin 2) (j : Fin 8) (x : S32x16x128.Idx) :
    (place 1 s j).view.emb x = ix5 (n0 := 2) (n1 := 8) (n2 := 32) (n3 := 16) (n4 := 128) s j (x 0) (x 1) (x 2) := place_emb₀ s j x

/-- What a landed page leaves in its place: the page's rows. -/
theorem landed₀ (c : Dev nD) (s : Fin 2) (j : Fin 8) (p : Fin 256) (X : Arr (F := F) c 0) (fd : Bufs (F := F) c 0) (x : S32x16x128.Idx) :
    (place 0 s j).view.write (Elt F) fd ((ReadAs.same : ReadAs (Elt F) S32x16x128 .f32 _ _).apply ((page 0 p).view.read (Elt F) X)) Finset.univ ((place 0 s j).view.emb x)
      = rows c 0 X p ((place 0 s j).view.emb x) := by
  refine (View.write_emb_of_mem _ _ (Finset.mem_univ _)).trans ?_
  have e : ∀ y : S2x8x32x16x128.Idx, y = ix5 (n0 := 2) (n1 := 8) (n2 := 32) (n3 := 16) (n4 := 128) s j (x 0) (x 1) (x 2) →
      (page 0 p).view.emb x = ix4 (n0 := 256) (n1 := 32) (n2 := 16) (n3 := 128) p (y 2) (y 3) (y 4) := by
    rintro _ rfl; exact page_emb₀ p x
  exact congrArg X (e _ (place_emb₀ s j x))
theorem landed₁ (c : Dev nD) (s : Fin 2) (j : Fin 8) (p : Fin 256) (X : Arr (F := F) c 1) (fd : Bufs (F := F) c 1) (x : S32x16x128.Idx) :
    (place 1 s j).view.write (Elt F) fd ((ReadAs.same : ReadAs (Elt F) S32x16x128 .f32 _ _).apply ((page 1 p).view.read (Elt F) X)) Finset.univ ((place 1 s j).view.emb x)
      = rows c 1 X p ((place 1 s j).view.emb x) := by
  refine (View.write_emb_of_mem _ _ (Finset.mem_univ _)).trans ?_
  have e : ∀ y : S2x8x32x16x128.Idx, y = ix5 (n0 := 2) (n1 := 8) (n2 := 32) (n3 := 16) (n4 := 128) s j (x 0) (x 1) (x 2) →
      (page 1 p).view.emb x = ix4 (n0 := 256) (n1 := 32) (n2 := 16) (n3 := 128) p (y 2) (y 3) (y 4) := by
    rintro _ rfl; exact page_emb₁ p x
  exact congrArg X (e _ (place_emb₁ s j x))
theorem landed (c : Dev nD) (b s : Fin 2) (j : Fin 8) (p : Fin 256) (X : Arr (F := F) c b) (fd : Bufs (F := F) c b) :
    ∀ y ∈ (place b s j).view.set,
      (place b s j).view.write (Elt F) fd ((ReadAs.same : ReadAs (Elt F) S32x16x128 .f32 _ _).apply ((page b p).view.read (Elt F) X)) Finset.univ y = rows c b X p y := by
  intro y hy
  obtain ⟨x, -, e⟩ := Finset.mem_map.mp hy
  rcases (show b = 0 ∨ b = 1 by omega) with rfl | rfl
  · have h := landed₀ c s j p X fd x
    rw [e] at h; exact h
  · have h := landed₁ c s j p X fd x
    rw [e] at h; exact h

/-! ## What a device holds of a place -/

variable (c : Dev nD)

/-- The place's elements of the buffer at contents `f`. -/
abbrev placeP (b s : Fin 2) (j : Fin 8) (f : Bufs (F := F) c b) : sProp (𝕄) := (place b s j).view.loc (c : Thread nD τ) ↦[(place b s j).view.set]{fullShare} f
/-- The share of the array the place's copies read through. -/
abbrev tok (s : Fin 2) (j : Fin 8) : PosShare TreeShare := Transfers.shareTok fullShare 16 (finProdFinEquiv (s, j))

abbrev tokP (b s : Fin 2) (j : Fin 8) (X : Arr (F := F) c b) : sProp (𝕄) := (laneArr b).view.loc (c : Thread nD τ) ↦[Finset.univ]{tok s j} X
abbrev zeroP (b s : Fin 2) (j : Fin 8) : sProp (𝕄) := semVal ((c : Thread nD τ), SemLoc.dma (cell b s j).sem) 0

/-- The share of the array is the share of the page and of the rest. -/
theorem tok_split (b s : Fin 2) (j : Fin 8) (X : Arr (F := F) c b) (p : Fin 256) :
    tokP c b s j X ⊣⊢ (iprop(((page b p).view.loc (c : Thread nD τ) ↦[(page b p).view.set]{tok s j} X)
      ∗ ((page b p).view.loc (c : Thread nD τ) ↦[Finset.univ \ (page b p).view.set]{tok s j} X)) : sProp (𝕄)) :=
  pointsTo_split_subset (Finset.subset_univ (page b p).view.set)

/-- At rest: the place at any contents, its share of the array, its counter at zero. -/
def idle (b s : Fin 2) (j : Fin 8) (X : Arr (F := F) c b) : sProp (𝕄) :=
  iprop((∃ f, placeP c b s j f) ∗ tokP c b s j X ∗ zeroP c b s j)
/-- After the wait: the place at page `p`'s rows. -/
def ready (b s : Fin 2) (j : Fin 8) (X : Arr (F := F) c b) (p : Fin 256) : sProp (𝕄) :=
  iprop(placeP c b s j (rows c b X p) ∗ tokP c b s j X ∗ zeroP c b s j)
/-- With page `p` in flight. -/
def flying (b s : Fin 2) (j : Fin 8) (X : Arr (F := F) c b) (p : Fin 256) : sProp (𝕄) :=
  iprop(Transfers.Flight countersEmb (c : Thread nD τ) (SemLoc.dma (cell b s j).sem) () NP
      iprop(placeP c b s j (rows c b X p) ∗ ((page b p).view.loc (c : Thread nD τ) ↦[(page b p).view.set]{tok s j} X))
    ∗ ((page b p).view.loc (c : Thread nD τ) ↦[Finset.univ \ (page b p).view.set]{tok s j} X))

theorem ready_idle (b s : Fin 2) (j : Fin 8) (X : Arr (F := F) c b) (p : Fin 256) : ready c b s j X p ⊢ idle c b s j X := by
  unfold ready idle
  iintro ⟨H, Hr⟩
  isplitl [H]
  · iexists _; iexact H
  · iexact Hr

/-- The start of a page's copy. -/
theorem wp_start {α : Type} {bd : Option 𝒱₀.V} {Q : α → sProp (𝕄)} (b s : Fin 2) (j : Fin 8) (p : Fin 256) (X : Arr (F := F) c b)
    {src : Memref sig .tc .hbm S32x16x128 .f32} {dst : Memref sig .tc .vmem S32x16x128 .f32} {sm : DmaSem sig}
    (esrc : src = page b p) (edst : dst = place b s j) (esm : sm = (cell b s j).sem)
    {h₁ : src.view.WordExact} {h₂ : dst.view.WordExact} {h₃ : DmaTarget.Typed (nD := nD) .hbm (SemLoc.dma sm) (DmaTarget.here dst : DmaTarget nD τ sig .tc .vmem S32x16x128 .f32)}
    {k : PUnit → Prog (TpuEff nD τ sig (Elt F) Λ₀ .tc) α} :
    idle c b s j X ⊢ iprop((flying c b s j X p -∗ wp frame (wpE (defs₀ (F := F)) 𝒱₀ (c : Thread nD τ) bd) Set.univ (k ⟨⟩) Q)
      -∗ wp frame (wpE (defs₀ (F := F)) 𝒱₀ (c : Thread nD τ) bd) Set.univ (.op (.enqueueDma src (.here dst) (.dma sm) h₁ h₂ h₃) k) Q) := by
  subst esrc; subst edst; subst esm
  unfold idle
  iintro ⟨⟨%f, Hp⟩, Ht, Hz⟩ Hk
  ihave Ht := (tok_split c b s j X p).1 $$ Ht
  icases Ht with ⟨Ht, Hr⟩
  iapply (Transfers.wp_dmaLocal countersEmb 𝒱₀ (c : Thread nD τ) bd (src := page b p) (dst := place b s j) (via := ReadAs.same) () (sm := SemLoc.dma (cell b s j).sem) NP (place_credit b s j) NP_pos (Finset.Subset.refl _)) $$ [Hp Ht Hz]
  · isplitl [Ht]; · iexact Ht
    isplitl [Hp]; · iexact Hp
    iexact Hz
  iintro Hf
  iapply Hk
  unfold flying
  isplitl [Hf]
  · iapply (Transfers.Flight_mono countersEmb (c : Thread nD τ) ?_) $$ Hf
    exact BI.sep_mono (Entails.of_eq (pointsTo_congr (landed c b s j p X f))) (Entails.refl _)
  · iexact Hr

/-- The wait for it. -/
theorem wp_wait {α : Type} {bd : Option 𝒱₀.V} {Q : α → sProp (𝕄)} (b s : Fin 2) (j : Fin 8) (p : Fin 256) (X : Arr (F := F) c b)
    {O : CellTallies nD τ sig Unit} {W : Waits sig Unit}
    {src : Memref sig .tc .hbm S32x16x128 .f32} {dst : Memref sig .tc .vmem S32x16x128 .f32} {sm : DmaSem sig}
    (edst : dst = place b s j) (esm : sm = (cell b s j).sem)
    {h₁ : src.view.WordExact} {h₂ : dst.view.WordExact}
    {k : PUnit → Prog (TpuEff nD τ sig (Elt F) Λ₀ .tc) α} :
    iprop(flying c b s j X p ∗ owes (c : Thread nD τ) O W ∗ MayWait (c : Thread nD τ) (.dma (cell b s j).sem) () O)
      ⊢ iprop((iprop(ready c b s j X p ∗ owes (c : Thread nD τ) O (insert (SemLoc.dma (cell b s j).sem, ()) W)) -∗ wp frame (wpE (defs₀ (F := F)) 𝒱₀ (c : Thread nD τ) bd) Set.univ (k ⟨⟩) Q)
      -∗ wp frame (wpE (defs₀ (F := F)) 𝒱₀ (c : Thread nD τ) bd) Set.univ (.op (.waitDma2 sm src dst h₁ h₂) k) Q) := by
  subst edst; subst esm
  unfold flying
  iintro ⟨⟨Hf, Hr⟩, HO, Hm⟩ Hk
  iapply (Transfers.wp_waitLocalO countersEmb 𝒱₀ (c : Thread nD τ) bd () (place_credit b s j)) $$ [Hf HO Hm]
  · isplitl [Hf]; · iexact Hf
    isplitl [HO]; · iexact HO
    iexact Hm
  iintro ⟨⟨Hp, Ht⟩, Hz, HO⟩
  iapply Hk
  isplitr [HO]
  · unfold ready
    isplitl [Hp]; · iexact Hp
    isplitr [Hz]
    · iapply (tok_split c b s j X p).2
      isplitl [Ht] <;> iassumption
    · iexact Hz
  · iexact HO

end Cert.PagedKernelIdeal
-- ==== Proof.KernelIdeal.Slots.lean ====
/-
  A slot of eight pages: the places of a lane's buffer are its two slots of eight, and the buffer. What the load of a
  whole slot reads once its eight pages have landed.
-/
module

public import proofs.«01_k».proof.Proof.KernelIdeal.Pages

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

/-- Eight of them, side by side. -/
abbrev oct (Φ : Fin 8 → sProp 𝕄) : sProp 𝕄 := iprop(Φ 0 ∗ Φ 1 ∗ Φ 2 ∗ Φ 3 ∗ Φ 4 ∗ Φ 5 ∗ Φ 6 ∗ Φ 7)

theorem oct_eq (Φ : Fin 8 → sProp 𝕄) : bigSep Finset.univ Φ = oct Φ :=
  bigSep_univ_eq_bigSepL [0, 1, 2, 3, 4, 5, 6, 7] (by decide) (by decide) Φ

theorem oct_mono {Φ Ψ : Fin 8 → sProp 𝕄} (h : ∀ j, Φ j ⊢ Ψ j) : oct Φ ⊢ oct Ψ := by
  rw [← oct_eq, ← oct_eq]; exact bigSep_mono fun j _ => h j

/-- Slot `s` of a buffer, as the load of the slot names it. -/
def slotRect (s : Fin 2) : Rect S2x8x32x16x128 :=
  Rect.unit (s := S2x8x32x16x128) ![s.val, 0, 0, 0, 0] S1x8x32x16x128.size (inb_half rfl s.isLt)

theorem mem_place₀ (s : Fin 2) (j : Fin 8) (y : S2x8x32x16x128.Idx) : y ∈ (place 0 s j).view.set ↔ y 0 = s ∧ y 1 = j := by
  constructor
  · intro h
    obtain ⟨x, -, e⟩ := Finset.mem_map.mp h
    have e := e.symm.trans (place_emb₀ s j x)
    subst e; exact ⟨rfl, rfl⟩
  · rintro ⟨h0, h1⟩
    refine Finset.mem_map.mpr ⟨ix3 (n0 := 32) (n1 := 16) (n2 := 128) (y 2) (y 3) (y 4), Finset.mem_univ _, (place_emb₀ s j _).trans ?_⟩
    subst h0 h1
    exact (eq_ix5 (n0 := 2) (n1 := 8) (n2 := 32) (n3 := 16) (n4 := 128) y).symm
theorem mem_place₁ (s : Fin 2) (j : Fin 8) (y : S2x8x32x16x128.Idx) : y ∈ (place 1 s j).view.set ↔ y 0 = s ∧ y 1 = j := mem_place₀ s j y

theorem slotRect_idx (s : Fin 2) (x : S1x8x32x16x128.Idx) :
    (slotRect s).idx x = ix5 (n0 := 2) (n1 := 8) (n2 := 32) (n3 := 16) (n4 := 128) s (x 1) (x 2) (x 3) (x 4) := by
  funext i
  apply Fin.ext
  have h0 : (x 0).val = 0 := by have := (x 0).isLt; simp at this; omega
  fin_cases i <;> simp [LoadRect.idx, slotRect, Rect.unit, ix5, h0]

/-- The elements of slot `s` of a lane's buffer. -/
abbrev slotSet (c : Dev nD) (b s : Fin 2) : Finset (Idx ((laneBuf b).view.loc (c : Thread nD τ))) := ((laneBuf b).access (slotRect s)).set

theorem mem_slot₀ (c : Dev nD) (s : Fin 2) (y : S2x8x32x16x128.Idx) : y ∈ slotSet c 0 s ↔ y 0 = s := by
  constructor
  · intro h
    obtain ⟨x, -, e⟩ := Finset.mem_map.mp h
    have e := e.symm.trans (slotRect_idx s x)
    subst e; rfl
  · intro h0
    refine Finset.mem_map.mpr ⟨ix5 (n0 := 1) (n1 := 8) (n2 := 32) (n3 := 16) (n4 := 128) 0 (y 1) (y 2) (y 3) (y 4), Finset.mem_univ _, (slotRect_idx s _).trans ?_⟩
    subst h0
    exact (eq_ix5 (n0 := 2) (n1 := 8) (n2 := 32) (n3 := 16) (n4 := 128) y).symm
theorem mem_slot₁ (c : Dev nD) (s : Fin 2) (y : S2x8x32x16x128.Idx) : y ∈ slotSet c 1 s ↔ y 0 = s := mem_slot₀ c s y

/-- The elements of a place, as elements of the lane's buffer. -/
abbrev placeSet (c : Dev nD) (b s : Fin 2) (j : Fin 8) : Finset (Idx ((laneBuf b).view.loc (c : Thread nD τ))) := (place b s j).view.set

theorem places_disjoint (c : Dev nD) (b s s' : Fin 2) (j j' : Fin 8) (h : (s, j) ≠ (s', j')) : Disjoint (placeSet c b s j) (placeSet c b s' j') := by
  rw [Finset.disjoint_left]
  rcases (show b = 0 ∨ b = 1 by omega) with rfl | rfl
  all_goals
    intro y h₁ h₂
    have h₁ := (mem_place₀ s j y).mp h₁
    have h₂ := (mem_place₀ s' j' y).mp h₂
    exact h (Prod.ext (h₁.1.symm.trans h₂.1) (h₁.2.symm.trans h₂.2))

theorem places_slot (c : Dev nD) (b s : Fin 2) : Finset.univ.biUnion (placeSet c b s) = slotSet c b s := by
  rcases (show b = 0 ∨ b = 1 by omega) with rfl | rfl
  · ext y
    rw [Finset.mem_biUnion]
    refine Iff.trans ?_ (mem_slot₀ c s y).symm
    exact ⟨fun ⟨j, _, h⟩ => ((mem_place₀ s j y).mp h).1, fun h => ⟨(y : S2x8x32x16x128.Idx) 1, Finset.mem_univ _, (mem_place₀ s _ y).mpr ⟨h, rfl⟩⟩⟩
  · ext y
    rw [Finset.mem_biUnion]
    refine Iff.trans ?_ (mem_slot₁ c s y).symm
    exact ⟨fun ⟨j, _, h⟩ => ((mem_place₁ s j y).mp h).1, fun h => ⟨(y : S2x8x32x16x128.Idx) 1, Finset.mem_univ _, (mem_place₁ s _ y).mpr ⟨h, rfl⟩⟩⟩

theorem places_buf (c : Dev nD) (b : Fin 2) : Finset.univ.biUnion (fun sj : Fin 2 × Fin 8 => placeSet c b sj.1 sj.2) = Finset.univ := by
  rcases (show b = 0 ∨ b = 1 by omega) with rfl | rfl
  · ext y
    refine ⟨fun _ => Finset.mem_univ _, fun _ => Finset.mem_biUnion.mpr ⟨((y : S2x8x32x16x128.Idx) 0, (y : S2x8x32x16x128.Idx) 1), Finset.mem_univ _, (mem_place₀ _ _ y).mpr ⟨rfl, rfl⟩⟩⟩
  · ext y
    refine ⟨fun _ => Finset.mem_univ _, fun _ => Finset.mem_biUnion.mpr ⟨((y : S2x8x32x16x128.Idx) 0, (y : S2x8x32x16x128.Idx) 1), Finset.mem_univ _, (mem_place₁ _ _ y).mpr ⟨rfl, rfl⟩⟩⟩

/-- A buffer whose place `j` of either slot holds page `pg j`. -/
def rowsOf (c : Dev nD) : (b : Fin 2) → Arr (F := F) c b → (Fin 8 → Fin 256) → Bufs (F := F) c b
  | 0, X, pg => fun y => X (ix4 (n0 := 256) (n1 := 32) (n2 := 16) (n3 := 128) (pg (y 1)) (y 2) (y 3) (y 4))
  | 1, X, pg => fun y => X (ix4 (n0 := 256) (n1 := 32) (n2 := 16) (n3 := 128) (pg (y 1)) (y 2) (y 3) (y 4))

theorem rows_rowsOf (c : Dev nD) (b s : Fin 2) (j : Fin 8) (X : Arr (F := F) c b) (pg : Fin 8 → Fin 256) :
    ∀ y ∈ placeSet c b s j, rows c b X (pg j) y = rowsOf c b X pg y := by
  intro y hy
  rcases (show b = 0 ∨ b = 1 by omega) with rfl | rfl
  · have h := ((mem_place₀ s j y).mp hy).2
    subst h; rfl
  · have h := ((mem_place₁ s j y).mp hy).2
    subst h; rfl

/-- What the load of slot `s` reads of it. -/
def gathered (c : Dev nD) (X : S256x32x16x128.Idx → F .f32) (pg : Fin 8 → Fin 256) : S1x8x32x16x128.Idx → F .f32 :=
  fun x => X (ix4 (n0 := 256) (n1 := 32) (n2 := 16) (n3 := 128) (pg (x 1)) (x 2) (x 3) (x 4))
theorem read_slot₀ (c : Dev nD) (s : Fin 2) (X : Arr (F := F) c 0) (pg : Fin 8 → Fin 256) :
    ((laneBuf 0).access (slotRect s)).read (Elt F) (rowsOf c 0 X pg) = gathered c X pg := by
  funext x
  have e : ∀ y : S2x8x32x16x128.Idx, y = ix5 (n0 := 2) (n1 := 8) (n2 := 32) (n3 := 16) (n4 := 128) s (x 1) (x 2) (x 3) (x 4) →
      ix4 (n0 := 256) (n1 := 32) (n2 := 16) (n3 := 128) (pg (y 1)) (y 2) (y 3) (y 4) = ix4 (n0 := 256) (n1 := 32) (n2 := 16) (n3 := 128) (pg (x 1)) (x 2) (x 3) (x 4) := by
    rintro _ rfl; rfl
  exact congrArg X (e _ (slotRect_idx s x))
theorem read_slot₁ (c : Dev nD) (s : Fin 2) (X : Arr (F := F) c 1) (pg : Fin 8 → Fin 256) :
    ((laneBuf 1).access (slotRect s)).read (Elt F) (rowsOf c 1 X pg) = gathered c X pg := read_slot₀ c s X pg

variable (c : Dev nD)

/-- Slot `s` of a lane's buffer at contents `f`. -/
abbrev slotP (b s : Fin 2) (f : Bufs (F := F) c b) : sProp 𝕄 := (laneBuf b).view.loc (c : Thread nD τ) ↦[slotSet c b s]{fullShare} f

theorem slot_places (b s : Fin 2) (f : Bufs (F := F) c b) : slotP c b s f = bigSep Finset.univ fun j => placeP c b s j f := by
  show ((laneBuf b).view.loc (c : Thread nD τ) ↦[slotSet c b s]{fullShare} f : sProp 𝕄) = bigSep Finset.univ fun j => (laneBuf b).view.loc (c : Thread nD τ) ↦[placeSet c b s j]{fullShare} f
  rw [← places_slot]
  exact pointsTo_biUnion Finset.univ (placeSet c b s) fun j _ j' _ h => places_disjoint c b s s j j' fun e => h (Prod.ext_iff.mp e).2

theorem placeP_rows (b s : Fin 2) (j : Fin 8) (X : Arr (F := F) c b) (pg : Fin 8 → Fin 256) :
    placeP c b s j (rows c b X (pg j)) ⊢ placeP c b s j (rowsOf c b X pg) :=
  Entails.of_eq (pointsTo_congr (rows_rowsOf c b s j X pg))

theorem ready_place (b s : Fin 2) (j : Fin 8) (X : Arr (F := F) c b) (pg : Fin 8 → Fin 256) :
    ready c b s j X (pg j) ⊢ iprop(placeP c b s j (rowsOf c b X pg) ∗ (placeP c b s j (rowsOf c b X pg) -∗ idle c b s j X)) := by
  unfold ready idle
  iintro ⟨Hp, Hr⟩
  isplitl [Hp]
  · iapply (placeP_rows c b s j X pg) $$ Hp
  · iintro Hp
    isplitl [Hp]
    · iexists _; iexact Hp
    · iexact Hr

theorem slot_back (b s : Fin 2) (Φ Ψ : Fin 8 → sProp 𝕄) :
    iprop(bigSep Finset.univ (fun j => iprop(Φ j -∗ Ψ j)) ∗ bigSep Finset.univ Φ) ⊢ bigSep Finset.univ Ψ := by
  refine (Entails.of_eq (bigSep_sep' Finset.univ (fun j => iprop(Φ j -∗ Ψ j)) Φ).symm).trans (bigSep_mono fun j _ => ?_)
  show iprop((Φ j -∗ Ψ j) ∗ Φ j) ⊢ Ψ j
  iintro ⟨Hk, H⟩
  iapply Hk $$ H

/-- Eight landed pages: the slot at their rows, and the places at rest once the slot is given back. -/
theorem ready_slot (b s : Fin 2) (X : Arr (F := F) c b) (pg : Fin 8 → Fin 256) :
    oct (fun j => ready c b s j X (pg j)) ⊢ iprop(slotP c b s (rowsOf c b X pg) ∗ (slotP c b s (rowsOf c b X pg) -∗ oct (fun j => idle c b s j X))) := by
  rw [← oct_eq, ← oct_eq, slot_places]
  refine (bigSep_mono fun j _ => ready_place c b s j X pg).trans ?_
  refine (Entails.of_eq (bigSep_sep' Finset.univ (fun j => placeP c b s j (rowsOf c b X pg)) (fun j => iprop(placeP c b s j (rowsOf c b X pg) -∗ idle c b s j X)))).trans ?_
  iintro ⟨Hp, Hr⟩
  isplitl [Hp]; · iexact Hp
  iintro Hp
  iapply (slot_back b s (fun j => placeP c b s j (rowsOf c b X pg)) (fun j => idle c b s j X))
  isplitl [Hr] <;> iassumption

end Cert.PagedKernelIdeal
-- ==== Proof.KernelIdeal.Steps.lean ====
/-
  The steps of a row: the load of a page's number from the table, the assumption that the page exists, and the copies of
  the page's keys and values started at computed offsets.
-/
module

public import proofs.«01_k».proof.Proof.KernelIdeal.Slots
public import proofs.«01_k».proof.Proof.Gen.KernelIdeal.Points

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The kernel's operands -/

abbrev qM : Memref sig .tc .vmem S32x1x16x128 .f32 := Memref.whole cc0_stg0_0
abbrev tabM : Memref sig .tc .smem S32x256 .i32 := Memref.whole cc0_stg1_0
abbrev cntM : Memref sig .tc .smem S32 .i32 := Memref.whole cc0_stg2_0
abbrev outM : Memref sig .tc .vmem S32x1x16x128 .f32 := Memref.whole cc0_stg3_0
abbrev kM : Memref sig .tc .hbm S256x32x16x128 .f32 := Memref.whole main_arg1
abbrev vM : Memref sig .tc .hbm S256x32x16x128 .f32 := Memref.whole main_arg2
abbrev comM : Memref sig .tc .vmem S4x3x32x16x128 .f32 := Memref.whole cc0_scratch0
abbrev kbM : Memref sig .tc .vmem S2x8x32x16x128 .f32 := Memref.whole cc0_scratch1
abbrev vbM : Memref sig .tc .vmem S2x8x32x16x128 .f32 := Memref.whole cc0_scratch2

variable (c : Dev nD)

/-- The table of pages, and the counts, as a device holds them. -/
abbrev Tab : Type := Buf (Elt F) (tabM.view.loc (c : Thread nD τ))
abbrev tabP (T : Tab (F := F) c) : sProp 𝕄 := tabM.view.loc (c : Thread nD τ) ↦{fullShare} T

/-- The page a word names. -/
def pageOf (w : BitVec 32) : Fin 256 := Fin.ofNat 256 w.toNat
theorem pageOf_val {w : BitVec 32} (h : w.toNat < 256) : (pageOf w).val = w.toNat := Nat.mod_eq_of_lt h

/-- The slot of chunk `t`. -/
def par (t : ℕ) : Fin 2 := ⟨t % 2, Nat.mod_lt _ (by decide)⟩

/-- The word the table holds for entry `p` of row `r`. -/
def entry (T : Tab (F := F) c) (r p : ℕ) : BitVec 32 := T (ix2 (n0 := 32) (n1 := 256) (Fin.ofNat 32 r) (Fin.ofNat 256 p))
def tabWord (T : Tab (F := F) c) (r p : ℕ) : Elt F .i32 := entry c T r p

theorem entry_idx {r p : ℕ} (h : ∀ a, (![r, p] : Fin 2 → ℕ) a + S1x1.size a ≤ S32x256.size a) (hr : r < 32) (hp : p < 256) (x : S1x1.Idx) :
    (Rect.unit (s := S32x256) ![r, p] S1x1.size h).idx x = ix2 (n0 := 32) (n1 := 256) (Fin.ofNat 32 r) (Fin.ofNat 256 p) := by
  funext a
  apply Fin.ext
  have h0 : (x 0).val = 0 := by have := (x 0).isLt; simp at this; omega
  have h1 : (x 1).val = 0 := by have := (x 1).isLt; simp at this; omega
  fin_cases a <;> simp [LoadRect.idx, Rect.unit, ix2, h0, h1, Nat.mod_eq_of_lt hr, Nat.mod_eq_of_lt hp]

theorem tab_read (T : Tab (F := F) c) {o : Fin 2 → ℕ} {h : ∀ a, o a + S1x1.size a ≤ S32x256.size a} {r p : ℕ} (e : o = ![r, p]) (hr : r < 32) (hp : p < 256) :
    (tabM.access (Rect.unit (s := S32x256) o S1x1.size h)).read (Elt F) T = fun _ => tabWord c T r p := by
  subst e
  funext x
  exact congrArg T (entry_idx h hr hp x)

/-- The load of a page's number. -/
theorem wp_fetch {α : Type} {bd : Option 𝒱₀.V} {Q : α → sProp 𝕄} (T : Tab (F := F) c) {o : Fin 2 → ℕ} {h : ∀ a, o a + S1x1.size a ≤ S32x256.size a}
    {r p : ℕ} (e : o = ![r, p]) (hr : r < 32) (hp : p < 256) {hl : tabM.view.LoadsAt (Rect.unit (s := S32x256) o S1x1.size h).toLoadRect}
    {k : (S1x1.Idx → Elt F .i32) → Prog (TpuEff nD τ sig (Elt F) Λ₀ .tc) α} :
    tabP c T ⊢ iprop((tabP c T -∗ wp frame (wpE (defs₀ (F := F)) 𝒱₀ (c : Thread nD τ) bd) Set.univ (k (fun _ => tabWord c T r p)) Q)
      -∗ wp frame (wpE (defs₀ (F := F)) 𝒱₀ (c : Thread nD τ) bd) Set.univ (.op (.load tabM (Rect.unit (s := S32x256) o S1x1.size h).toLoadRect hl) k) Q) := by
  have H := wp_load_rect (Γ := []) (Q := Q) 𝒱₀ (c : Thread nD τ) bd Set.univ (defs := defs₀ (F := F)) (m := tabM) (r := Rect.unit (s := S32x256) o S1x1.size h) (hl := hl) (k := k) (q := fullShare) (f := T)
    (Finset.subset_univ _)
  rw [tab_read c T (h := h) e hr hp] at H
  exact H

/-- An assumption that holds. -/
theorem wp_have {α : Type} {bd : Option 𝒱₀.V} {Q : α → sProp 𝕄} {P : Prop} {d : Decidable P} {k : PLift P → Prog (TpuEff nD τ sig (Elt F) Λ₀ .tc) α} (h : P) :
    wp frame (wpE (defs₀ (F := F)) 𝒱₀ (c : Thread nD τ) bd) Set.univ (k ⟨h⟩) Q ⊢ wp frame (wpE (defs₀ (F := F)) 𝒱₀ (c : Thread nD τ) bd) Set.univ (.op (.assume P d) k) Q :=
  wp_assume 𝒱₀ (c : Thread nD τ) bd Set.univ h

end Cert.PagedKernelIdeal
-- ==== Proof.KernelIdeal.Chunk.lean ====
/-
  A chunk of eight pages: the copies of the next chunk started into the other slot, the copies of this chunk awaited, and
  the row's running maximum, sum and weighted sum taken over it.
-/
module

public import proofs.«01_k».proof.Proof.KernelIdeal.Steps

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- A program's first part, then the rest. -/
theorem wp_seq {α β : Type} {bd : Option 𝒱₀.V} {P : sProp 𝕄} {R : α → sProp 𝕄} {Q : β → sProp 𝕄} {p : Prog (TpuEff nD τ sig (Elt F) Λ₀ .tc) α}
    {k : α → Prog (TpuEff nD τ sig (Elt F) Λ₀ .tc) β}
    (h₁ : P ⊢ wp frame (wpE (defs₀ (F := F)) 𝒱₀ (c : Thread nD τ) bd) Set.univ p R)
    (h₂ : ∀ x, R x ⊢ wp frame (wpE (defs₀ (F := F)) 𝒱₀ (c : Thread nD τ) bd) Set.univ (k x) Q) :
    P ⊢ wp frame (wpE (defs₀ (F := F)) 𝒱₀ (c : Thread nD τ) bd) Set.univ (p >>= k) Q := by
  rw [wp_bind]
  exact h₁.trans (wp_mono _ _ _ h₂)

/-- The page chunk `t` of row `r` has at place `j`. -/
def pg (T : Tab (F := F) c) (r t : ℕ) (j : Fin 8) : Fin 256 := pageOf (entry c T r (8 * t + j.val))

theorem pageOff {w : BitVec 32} (h : w.toNat < 256) : (![w.toNat, 0, 0, 0] : Fin 4 → ℕ) = ![(pageOf w).val, 0, 0, 0] := by
  rw [pageOf_val h]

/-- Slot `s` of both lanes at rest, and with chunk `t` of row `r` in flight. -/
abbrev slack (X : ∀ b, Arr (F := F) c b) (s : Fin 2) : sProp 𝕄 :=
  iprop(oct (fun j => idle c 0 s j (X 0)) ∗ oct (fun j => idle c 1 s j (X 1)))
abbrev aloft (T : Tab (F := F) c) (X : ∀ b, Arr (F := F) c b) (r t : ℕ) : sProp 𝕄 :=
  iprop(oct (fun j => flying c 0 (par t) j (X 0) (pg c T r t j)) ∗ oct (fun j => flying c 1 (par t) j (X 1) (pg c T r t j)))

/-- What the slots hold before trip `t` of a row with `n` chunks. -/
def slots (T : Tab (F := F) c) (X : ∀ b, Arr (F := F) c b) (r n t : ℕ) : sProp 𝕄 :=
  iprop((if t < n then aloft c T X r t else slack c X (par t)) ∗ slack c X (par (t + 1)))

/-- One chunk's step of the running maximum, sum and weighted sum. -/
def chunkStep (T : Tab (F := F) c) (X : ∀ b, Arr (F := F) c b) (r : ℕ) (v : BitVec 32) (q : Vec F S1x1x16x128 .f32) (t : ℕ)
    (a : FVec F S16x1 .f32 × FVec F S16x1 .f32 × FVec F S16x128 .f32) : FVec F S16x1 .f32 × FVec F S16x1 .f32 × FVec F S16x128 .f32 :=
  (k0_pay6 (F := F) k0_pay26 v a.1 (Scf.iv 0#32 1#32 t) (k0_pay2 (gathered c (X 0) (pg c T r t))) (k0_pay4 (k0_pay18 q)),
    k0_pay9 (F := F) k0_pay26 v a.1 a.2.1 (Scf.iv 0#32 1#32 t) (k0_pay2 (gathered c (X 0) (pg c T r t))) (k0_pay4 (k0_pay18 q)),
    k0_pay22 (F := F) a.2.2 (k0_pay3 (gathered c (X 1) (pg c T r t))) (k0_pay7 k0_pay26 v a.1 (Scf.iv 0#32 1#32 t) (k0_pay2 (gathered c (X 0) (pg c T r t))) (k0_pay4 (k0_pay18 q)))
      (k0_pay8 k0_pay26 v a.1 (Scf.iv 0#32 1#32 t) (k0_pay2 (gathered c (X 0) (pg c T r t))) (k0_pay4 (k0_pay18 q))))

/-- The running maximum, sum and weighted sum before chunk `t`. -/
def carry (T : Tab (F := F) c) (X : ∀ b, Arr (F := F) c b) (r : ℕ) (v : BitVec 32) (q : Vec F S1x1x16x128 .f32) : ℕ → FVec F S16x1 .f32 × FVec F S16x1 .f32 × FVec F S16x128 .f32
  | 0 => (k0_pay19, k0_pay20, k0_pay21)
  | t + 1 => chunkStep c T X r v q t (carry T X r v q t)

/-- What a trip leaves to the next, once its chunk is taken in. -/
abbrev RowInv (P : sProp 𝕄) (O : CellTallies nD τ sig Unit) (T : Tab (F := F) c) (X : ∀ b, Arr (F := F) c b) (r n t : ℕ) : sProp 𝕄 :=
  iprop(P ∗ tabP c T ∗ slots c T X r n t ∗ ∃ W, owes (c : Thread nD τ) O W)

/-- A program that has come to its result. -/
theorem wp_end {α : Type} {bd : Option 𝒱₀.V} {Q : α → sProp 𝕄} {p : Prog (TpuEff nD τ sig (Elt F) Λ₀ .tc) α} {x : α} (h : p = .ret x) :
    Q x ⊢ wp frame (wpE (defs₀ (F := F)) 𝒱₀ (c : Thread nD τ) bd) Set.univ p Q := by
  subst h
  rw [wp_ret]
  iintro H
  imodintro
  iexact H

theorem par_succ (t : ℕ) : par (t + 1 + 1) = par t := Fin.ext (Nat.add_mod_right t 2)

theorem read_half₀ (s : Fin 2) (X : Arr (F := F) c 0) (p : Fin 8 → Fin 256) {o : Fin 5 → ℕ} {h : ∀ a, o a + S1x8x32x16x128.size a ≤ S2x8x32x16x128.size a} (e : o = ![s.val, 0, 0, 0, 0]) :
    (kbM.access (Rect.unit (s := S2x8x32x16x128) o S1x8x32x16x128.size h)).read (Elt F) (rowsOf c 0 X p) = gathered c X p := by
  subst e; exact read_slot₀ c s X p
theorem read_half₁ (s : Fin 2) (X : Arr (F := F) c 1) (p : Fin 8 → Fin 256) {o : Fin 5 → ℕ} {h : ∀ a, o a + S1x8x32x16x128.size a ≤ S2x8x32x16x128.size a} (e : o = ![s.val, 0, 0, 0, 0]) :
    (vbM.access (Rect.unit (s := S2x8x32x16x128) o S1x8x32x16x128.size h)).read (Elt F) (rowsOf c 1 X p) = gathered c X p := by
  subst e; exact read_slot₁ c s X p
theorem half_sub₀ (s : Fin 2) {o : Fin 5 → ℕ} {h : ∀ a, o a + S1x8x32x16x128.size a ≤ S2x8x32x16x128.size a} (e : o = ![s.val, 0, 0, 0, 0]) :
    (kbM.access (Rect.unit (s := S2x8x32x16x128) o S1x8x32x16x128.size h)).set ⊆ slotSet c 0 s := by
  subst e; exact Finset.Subset.refl _
theorem half_sub₁ (s : Fin 2) {o : Fin 5 → ℕ} {h : ∀ a, o a + S1x8x32x16x128.size a ≤ S2x8x32x16x128.size a} (e : o = ![s.val, 0, 0, 0, 0]) :
    (vbM.access (Rect.unit (s := S2x8x32x16x128) o S1x8x32x16x128.size h)).set ⊆ slotSet c 1 s := by
  subst e; exact Finset.Subset.refl _

/-- The load of a whole slot whose pages have landed. -/
theorem wp_slot₀ {α : Type} {bd : Option 𝒱₀.V} {Q : α → sProp 𝕄} (s : Fin 2) (X : Arr (F := F) c 0) (p : Fin 8 → Fin 256) {o : Fin 5 → ℕ}
    {h : ∀ a, o a + S1x8x32x16x128.size a ≤ S2x8x32x16x128.size a} (e : o = ![s.val, 0, 0, 0, 0]) {hl : kbM.view.LoadsAt (Rect.unit (s := S2x8x32x16x128) o S1x8x32x16x128.size h).toLoadRect}
    {k : (S1x8x32x16x128.Idx → Elt F .f32) → Prog (TpuEff nD τ sig (Elt F) Λ₀ .tc) α} :
    slotP c 0 s (rowsOf c 0 X p) ⊢ iprop((slotP c 0 s (rowsOf c 0 X p) -∗ wp frame (wpE (defs₀ (F := F)) 𝒱₀ (c : Thread nD τ) bd) Set.univ (k (gathered c X p)) Q)
      -∗ wp frame (wpE (defs₀ (F := F)) 𝒱₀ (c : Thread nD τ) bd) Set.univ (.op (.load kbM (Rect.unit (s := S2x8x32x16x128) o S1x8x32x16x128.size h).toLoadRect hl) k) Q) := by
  have H := wp_load_rect (Γ := []) (Q := Q) 𝒱₀ (c : Thread nD τ) bd Set.univ (defs := defs₀ (F := F)) (m := kbM) (r := Rect.unit (s := S2x8x32x16x128) o S1x8x32x16x128.size h) (hl := hl) (k := k) (q := fullShare) (f := rowsOf c 0 X p)
    (half_sub₀ c s e)
  rw [read_half₀ c s X p (h := h) e] at H
  exact H

/-- The load of a whole slot whose pages have landed. -/
theorem wp_slot₁ {α : Type} {bd : Option 𝒱₀.V} {Q : α → sProp 𝕄} (s : Fin 2) (X : Arr (F := F) c 1) (p : Fin 8 → Fin 256) {o : Fin 5 → ℕ}
    {h : ∀ a, o a + S1x8x32x16x128.size a ≤ S2x8x32x16x128.size a} (e : o = ![s.val, 0, 0, 0, 0]) {hl : vbM.view.LoadsAt (Rect.unit (s := S2x8x32x16x128) o S1x8x32x16x128.size h).toLoadRect}
    {k : (S1x8x32x16x128.Idx → Elt F .f32) → Prog (TpuEff nD τ sig (Elt F) Λ₀ .tc) α} :
    slotP c 1 s (rowsOf c 1 X p) ⊢ iprop((slotP c 1 s (rowsOf c 1 X p) -∗ wp frame (wpE (defs₀ (F := F)) 𝒱₀ (c : Thread nD τ) bd) Set.univ (k (gathered c X p)) Q)
      -∗ wp frame (wpE (defs₀ (F := F)) 𝒱₀ (c : Thread nD τ) bd) Set.univ (.op (.load vbM (Rect.unit (s := S2x8x32x16x128) o S1x8x32x16x128.size h).toLoadRect hl) k) Q) := by
  have H := wp_load_rect (Γ := []) (Q := Q) 𝒱₀ (c : Thread nD τ) bd Set.univ (defs := defs₀ (F := F)) (m := vbM) (r := Rect.unit (s := S2x8x32x16x128) o S1x8x32x16x128.size h) (hl := hl) (k := k) (q := fullShare) (f := rowsOf c 1 X p)
    (half_sub₁ c s e)
  rw [read_half₁ c s X p (h := h) e] at H
  exact H

/-- Between the start of the next chunk and the rest of this one's waits: places 0 have landed. -/
abbrev midway (P : sProp 𝕄) (O : CellTallies nD τ sig Unit) (T : Tab (F := F) c) (X : ∀ b, Arr (F := F) c b) (r n t : ℕ) : sProp 𝕄 :=
  iprop(P ∗ tabP c T ∗ ready c 0 (par t) 0 (X 0) (pg c T r t 0) ∗ ready c 1 (par t) 0 (X 1) (pg c T r t 0)
    ∗ flying c 0 (par t) 1 (X 0) (pg c T r t 1) ∗ flying c 0 (par t) 2 (X 0) (pg c T r t 2) ∗ flying c 0 (par t) 3 (X 0) (pg c T r t 3) ∗ flying c 0 (par t) 4 (X 0) (pg c T r t 4)
    ∗ flying c 0 (par t) 5 (X 0) (pg c T r t 5) ∗ flying c 0 (par t) 6 (X 0) (pg c T r t 6) ∗ flying c 0 (par t) 7 (X 0) (pg c T r t 7)
    ∗ flying c 1 (par t) 1 (X 1) (pg c T r t 1) ∗ flying c 1 (par t) 2 (X 1) (pg c T r t 2) ∗ flying c 1 (par t) 3 (X 1) (pg c T r t 3) ∗ flying c 1 (par t) 4 (X 1) (pg c T r t 4)
    ∗ flying c 1 (par t) 5 (X 1) (pg c T r t 5) ∗ flying c 1 (par t) 6 (X 1) (pg c T r t 6) ∗ flying c 1 (par t) 7 (X 1) (pg c T r t 7)
    ∗ (if t + 1 < n then aloft c T X r (t + 1) else slack c X (par (t + 1))) ∗ ∃ W, owes (c : Thread nD τ) O W)

set_option maxHeartbeats 4000000 in
/-- The start of the next chunk, if there is one, and the first two waits of this one. -/
theorem chunk_start {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256) (X : ∀ b, Arr (F := F) c b)
    (r : Fin k0_t1_loop.trips) (arg12 v v119 : BitVec 32) (hv : v.toNat ≤ 256) (hw : k0_chk9 r v) (t : Fin (k0_t2_loop v).trips) :
    RowInv c P O T X r (chunks v.toNat) t ⊢ wp frame (wpE (defs₀ (F := F)) 𝒱₀ (c : Thread nD τ) none) Set.univ
      (k0_part11 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 r arg12 v hw v119 0#32 1#32 t)
      fun x => iprop(⌜x.1 = Scf.iv 0#32 1#32 t.val⌝ ∗ midway c P O T X r (chunks v.toNat) t) := by
  have ht : t.val < chunks v.toNat := Nat.lt_of_lt_of_eq t.isLt (trips2_eq hv)
  have hn := chunks_le hv
  rw [k0_part11_eq_skeleton]
  unfold k0_part11_skel
  dsimp only
  unfold RowInv slots midway
  rw [if_pos ht]
  by_cases h2 : k0_cond2 v t = 1#1
  · have hk := (cond2_iff hv t).mp h2
    rw [dif_pos h2, if_pos hk, k0_part6_eq_skeleton, k0_part7_eq_skeleton, k0_part8_eq_skeleton, k0_part9_eq_skeleton, k0_part10_eq_skeleton]
    unfold k0_part6_skel k0_part7_skel k0_part8_skel k0_part9_skel k0_part10_skel
    iintro ⟨#HP, HT, ⟨⟨⟨k0, k1, k2, k3, k4, k5, k6, k7⟩, ⟨v0, v1, v2, v3, v4, v5, v6, v7⟩⟩, ⟨K0, K1, K2, K3, K4, K5, K6, K7⟩, ⟨V0, V1, V2, V3, V4, V5, V6, V7⟩⟩, ⟨%W, HO⟩⟩
    iapply (wp_fetch c T (colOff_eq hv r t 0 (by decide)) r.isLt (by omega)) $$ HT
    iintro HT
    iapply (wp_have c (fun _ => inb_page rfl (hT r.val (8 * (t.val + 1) + 0))))
    iapply (wp_start c 0 (par (t.val + 1)) 0 (pg c T r (t.val + 1) 0) (X 0) (page_eq₀ (pageOff (hT _ _))) (place_eq₀ (nextSlotOff_eq hv t 0)) (congrArg SemArray.sem (cell_eq (nextSemOff_eq hv 0 t 0)))) $$ K0
    iintro K0
    iapply (wp_start c 1 (par (t.val + 1)) 0 (pg c T r (t.val + 1) 0) (X 1) (page_eq₁ (pageOff (hT _ _))) (place_eq₁ (nextSlotOff_eq hv t 0)) (congrArg SemArray.sem (cell_eq (nextSemOff_eq hv 1 t 0)))) $$ V0
    iintro V0
    iapply (wp_fetch c T (colOff_eq hv r t 1 (by decide)) r.isLt (by omega)) $$ HT
    iintro HT
    iapply (wp_have c (fun _ => inb_page rfl (hT r.val (8 * (t.val + 1) + 1))))
    iapply (wp_start c 0 (par (t.val + 1)) 1 (pg c T r (t.val + 1) 1) (X 0) (page_eq₀ (pageOff (hT _ _))) (place_eq₀ (nextSlotOff_eq hv t 1)) (congrArg SemArray.sem (cell_eq (nextSemOff_eq hv 0 t 1)))) $$ K1
    iintro K1
    iapply (wp_start c 1 (par (t.val + 1)) 1 (pg c T r (t.val + 1) 1) (X 1) (page_eq₁ (pageOff (hT _ _))) (place_eq₁ (nextSlotOff_eq hv t 1)) (congrArg SemArray.sem (cell_eq (nextSemOff_eq hv 1 t 1)))) $$ V1
    iintro V1
    iapply (wp_fetch c T (colOff_eq hv r t 2 (by decide)) r.isLt (by omega)) $$ HT
    iintro HT
    iapply (wp_have c (fun _ => inb_page rfl (hT r.val (8 * (t.val + 1) + 2))))
    iapply (wp_start c 0 (par (t.val + 1)) 2 (pg c T r (t.val + 1) 2) (X 0) (page_eq₀ (pageOff (hT _ _))) (place_eq₀ (nextSlotOff_eq hv t 2)) (congrArg SemArray.sem (cell_eq (nextSemOff_eq hv 0 t 2)))) $$ K2
    iintro K2
    iapply (wp_start c 1 (par (t.val + 1)) 2 (pg c T r (t.val + 1) 2) (X 1) (page_eq₁ (pageOff (hT _ _))) (place_eq₁ (nextSlotOff_eq hv t 2)) (congrArg SemArray.sem (cell_eq (nextSemOff_eq hv 1 t 2)))) $$ V2
    iintro V2
    iapply (wp_fetch c T (colOff_eq hv r t 3 (by decide)) r.isLt (by omega)) $$ HT
    iintro HT
    iapply (wp_have c (fun _ => inb_page rfl (hT r.val (8 * (t.val + 1) + 3))))
    iapply (wp_start c 0 (par (t.val + 1)) 3 (pg c T r (t.val + 1) 3) (X 0) (page_eq₀ (pageOff (hT _ _))) (place_eq₀ (nextSlotOff_eq hv t 3)) (congrArg SemArray.sem (cell_eq (nextSemOff_eq hv 0 t 3)))) $$ K3
    iintro K3
    iapply (wp_start c 1 (par (t.val + 1)) 3 (pg c T r (t.val + 1) 3) (X 1) (page_eq₁ (pageOff (hT _ _))) (place_eq₁ (nextSlotOff_eq hv t 3)) (congrArg SemArray.sem (cell_eq (nextSemOff_eq hv 1 t 3)))) $$ V3
    iintro V3
    iapply (wp_fetch c T (colOff_eq hv r t 4 (by decide)) r.isLt (by omega)) $$ HT
    iintro HT
    iapply (wp_have c (fun _ => inb_page rfl (hT r.val (8 * (t.val + 1) + 4))))
    iapply (wp_start c 0 (par (t.val + 1)) 4 (pg c T r (t.val + 1) 4) (X 0) (page_eq₀ (pageOff (hT _ _))) (place_eq₀ (nextSlotOff_eq hv t 4)) (congrArg SemArray.sem (cell_eq (nextSemOff_eq hv 0 t 4)))) $$ K4
    iintro K4
    iapply (wp_start c 1 (par (t.val + 1)) 4 (pg c T r (t.val + 1) 4) (X 1) (page_eq₁ (pageOff (hT _ _))) (place_eq₁ (nextSlotOff_eq hv t 4)) (congrArg SemArray.sem (cell_eq (nextSemOff_eq hv 1 t 4)))) $$ V4
    iintro V4
    iapply (wp_fetch c T (colOff_eq hv r t 5 (by decide)) r.isLt (by omega)) $$ HT
    iintro HT
    iapply (wp_have c (fun _ => inb_page rfl (hT r.val (8 * (t.val + 1) + 5))))
    iapply (wp_start c 0 (par (t.val + 1)) 5 (pg c T r (t.val + 1) 5) (X 0) (page_eq₀ (pageOff (hT _ _))) (place_eq₀ (nextSlotOff_eq hv t 5)) (congrArg SemArray.sem (cell_eq (nextSemOff_eq hv 0 t 5)))) $$ K5
    iintro K5
    iapply (wp_start c 1 (par (t.val + 1)) 5 (pg c T r (t.val + 1) 5) (X 1) (page_eq₁ (pageOff (hT _ _))) (place_eq₁ (nextSlotOff_eq hv t 5)) (congrArg SemArray.sem (cell_eq (nextSemOff_eq hv 1 t 5)))) $$ V5
    iintro V5
    iapply (wp_fetch c T (colOff_eq hv r t 6 (by decide)) r.isLt (by omega)) $$ HT
    iintro HT
    iapply (wp_have c (fun _ => inb_page rfl (hT r.val (8 * (t.val + 1) + 6))))
    iapply (wp_start c 0 (par (t.val + 1)) 6 (pg c T r (t.val + 1) 6) (X 0) (page_eq₀ (pageOff (hT _ _))) (place_eq₀ (nextSlotOff_eq hv t 6)) (congrArg SemArray.sem (cell_eq (nextSemOff_eq hv 0 t 6)))) $$ K6
    iintro K6
    iapply (wp_start c 1 (par (t.val + 1)) 6 (pg c T r (t.val + 1) 6) (X 1) (page_eq₁ (pageOff (hT _ _))) (place_eq₁ (nextSlotOff_eq hv t 6)) (congrArg SemArray.sem (cell_eq (nextSemOff_eq hv 1 t 6)))) $$ V6
    iintro V6
    iapply (wp_fetch c T (colOff_eq hv r t 7 (by decide)) r.isLt (by omega)) $$ HT
    iintro HT
    iapply (wp_have c (fun _ => inb_page rfl (hT r.val (8 * (t.val + 1) + 7))))
    iapply (wp_start c 0 (par (t.val + 1)) 7 (pg c T r (t.val + 1) 7) (X 0) (page_eq₀ (pageOff (hT _ _))) (place_eq₀ (nextSlotOff_eq hv t 7)) (congrArg SemArray.sem (cell_eq (nextSemOff_eq hv 0 t 7)))) $$ K7
    iintro K7
    iapply (wp_start c 1 (par (t.val + 1)) 7 (pg c T r (t.val + 1) 7) (X 1) (page_eq₁ (pageOff (hT _ _))) (place_eq₁ (nextSlotOff_eq hv t 7)) (congrArg SemArray.sem (cell_eq (nextSemOff_eq hv 1 t 7)))) $$ V7
    iintro V7
    iapply (wp_wait c 0 (par t.val) 0 (pg c T r t.val 0) (X 0) (place_eq₀ (curSlotOff_eq hv t 0)) (congrArg SemArray.sem (cell_eq (curSemOff_eq hv 0 t 0)))) $$ [k0 HO]
    · iframe k0 HO; iapply (hP 0 (par t.val) 0); iexact HP
    iintro ⟨k0, HO⟩
    iapply (wp_wait c 1 (par t.val) 0 (pg c T r t.val 0) (X 1) (place_eq₁ (curSlotOff_eq hv t 0)) (congrArg SemArray.sem (cell_eq (curSemOff_eq hv 1 t 0)))) $$ [v0 HO]
    · iframe v0 HO; iapply (hP 1 (par t.val) 0); iexact HP
    iintro ⟨v0, HO⟩
    iapply (wp_end c (x := (⟨Scf.iv 0#32 1#32 t.val, Scalar.remsi (Scf.iv 0#32 1#32 t.val) 2#32⟩ : Σ' (_ : BitVec 32), BitVec 32)) rfl)
    isplitr; · ipureintro; rfl
    iframe HP HT
    iframe k0 k1 k2 k3 k4 k5 k6 k7 v0 v1 v2 v3 v4 v5 v6 v7 K0 K1 K2 K3 K4 K5 K6 K7 V0 V1 V2 V3 V4 V5 V6 V7
    iexists _; iexact HO
  · have hk := fun h => h2 ((cond2_iff hv t).mpr h)
    rw [dif_neg h2, if_neg hk]
    iintro ⟨#HP, HT, ⟨⟨⟨k0, k1, k2, k3, k4, k5, k6, k7⟩, ⟨v0, v1, v2, v3, v4, v5, v6, v7⟩⟩, HS⟩, ⟨%W, HO⟩⟩
    iapply (wp_wait c 0 (par t.val) 0 (pg c T r t.val 0) (X 0) (place_eq₀ (curSlotOff_eq hv t 0)) (congrArg SemArray.sem (cell_eq (curSemOff_eq hv 0 t 0)))) $$ [k0 HO]
    · iframe k0 HO; iapply (hP 0 (par t.val) 0); iexact HP
    iintro ⟨k0, HO⟩
    iapply (wp_wait c 1 (par t.val) 0 (pg c T r t.val 0) (X 1) (place_eq₁ (curSlotOff_eq hv t 0)) (congrArg SemArray.sem (cell_eq (curSemOff_eq hv 1 t 0)))) $$ [v0 HO]
    · iframe v0 HO; iapply (hP 1 (par t.val) 0); iexact HP
    iintro ⟨v0, HO⟩
    iapply (wp_end c (x := (⟨Scf.iv 0#32 1#32 t.val, Scalar.remsi (Scf.iv 0#32 1#32 t.val) 2#32⟩ : Σ' (_ : BitVec 32), BitVec 32)) rfl)
    isplitr; · ipureintro; rfl
    iframe HP HT HS
    iframe k0 k1 k2 k3 k4 k5 k6 k7 v0 v1 v2 v3 v4 v5 v6 v7
    iexists _; iexact HO

set_option maxHeartbeats 4000000 in
/-- A trip's chunk: from the slots before the trip to the slots before the next, with the carried values one step on. -/
theorem trip {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256) (X : ∀ b, Arr (F := F) c b)
    (r : Fin k0_t1_loop.trips) (arg12 v v119 : BitVec 32) (q : Vec F S1x1x16x128 .f32) (hv : v.toNat ≤ 256) (hw : k0_chk9 r v) (t : Fin (k0_t2_loop v).trips)
    (a : FVec F S16x1 .f32 × FVec F S16x1 .f32 × FVec F S16x128 .f32) :
    RowInv c P O T X r (chunks v.toNat) t ⊢ wp frame (wpE (defs₀ (F := F)) 𝒱₀ (c : Thread nD τ) none) Set.univ
      (k0_t2_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 k0_pay26 0#32 1#32 r arg12 v hw v119 q t a)
      fun a' => iprop(RowInv c P O T X r (chunks v.toNat) (t.val + 1) ∗ ⌜a' = chunkStep c T X r v q t a⌝) := by
  unfold k0_t2_body
  refine wp_seq c (chunk_start c hP T hT X r arg12 v v119 hv hw t) ?_
  rintro ⟨a13, v154⟩
  iintro ⟨%e, #HP, HT, k0, v0, k1, k2, k3, k4, k5, k6, k7, v1, v2, v3, v4, v5, v6, v7, HS, ⟨%W, HO⟩⟩
  have e : a13 = Scf.iv 0#32 1#32 t.val := e
  subst e
  rw [k0_part12_eq_skeleton, k0_part13_eq_skeleton, k0_part14_eq_skeleton, k0_part15_eq_skeleton, k0_part16_eq_skeleton]
  unfold k0_part12_skel k0_part13_skel k0_part14_skel k0_part15_skel k0_part16_skel
  iapply (wp_wait c 0 (par t.val) 1 (pg c T r t.val 1) (X 0) (place_eq₀ (curSlotOff_eq hv t 1)) (congrArg SemArray.sem (cell_eq (curSemOff_eq hv 0 t 1)))) $$ [k1 HO]
  · iframe k1 HO; iapply (hP 0 (par t.val) 1); iexact HP
  iintro ⟨k1, HO⟩
  iapply (wp_wait c 1 (par t.val) 1 (pg c T r t.val 1) (X 1) (place_eq₁ (curSlotOff_eq hv t 1)) (congrArg SemArray.sem (cell_eq (curSemOff_eq hv 1 t 1)))) $$ [v1 HO]
  · iframe v1 HO; iapply (hP 1 (par t.val) 1); iexact HP
  iintro ⟨v1, HO⟩
  iapply (wp_wait c 0 (par t.val) 2 (pg c T r t.val 2) (X 0) (place_eq₀ (curSlotOff_eq hv t 2)) (congrArg SemArray.sem (cell_eq (curSemOff_eq hv 0 t 2)))) $$ [k2 HO]
  · iframe k2 HO; iapply (hP 0 (par t.val) 2); iexact HP
  iintro ⟨k2, HO⟩
  iapply (wp_wait c 1 (par t.val) 2 (pg c T r t.val 2) (X 1) (place_eq₁ (curSlotOff_eq hv t 2)) (congrArg SemArray.sem (cell_eq (curSemOff_eq hv 1 t 2)))) $$ [v2 HO]
  · iframe v2 HO; iapply (hP 1 (par t.val) 2); iexact HP
  iintro ⟨v2, HO⟩
  iapply (wp_wait c 0 (par t.val) 3 (pg c T r t.val 3) (X 0) (place_eq₀ (curSlotOff_eq hv t 3)) (congrArg SemArray.sem (cell_eq (curSemOff_eq hv 0 t 3)))) $$ [k3 HO]
  · iframe k3 HO; iapply (hP 0 (par t.val) 3); iexact HP
  iintro ⟨k3, HO⟩
  iapply (wp_wait c 1 (par t.val) 3 (pg c T r t.val 3) (X 1) (place_eq₁ (curSlotOff_eq hv t 3)) (congrArg SemArray.sem (cell_eq (curSemOff_eq hv 1 t 3)))) $$ [v3 HO]
  · iframe v3 HO; iapply (hP 1 (par t.val) 3); iexact HP
  iintro ⟨v3, HO⟩
  iapply (wp_wait c 0 (par t.val) 4 (pg c T r t.val 4) (X 0) (place_eq₀ (curSlotOff_eq hv t 4)) (congrArg SemArray.sem (cell_eq (curSemOff_eq hv 0 t 4)))) $$ [k4 HO]
  · iframe k4 HO; iapply (hP 0 (par t.val) 4); iexact HP
  iintro ⟨k4, HO⟩
  iapply (wp_wait c 1 (par t.val) 4 (pg c T r t.val 4) (X 1) (place_eq₁ (curSlotOff_eq hv t 4)) (congrArg SemArray.sem (cell_eq (curSemOff_eq hv 1 t 4)))) $$ [v4 HO]
  · iframe v4 HO; iapply (hP 1 (par t.val) 4); iexact HP
  iintro ⟨v4, HO⟩
  iapply (wp_wait c 0 (par t.val) 5 (pg c T r t.val 5) (X 0) (place_eq₀ (curSlotOff_eq hv t 5)) (congrArg SemArray.sem (cell_eq (curSemOff_eq hv 0 t 5)))) $$ [k5 HO]
  · iframe k5 HO; iapply (hP 0 (par t.val) 5); iexact HP
  iintro ⟨k5, HO⟩
  iapply (wp_wait c 1 (par t.val) 5 (pg c T r t.val 5) (X 1) (place_eq₁ (curSlotOff_eq hv t 5)) (congrArg SemArray.sem (cell_eq (curSemOff_eq hv 1 t 5)))) $$ [v5 HO]
  · iframe v5 HO; iapply (hP 1 (par t.val) 5); iexact HP
  iintro ⟨v5, HO⟩
  iapply (wp_wait c 0 (par t.val) 6 (pg c T r t.val 6) (X 0) (place_eq₀ (curSlotOff_eq hv t 6)) (congrArg SemArray.sem (cell_eq (curSemOff_eq hv 0 t 6)))) $$ [k6 HO]
  · iframe k6 HO; iapply (hP 0 (par t.val) 6); iexact HP
  iintro ⟨k6, HO⟩
  iapply (wp_wait c 1 (par t.val) 6 (pg c T r t.val 6) (X 1) (place_eq₁ (curSlotOff_eq hv t 6)) (congrArg SemArray.sem (cell_eq (curSemOff_eq hv 1 t 6)))) $$ [v6 HO]
  · iframe v6 HO; iapply (hP 1 (par t.val) 6); iexact HP
  iintro ⟨v6, HO⟩
  iapply (wp_wait c 0 (par t.val) 7 (pg c T r t.val 7) (X 0) (place_eq₀ (curSlotOff_eq hv t 7)) (congrArg SemArray.sem (cell_eq (curSemOff_eq hv 0 t 7)))) $$ [k7 HO]
  · iframe k7 HO; iapply (hP 0 (par t.val) 7); iexact HP
  iintro ⟨k7, HO⟩
  iapply (wp_wait c 1 (par t.val) 7 (pg c T r t.val 7) (X 1) (place_eq₁ (curSlotOff_eq hv t 7)) (congrArg SemArray.sem (cell_eq (curSemOff_eq hv 1 t 7)))) $$ [v7 HO]
  · iframe v7 HO; iapply (hP 1 (par t.val) 7); iexact HP
  iintro ⟨v7, HO⟩
  ihave R := (ready_slot c 0 (par t.val) (X 0) (pg c T r t.val)) $$ [k0 k1 k2 k3 k4 k5 k6 k7]
  · iframe k0 k1 k2 k3 k4 k5 k6 k7
  icases R with ⟨HK, RK⟩
  ihave R := (ready_slot c 1 (par t.val) (X 1) (pg c T r t.val)) $$ [v0 v1 v2 v3 v4 v5 v6 v7]
  · iframe v0 v1 v2 v3 v4 v5 v6 v7
  icases R with ⟨HV, RV⟩
  iapply (wp_slot₀ c (par t.val) (X 0) (pg c T r t.val) (curSlotOff_eq hv t 0)) $$ HK
  iintro HK
  iapply (wp_slot₁ c (par t.val) (X 1) (pg c T r t.val) (curSlotOff_eq hv t 0)) $$ HV
  iintro HV
  iapply (wp_end c (x := chunkStep c T X r v q t a) rfl)
  isplitl
  · unfold RowInv slots
    iframe HP HT
    isplitr [HO]
    · iframe HS
      rw [par_succ]
      isplitl [HK RK]
      · iapply RK $$ HK
      · iapply RV $$ HV
    · iexists _; iexact HO
  · ipureintro; rfl

end Cert.PagedKernelIdeal
-- ==== Proof.KernelIdeal.Row.lean ====
/-
  A row of the batch: its first chunk started, its chunks taken in one after another, and its maximum, sum and weighted
  sum stored into the exchange buffer's own slot.
-/
module

public import proofs.«01_k».proof.Proof.KernelIdeal.Chunk

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- A load of what a whole buffer holds. -/
theorem wp_read {α : Type} {bd : Option 𝒱₀.V} {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} (f : Buf (Elt F) (m.view.loc (c : Thread nD τ))) (g : r.shape.Idx → Elt F e)
    (hg : (m.access r).read (Elt F) f = g) :
    (m.view.loc (c : Thread nD τ) ↦{q} f : sProp 𝕄) ⊢ iprop(((m.view.loc (c : Thread nD τ) ↦{q} f) -∗ wp frame (wpE (defs₀ (F := F)) 𝒱₀ (c : Thread nD τ) bd) Set.univ (k g) Q)
      -∗ wp frame (wpE (defs₀ (F := F)) 𝒱₀ (c : Thread nD τ) bd) Set.univ (.op (.load m r.toLoadRect hl) k) Q) := by
  subst hg
  exact wp_load_rect (Γ := []) (Q := Q) 𝒱₀ (c : Thread nD τ) bd Set.univ (defs := defs₀ (F := F)) (m := m) (r := r) (hl := hl) (k := k) (q := q) (f := f) (Finset.subset_univ _)

/-- A store into a buffer wholly held. -/
theorem wp_write {α : Type} {bd : Option 𝒱₀.V} {Q : α → sProp 𝕄} {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (f : Buf (Elt F) (m.view.loc (c : Thread nD τ))) :
    (m.view.loc (c : Thread nD τ) ↦{fullShare} f : sProp 𝕄) ⊢ iprop(((m.view.loc (c : Thread nD τ) ↦{fullShare} ((m.access r).write (Elt F) f w Finset.univ)) -∗ wp frame (wpE (defs₀ (F := F)) 𝒱₀ (c : Thread nD τ) bd) Set.univ (k ⟨⟩) Q)
      -∗ wp frame (wpE (defs₀ (F := F)) 𝒱₀ (c : Thread nD τ) bd) Set.univ (.op (.store m r w Finset.univ hx hm) k) Q) :=
  wp_store (Γ := []) (Q := Q) 𝒱₀ (c : Thread nD τ) bd Set.univ (defs := defs₀ (F := F)) (m := m) (r := r) (hx := hx) (hm := hm) (k := k) (w := w) (f := f) (Finset.subset_univ _)

/-! ## What a row reads -/

abbrev Cnt : Type := Buf (Elt F) (cntM.view.loc (c : Thread nD τ))
abbrev Qry : Type := Buf (Elt F) (qM.view.loc (c : Thread nD τ))
abbrev Com : Type := Buf (Elt F) (comM.view.loc (c : Thread nD τ))
abbrev cntP (N : Cnt (F := F) c) : sProp 𝕄 := cntM.view.loc (c : Thread nD τ) ↦{fullShare} N
abbrev qP (Q : Qry (F := F) c) : sProp 𝕄 := qM.view.loc (c : Thread nD τ) ↦{fullShare} Q
abbrev comP (f : Com (F := F) c) : sProp 𝕄 := comM.view.loc (c : Thread nD τ) ↦{fullShare} f

/-- The number of pages row `r` has on the device. -/
def count (N : Cnt (F := F) c) (r : ℕ) : BitVec 32 := N (ix1 (n := 32) (Fin.ofNat 32 r))
def countWord (N : Cnt (F := F) c) (r : ℕ) : Elt F .i32 := count c N r
/-- Row `r` of the queries. -/
def query (Q : Qry (F := F) c) (r : ℕ) : Vec F S1x1x16x128 .f32 := fun x => Q (ix4 (n0 := 32) (n1 := 1) (n2 := 16) (n3 := 128) (Fin.ofNat 32 r) 0 (x 2) (x 3))

theorem count_idx {r : ℕ} (h : ∀ a, (![r] : Fin 1 → ℕ) a + S1.size a ≤ S32.size a) (hr : r < 32) (x : S1.Idx) :
    (Rect.unit (s := S32) ![r] S1.size h).idx x = ix1 (n := 32) (Fin.ofNat 32 r) := by
  funext a
  apply Fin.ext
  have h0 : (x 0).val = 0 := by have := (x 0).isLt; simp at this; omega
  fin_cases a; simp [LoadRect.idx, Rect.unit, ix1, h0, Nat.mod_eq_of_lt hr]
theorem count_read (N : Cnt (F := F) c) {o : Fin 1 → ℕ} {h : ∀ a, o a + S1.size a ≤ S32.size a} {r : ℕ} (e : o = ![r]) (hr : r < 32) :
    (cntM.access (Rect.unit (s := S32) o S1.size h)).read (Elt F) N = fun _ => countWord c N r := by
  subst e; funext x; exact congrArg N (count_idx h hr x)
theorem query_idx {r : ℕ} (h : ∀ a, (![r, 0, 0, 0] : Fin 4 → ℕ) a + S1x1x16x128.size a ≤ S32x1x16x128.size a) (hr : r < 32) (x : S1x1x16x128.Idx) :
    (Rect.unit (s := S32x1x16x128) ![r, 0, 0, 0] S1x1x16x128.size h).idx x = ix4 (n0 := 32) (n1 := 1) (n2 := 16) (n3 := 128) (Fin.ofNat 32 r) 0 (x 2) (x 3) := by
  funext a
  apply Fin.ext
  have h0 : (x 0).val = 0 := by have := (x 0).isLt; simp at this; omega
  have h1 : (x 1).val = 0 := by have := (x 1).isLt; simp at this; omega
  fin_cases a <;> simp [LoadRect.idx, Rect.unit, ix4, h0, h1, Nat.mod_eq_of_lt hr]
theorem query_read (Q : Qry (F := F) c) {o : Fin 4 → ℕ} {h : ∀ a, o a + S1x1x16x128.size a ≤ S32x1x16x128.size a} {r : ℕ} (e : o = ![r, 0, 0, 0]) (hr : r < 32) :
    (qM.access (Rect.unit (s := S32x1x16x128) o S1x1x16x128.size h)).read (Elt F) Q = query c Q r := by
  subst e; funext x; exact congrArg Q (query_idx h hr x)

/-! ## What a row stores -/

theorem row_idx {k : Fin 3} {r : Fin 32} (h : ∀ a, (![0, k.val, r.val, 0, 0] : Fin 5 → ℕ) a + S1x1x1x16x128.size a ≤ S4x3x32x16x128.size a) (x : S1x1x1x16x128.Idx) :
    (Rect.unit (s := S4x3x32x16x128) ![0, k.val, r.val, 0, 0] S1x1x1x16x128.size h).idx x = ix5 (n0 := 4) (n1 := 3) (n2 := 32) (n3 := 16) (n4 := 128) 0 k r (x 3) (x 4) := by
  funext a
  apply Fin.ext
  have h0 : (x 0).val = 0 := by have := (x 0).isLt; simp at this; omega
  have h1 : (x 1).val = 0 := by have := (x 1).isLt; simp at this; omega
  have h2 : (x 2).val = 0 := by have := (x 2).isLt; simp at this; omega
  fin_cases a <;> simp [LoadRect.idx, Rect.unit, ix5, h0, h1, h2]

/-- The store of lane `k` of row `r`: there the stored values, elsewhere what was there. -/
theorem row_write (f : Com (F := F) c) (w : S1x1x1x16x128.Idx → F .f32) {o : Fin 5 → ℕ} {h : ∀ a, o a + S1x1x1x16x128.size a ≤ S4x3x32x16x128.size a} (k : Fin 3) (r : Fin 32)
    (e : o = ![0, k.val, r.val, 0, 0]) (k' : Fin 3) (r' : Fin 32) (hd : Fin 16) (d : Fin 128) :
    ((comM.access (Rect.unit (s := S4x3x32x16x128) o S1x1x1x16x128.size h)).write (Elt F) f w Finset.univ : Com (F := F) c) (ix5 (n0 := 4) (n1 := 3) (n2 := 32) (n3 := 16) (n4 := 128) 0 k' r' hd d)
      = if k' = k ∧ r' = r then w (ix5 (n0 := 1) (n1 := 1) (n2 := 1) (n3 := 16) (n4 := 128) 0 0 0 hd d) else f (ix5 (n0 := 4) (n1 := 3) (n2 := 32) (n3 := 16) (n4 := 128) 0 k' r' hd d) := by
  subst e
  by_cases hk : k' = k ∧ r' = r
  · rw [if_pos hk]
    obtain ⟨rfl, rfl⟩ := hk
    have hi := row_idx h (ix5 (n0 := 1) (n1 := 1) (n2 := 1) (n3 := 16) (n4 := 128) 0 0 0 hd d)
    have := View.write_emb_of_mem (v := comM.access (Rect.unit (s := S4x3x32x16x128) ![0, k'.val, r'.val, 0, 0] S1x1x1x16x128.size h)) (Val := Elt F) f w (Finset.mem_univ (ix5 (n0 := 1) (n1 := 1) (n2 := 1) (n3 := 16) (n4 := 128) 0 0 0 hd d))
    refine Eq.trans (congrArg _ hi.symm) this
  · rw [if_neg hk]
    refine View.write_of_not_mem (v := comM.access (Rect.unit (s := S4x3x32x16x128) ![0, k.val, r.val, 0, 0] S1x1x1x16x128.size h)) (Val := Elt F) f w Finset.univ ?_
    intro hm
    obtain ⟨x, -, hx⟩ := Finset.mem_map.mp hm
    have hx := (row_idx h x).symm.trans hx
    exact hk ⟨(congrFun hx 1).symm, (congrFun hx 2).symm⟩

/-- What a row stores: its weighted sum, its maximum and its sum of weights, the latter two across the lanes. -/
def rowOut (a : FVec F S16x1 .f32 × FVec F S16x1 .f32 × FVec F S16x128 .f32) : Fin 3 → FVec F S1x1x1x16x128 .f32
  | 0 => k0_pay24 a.2.2
  | 1 => k0_pay27 (k0_pay25 a.1)
  | 2 => k0_pay28 a.2.1

/-- The partials of row `r` that a device computes. -/
def rowEnd (T : Tab (F := F) c) (N : Cnt (F := F) c) (X : ∀ b, Arr (F := F) c b) (Q : Qry (F := F) c) (r : ℕ) : FVec F S16x1 .f32 × FVec F S16x1 .f32 × FVec F S16x128 .f32 :=
  carry c T X r (count c N r) (query c Q r) (chunks (count c N r).toNat)
def partials (T : Tab (F := F) c) (N : Cnt (F := F) c) (X : ∀ b, Arr (F := F) c b) (Q : Qry (F := F) c) (k : Fin 3) (r : Fin 32) (h : Fin 16) (d : Fin 128) : F .f32 :=
  rowOut (rowEnd c T N X Q r.val) k (ix5 (n0 := 1) (n1 := 1) (n2 := 1) (n3 := 16) (n4 := 128) 0 0 0 h d)

/-- The first `n` rows are in. -/
def Done (T : Tab (F := F) c) (N : Cnt (F := F) c) (X : ∀ b, Arr (F := F) c b) (Q : Qry (F := F) c) (n : ℕ) (f : Com (F := F) c) : Prop :=
  ∀ (k : Fin 3) (r : Fin 32) (h : Fin 16) (d : Fin 128), r.val < n → f (ix5 (n0 := 4) (n1 := 3) (n2 := 32) (n3 := 16) (n4 := 128) 0 k r h d) = partials c T N X Q k r h d

theorem done_succ (T : Tab (F := F) c) (N : Cnt (F := F) c) (X : ∀ b, Arr (F := F) c b) (Q : Qry (F := F) c) (r : Fin 32) (f : Com (F := F) c) (hf : Done c T N X Q r f)
    {o₀ o₁ o₂ : Fin 5 → ℕ} {h₀ : ∀ a, o₀ a + S1x1x1x16x128.size a ≤ S4x3x32x16x128.size a} {h₁ : ∀ a, o₁ a + S1x1x1x16x128.size a ≤ S4x3x32x16x128.size a} {h₂ : ∀ a, o₂ a + S1x1x1x16x128.size a ≤ S4x3x32x16x128.size a}
    (e₀ : o₀ = ![0, 0, r.val, 0, 0]) (e₁ : o₁ = ![0, 1, r.val, 0, 0]) (e₂ : o₂ = ![0, 2, r.val, 0, 0]) :
    Done c T N X Q (r.val + 1)
      ((comM.access (Rect.unit (s := S4x3x32x16x128) o₂ S1x1x1x16x128.size h₂)).write (Elt F)
        ((comM.access (Rect.unit (s := S4x3x32x16x128) o₁ S1x1x1x16x128.size h₁)).write (Elt F)
          ((comM.access (Rect.unit (s := S4x3x32x16x128) o₀ S1x1x1x16x128.size h₀)).write (Elt F) f (k0_pay24 (rowEnd c T N X Q r).2.2) Finset.univ)
          (k0_pay27 (k0_pay25 (rowEnd c T N X Q r).1)) Finset.univ)
        (k0_pay28 (rowEnd c T N X Q r).2.1) Finset.univ) := by
  intro k r' h d hr'
  refine (row_write c _ _ 2 r e₂ k r' h d).trans ?_
  by_cases hk2 : k = 2 ∧ r' = r
  · rw [if_pos hk2]; obtain ⟨rfl, rfl⟩ := hk2; rfl
  rw [if_neg hk2]
  refine (row_write c _ _ 1 r e₁ k r' h d).trans ?_
  by_cases hk1 : k = 1 ∧ r' = r
  · rw [if_pos hk1]; obtain ⟨rfl, rfl⟩ := hk1; rfl
  rw [if_neg hk1]
  refine (row_write c _ _ 0 r e₀ k r' h d).trans ?_
  by_cases hk0 : k = 0 ∧ r' = r
  · rw [if_pos hk0]; obtain ⟨rfl, rfl⟩ := hk0; rfl
  rw [if_neg hk0]
  refine hf k r' h d ?_
  have : r' ≠ r := by
    rintro rfl
    have h3 : k ≠ 2 := fun e => hk2 ⟨e, rfl⟩
    have h4 : k ≠ 1 := fun e => hk1 ⟨e, rfl⟩
    have h5 : k ≠ 0 := fun e => hk0 ⟨e, rfl⟩
    omega
  omega

/-! ## The loops -/

theorem slots_zero (T : Tab (F := F) c) (X : ∀ b, Arr (F := F) c b) (r : ℕ) : iprop(slack c X 0 ∗ slack c X 1) ⊢ slots c T X r 0 0 := by
  unfold slots
  rw [if_neg (Nat.lt_irrefl 0)]
  exact Entails.refl _

theorem slots_end (T : Tab (F := F) c) (X : ∀ b, Arr (F := F) c b) (r n : ℕ) : slots c T X r n n ⊢ iprop(slack c X 0 ∗ slack c X 1) := by
  unfold slots
  rw [if_neg (Nat.lt_irrefl n)]
  rcases Nat.mod_two_eq_zero_or_one n with h | h
  · rw [show par n = 0 from Fin.ext h, show par (n + 1) = 1 from Fin.ext (by show (n + 1) % 2 = 1; omega)]
  · rw [show par n = 1 from Fin.ext h, show par (n + 1) = 0 from Fin.ext (by show (n + 1) % 2 = 0; omega)]
    iintro ⟨H, H'⟩
    isplitl [H'] <;> iassumption

/-- A row's chunks, one after another. -/
theorem wp_chunks {α : Type} {Φ : α → sProp 𝕄} {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256) (X : ∀ b, Arr (F := F) c b)
    (r : Fin k0_t1_loop.trips) (arg12 v v119 : BitVec 32) (q : Vec F S1x1x16x128 .f32) (hv : v.toNat ≤ 256) (hw : k0_chk9 r v) {hok : (k0_t2_loop v).OK}
    {kk : FVec F S16x1 .f32 × FVec F S16x1 .f32 × FVec F S16x128 .f32 → Prog (TpuEff nD τ sig (Elt F) Λ₀ .tc) α} :
    RowInv c P O T X r (chunks v.toNat) 0 ⊢ iprop((RowInv c P O T X r (chunks v.toNat) (chunks v.toNat) -∗ wp frame (wpE (defs₀ (F := F)) 𝒱₀ (c : Thread nD τ) none) Set.univ (kk (carry c T X r v q (chunks v.toNat))) Φ)
      -∗ wp frame (wpE (defs₀ (F := F)) 𝒱₀ (c : Thread nD τ) none) Set.univ (Scf.Loop.for (k0_t2_loop v) hok (k0_pay19 (F := F), k0_pay20 (F := F), k0_pay21 (F := F))
        (k0_t2_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 k0_pay26 0#32 1#32 r arg12 v hw v119 q) >>= kk) Φ) := by
  have H := Scf.wp_for_bind (Q := Φ) (kk := kk) frame (wpE (defs₀ (F := F)) 𝒱₀ (c : Thread nD τ) none) Set.univ (k0_t2_loop v).lb (k0_t2_loop v).ub (k0_t2_loop v).st hok (k0_pay19 (F := F), k0_pay20 (F := F), k0_pay21 (F := F))
    (k0_t2_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 k0_pay26 0#32 1#32 r arg12 v hw v119 q)
    (fun t a => iprop(RowInv c P O T X r (chunks v.toNat) t ∗ ⌜a = carry c T X r v q t⌝)) (fun t a => by
      iintro ⟨H, %e⟩
      subst e
      iapply (trip c hP T hT X r arg12 v v119 q hv hw t _) $$ H)
  have ht : Scf.trips (k0_t2_loop v).lb (k0_t2_loop v).ub (k0_t2_loop v).st = chunks v.toNat := trips2_eq hv
  rw [ht] at H
  iintro HI HK
  iapply H $$ [HI]
  · isplitl; · iexact HI
    ipureintro; rfl
  iintro %acc ⟨HI, %e⟩
  subst e
  iapply HK $$ HI

/-- The loop past the chunks makes no trip. -/
theorem wp_norest {α : Type} {Φ : α → sProp 𝕄} (r : Fin k0_t1_loop.trips) (arg12 v v119 v135 : BitVec 32) (q : Vec F S1x1x16x128 .f32) (hv : v.toNat ≤ 256) (hw : k0_chk9 r v) {hok : (k0_t3_loop v).OK}
    (a : FVec F S16x1 .f32 × FVec F S16x1 .f32 × FVec F S16x128 .f32)
    {kk : FVec F S16x1 .f32 × FVec F S16x1 .f32 × FVec F S16x128 .f32 → Prog (TpuEff nD τ sig (Elt F) Λ₀ .tc) α} :
    wp frame (wpE (defs₀ (F := F)) 𝒱₀ (c : Thread nD τ) none) Set.univ (kk a) Φ
      ⊢ wp frame (wpE (defs₀ (F := F)) 𝒱₀ (c : Thread nD τ) none) Set.univ (Scf.Loop.for (k0_t3_loop v) hok a
        (k0_t3_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 k0_pay26 0#32 1#32 r arg12 v hw v119 q v135) >>= kk) Φ := by
  have H := Scf.wp_for_bind (Q := Φ) (kk := kk) frame (wpE (defs₀ (F := F)) 𝒱₀ (c : Thread nD τ) none) Set.univ (k0_t3_loop v).lb (k0_t3_loop v).ub (k0_t3_loop v).st hok a
    (k0_t3_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 k0_pay26 0#32 1#32 r arg12 v hw v119 q v135)
    (fun _ a' => iprop(⌜a' = a⌝)) (fun t _ => absurd (Nat.lt_of_lt_of_eq t.isLt (trips3_eq hv)) (Nat.not_lt_zero _))
  iintro HK
  iapply H $$ []
  · ipureintro; rfl
  iintro %acc %e
  subst e
  iexact HK

/-- What a row leaves to the next. -/
abbrev BatchInv (P : sProp 𝕄) (O : CellTallies nD τ sig Unit) (T : Tab (F := F) c) (N : Cnt (F := F) c) (X : ∀ b, Arr (F := F) c b) (Q : Qry (F := F) c) (n : ℕ) : sProp 𝕄 :=
  iprop(P ∗ tabP c T ∗ cntP c N ∗ qP c Q ∗ (slack c X 0 ∗ slack c X 1) ∗ (∃ W, owes (c : Thread nD τ) O W) ∗ ∃ f, comP c f ∗ ⌜Done c T N X Q n f⌝)

end Cert.PagedKernelIdeal
-- ==== Proof.KernelIdeal.Batch.lean ====
/-
  The batch: a row from start to end, and all rows one after another.
-/
module

public import proofs.«01_k».proof.Proof.KernelIdeal.Row

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- Two programs in a row. -/
theorem wp_next {α β : Type} {bd : Option 𝒱₀.V} {P : sProp 𝕄} {R : α → sProp 𝕄} {Q : β → sProp 𝕄} {p : Prog (TpuEff nD τ sig (Elt F) Λ₀ .tc) α}
    {k : α → Prog (TpuEff nD τ sig (Elt F) Λ₀ .tc) β}
    (h : P ⊢ wp frame (wpE (defs₀ (F := F)) 𝒱₀ (c : Thread nD τ) bd) Set.univ p R) :
    P ⊢ iprop((∀ x, R x -∗ wp frame (wpE (defs₀ (F := F)) 𝒱₀ (c : Thread nD τ) bd) Set.univ (k x) Q)
      -∗ wp frame (wpE (defs₀ (F := F)) 𝒱₀ (c : Thread nD τ) bd) Set.univ (p >>= k) Q) := by
  rw [wp_bind]
  exact h.trans (wp_wand _ _ _)

/-- The staging buffer once a row's weighted sum is stored. -/
def rowMid (T : Tab (F := F) c) (N : Cnt (F := F) c) (X : ∀ b, Arr (F := F) c b) (Q : Qry (F := F) c) (r : Fin k0_t1_loop.trips) (f : Com (F := F) c) : Com (F := F) c :=
  (comM.access (Rect.unit (s := S4x3x32x16x128) (k0_off165 r) S1x1x1x16x128.size (k0_off165_inb r))).write (Elt F) f (k0_pay24 (rowEnd c T N X Q r.val).2.2) Finset.univ

set_option maxHeartbeats 4000000 in
/-- A row up to the store of its weighted sum. -/
theorem row_first {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256)
    (N : Cnt (F := F) c) (hN : ∀ r, (count c N r).toNat ≤ 256) (X : ∀ b, Arr (F := F) c b) (Q : Qry (F := F) c) (r : Fin k0_t1_loop.trips) (f : Com (F := F) c) :
    iprop(P ∗ tabP c T ∗ cntP c N ∗ qP c Q ∗ (slack c X 0 ∗ slack c X 1) ∗ (∃ W, owes (c : Thread nD τ) O W) ∗ comP c f) ⊢ wp frame (wpE (defs₀ (F := F)) 𝒱₀ (c : Thread nD τ) none) Set.univ
      (k0_part28 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 (k0_pay26 (F := F)) 0#32 1#32 r)
      (fun x => iprop(P ∗ tabP c T ∗ cntP c N ∗ qP c Q ∗ (slack c X 0 ∗ slack c X 1) ∗ (∃ W, owes (c : Thread nD τ) O W) ∗ comP c (rowMid c T N X Q r f)
        ∗ ⌜x = ⟨Scf.iv 0#32 1#32 r.val, (rowEnd c T N X Q r.val).2.1, k0_pay25 (rowEnd c T N X Q r.val).1⟩⌝)) := by
  have hv := hN r.val
  rw [k0_part28_eq_skeleton]
  unfold k0_part28_skel
  iintro ⟨#HP, HT, HN, HQ, ⟨HS, HS'⟩, ⟨%W, HO⟩, HC⟩
  iapply (wp_read c N _ (count_read c N (k0_off1_eq r) r.isLt)) $$ HN
  iintro HN
  iapply (wp_have c (chk9_of_le hv r))
  iapply (wp_read c Q _ (query_read c Q (k0_off2_eq r) r.isLt)) $$ HQ
  iintro HQ
  have hv : (countWord c N r.val).toNat ≤ 256 := hv
  have hn := chunks_le hv
  dsimp only
  by_cases h1 : k0_cond1 (countWord c N r.val) = 1#1
  · have hk := (cond1_iff hv).mp h1
    simp only [dif_pos h1]
    rw [k0_part1_eq_skeleton, k0_part2_eq_skeleton, k0_part3_eq_skeleton, k0_part4_eq_skeleton, k0_part5_eq_skeleton]
    unfold k0_part1_skel k0_part2_skel k0_part3_skel k0_part4_skel k0_part5_skel
    icases HS with ⟨⟨K0, K1, K2, K3, K4, K5, K6, K7⟩, ⟨V0, V1, V2, V3, V4, V5, V6, V7⟩⟩
    iapply (wp_fetch c T (k0_off3_eq r) r.isLt (by decide)) $$ HT
    iintro HT
    iapply (wp_have c (fun _ => inb_page rfl (hT r.val 0)))
    iapply (wp_start c 0 0 0 (pg c T r 0 0) (X 0) (page_eq₀ (pageOff (hT _ _))) (place_eq₀ rfl) (congrArg SemArray.sem (cell_eq rfl))) $$ K0
    iintro K0
    iapply (wp_start c 1 0 0 (pg c T r 0 0) (X 1) (page_eq₁ (pageOff (hT _ _))) (place_eq₁ rfl) (congrArg SemArray.sem (cell_eq rfl))) $$ V0
    iintro V0
    iapply (wp_fetch c T (k0_off5_eq r) r.isLt (by decide)) $$ HT
    iintro HT
    iapply (wp_have c (fun _ => inb_page rfl (hT r.val 1)))
    iapply (wp_start c 0 0 1 (pg c T r 0 1) (X 0) (page_eq₀ (pageOff (hT _ _))) (place_eq₀ rfl) (congrArg SemArray.sem (cell_eq rfl))) $$ K1
    iintro K1
    iapply (wp_start c 1 0 1 (pg c T r 0 1) (X 1) (page_eq₁ (pageOff (hT _ _))) (place_eq₁ rfl) (congrArg SemArray.sem (cell_eq rfl))) $$ V1
    iintro V1
    iapply (wp_fetch c T (k0_off7_eq r) r.isLt (by decide)) $$ HT
    iintro HT
    iapply (wp_have c (fun _ => inb_page rfl (hT r.val 2)))
    iapply (wp_start c 0 0 2 (pg c T r 0 2) (X 0) (page_eq₀ (pageOff (hT _ _))) (place_eq₀ rfl) (congrArg SemArray.sem (cell_eq rfl))) $$ K2
    iintro K2
    iapply (wp_start c 1 0 2 (pg c T r 0 2) (X 1) (page_eq₁ (pageOff (hT _ _))) (place_eq₁ rfl) (congrArg SemArray.sem (cell_eq rfl))) $$ V2
    iintro V2
    iapply (wp_fetch c T (k0_off9_eq r) r.isLt (by decide)) $$ HT
    iintro HT
    iapply (wp_have c (fun _ => inb_page rfl (hT r.val 3)))
    iapply (wp_start c 0 0 3 (pg c T r 0 3) (X 0) (page_eq₀ (pageOff (hT _ _))) (place_eq₀ rfl) (congrArg SemArray.sem (cell_eq rfl))) $$ K3
    iintro K3
    iapply (wp_start c 1 0 3 (pg c T r 0 3) (X 1) (page_eq₁ (pageOff (hT _ _))) (place_eq₁ rfl) (congrArg SemArray.sem (cell_eq rfl))) $$ V3
    iintro V3
    iapply (wp_fetch c T (k0_off11_eq r) r.isLt (by decide)) $$ HT
    iintro HT
    iapply (wp_have c (fun _ => inb_page rfl (hT r.val 4)))
    iapply (wp_start c 0 0 4 (pg c T r 0 4) (X 0) (page_eq₀ (pageOff (hT _ _))) (place_eq₀ rfl) (congrArg SemArray.sem (cell_eq rfl))) $$ K4
    iintro K4
    iapply (wp_start c 1 0 4 (pg c T r 0 4) (X 1) (page_eq₁ (pageOff (hT _ _))) (place_eq₁ rfl) (congrArg SemArray.sem (cell_eq rfl))) $$ V4
    iintro V4
    iapply (wp_fetch c T (k0_off13_eq r) r.isLt (by decide)) $$ HT
    iintro HT
    iapply (wp_have c (fun _ => inb_page rfl (hT r.val 5)))
    iapply (wp_start c 0 0 5 (pg c T r 0 5) (X 0) (page_eq₀ (pageOff (hT _ _))) (place_eq₀ rfl) (congrArg SemArray.sem (cell_eq rfl))) $$ K5
    iintro K5
    iapply (wp_start c 1 0 5 (pg c T r 0 5) (X 1) (page_eq₁ (pageOff (hT _ _))) (place_eq₁ rfl) (congrArg SemArray.sem (cell_eq rfl))) $$ V5
    iintro V5
    iapply (wp_fetch c T (k0_off15_eq r) r.isLt (by decide)) $$ HT
    iintro HT
    iapply (wp_have c (fun _ => inb_page rfl (hT r.val 6)))
    iapply (wp_start c 0 0 6 (pg c T r 0 6) (X 0) (page_eq₀ (pageOff (hT _ _))) (place_eq₀ rfl) (congrArg SemArray.sem (cell_eq rfl))) $$ K6
    iintro K6
    iapply (wp_start c 1 0 6 (pg c T r 0 6) (X 1) (page_eq₁ (pageOff (hT _ _))) (place_eq₁ rfl) (congrArg SemArray.sem (cell_eq rfl))) $$ V6
    iintro V6
    iapply (wp_fetch c T (k0_off17_eq r) r.isLt (by decide)) $$ HT
    iintro HT
    iapply (wp_have c (fun _ => inb_page rfl (hT r.val 7)))
    iapply (wp_start c 0 0 7 (pg c T r 0 7) (X 0) (page_eq₀ (pageOff (hT _ _))) (place_eq₀ rfl) (congrArg SemArray.sem (cell_eq rfl))) $$ K7
    iintro K7
    iapply (wp_start c 1 0 7 (pg c T r 0 7) (X 1) (page_eq₁ (pageOff (hT _ _))) (place_eq₁ rfl) (congrArg SemArray.sem (cell_eq rfl))) $$ V7
    iintro V7
    ihave HL : slots c T X r.val (chunks (countWord c N r.val).toNat) 0 $$ [K0 K1 K2 K3 K4 K5 K6 K7 V0 V1 V2 V3 V4 V5 V6 V7 HS']
    · unfold slots aloft
      rw [if_pos hk, show par 0 = 0 from rfl, show par (0 + 1) = 1 from rfl]
      iframe HS' K0 K1 K2 K3 K4 K5 K6 K7 V0 V1 V2 V3 V4 V5 V6 V7
    iapply (wp_chunks c hP T hT X r _ _ _ _ hv _) $$ [HT HL HO]
    · iframe HP HT HL
      iexists _; iexact HO
    iintro ⟨-, HT, HL, ⟨%W', HO⟩⟩
    iapply (wp_norest c r _ _ _ _ _ hv _ _)
    iapply (wp_read c _ _ rfl) $$ HC
    iintro HC
    iapply (wp_write c _) $$ HC
    iintro HC
    iapply (wp_read c _ _ rfl) $$ HC
    iintro HC
    iapply (wp_end c (x := (⟨Scf.iv 0#32 1#32 r.val, ⟨(rowEnd c T N X Q r.val).2.1, k0_pay25 (rowEnd c T N X Q r.val).1⟩⟩ : Σ' (_ : BitVec 32) (_ : FVec F S16x1 .f32), FVec F S16x128 .f32)) rfl)
    iframe HP HT HN HQ
    isplitl [HL]
    · iapply (slots_end c T X r.val _) $$ HL
    isplitl [HO]
    · iexists _; iexact HO
    isplitl [HC]
    · iexact HC
    ipureintro
    rfl
  · have hk : chunks (countWord c N r.val).toNat = 0 := Nat.eq_zero_of_not_pos fun h => h1 ((cond1_iff hv).mpr h)
    simp only [dif_neg h1]
    ihave HL : slots c T X r.val (chunks (countWord c N r.val).toNat) 0 $$ [HS HS']
    · rw [hk]
      iapply (slots_zero c T X r.val)
      iframe HS HS'
    iapply (wp_chunks c hP T hT X r _ _ _ _ hv _) $$ [HT HL HO]
    · iframe HP HT HL
      iexists _; iexact HO
    iintro ⟨-, HT, HL, ⟨%W', HO⟩⟩
    iapply (wp_norest c r _ _ _ _ _ hv _ _)
    iapply (wp_read c _ _ rfl) $$ HC
    iintro HC
    iapply (wp_write c _) $$ HC
    iintro HC
    iapply (wp_read c _ _ rfl) $$ HC
    iintro HC
    iapply (wp_end c (x := (⟨Scf.iv 0#32 1#32 r.val, ⟨(rowEnd c T N X Q r.val).2.1, k0_pay25 (rowEnd c T N X Q r.val).1⟩⟩ : Σ' (_ : BitVec 32) (_ : FVec F S16x1 .f32), FVec F S16x128 .f32)) rfl)
    iframe HP HT HN HQ
    isplitl [HL]
    · iapply (slots_end c T X r.val _) $$ HL
    isplitl [HO]
    · iexists _; iexact HO
    isplitl [HC]
    · iexact HC
    ipureintro
    rfl

set_option maxHeartbeats 4000000 in
/-- A row. -/
theorem row {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256)
    (N : Cnt (F := F) c) (hN : ∀ r, (count c N r).toNat ≤ 256) (X : ∀ b, Arr (F := F) c b) (Q : Qry (F := F) c) (r : Fin k0_t1_loop.trips) :
    BatchInv c P O T N X Q r ⊢ wp frame (wpE (defs₀ (F := F)) 𝒱₀ (c : Thread nD τ) none) Set.univ
      (k0_t1_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 r ()) (fun _ => BatchInv c P O T N X Q (r + 1)) := by
  unfold k0_t1_body BatchInv
  iintro ⟨#HP, HT, HN, HQ, HS, HO, ⟨%f, HC, %hf⟩⟩
  iapply (wp_next c (row_first c hP T hT N hN X Q r f)) $$ [HT HN HQ HS HO HC]
  · iframe HP HT HN HQ HS HO HC
  iintro %x ⟨-, HT, HN, HQ, HS, HO, HC, %e⟩
  obtain ⟨a, b, d⟩ := x
  have e1 : b = (rowEnd c T N X Q r.val).2.1 := congrArg (fun x : (Σ' (_ : BitVec 32) (_ : FVec F S16x1 .f32), FVec F S16x128 .f32) => x.2.1) e
  have e2 : d = k0_pay25 (rowEnd c T N X Q r.val).1 := congrArg (fun x : (Σ' (_ : BitVec 32) (_ : FVec F S16x1 .f32), FVec F S16x128 .f32) => x.2.2) e
  subst e1; subst e2
  iapply (wp_write c _) $$ HC
  iintro HC
  iapply (wp_read c _ _ rfl) $$ HC
  iintro HC
  iapply (wp_write c _) $$ HC
  iintro HC
  iapply (wp_end c (x := PUnit.unit) rfl)
  iframe HP HT HN HQ HS HO
  iexists _
  isplitl [HC]
  · iexact HC
  ipureintro
  exact done_succ c T N X Q r f hf (k0_off165_eq r) (k0_off166_eq r) (k0_off167_eq r)

set_option maxHeartbeats 4000000 in
/-- All rows. -/
theorem batch {α : Type} {Φ : α → sProp 𝕄} {P : sProp 𝕄} [Persistent P] {O : CellTallies nD τ sig Unit} (hP : ∀ b s j, P ⊢ MayWait (c : Thread nD τ) (.dma (cell b s j).sem) () O) (T : Tab (F := F) c) (hT : ∀ r p, (entry c T r p).toNat < 256)
    (N : Cnt (F := F) c) (hN : ∀ r, (count c N r).toNat ≤ 256) (X : ∀ b, Arr (F := F) c b) (Q : Qry (F := F) c) {hok : k0_t1_loop.OK} {kk : Unit → Prog (TpuEff nD τ sig (Elt F) Λ₀ .tc) α} :
    BatchInv c P O T N X Q 0 ⊢ iprop((BatchInv c P O T N X Q 32 -∗ wp frame (wpE (defs₀ (F := F)) 𝒱₀ (c : Thread nD τ) none) Set.univ (kk ()) Φ)
      -∗ wp frame (wpE (defs₀ (F := F)) 𝒱₀ (c : Thread nD τ) none) Set.univ (Scf.Loop.for k0_t1_loop hok () (k0_t1_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5) >>= kk) Φ) := by
  have H := Scf.wp_for_bind (Q := Φ) (kk := kk) frame (wpE (defs₀ (F := F)) 𝒱₀ (c : Thread nD τ) none) Set.univ k0_t1_loop.lb k0_t1_loop.ub k0_t1_loop.st hok ()
    (k0_t1_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5) (fun t _ => BatchInv c P O T N X Q t) (fun t _ => row c hP T hT N hN X Q t)
  have ht : Scf.trips k0_t1_loop.lb k0_t1_loop.ub k0_t1_loop.st = 32 := by decide +kernel
  rw [ht] at H
  iintro HI HK
  iapply H $$ [HI]
  · iexact HI
  iintro %acc HI
  iapply HK $$ HI

end Cert.PagedKernelIdeal
-- ==== Proof.KernelIdeal.Mesh.lean ====
/-
  The exchange's buffer of four slots and its counters: where an element of a slot lies, what each slot holds once every
  copy landed, and the buffer as its slots.
-/
module

public import proofs.«01_k».proof.Proof.KernelIdeal.Batch

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Places on the ring of four devices -/

/-- The device `k + 1` places after `c`. -/
def peer (c : Dev nD) (k : Fin 3) : Dev nD := ⟨(c.val + (k.val + 1)) % 4, Nat.mod_lt _ (by decide)⟩
/-- The device `i` places after `c`. -/
def around (c : Dev nD) (i : Fin 4) : Dev nD := ⟨(c.val + i.val) % 4, Nat.mod_lt _ (by decide)⟩

theorem peer_rev (c : Dev nD) (k : Fin 3) : peer (peer c k) k.rev = c := by revert c k; decide
theorem rev_peer (c : Dev nD) (k : Fin 3) : peer (peer c k.rev) k = c := by revert c k; decide
theorem around_zero (c : Dev nD) : around c 0 = c := by revert c; decide
theorem around_peer (c : Dev nD) (k : Fin 3) : around (peer c k) k.rev.succ = c := by revert c k; decide

/-! ## The slots of the exchange buffer, their counters -/

theorem inb_com {i : ℕ} (h : i < 4) : ∀ a, (![i, 0, 0, 0, 0] : Fin 5 → ℕ) a + S1x3x32x16x128.size a ≤ S4x3x32x16x128.size a := by
  intro a; fin_cases a
  · show i + 1 ≤ 4; omega
  · show 0 + 3 ≤ 3; omega
  · show 0 + 32 ≤ 32; omega
  · show 0 + 16 ≤ 16; omega
  · show 0 + 128 ≤ 128; omega
theorem inb_com_sem {i : ℕ} (h : i < 4) : ∀ a, (![i] : Fin 1 → ℕ) a + S1.size a ≤ S4.size a := by
  intro a; fin_cases a
  show i + 1 ≤ 4; omega

/-- Slot `i` of the exchange buffer. -/
def slotM (i : Fin 4) : Memref sig .tc .vmem S3x32x16x128 .f32 :=
  (comM.slice (Rect.unit (s := S4x3x32x16x128) ![i.val, 0, 0, 0, 0] S1x3x32x16x128.size (inb_com i.isLt)) (fun _ => rfl)).squeeze
    S3x32x16x128 squeezes_S1x3x32x16x128_S3x32x16x128
/-- The counter of the copy to the device `k + 1` places on, at its sender; -/
def sendS (k : Fin 3) : DmaSem sig := ((cc0_scratch4.slice (Rect.unit (s := S4) ![k.succ.val] S1.size (inb_com_sem k.succ.isLt))).squeeze S_ squeezes_S1_S_).sem
/-- and the counter of the copy that lands in slot `k + 1`. -/
def recvS (k : Fin 3) : DmaSem sig := ((cc0_scratch5.slice (Rect.unit (s := S4) ![k.succ.val] S1.size (inb_com_sem k.succ.isLt))).squeeze S_ squeezes_S1_S_).sem
/-- The counter the devices meet at. -/
abbrev barS : Sem sig := barrier0

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The bytes of one slot. -/
abbrev NC : ℕ := (slotM 0).view.dmaCredit
theorem NC_pos : 0 < NC := View.dmaCredit_pos _ (by decide)
theorem slot_credit (i : Fin 4) : (slotM i).view.dmaCredit = NC := rfl

/-! ## Where an element of a slot lies -/

theorem reshape_slot (h : (⟨4, ![3, 32, 16, 128]⟩ : Shape).numel = (⟨5, ![1, 3, 32, 16, 128]⟩ : Shape).numel) (k : Fin 3) (r : Fin 32) (y : Fin 16) (z : Fin 128) :
    Shape.reshapeEquiv h (ix4 k r y z) = ix5 (⟨0, Nat.one_pos⟩ : Fin 1) k r y z :=
  Shape.reshapeEquiv_eq_of_rowMajor h (by
    rw [Shape.rowMajor_val_five, Shape.rowMajor_val_four]
    show ((((0 * 3 + k.val) * 32 + r.val) * 16 + y.val) * 128 + z.val) = ((k.val * 32 + r.val) * 16 + y.val) * 128 + z.val
    simp only [Nat.zero_mul, Nat.zero_add])

theorem idx4 (x : S3x32x16x128.Idx) : x = ix4 (n0 := 3) (n1 := 32) (n2 := 16) (n3 := 128) (x 0) (x 1) (x 2) (x 3) := by
  funext i; fin_cases i <;> rfl

theorem slot_emb (i : Fin 4) (x : S3x32x16x128.Idx) :
    (slotM i).view.emb x = ix5 (n0 := 4) (n1 := 3) (n2 := 32) (n3 := 16) (n4 := 128) i (x 0) (x 1) (x 2) (x 3) := by
  refine (congrArg (fun z => (Rect.unit (s := S4x3x32x16x128) ![i.val, 0, 0, 0, 0] S1x3x32x16x128.size (inb_com i.isLt)).idx z)
    ((congrArg _ (idx4 x)).trans (reshape_slot squeezes_S1x3x32x16x128_S3x32x16x128.numel_eq (x 0) (x 1) (x 2) (x 3)))).trans ?_
  funext a
  apply Fin.ext
  fin_cases a <;> simp [LoadRect.idx, Rect.unit, ix5]

theorem mem_slot (i : Fin 4) (y : S4x3x32x16x128.Idx) : y ∈ (slotM i).view.set ↔ y 0 = i := by
  constructor
  · intro h
    obtain ⟨x, -, e⟩ := Finset.mem_map.mp h
    exact (congrFun ((slot_emb i x).symm.trans e) 0).symm
  · rintro rfl
    refine Finset.mem_map.mpr ⟨ix4 (n0 := 3) (n1 := 32) (n2 := 16) (n3 := 128) (y 1) (y 2) (y 3) (y 4), Finset.mem_univ _, (slot_emb _ _).trans ?_⟩
    funext a; fin_cases a <;> rfl

abbrev slotSet' (c : Dev nD) (i : Fin 4) : Finset (Idx (comM.view.loc (c : Thread nD τ))) := (slotM i).view.set
theorem slots_disjoint (c : Dev nD) (i j : Fin 4) (h : i ≠ j) : Disjoint (slotSet' c i) (slotSet' c j) := by
  rw [Finset.disjoint_left]
  intro y h₁ h₂
  exact h (((mem_slot i y).mp h₁).symm.trans ((mem_slot j y).mp h₂))
theorem slots_all (c : Dev nD) : Finset.univ.biUnion (slotSet' c) = Finset.univ := by
  ext y
  exact ⟨fun _ => Finset.mem_univ _, fun _ => Finset.mem_biUnion.mpr ⟨(y : S4x3x32x16x128.Idx) 0, Finset.mem_univ _, (mem_slot _ y).mpr rfl⟩⟩

/-! ## What the buffer holds -/

/-- What each device computes: for each of its three lanes, row and position an element. -/
abbrev Parts : Type := Dev nD → Fin 3 → Fin 32 → Fin 16 → Fin 128 → F .f32

/-- Device `c`'s buffer once all copies landed: slot `i` holds what the device `i` places on computed. -/
def allIn (A : Parts (F := F)) (c : Dev nD) : Com (F := F) c :=
  fun y => A (around c (y 0)) (y 1) (y 2) (y 3) (y 4)

theorem allIn_ix (A : Parts (F := F)) (c : Dev nD) (i : Fin 4) (k : Fin 3) (r : Fin 32) (h : Fin 16) (d : Fin 128) :
    allIn A c (ix5 (n0 := 4) (n1 := 3) (n2 := 32) (n3 := 16) (n4 := 128) i k r h d) = A (around c i) k r h d := rfl

/-- What the copy from `c` to the device `k + 1` on leaves there. -/
theorem copied (A : Parts (F := F)) (c : Dev nD) (k : Fin 3) (fd : Com (F := F) (peer c k)) :
    ∀ y ∈ slotSet' (peer c k) k.rev.succ,
      (slotM k.rev.succ).view.write (Elt F) fd ((slotM 0).view.read (Elt F) (allIn A c)) Finset.univ y = allIn A (peer c k) y := by
  intro y hy
  obtain ⟨x, -, e⟩ := Finset.mem_map.mp hy
  subst e
  refine (View.write_emb_of_mem _ _ (Finset.mem_univ _)).trans ?_
  refine (congrArg (allIn A c) (slot_emb 0 x)).trans ?_
  refine Eq.trans ?_ (congrArg (allIn A (peer c k)) (slot_emb k.rev.succ x)).symm
  exact congrArg (fun d : Dev nD => A d (x 0) (x 1) (x 2) (x 3)) ((around_zero c).trans (around_peer c k).symm)

variable (c : Dev nD)

/-- Slot `i` of `c`'s buffer at contents `f`. -/
abbrev comSlot (i : Fin 4) (q : PosShare TreeShare) (f : Com (F := F) c) : sProp 𝕄 := comM.view.loc (c : Thread nD τ) ↦[slotSet' c i]{q} f
/-- The share of its own slot a device lends its copy `k`. -/
def third (k : Fin 3) : PosShare TreeShare := Transfers.dealOf fullShare Finset.univ k

abbrev tri (Φ : Fin 3 → sProp 𝕄) : sProp 𝕄 := iprop(Φ 0 ∗ Φ 1 ∗ Φ 2)
theorem tri_eq (Φ : Fin 3 → sProp 𝕄) : bigSep Finset.univ Φ = tri Φ :=
  bigSep_univ_eq_bigSepL [(0 : Fin 3), 1, 2] (by decide) (by decide) Φ

theorem slot_thirds (f : Com (F := F) c) : comSlot c 0 fullShare f = tri (fun k => comSlot c 0 (third k) f) := by
  rw [← tri_eq]
  exact Transfers.pointsTo_deal Finset.univ ⟨0, Finset.mem_univ _⟩ fullShare

/-- The buffer is its own slot and the three others. -/
theorem com_slots (f : Com (F := F) c) : comP c f = iprop(comSlot c 0 fullShare f ∗ tri (fun k => comSlot c k.succ fullShare f)) := by
  refine (Ring.pointsTo_blocks (slotSet' c) (fun i j h => slots_disjoint c i j h) (slots_all c) f).trans ?_
  exact bigSep_univ_eq_bigSepL [(0 : Fin 4), 1, 2, 3] (by decide) (by decide) _

end Cert.PagedKernelIdeal
-- ==== Proof.KernelIdeal.Protocol.lean ====
/-
  The exchange's protocol: who pays whom how much on which counter and with which part of a buffer, what each device owes
  at launch, and in which order the waits stand.
-/
module

public import proofs.«01_k».proof.Proof.KernelIdeal.Mesh
public import Idealize.ShloMosaic.Lib.Rounds

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Which counter is which -/

/-- The slot a counter announces landings in; -/
def recvIx (s : SemLoc sig) : Option (Fin 3) :=
  if s = .dma (recvS 0) then some 0 else if s = .dma (recvS 1) then some 1 else if s = .dma (recvS 2) then some 2 else none
/-- and the copy a counter is its sender's of. -/
def sendIx (s : SemLoc sig) : Option (Fin 3) :=
  if s = .dma (sendS 0) then some 0 else if s = .dma (sendS 1) then some 1 else if s = .dma (sendS 2) then some 2 else none

theorem recvIx_recv (k : Fin 3) : recvIx (.dma (recvS k)) = some k := by revert k; decide
theorem recvIx_send (k : Fin 3) : recvIx (.dma (sendS k)) = none := by revert k; decide
theorem sendIx_send (k : Fin 3) : sendIx (.dma (sendS k)) = some k := by revert k; decide
theorem recvIx_cell (b s : Fin 2) (j : Fin 8) : recvIx (.dma (cell b s j).sem) = none := by revert b s j; decide
theorem recv_ne_bar (k : Fin 3) : (SemLoc.dma (recvS k) : SemLoc sig) ≠ .reg barS := fun h => by cases h
theorem send_ne_bar (k : Fin 3) : (SemLoc.dma (sendS k) : SemLoc sig) ≠ .reg barS := fun h => by cases h
theorem recvS_inj {k k' : Fin 3} (h : recvS k = recvS k') : k = k' := by revert h; revert k k'; decide

/-! ## The schedule -/

/-- Paid to `c`'s meeting point by the device before it that is `k + 1` places back: that device's slot `k + 1`, and that its
    counter of landings there is in use. -/
def barPay (c : Dev nD) (k : Fin 3) : sProp 𝕄 :=
  iprop((∃ f, comSlot (peer c k.rev) k.succ fullShare f) ∗ reached ER (recvCell (peer c k.rev) k) 0)
/-- Paid to `c`'s counter of slot `k + 1` by the copy landing there: the slot, holding what it then holds. -/
def recvPay (A : Parts (F := F)) (c : Dev nD) (k : Fin 3) : sProp 𝕄 := comSlot c k.succ fullShare (allIn A c)
/-- Paid to `c`'s counter of copy `k` by that copy: the lent share of `c`'s own slot. -/
def sendPay (A : Parts (F := F)) (c : Dev nD) (k : Fin 3) : sProp 𝕄 := comSlot c 0 (third k) (allIn A c)

instance comSlot_storable (c : Dev nD) (i : Fin 4) (q : PosShare TreeShare) (f : Com (F := F) c) : BI.Storable (upEmb : UEmb _ 𝕄) (comSlot c i q f) := by
  unfold comSlot; infer_instance
instance reached_storable (g : GSem nD τ sig) (n : ℕ) : BI.Storable (upEmb : UEmb _ 𝕄) (reached ER g n) := by
  unfold reached; infer_instance
instance barPay_storable (c : Dev nD) (k : Fin 3) : BI.Storable (upEmb : UEmb _ 𝕄) (barPay (F := F) c k) := by
  unfold barPay; infer_instance
instance recvPay_storable (A : Parts (F := F)) (c : Dev nD) (k : Fin 3) : BI.Storable (upEmb : UEmb _ 𝕄) (recvPay A c k) := by
  unfold recvPay; infer_instance
instance sendPay_storable (A : Parts (F := F)) (c : Dev nD) (k : Fin 3) : BI.Storable (upEmb : UEmb _ 𝕄) (sendPay A c k) := by
  unfold sendPay; infer_instance

/-- One round: three duties at every meeting point, one at every counter of a copy. -/
def rd (A : Parts (F := F)) : Rounds.Schedule (GSem nD τ sig) (Fin 3) 𝕄 where
  duties g r := if r = 0 ∧ g.1.2 = .tc then
      (if g.2 = .reg barS then Finset.univ else if (recvIx g.2).isSome ∨ (sendIx g.2).isSome then {0} else ∅) else ∅
  unitless _ := False
  amount g _ _ := if g.2 = .reg barS then 1 else NC
  payload g _ d :=
    if g.2 = .reg barS then barPay g.1.1 d
    else match recvIx g.2 with
      | some k => recvPay A g.1.1 k
      | none => match sendIx g.2 with
        | some k => sendPay A g.1.1 k
        | none => iprop(emp)
  amount_pos g _ _ _ := by
    by_cases h : g.2 = .reg barS
    · rw [if_pos h]; exact Nat.one_pos
    · rw [if_neg h]; exact NC_pos

instance rd_payload_storable (A : Parts (F := F)) (g : GSem nD τ sig) (r : ℕ) (d : Fin 3) :
    BI.Storable (upEmb : UEmb _ 𝕄) ((rd A).payload g r d) := by
  dsimp only [rd]
  (repeat' split) <;> infer_instance

section Tables
variable (A : Parts (F := F)) (c : Dev nD) (k : Fin 3)

theorem duties_bar : (rd A).duties (barCell c) 0 = Finset.univ := by
  dsimp only [rd]; rw [if_pos ⟨rfl, rfl⟩, if_pos rfl]
theorem duties_recv : (rd A).duties (recvCell c k) 0 = {0} := by
  dsimp only [rd]; rw [if_pos ⟨rfl, rfl⟩, if_neg (recv_ne_bar k), recvIx_recv, if_pos (.inl rfl)]
theorem duties_send : (rd A).duties (sendCell c k) 0 = {0} := by
  dsimp only [rd]; rw [if_pos ⟨rfl, rfl⟩, if_neg (send_ne_bar k), sendIx_send, if_pos (.inr rfl)]
theorem duties_later (g : GSem nD τ sig) : ∀ r, 1 ≤ r → (rd A).duties g r = ∅ :=
  fun r hr => by dsimp only [rd]; rw [if_neg (fun h => by omega)]

theorem amount_bar (d : Fin 3) : (rd A).amount (barCell c) 0 d = 1 := by dsimp only [rd]; exact if_pos rfl
theorem amount_recv (d : Fin 3) : (rd A).amount (recvCell c k) 0 d = NC := by dsimp only [rd]; exact if_neg (recv_ne_bar k)
theorem amount_send (d : Fin 3) : (rd A).amount (sendCell c k) 0 d = NC := by dsimp only [rd]; exact if_neg (send_ne_bar k)

theorem expect_bar : (rd A).expect (barCell c) 0 = 3 := by
  unfold Schedule.expect Schedule.amountOf
  rw [duties_bar, Finset.sum_congr rfl fun d _ => amount_bar A c d]; rfl
theorem expect_recv : (rd A).expect (recvCell c k) 0 = NC := by
  unfold Schedule.expect Schedule.amountOf; rw [duties_recv, Finset.sum_singleton, amount_recv]
theorem expect_send : (rd A).expect (sendCell c k) 0 = NC := by
  unfold Schedule.expect Schedule.amountOf; rw [duties_send, Finset.sum_singleton, amount_send]

theorem payload_bar (d : Fin 3) : (rd A).payload (barCell c) 0 d = barPay c d := by dsimp only [rd]; exact if_pos rfl
theorem payload_recv (d : Fin 3) : (rd A).payload (recvCell c k) 0 d = recvPay A c k := by
  dsimp only [rd]; rw [if_neg (recv_ne_bar k), recvIx_recv]
theorem payload_send (d : Fin 3) : (rd A).payload (sendCell c k) 0 d = sendPay A c k := by
  dsimp only [rd]; rw [if_neg (send_ne_bar k), recvIx_send, sendIx_send]

theorem rest_bar : bigSep ((rd A).duties (barCell c) 0 \ ∅) (fun d => (rd A).payload (barCell c) 0 d) = tri (barPay c) := by
  rw [Finset.sdiff_empty, duties_bar, bigSep_congr fun d _ => payload_bar A c d, tri_eq]
theorem rest_recv : bigSep ((rd A).duties (recvCell c k) 0 \ ∅) (fun d => (rd A).payload (recvCell c k) 0 d) = recvPay A c k := by
  rw [Finset.sdiff_empty, duties_recv, bigSep_singleton, payload_recv]
theorem rest_send : bigSep ((rd A).duties (sendCell c k) 0 \ ∅) (fun d => (rd A).payload (sendCell c k) 0 d) = sendPay A c k := by
  rw [Finset.sdiff_empty, duties_send, bigSep_singleton, payload_send]

end Tables

/-! ## What a device owes; the levels -/

/-- The unit device `c` owes the device `k + 1` places on, and the bytes its copy there owes. -/
abbrev oB (c : Dev nD) (k : Fin 3) : CellTallies nD τ sig Unit := tallyAt (barCell (peer c k)) () 1
abbrev oR (c : Dev nD) (k : Fin 3) : CellTallies nD τ sig Unit := tallyAt (recvCell (peer c k) k.rev) () NC
def owed₁ (c : Dev nD) : CellTallies nD τ sig Unit := 0 + oR c 2
def owed₂ (c : Dev nD) : CellTallies nD τ sig Unit := owed₁ c + oR c 1
def owed₃ (c : Dev nD) : CellTallies nD τ sig Unit := owed₂ c + oR c 0
def owed₄ (c : Dev nD) : CellTallies nD τ sig Unit := owed₃ c + oB c 2
def owed₅ (c : Dev nD) : CellTallies nD τ sig Unit := owed₄ c + oB c 1
/-- All a device owes at launch, in the order it pays from the right. -/
def O₀ (c : Dev nD) : CellTallies nD τ sig Unit := owed₅ c + oB c 0

def L (g : GSem nD τ sig) : Finset Unit := if g.1.2 = .tc then {()} else ∅
/-- The meeting points at 1, the landings at 2, the rest at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 3) : lv (recvCell c k) () = 2 := by
  unfold lv; rw [if_neg (recv_ne_bar k), recvIx_recv]; rfl

theorem tally_pos {g g' : GSem nD τ sig} {n : ℕ} {u : Unit} (h : 0 < (tallyAt g' () n : CellTallies nD τ sig Unit) g u) : g = g' := by
  rw [tallyAt_apply] at h
  by_cases hg : g = g' ∧ u = ()
  · exact hg.1
  · rw [if_neg hg] at h; exact absurd h (Nat.lt_irrefl 0)
theorem add_pos_split {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

theorem owed₃_pos {c : Dev nD} {g : GSem nD τ sig} {u : Unit} (h : 0 < owed₃ c g u) : ∃ k, g = recvCell (peer c k) k.rev := by
  rcases add_pos_split h with h | h
  · rcases add_pos_split h with h | h
    · rcases add_pos_split h with h | h
      · exact absurd h (Nat.lt_irrefl 0)
      · exact ⟨2, tally_pos h⟩
    · exact ⟨1, tally_pos h⟩
  · exact ⟨0, tally_pos h⟩
theorem O₀_pos {c : Dev nD} {g : GSem nD τ sig} {u : Unit} (h : 0 < O₀ c g u) : (∃ k, g = recvCell (peer c k) k.rev) ∨ ∃ k, g = barCell (peer c k) := by
  rcases add_pos_split h with h | h
  · rcases add_pos_split h with h | h
    · rcases add_pos_split h with h | h
      · exact .inl (owed₃_pos h)
      · exact .inr ⟨2, tally_pos h⟩
    · exact .inr ⟨1, tally_pos h⟩
  · exact .inr ⟨0, tally_pos h⟩

theorem O₀_level {c : Dev nD} {g : GSem nD τ sig} {u : Unit} (h : 0 < O₀ c g u) : u ∈ L g ∧ 0 < lv g u := by
  rcases O₀_pos h with ⟨k, rfl⟩ | ⟨k, rfl⟩
  · exact ⟨by rw [L_tc]; exact Finset.mem_singleton_self _, by rw [lv_recv]; decide⟩
  · exact ⟨by rw [L_tc]; exact Finset.mem_singleton_self _, by rw [lv_bar]; decide⟩

/-- A wait on a page's counter is below everything owed; -/
theorem mayWait_local (c : Dev nD) (b s : Fin 2) (j : Fin 8) :
    (levAts L lv : sProp 𝕄) ⊢ MayWait (c : Thread nD τ) (.dma (cell b s j).sem) () (O₀ c) :=
  MayOwe.of_cut (L := L) (lev := lv) 0 (fun p hp => by rw [Finset.mem_singleton.mp hp, L_tc]; exact Finset.mem_singleton_self _)
    (fun g u hg => (O₀_level hg).1)
    (fun p hp => by
      rw [Finset.mem_singleton.mp hp]; dsimp only [lv]
      rw [if_neg (fun h => by cases h), recvIx_cell]; rfl)
    (fun g u hg => (O₀_level hg).2)
/-- and the wait at the meeting point is below the copies owed. -/
theorem mayWait_bar (c : Dev nD) : (levAts L lv : sProp 𝕄) ⊢ MayWait (c : Thread nD τ) (.reg barS) () (owed₃ c) :=
  MayOwe.of_cut (L := L) (lev := lv) 1 (fun p hp => by rw [Finset.mem_singleton.mp hp, L_tc]; exact Finset.mem_singleton_self _)
    (fun g u hg => by obtain ⟨k, rfl⟩ := owed₃_pos hg; rw [L_tc]; exact Finset.mem_singleton_self _)
    (fun p hp => by rw [Finset.mem_singleton.mp hp]; exact (lv_bar c).le)
    (fun g u hg => by obtain ⟨k, rfl⟩ := owed₃_pos hg; rw [lv_recv]; decide)

/-! ## The cells, and the records all devices may consult -/

/-- The counters of copies, by direction and copy. -/
def osc : Fin 2 × Fin 3 → SemLoc sig
  | (0, k) => .dma (sendS k)
  | (1, k) => .dma (recvS k)
theorem osc_inj : Function.Injective osc := by decide
theorem osc_ne_bar : ∀ k, osc k ≠ .reg barS := by decide

def barEmb : Dev nD ↪ GSem nD τ sig := ⟨fun c => barCell c, fun _ _ h => congrArg (fun g : GSem nD τ sig => g.1.1) h⟩
def scEmb : Dev nD × (Fin 2 × Fin 3) ↪ GSem nD τ sig :=
  ⟨fun ck => ((ck.1 : Thread nD τ), osc ck.2), fun _ _ h =>
    Prod.ext (congrArg (fun g : GSem nD τ sig => g.1.1) h) (osc_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osc_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem send_mem (c : Dev nD) (k : Fin 3) : sendCell c k ∈ (barCells ∪ scCells : Finset (GSem nD τ sig)) :=
  Finset.mem_union_right _ (Finset.mem_map_of_mem scEmb (Finset.mem_univ (c, ((0 : Fin 2), k))))
theorem recv_mem (c : Dev nD) (k : Fin 3) : recvCell c k ∈ (barCells ∪ scCells : Finset (GSem nD τ sig)) :=
  Finset.mem_union_right _ (Finset.mem_map_of_mem scEmb (Finset.mem_univ (c, ((1 : Fin 2), k))))

variable (A : Parts (F := F)) (κ : GSem nD τ sig → ℕ)

/-- All the cells' invariants, and that round 0 of every meeting point is reached. -/
def records : sProp 𝕄 :=
  iprop((bigSep (barCells ∪ scCells) fun g => cellInv ER (rd A) (κ g) g) ∗ bigSep barCells fun g => reached ER g 0)
instance records_persistent : BI.Persistent (records A κ) := by unfold records; infer_instance

theorem inv_at {g : GSem nD τ sig} (hg : g ∈ (barCells ∪ scCells : Finset (GSem nD τ sig))) : records A κ ⊢ cellInv ER (rd A) (κ g) g := by
  unfold records
  iintro ⟨H, -⟩
  iapply (show (bigSep (barCells ∪ scCells) fun g => (cellInv ER (rd A) (κ g) g : sProp 𝕄)) ⊢ cellInv ER (rd A) (κ g) g from bigSep_elim hg); iexact H
theorem reached_at (c : Dev nD) : records A κ ⊢ reached ER (barCell c) 0 := by
  unfold records
  iintro ⟨-, H⟩
  iapply (show (bigSep barCells fun g => (reached ER g 0 : sProp 𝕄)) ⊢ reached ER (barCell c) 0 from bigSep_elim (Finset.mem_map_of_mem barEmb (Finset.mem_univ c))); iexact H

theorem close (g : GSem nD τ sig) (hg : g ∈ (barCells ∪ scCells : Finset (GSem nD τ sig))) :
    iprop(records A κ ∗ atPos ER g (0 + 1) ∅ 0) ⊢ (|={Set.univ}=> semVal g 0 : sProp 𝕄) :=
  (BI.sep_mono (inv_at A κ hg) (Entails.refl _)).trans (Rounds.cell_close ER (rd A) (Set.mem_univ _) id (duties_later A g))

end Cert.PagedKernelIdeal
-- ==== Proof.KernelIdeal.Exchange.lean ====
/-
  The exchange's steps: meeting the other devices, copying the own slot to each of them, waiting for what lands and for the
  copies out.
-/
module

public import proofs.«01_k».proof.Proof.KernelIdeal.Protocol

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (A : Parts (F := F)) (κ : GSem nD τ sig → ℕ) (c : Dev nD)

/-! ## The steps -/

/-- The unit paid to the device `k + 1` places on: with it goes the device's own slot `k + 1`. -/
theorem wp_meet {α : Type} {Φ : α → sProp 𝕄} (k : Fin 3) {d : Dev nD} (ed : d = peer c k) (O : CellTallies nD τ sig Unit) {O' : CellTallies nD τ sig Unit} (hO : O' = O + oB c k) {W : Waits sig Unit} {n : ℤ} (en : n = ((1 : ℕ) : ℤ))
    {kk : PUnit → Prog (TpuEff nD τ sig (Elt F) Λ₀ .tc) α} :
    iprop(records A κ ∗ owes (c : Thread nD τ) O' W ∗ dutyTok ER (barCell (peer c k)) 0 k ∗ (∃ f, comSlot c k.succ fullShare f) ∗ reached ER (recvCell c k) 0)
      ⊢ iprop((owes (c : Thread nD τ) O W -∗ wp frame (wpE (defs₀ (F := F)) 𝒱₀ (c : Thread nD τ) none) Set.univ (kk ⟨⟩) Φ)
        -∗ wp frame (wpE (defs₀ (F := F)) 𝒱₀ (c : Thread nD τ) none) Set.univ (.op (.semSignal (d : Thread nD τ) barS n) kk) Φ) := by
  subst ed; subst en; subst hO
  iintro ⟨#HR, HO, Ht, Hs, #Hr⟩ Hk
  iapply (Rounds.wp_signal 𝒱₀ ER (rd A) (c : Thread nD τ) none (dst := (peer c k : Thread nD τ)) (sem := barS) (r := 0) (d := k) (κ := κ (barCell (peer c k)))
      (by rw [duties_bar]; exact Finset.mem_univ _) (amount_bar A (peer c k) k) () O rfl) $$ [HO Ht Hs]
  · isplitr; · iapply (inv_at A κ (bar_mem (peer c k))); iexact HR
    isplitl [HO]; · iexact HO
    isplitl [Ht]; · iexact Ht
    isplitl [Hs]
    · rw [payload_bar]; unfold barPay; rw [peer_rev]
      isplitl [Hs]; · iexact Hs
      iexact Hr
    · iapply (reached_at A κ (peer c k)); iexact HR
  iexact Hk

/-- The wait for the three units: the three peers' slots come with them. -/
theorem wp_met {α : Type} {Φ : α → sProp 𝕄} {W : Waits sig Unit} {n : ℤ} (en : n = ((3 : ℕ) : ℤ))
    {kk : PUnit → Prog (TpuEff nD τ sig (Elt F) Λ₀ .tc) α} :
    iprop(records A κ ∗ levAts L lv ∗ cred (tallyAt (barCell c) () 3) ∗ owes (c : Thread nD τ) (owed₃ c) W ∗ atPos ER (barCell c) 0 ∅ 0)
      ⊢ iprop((iprop((∃ W, owes (c : Thread nD τ) (owed₃ c) W) ∗ atPos ER (barCell c) (0 + 1) ∅ 0 ∗ tri (barPay (F := F) c)) -∗ wp frame (wpE (defs₀ (F := F)) 𝒱₀ (c : Thread nD τ) none) Set.univ (kk ⟨⟩) Φ)
        -∗ wp frame (wpE (defs₀ (F := F)) 𝒱₀ (c : Thread nD τ) none) Set.univ (.op (.semWait barS n) kk) Φ) := by
  subst en
  iintro ⟨#HR, #HL, Hc, HO, Ha⟩ Hk
  iapply (Rounds.wp_wait_rest_token 𝒱₀ ER (rd A) (c : Thread nD τ) none (κ := κ (barCell c))
      (wpE_semWait_eq 𝒱₀ (c : Thread nD τ) none Set.univ) (Set.mem_univ _) () (O := owed₃ c) (W := W) (R := 0) (m := 0) (T := ∅)
      ((Nat.zero_add 3).trans (expect_bar A c).symm)) $$ [Hc HO Ha]
  · isplitr; · iapply (inv_at A κ (bar_mem c)); iexact HR
    isplitl [Hc]; · iexact Hc
    isplitl [HO]; · iexact HO
    isplitr; · iapply (mayWait_bar c); iexact HL
    iexact Ha
  iintro ⟨HO, Ha, -, Hp⟩
  iapply Hk
  isplitl [HO]; · iexists _; iexact HO
  isplitl [Ha]; · iexact Ha
  iapply (Entails.of_eq (rest_bar A c)); iexact Hp

/-- The copy to the device `k + 1` places on. -/
theorem wp_copy {α : Type} {Φ : α → sProp 𝕄} (k : Fin 3) {d : Dev nD} (ed : d = peer c k) (O : CellTallies nD τ sig Unit) {O' : CellTallies nD τ sig Unit} (hO : O' = O + oR c k) {W : Waits sig Unit}
    {src dst : Memref sig .tc .vmem S3x32x16x128 .f32} {sS sR : DmaSem sig} (esrc : src = slotM 0) (edst : dst = slotM k.rev.succ) (esS : sS = sendS k) (esR : sR = recvS k.rev)
    {hsc : dst.view.ref.isScScratch = false} {h₁ : src.view.WordExact} {h₂ : dst.view.WordExact} {h₃ : DmaTarget.Typed .vmem (SemLoc.dma sR) (.remote (d : Thread nD τ) dst (.dma sS) hsc)}
    {kk : PUnit → Prog (TpuEff nD τ sig (Elt F) Λ₀ .tc) α} :
    iprop(records A κ ∗ owes (c : Thread nD τ) O' W ∗ sendPay A c k ∗ barPay (F := F) c k.rev ∗ dutyTok ER (sendCell c k) 0 0 ∗ reached ER (sendCell c k) 0 ∗ dutyTok ER (recvCell (peer c k) k.rev) 0 0)
      ⊢ iprop((iprop(owes (c : Thread nD τ) O W ∗ cred (tallyAt (sendCell c k) () NC)) -∗ wp frame (wpE (defs₀ (F := F)) 𝒱₀ (c : Thread nD τ) none) Set.univ (kk ⟨⟩) Φ)
        -∗ wp frame (wpE (defs₀ (F := F)) 𝒱₀ (c : Thread nD τ) none) Set.univ (.op (.enqueueDma src (.remote (d : Thread nD τ) dst (.dma sS) hsc) (.dma sR) h₁ h₂ h₃) kk) Φ) := by
  subst ed; subst hO; subst esrc; subst edst; subst esS; subst esR
  unfold barPay
  rw [Fin.rev_rev]
  iintro ⟨#HR, HO, Hs, ⟨⟨%fd, Hd⟩, #Hr⟩, HtS, #HrS, HtR⟩ Hk
  iapply (Rounds.wp_send_pointsTo 𝒱₀ ER (rd A) (c : Thread nD τ) none (c' := (peer c k : Thread nD τ)) (src := slotM 0) (dst := slotM k.rev.succ)
      (sS := .dma (sendS k)) (sem := .dma (recvS k.rev)) (q := third k) (fs := allIn A c) (κ₁ := κ (sendCell c k)) (κ₂ := κ (recvCell (peer c k) k.rev))
      (r₁ := 0) (r₂ := 0) (d₁ := 0) (d₂ := 0) (fd := fd)
      (by rw [duties_send]; exact Finset.mem_singleton_self _) (by rw [duties_recv]; exact Finset.mem_singleton_self _)
      () () NC rfl (amount_send A c k 0) (amount_recv A (peer c k) k.rev 0) O rfl (W := W)
      (by rw [payload_send]; exact Entails.refl _)
      (by rw [payload_recv]; exact Entails.of_eq (pointsTo_congr (copied A c k fd)))) $$ [Hs Hd HO HtS HtR]
  · isplitr; · iapply (inv_at A κ (send_mem c k)); iexact HR
    isplitr; · iapply (inv_at A κ (recv_mem (peer c k) k.rev)); iexact HR
    isplitl [Hs]
    · iapply (show sendPay A c k ⊢ ((slotM 0).view.loc (c : Thread nD τ) ↦[(slotM 0).view.set]{third k} allIn A c : sProp 𝕄) from Entails.refl _); iexact Hs
    isplitl [Hd]
    · iapply (show comSlot (peer c k) k.rev.succ fullShare fd ⊢ ((slotM k.rev.succ).view.loc (peer c k : Thread nD τ) ↦[(slotM k.rev.succ).view.set]{fullShare} fd : sProp 𝕄) from Entails.refl _); iexact Hd
    isplitl [HO]; · iexact HO
    isplitl [HtS]; · iexact HtS
    isplitr; · iexact HrS
    isplitl [HtR]; · iexact HtR
    iexact Hr
  iintro ⟨Hc, HO⟩
  iapply Hk
  isplitl [HO] <;> iassumption

/-- The wait for what lands in slot `k + 1`. -/
theorem wp_landed {α : Type} {Φ : α → sProp 𝕄} (k : Fin 3) {src dst : Memref sig .tc .vmem S3x32x16x128 .f32} {sm : DmaSem sig} (i : Fin 4) (edst : dst = slotM i) (esm : sm = recvS k)
    {h₁ : src.view.WordExact} {h₂ : dst.view.WordExact} {kk : PUnit → Prog (TpuEff nD τ sig (Elt F) Λ₀ .tc) α} :
    iprop(records A κ ∗ cred (tallyAt (recvCell c k) () NC) ∗ (∃ W, owes (c : Thread nD τ) 0 W) ∗ atPos ER (recvCell c k) 0 ∅ 0)
      ⊢ iprop((iprop((∃ W, owes (c : Thread nD τ) 0 W) ∗ atPos ER (recvCell c k) (0 + 1) ∅ 0 ∗ recvPay A c k) -∗ wp frame (wpE (defs₀ (F := F)) 𝒱₀ (c : Thread nD τ) none) Set.univ (kk ⟨⟩) Φ)
        -∗ wp frame (wpE (defs₀ (F := F)) 𝒱₀ (c : Thread nD τ) none) Set.univ (.op (.waitDma2 sm src dst h₁ h₂) kk) Φ) := by
  subst edst; subst esm
  iintro ⟨#HR, Hc, ⟨%W, HO⟩, Ha⟩ Hk
  iapply (Rounds.wp_wait_rest_token 𝒱₀ ER (rd A) (c : Thread nD τ) none (κ := κ (recvCell c k))
      (wpE_waitDma2_eq (src := src) (dst := slotM i) 𝒱₀ (c : Thread nD τ) none Set.univ) (Set.mem_univ _) () (O := 0) (W := W) (R := 0) (m := 0) (T := ∅)
      ((Nat.zero_add _).trans (expect_recv A c k).symm)) $$ [Hc HO Ha]
  · isplitr; · iapply (inv_at A κ (recv_mem c k)); iexact HR
    isplitl [Hc]; · iexact Hc
    isplitl [HO]; · iexact HO
    isplitr; · rw [MayWait_zero]; iempintro
    iexact Ha
  iintro ⟨HO, Ha, -, Hp⟩
  iapply Hk
  isplitl [HO]; · iexists _; iexact HO
  isplitl [Ha]; · iexact Ha
  iapply (Entails.of_eq (rest_recv A c k)); iexact Hp

/-- The wait for copy `k` to have read its source. -/
theorem wp_sent {α : Type} {Φ : α → sProp 𝕄} (k : Fin 3) {src dst : Memref sig .tc .vmem S3x32x16x128 .f32} {sm : DmaSem sig} (i : Fin 4) (edst : dst = slotM i) (esm : sm = sendS k)
    {h₁ : src.view.WordExact} {h₂ : dst.view.WordExact} {kk : PUnit → Prog (TpuEff nD τ sig (Elt F) Λ₀ .tc) α} :
    iprop(records A κ ∗ cred (tallyAt (sendCell c k) () NC) ∗ (∃ W, owes (c : Thread nD τ) 0 W) ∗ atPos ER (sendCell c k) 0 ∅ 0)
      ⊢ iprop((iprop((∃ W, owes (c : Thread nD τ) 0 W) ∗ atPos ER (sendCell c k) (0 + 1) ∅ 0 ∗ sendPay A c k) -∗ wp frame (wpE (defs₀ (F := F)) 𝒱₀ (c : Thread nD τ) none) Set.univ (kk ⟨⟩) Φ)
        -∗ wp frame (wpE (defs₀ (F := F)) 𝒱₀ (c : Thread nD τ) none) Set.univ (.op (.waitDma2 sm src dst h₁ h₂) kk) Φ) := by
  subst edst; subst esm
  iintro ⟨#HR, Hc, ⟨%W, HO⟩, Ha⟩ Hk
  iapply (Rounds.wp_wait_rest_token 𝒱₀ ER (rd A) (c : Thread nD τ) none (κ := κ (sendCell c k))
      (wpE_waitDma2_eq (src := src) (dst := slotM i) 𝒱₀ (c : Thread nD τ) none Set.univ) (Set.mem_univ _) () (O := 0) (W := W) (R := 0) (m := 0) (T := ∅)
      ((Nat.zero_add _).trans (expect_send A c k).symm)) $$ [Hc HO Ha]
  · isplitr; · iapply (inv_at A κ (send_mem c k)); iexact HR
    isplitl [Hc]; · iexact Hc
    isplitl [HO]; · iexact HO
    isplitr; · rw [MayWait_zero]; iempintro
    iexact Ha
  iintro ⟨HO, Ha, -, Hp⟩
  iapply Hk
  isplitl [HO]; · iexists _; iexact HO
  isplitl [Ha]; · iexact Ha
  iapply (Entails.of_eq (rest_send A c k)); iexact Hp

/-! ## The slots are the printed views -/

theorem slotM_eq {o : Fin 5 → ℕ} {h} {i : Fin 4} (e : o = ![i.val, 0, 0, 0, 0]) :
    ((comM.slice (Rect.unit (s := S4x3x32x16x128) o S1x3x32x16x128.size h) (fun _ => rfl)).squeeze S3x32x16x128 squeezes_S1x3x32x16x128_S3x32x16x128) = slotM i := by
  subst e; rfl
theorem sendS_eq {o : Fin 1 → ℕ} {h} {k : Fin 3} (e : o = ![k.succ.val]) :
    ((cc0_scratch4.slice (Rect.unit (s := S4) o S1.size h)).squeeze S_ squeezes_S1_S_).sem = sendS k := by subst e; rfl
theorem recvS_eq {o : Fin 1 → ℕ} {h} {k : Fin 3} (e : o = ![k.succ.val]) :
    ((cc0_scratch5.slice (Rect.unit (s := S4) o S1.size h)).squeeze S_ squeezes_S1_S_).sem = recvS k := by subst e; rfl

theorem peer_of {n : ℕ} {h : n < nD} (k : Fin 3) (e : n = (c.val + (k.val + 1)) % 4) : (⟨n, h⟩ : Dev nD) = peer c k := Fin.ext e

end Cert.PagedKernelIdeal
-- ==== Proof.KernelIdeal.Body.lean ====
/-
  The kernel's body from end to end: the batch, the meeting, the three copies out and in, the combining of the four devices'
  partials, the store of the result.
-/
module

public import proofs.«01_k».proof.Proof.KernelIdeal.Exchange

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (A : Parts (F := F)) (κ : GSem nD τ sig → ℕ) (c : Dev nD)

/-! ## What the combining step reads and stores -/

/-- Lane `k` of the four slots, as device `c` holds them. -/
def laneOf (k : Fin 3) : S4x1x32x16x128.Idx → F .f32 := fun x => A (around c (x 0)) k (x 2) (x 3) (x 4)
/-- What device `c` computes from them. -/
def outOf : S32x1x16x128.Idx → F .f32 := k0_pay1 (k0_pay29 (laneOf A c 1) (laneOf A c 0) (laneOf A c 2))

theorem lane_idx {k : Fin 3} (h : ∀ a, (![0, k.val, 0, 0, 0] : Fin 5 → ℕ) a + S4x1x32x16x128.size a ≤ S4x3x32x16x128.size a) (x : S4x1x32x16x128.Idx) :
    (Rect.unit (s := S4x3x32x16x128) ![0, k.val, 0, 0, 0] S4x1x32x16x128.size h).idx x = ix5 (n0 := 4) (n1 := 3) (n2 := 32) (n3 := 16) (n4 := 128) (x 0) k (x 2) (x 3) (x 4) := by
  funext a
  apply Fin.ext
  have h1 : (x 1).val = 0 := by have := (x 1).isLt; simp at this; omega
  fin_cases a <;> simp [LoadRect.idx, Rect.unit, ix5, h1]
theorem lane_read {o : Fin 5 → ℕ} {h : ∀ a, o a + S4x1x32x16x128.size a ≤ S4x3x32x16x128.size a} (k : Fin 3) (e : o = ![0, k.val, 0, 0, 0]) :
    (comM.access (Rect.unit (s := S4x3x32x16x128) o S4x1x32x16x128.size h)).read (Elt F) (allIn A c) = laneOf A c k := by
  subst e; funext x; exact congrArg (allIn A c) (lane_idx h x)

abbrev Out : Type := Buf (Elt F) (outM.view.loc (c : Thread nD τ))
abbrev outP (f : Out (F := F) c) : sProp 𝕄 := outM.view.loc (c : Thread nD τ) ↦{fullShare} f

theorem out_idx (h : ∀ a, (![0, 0, 0, 0] : Fin 4 → ℕ) a + S32x1x16x128.size a ≤ S32x1x16x128.size a) (x : S32x1x16x128.Idx) :
    (Rect.unit (s := S32x1x16x128) ![0, 0, 0, 0] S32x1x16x128.size h).idx x = x := by
  funext a
  apply Fin.ext
  have h1 : (x 1).val = 0 := by have := (x 1).isLt; simp at this; omega
  fin_cases a <;> simp [LoadRect.idx, Rect.unit, h1]
theorem out_write {h : ∀ a, (![0, 0, 0, 0] : Fin 4 → ℕ) a + S32x1x16x128.size a ≤ S32x1x16x128.size a} (f : Out (F := F) c) (w : S32x1x16x128.Idx → F .f32) :
    ((outM.access (Rect.unit (s := S32x1x16x128) ![0, 0, 0, 0] S32x1x16x128.size h)).write (Elt F) f w Finset.univ : Out (F := F) c) = w := by
  funext y
  have hw := View.write_emb_of_mem (v := outM.access (Rect.unit (s := S32x1x16x128) ![0, 0, 0, 0] S32x1x16x128.size h)) (Val := Elt F) f w (Finset.mem_univ y)
  exact Eq.trans (congrArg _ (out_idx h y).symm) hw

theorem out_back {h : ∀ a, (![0, 0, 0, 0] : Fin 4 → ℕ) a + S32x1x16x128.size a ≤ S32x1x16x128.size a} (f : Out (F := F) c) (w : S32x1x16x128.Idx → F .f32) :
    outP c ((outM.access (Rect.unit (s := S32x1x16x128) ![0, 0, 0, 0] S32x1x16x128.size h)).write (Elt F) f w Finset.univ : Out (F := F) c) ⊢ outP c (w : Out (F := F) c) :=
  Entails.of_eq (by rw [out_write])

/-- The own slot once the batch is through. -/
theorem com_done (T : Tab (F := F) c) (N : Cnt (F := F) c) (X : ∀ b, Arr (F := F) c b) (Q : Qry (F := F) c) (hA : A c = partials c T N X Q) (f : Com (F := F) c) (hf : Done c T N X Q 32 f) :
    comP c f ⊢ iprop(comSlot c 0 fullShare (allIn A c) ∗ tri (fun k => iprop(∃ f, comSlot c k.succ fullShare f))) := by
  have e : comSlot c 0 fullShare f = comSlot c 0 fullShare (allIn A c) := pointsTo_congr fun y hy => by
    have h0 := (mem_slot 0 y).mp hy
    have e : (y : S4x3x32x16x128.Idx) = ix5 (n0 := 4) (n1 := 3) (n2 := 32) (n3 := 16) (n4 := 128) 0 ((y : S4x3x32x16x128.Idx) 1) ((y : S4x3x32x16x128.Idx) 2) ((y : S4x3x32x16x128.Idx) 3) ((y : S4x3x32x16x128.Idx) 4) := by
      funext a; fin_cases a
      · exact h0
      all_goals rfl
    refine (congrArg f e).trans ?_
    refine Eq.trans ?_ (congrArg (allIn A c) e).symm
    refine (hf _ _ _ _ (Fin.isLt _)).trans ?_
    rw [← hA]
    exact congrArg (fun d : Dev nD => A d ((y : S4x3x32x16x128.Idx) 1) ((y : S4x3x32x16x128.Idx) 2) ((y : S4x3x32x16x128.Idx) 3) ((y : S4x3x32x16x128.Idx) 4)) (around_zero c).symm
  rw [com_slots, e]
  iintro ⟨Hc, H0, H1, H2⟩
  isplitl [Hc]; · iexact Hc
  isplitl [H0]; · iexists f; iexact H0
  isplitl [H1]; · iexists f; iexact H1
  iexists f; iexact H2

/-! ## The parts of the body -/

/-- What the local phase holds throughout. -/
def keeps (T : Tab (F := F) c) (N : Cnt (F := F) c) (X : ∀ b, Arr (F := F) c b) (Q : Qry (F := F) c) : sProp 𝕄 :=
  iprop(tabP c T ∗ cntP c N ∗ qP c Q ∗ (slack c X 0 ∗ slack c X 1))

set_option maxHeartbeats 4000000 in
/-- The batch, and the meeting after it. -/
theorem part_meet (T : Tab (F := F) c) (hT : ∀ r p, (entry c T r p).toNat < 256) (N : Cnt (F := F) c) (hN : ∀ r, (count c N r).toNat ≤ 256) (X : ∀ b, Arr (F := F) c b) (Q : Qry (F := F) c)
    (hA : A c = partials c T N X Q) :
    iprop(records A κ ∗ levAts L lv ∗ keeps c T N X Q ∗ (∃ f, comP c f) ∗ (∃ W, owes (c : Thread nD τ) (O₀ c) W) ∗ cred (tallyAt (barCell c) () 3) ∗ atPos ER (barCell c) 0 ∅ 0
        ∗ tri (fun k => dutyTok ER (barCell (peer c k)) 0 k) ∗ tri (fun k => reached ER (recvCell c k) 0))
      ⊢ wp frame (wpE (defs₀ (F := F)) 𝒱₀ (c : Thread nD τ) none) Set.univ (k0_part29 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5) (fun x => iprop(⌜x.1 = c⌝ ∗ keeps c T N X Q ∗ comSlot c 0 fullShare (allIn A c) ∗ (∃ W, owes (c : Thread nD τ) (owed₃ c) W)
          ∗ atPos ER (barCell c) (0 + 1) ∅ 0 ∗ tri (barPay (F := F) c))) := by
  rw [k0_part29_eq_skeleton]
  unfold k0_part29_skel semSignalWord semWaitWord
  iintro ⟨#HR, #HL, Hk, ⟨%f, Hc⟩, HO, Hcr, Hat, ⟨Ht0, Ht1, Ht2⟩, #Hr0, #Hr1, #Hr2⟩
  unfold keeps
  icases Hk with ⟨Htab, Hcnt, Hq, Hs⟩
  simp only [Prog.lift, Prog.bind_op, Prog.bind_ret, wp_deviceId]
  iapply (batch c (P := iprop(levAts L lv)) (O := O₀ c) (mayWait_local c) T hT N hN X Q) $$ [Htab Hcnt Hq Hs Hc HO]
  · isplitr; · iexact HL
    isplitl [Htab]; · iexact Htab
    isplitl [Hcnt]; · iexact Hcnt
    isplitl [Hq]; · iexact Hq
    isplitl [Hs]; · iexact Hs
    isplitl [HO]; · iexact HO
    iexists f
    isplitl [Hc]; · iexact Hc
    ipureintro; intro k r h d hr; exact absurd hr (Nat.not_lt_zero _)
  iintro ⟨-, Htab, Hcnt, Hq, Hs, ⟨%W, HO⟩, %f', Hc, %hf⟩
  ihave Hc := (com_done A c T N X Q hA f' hf) $$ Hc
  icases Hc with ⟨Hc0, Hs0, Hs1, Hs2⟩
  iapply (wp_meet A κ c 0 (peer_of c 0 (k0_dev1_eq c)) (owed₅ c) rfl rfl) $$ [HO Ht0 Hs0]
  · isplitr; · iexact HR
    isplitl [HO]; · iexact HO
    isplitl [Ht0]; · iexact Ht0
    isplitl [Hs0]; · iexact Hs0
    iexact Hr0
  iintro HO
  iapply (wp_meet A κ c 1 (peer_of c 1 (k0_dev2_eq c)) (owed₄ c) rfl rfl) $$ [HO Ht1 Hs1]
  · isplitr; · iexact HR
    isplitl [HO]; · iexact HO
    isplitl [Ht1]; · iexact Ht1
    isplitl [Hs1]; · iexact Hs1
    iexact Hr1
  iintro HO
  iapply (wp_meet A κ c 2 (peer_of c 2 (k0_dev3_eq c)) (owed₃ c) rfl rfl) $$ [HO Ht2 Hs2]
  · isplitr; · iexact HR
    isplitl [HO]; · iexact HO
    isplitl [Ht2]; · iexact Ht2
    isplitl [Hs2]; · iexact Hs2
    iexact Hr2
  iintro HO
  iapply (wp_met A κ c rfl) $$ [HO Hcr Hat]
  · isplitr; · iexact HR
    isplitr; · iexact HL
    isplitl [Hcr]; · iexact Hcr
    isplitl [HO]; · iexact HO
    iexact Hat
  iintro ⟨HO, Hat, Hp⟩
  iapply (wp_end c rfl)
  isplitr; · ipureintro; rfl
  isplitl [Htab Hcnt Hq Hs]
  · isplitl [Htab]; · iexact Htab
    isplitl [Hcnt]; · iexact Hcnt
    isplitl [Hq] <;> iassumption
  isplitl [Hc0]; · iexact Hc0
  isplitl [HO]; · iexact HO
  isplitl [Hat] <;> iassumption

/-- What copy `k` is started from. -/
def copyPre (k : Fin 3) : sProp 𝕄 :=
  iprop(sendPay A c k ∗ barPay (F := F) c k.rev ∗ dutyTok ER (sendCell c k) 0 0 ∗ reached ER (sendCell c k) 0 ∗ dutyTok ER (recvCell (peer c k) k.rev) 0 0)
/-- What the wait for slot `k + 1` is made with, and what it leaves. -/
def landPre (k : Fin 3) : sProp 𝕄 := iprop(cred (tallyAt (recvCell c k) () NC) ∗ atPos ER (recvCell c k) 0 ∅ 0)
def landPost (k : Fin 3) : sProp 𝕄 := iprop(atPos ER (recvCell c k) (0 + 1) ∅ 0 ∗ recvPay A c k)
/-- What the wait for copy `k` to be out is made with, and what it leaves. -/
def sentPre (k : Fin 3) : sProp 𝕄 := iprop(cred (tallyAt (sendCell c k) () NC) ∗ atPos ER (sendCell c k) 0 ∅ 0)
def sentPost (k : Fin 3) : sProp 𝕄 := iprop(atPos ER (sendCell c k) (0 + 1) ∅ 0 ∗ sendPay A c k)

set_option maxHeartbeats 4000000 in
/-- The first two copies. -/
theorem part_copies (v : BitVec 32) :
    iprop(records A κ ∗ (∃ W, owes (c : Thread nD τ) (owed₃ c) W) ∗ copyPre A c 0 ∗ copyPre A c 1)
      ⊢ wp frame (wpE (defs₀ (F := F)) 𝒱₀ (c : Thread nD τ) none) Set.univ (k0_part30 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 c v) (fun _ => iprop((∃ W, owes (c : Thread nD τ) (owed₁ c) W) ∗ cred (tallyAt (sendCell c 0) () NC) ∗ cred (tallyAt (sendCell c 1) () NC))) := by
  rw [k0_part30_eq_skeleton]
  unfold k0_part30_skel copyPre
  iintro ⟨#HR, ⟨%W, HO⟩, ⟨H0, Hd0, Ht0, #Hr0, Hu0⟩, H1, Hd1, Ht1, #Hr1, Hu1⟩
  iapply (wp_copy A κ c 0 (peer_of c 0 (k0_dev4_eq c)) (owed₂ c) rfl (slotM_eq rfl) (slotM_eq rfl) (sendS_eq rfl) (recvS_eq rfl)) $$ [HO H0 Hd0 Ht0 Hu0]
  · isplitr; · iexact HR
    isplitl [HO]; · iexact HO
    isplitl [H0]; · iexact H0
    isplitl [Hd0]; · iexact Hd0
    isplitl [Ht0]; · iexact Ht0
    isplitr; · iexact Hr0
    iexact Hu0
  iintro ⟨HO, Hc0⟩
  iapply (wp_copy A κ c 1 (peer_of c 1 (k0_dev5_eq c)) (owed₁ c) rfl (slotM_eq rfl) (slotM_eq rfl) (sendS_eq rfl) (recvS_eq rfl)) $$ [HO H1 Hd1 Ht1 Hu1]
  · isplitr; · iexact HR
    isplitl [HO]; · iexact HO
    isplitl [H1]; · iexact H1
    isplitl [Hd1]; · iexact Hd1
    isplitl [Ht1]; · iexact Ht1
    isplitr; · iexact Hr1
    iexact Hu1
  iintro ⟨HO, Hc1⟩
  simp only [Prog.bind_ret, Prog.pure_eq_ret]
  iapply (wp_end c rfl)
  isplitl [HO]; · iexists _; iexact HO
  isplitl [Hc0] <;> iassumption

set_option maxHeartbeats 4000000 in
/-- The last copy, and the wait for slot 1. -/
theorem part_last (v : BitVec 32) :
    iprop(records A κ ∗ (∃ W, owes (c : Thread nD τ) (owed₁ c) W) ∗ copyPre A c 2 ∗ landPre c 0)
      ⊢ wp frame (wpE (defs₀ (F := F)) 𝒱₀ (c : Thread nD τ) none) Set.univ (k0_part31 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 c v) (fun _ => iprop((∃ W, owes (c : Thread nD τ) 0 W) ∗ cred (tallyAt (sendCell c 2) () NC) ∗ landPost A c 0)) := by
  rw [k0_part31_eq_skeleton]
  unfold k0_part31_skel copyPre landPre landPost
  iintro ⟨#HR, ⟨%W, HO⟩, ⟨H0, Hd0, Ht0, #Hr0, Hu0⟩, Hc, Ha⟩
  iapply (wp_copy A κ c 2 (peer_of c 2 (k0_dev6_eq c)) 0 rfl (slotM_eq rfl) (slotM_eq rfl) (sendS_eq rfl) (recvS_eq rfl)) $$ [HO H0 Hd0 Ht0 Hu0]
  · isplitr; · iexact HR
    isplitl [HO]; · iexact HO
    isplitl [H0]; · iexact H0
    isplitl [Hd0]; · iexact Hd0
    isplitl [Ht0]; · iexact Ht0
    isplitr; · iexact Hr0
    iexact Hu0
  iintro ⟨HO, Hc0⟩
  iapply (wp_landed A κ c 0 1 (slotM_eq rfl) (recvS_eq rfl)) $$ [HO Hc Ha]
  · isplitr; · iexact HR
    isplitl [Hc]; · iexact Hc
    isplitl [HO]; · iexists _; iexact HO
    iexact Ha
  iintro ⟨HO, Ha, Hp⟩
  simp only [Prog.bind_ret, Prog.pure_eq_ret]
  iapply (wp_end c rfl)
  isplitl [HO]; · iexact HO
  isplitl [Hc0]; · iexact Hc0
  isplitl [Ha] <;> iassumption

set_option maxHeartbeats 4000000 in
/-- The waits for slots 2 and 3, and for the first copy to be out. -/
theorem part_waits (v : BitVec 32) :
    iprop(records A κ ∗ (∃ W, owes (c : Thread nD τ) 0 W) ∗ landPre c 1 ∗ landPre c 2 ∗ sentPre c 0)
      ⊢ wp frame (wpE (defs₀ (F := F)) 𝒱₀ (c : Thread nD τ) none) Set.univ (k0_part32 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 v) (fun _ => iprop((∃ W, owes (c : Thread nD τ) 0 W) ∗ landPost A c 1 ∗ landPost A c 2 ∗ sentPost A c 0)) := by
  rw [k0_part32_eq_skeleton]
  unfold k0_part32_skel landPre landPost sentPre sentPost
  iintro ⟨#HR, HO, ⟨Hc1, Ha1⟩, ⟨Hc2, Ha2⟩, Hc0, Ha0⟩
  iapply (wp_landed A κ c 1 2 (slotM_eq rfl) (recvS_eq rfl)) $$ [HO Hc1 Ha1]
  · isplitr; · iexact HR
    isplitl [Hc1]; · iexact Hc1
    isplitl [HO]; · iexact HO
    iexact Ha1
  iintro ⟨HO, H1⟩
  iapply (wp_landed A κ c 2 3 (slotM_eq rfl) (recvS_eq rfl)) $$ [HO Hc2 Ha2]
  · isplitr; · iexact HR
    isplitl [Hc2]; · iexact Hc2
    isplitl [HO]; · iexact HO
    iexact Ha2
  iintro ⟨HO, H2⟩
  iapply (wp_sent A κ c 0 0 (slotM_eq rfl) (sendS_eq rfl)) $$ [HO Hc0 Ha0]
  · isplitr; · iexact HR
    isplitl [Hc0]; · iexact Hc0
    isplitl [HO]; · iexact HO
    iexact Ha0
  iintro ⟨HO, H0⟩
  simp only [Prog.bind_ret, Prog.pure_eq_ret]
  iapply (wp_end c rfl)
  isplitl [HO]; · iexact HO
  isplitl [H1]; · iexact H1
  isplitl [H2] <;> iassumption

/-- The buffer is whole again once everything landed and is out. -/
theorem com_whole : iprop(tri (recvPay A c) ∗ tri (sendPay A c)) ⊢ comP c (allIn A c) := by
  rw [com_slots, slot_thirds]
  unfold recvPay sendPay
  iintro ⟨H, H0⟩
  isplitl [H0]; · iexact H0
  iexact H

set_option maxHeartbeats 4000000 in
/-- The last two waits, and the lanes of the four slots combined. -/
theorem part_combine :
    iprop(records A κ ∗ (∃ W, owes (c : Thread nD τ) 0 W) ∗ sentPre c 1 ∗ sentPre c 2 ∗ sendPay A c 0 ∗ tri (recvPay A c))
      ⊢ wp frame (wpE (defs₀ (F := F)) 𝒱₀ (c : Thread nD τ) none) Set.univ (k0_part33 (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5) (fun x => iprop(⌜x = k0_pay29 (laneOf A c 1) (laneOf A c 0) (laneOf A c 2)⌝ ∗ (∃ W, owes (c : Thread nD τ) 0 W)
          ∗ comP c (allIn A c) ∗ atPos ER (sendCell c 1) (0 + 1) ∅ 0 ∗ atPos ER (sendCell c 2) (0 + 1) ∅ 0)) := by
  rw [k0_part33_eq_skeleton]
  unfold k0_part33_skel sentPre
  iintro ⟨#HR, HO, ⟨Hc1, Ha1⟩, ⟨Hc2, Ha2⟩, Hs0, Hrs⟩
  iapply (wp_sent A κ c 1 0 (slotM_eq rfl) (sendS_eq rfl)) $$ [HO Hc1 Ha1]
  · isplitr; · iexact HR
    isplitl [Hc1]; · iexact Hc1
    isplitl [HO]; · iexact HO
    iexact Ha1
  iintro ⟨HO, Ha1, Hs1⟩
  iapply (wp_sent A κ c 2 0 (slotM_eq rfl) (sendS_eq rfl)) $$ [HO Hc2 Ha2]
  · isplitr; · iexact HR
    isplitl [Hc2]; · iexact Hc2
    isplitl [HO]; · iexact HO
    iexact Ha2
  iintro ⟨HO, Ha2, Hs2⟩
  ihave Hc := (com_whole A c) $$ [Hrs Hs0 Hs1 Hs2]
  · isplitl [Hrs]; · iexact Hrs
    isplitl [Hs0]; · iexact Hs0
    isplitl [Hs1] <;> iassumption
  iapply (wp_read c (allIn A c) (laneOf A c 1) (lane_read A c 1 rfl)) $$ Hc; iintro Hc
  iapply (wp_read c (allIn A c) (laneOf A c 0) (lane_read A c 0 rfl)) $$ Hc; iintro Hc
  iapply (wp_read c (allIn A c) (laneOf A c 2) (lane_read A c 2 rfl)) $$ Hc; iintro Hc
  iapply (wp_end c rfl)
  isplitr; · ipureintro; rfl
  isplitl [HO]; · iexact HO
  isplitl [Hc]; · iexact Hc
  isplitl [Ha1] <;> iassumption

/-! ## The body -/

/-- The cells' positions, tokens and records a device enters the call with. -/
def opened : sProp 𝕄 :=
  iprop(atPos ER (barCell c) 0 ∅ 0 ∗ tri (fun k => atPos ER (sendCell c k) 0 ∅ 0) ∗ tri (fun k => atPos ER (recvCell c k) 0 ∅ 0)
    ∗ tri (fun k => reached ER (sendCell c k) 0) ∗ tri (fun k => reached ER (recvCell c k) 0)
    ∗ tri (fun k => dutyTok ER (barCell (peer c k)) 0 k) ∗ tri (fun k => dutyTok ER (sendCell c k) 0 0) ∗ tri (fun k => dutyTok ER (recvCell (peer c k) k.rev) 0 0)
    ∗ cred (tallyAt (barCell c) () 3) ∗ tri (fun k => cred (tallyAt (recvCell c k) () NC)))

/-- All counters of the exchange back at zero. -/
def zeroed : sProp 𝕄 :=
  iprop(semVal (barCell c) 0 ∗ tri (fun k => semVal (sendCell c k) 0) ∗ tri (fun k => semVal (recvCell c k) 0))

set_option maxHeartbeats 4000000 in
/-- The body from end to end: the result holds what device `c` computes from all four devices' partials. -/
theorem body_run (T : Tab (F := F) c) (hT : ∀ r p, (entry c T r p).toNat < 256) (N : Cnt (F := F) c) (hN : ∀ r, (count c N r).toNat ≤ 256) (X : ∀ b, Arr (F := F) c b) (Q : Qry (F := F) c)
    (hA : A c = partials c T N X Q) :
    iprop(records A κ ∗ levAts L lv ∗ keeps c T N X Q ∗ (∃ f, comP c f) ∗ (∃ f, outP c f) ∗ (∃ W, owes (c : Thread nD τ) (O₀ c) W) ∗ opened (F := F) c)
      ⊢ wp frame (wpE (defs₀ (F := F)) 𝒱₀ (c : Thread nD τ) none) Set.univ (cc0_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5) (fun _ => iprop(keeps c T N X Q ∗ (∃ f, comP c f) ∗ outP c (outOf A c) ∗ (∃ W, owes (c : Thread nD τ) 0 W) ∗ zeroed (F := F) c)) := by
  rw [cc0_body_eq_skeleton]
  unfold cc0_body_skel opened
  iintro ⟨#HR, #HL, Hk, Hc, ⟨%fo, Ho⟩, HO, Hab, ⟨Has0, Has1, Has2⟩, ⟨Har0, Har1, Har2⟩, ⟨#Hrs0, #Hrs1, #Hrs2⟩, #Hrr, Htb, ⟨Hts0, Hts1, Hts2⟩, ⟨Htr0, Htr1, Htr2⟩, Hcb, Hcr0, Hcr1, Hcr2⟩
  iapply (wp_next c (part_meet A κ c T hT N hN X Q hA)) $$ [Hk Hc HO Hcb Hab Htb]
  · isplitr; · iexact HR
    isplitr; · iexact HL
    isplitl [Hk]; · iexact Hk
    isplitl [Hc]; · iexact Hc
    isplitl [HO]; · iexact HO
    isplitl [Hcb]; · iexact Hcb
    isplitl [Hab]; · iexact Hab
    isplitl [Htb]; · iexact Htb
    iexact Hrr
  iintro %x ⟨%hx, Hk, Hc0, HO, Hab, Hp0, Hp1, Hp2⟩
  obtain ⟨d, v⟩ := x
  dsimp only at hx
  subst hx
  ihave Hc0 := (Entails.of_eq (slot_thirds d (allIn A d))) $$ Hc0
  icases Hc0 with ⟨Hq0, Hq1, Hq2⟩
  iapply (wp_next d (part_copies A κ d v)) $$ [HO Hq0 Hq1 Hp2 Hp1 Hts0 Hts1 Htr0 Htr1]
  · isplitr; · iexact HR
    isplitl [HO]; · iexact HO
    isplitl [Hq0 Hp2 Hts0 Htr0]
    · unfold copyPre sendPay
      isplitl [Hq0]; · iexact Hq0
      isplitl [Hp2]; · iexact Hp2
      isplitl [Hts0]; · iexact Hts0
      isplitr; · iexact Hrs0
      iexact Htr0
    · unfold copyPre sendPay
      isplitl [Hq1]; · iexact Hq1
      isplitl [Hp1]; · iexact Hp1
      isplitl [Hts1]; · iexact Hts1
      isplitr; · iexact Hrs1
      iexact Htr1
  iintro %_ ⟨HO, Hcs0, Hcs1⟩
  iapply (wp_next d (part_last A κ d v)) $$ [HO Hq2 Hp0 Hts2 Htr2 Hcr0 Har0]
  · isplitr; · iexact HR
    isplitl [HO]; · iexact HO
    isplitl [Hq2 Hp0 Hts2 Htr2]
    · unfold copyPre sendPay
      isplitl [Hq2]; · iexact Hq2
      isplitl [Hp0]; · iexact Hp0
      isplitl [Hts2]; · iexact Hts2
      isplitr; · iexact Hrs2
      iexact Htr2
    · unfold landPre
      isplitl [Hcr0] <;> iassumption
  iintro %_ ⟨HO, Hcs2, Hl0⟩
  iapply (wp_next d (part_waits A κ d v)) $$ [HO Hcr1 Har1 Hcr2 Har2 Hcs0 Has0]
  · isplitr; · iexact HR
    isplitl [HO]; · iexact HO
    isplitl [Hcr1 Har1]
    · unfold landPre
      isplitl [Hcr1] <;> iassumption
    isplitl [Hcr2 Har2]
    · unfold landPre
      isplitl [Hcr2] <;> iassumption
    · unfold sentPre
      isplitl [Hcs0] <;> iassumption
  iintro %_ ⟨HO, Hl1, Hl2, Hs0⟩
  unfold landPost sentPost
  icases Hl0 with ⟨Har0, Hv0⟩
  icases Hl1 with ⟨Har1, Hv1⟩
  icases Hl2 with ⟨Har2, Hv2⟩
  icases Hs0 with ⟨Has0, Hq0⟩
  iapply (wp_next d (part_combine A κ d)) $$ [HO Hcs1 Has1 Hcs2 Has2 Hq0 Hv0 Hv1 Hv2]
  · isplitr; · iexact HR
    isplitl [HO]; · iexact HO
    isplitl [Hcs1 Has1]
    · unfold sentPre
      isplitl [Hcs1] <;> iassumption
    isplitl [Hcs2 Has2]
    · unfold sentPre
      isplitl [Hcs2] <;> iassumption
    isplitl [Hq0]; · iexact Hq0
    isplitl [Hv0]; · iexact Hv0
    isplitl [Hv1] <;> iassumption
  iintro %w ⟨%hw, HO, Hc, Has1, Has2⟩
  subst hw
  iapply (wp_read d fo _ rfl) $$ Ho; iintro Ho
  iapply (wp_write d fo) $$ Ho; iintro Ho
  imod (close A κ (barCell d) (bar_mem d)) $$ [Hab] with Hzb
  · isplitr; · iexact HR
    iexact Hab
  imod (close A κ (sendCell d 0) (send_mem d 0)) $$ [Has0] with Hzs0
  · isplitr; · iexact HR
    iexact Has0
  imod (close A κ (sendCell d 1) (send_mem d 1)) $$ [Has1] with Hzs1
  · isplitr; · iexact HR
    iexact Has1
  imod (close A κ (sendCell d 2) (send_mem d 2)) $$ [Has2] with Hzs2
  · isplitr; · iexact HR
    iexact Has2
  imod (close A κ (recvCell d 0) (recv_mem d 0)) $$ [Har0] with Hzr0
  · isplitr; · iexact HR
    iexact Har0
  imod (close A κ (recvCell d 1) (recv_mem d 1)) $$ [Har1] with Hzr1
  · isplitr; · iexact HR
    iexact Har1
  imod (close A κ (recvCell d 2) (recv_mem d 2)) $$ [Har2] with Hzr2
  · isplitr; · iexact HR
    iexact Har2
  simp only [Prog.bind_ret, Prog.pure_eq_ret]
  iapply (wp_end d rfl)
  isplitl [Hk]; · iexact Hk
  isplitl [Hc]; · iexists _; iexact Hc
  isplitl [Ho]
  · iapply (out_back d fo (outOf A d)); iexact Ho
  isplitl [HO]; · iexact HO
  unfold zeroed
  isplitl [Hzb]; · iexact Hzb
  isplitl [Hzs0 Hzs1 Hzs2]
  · isplitl [Hzs0]; · iexact Hzs0
    isplitl [Hzs1] <;> iassumption
  isplitl [Hzr0]; · iexact Hzr0
  isplitl [Hzr1] <;> iassumption

end Cert.PagedKernelIdeal
-- ==== Proof.KernelIdeal.Setup.lean ====
/-
  What the kernel starts from and gives back: the arrays dealt to the places of the page buffers, the buffers cut
  into places, the counters at zero.
-/
module

public import proofs.«01_k».proof.Proof.KernelIdeal.Exchange
public import proofs.«01_k».proof.Proof.Gen.KernelIdeal.Launch

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (c : Dev nD)

/-- A whole array, a whole page buffer, and what stays of the array once every place has its share. -/
abbrev arrP (b : Fin 2) (X : Arr (F := F) c b) : sProp 𝕄 := (laneArr b).view.loc (c : Thread nD τ) ↦{fullShare} X
abbrev bufP (b : Fin 2) (f : Bufs (F := F) c b) : sProp 𝕄 := (laneBuf b).view.loc (c : Thread nD τ) ↦{fullShare} f
abbrev restP (b : Fin 2) (X : Arr (F := F) c b) : sProp 𝕄 := (laneArr b).view.loc (c : Thread nD τ) ↦[Finset.univ]{Transfers.shareDrop fullShare 16} X

theorem arr_toks (b : Fin 2) (X : Arr (F := F) c b) :
    (bigSep Finset.univ fun i : Fin 16 => ((laneArr b).view.loc (c : Thread nD τ) ↦[Finset.univ]{Transfers.shareTok fullShare 16 i} X : sProp 𝕄))
      = bigSep Finset.univ fun sj : Fin 2 × Fin 8 => tokP c b sj.1 sj.2 X :=
  bigSep_univ_equiv (finProdFinEquiv (m := 2) (n := 8)) fun i : Fin 16 => ((laneArr b).view.loc (c : Thread nD τ) ↦[Finset.univ]{Transfers.shareTok fullShare 16 i} X : sProp 𝕄)

theorem place_ne {b : Fin 2} (x y : Fin 2 × Fin 8) (h : x ≠ y) : Disjoint (placeSet c b x.1 x.2) (placeSet c b y.1 y.2) :=
  places_disjoint c b x.1 y.1 x.2 y.2 h

theorem buf_places (b : Fin 2) (f : Bufs (F := F) c b) : bufP c b f ⊢ bigSep Finset.univ fun sj : Fin 2 × Fin 8 => iprop(∃ f, placeP (F := F) c b sj.1 sj.2 f) := by
  refine (Entails.of_eq (Ring.pointsTo_blocks (ℓ := (laneBuf b).view.loc (c : Thread nD τ)) (q := fullShare) (fun sj : Fin 2 × Fin 8 => placeSet c b sj.1 sj.2) (fun x y h => place_ne c x y h) (places_buf c b) f)).trans
    (bigSep_mono fun sj _ => ?_)
  show ((laneBuf b).view.loc (c : Thread nD τ) ↦[placeSet c b sj.1 sj.2]{fullShare} f : sProp 𝕄) ⊢ iprop(∃ f, placeP (F := F) c b sj.1 sj.2 f)
  iintro H; iexists f; iexact H
theorem places_back (b : Fin 2) (f₀ : Bufs (F := F) c b) : (bigSep Finset.univ fun sj : Fin 2 × Fin 8 => iprop(∃ f, placeP (F := F) c b sj.1 sj.2 f)) ⊢ iprop(∃ f, bufP (F := F) c b f) :=
  Ring.pointsTo_blocks_join_exists (ℓ := (laneBuf b).view.loc (c : Thread nD τ)) (q := fullShare) (fun sj : Fin 2 × Fin 8 => placeSet c b sj.1 sj.2) (fun x y h => place_ne c x y h) (places_buf c b) f₀

theorem idles_eq (b : Fin 2) (X : Arr (F := F) c b) :
    (bigSep Finset.univ fun sj : Fin 2 × Fin 8 => idle c b sj.1 sj.2 X)
      = iprop((bigSep Finset.univ fun sj : Fin 2 × Fin 8 => iprop(∃ f, placeP (F := F) c b sj.1 sj.2 f)) ∗ (bigSep Finset.univ fun sj : Fin 2 × Fin 8 => tokP c b sj.1 sj.2 X)
          ∗ bigSep Finset.univ fun sj : Fin 2 × Fin 8 => zeroP (F := F) c b sj.1 sj.2) := by
  rw [← bigSep_sep', ← bigSep_sep']; rfl

theorem lane_open (b : Fin 2) (X : Arr (F := F) c b) :
    iprop(arrP c b X ∗ (∃ f, bufP (F := F) c b f) ∗ bigSep Finset.univ fun sj : Fin 2 × Fin 8 => zeroP (F := F) c b sj.1 sj.2)
      ⊢ iprop(restP c b X ∗ bigSep Finset.univ fun sj : Fin 2 × Fin 8 => idle c b sj.1 sj.2 X) := by
  rw [idles_eq, ← arr_toks]
  iintro ⟨Ha, ⟨%f, Hb⟩, Hz⟩
  ihave Ha := (Transfers.pointsTo_toks_split fullShare 16) $$ Ha
  icases Ha with ⟨Hr, Ht⟩
  ihave Hb := (buf_places c b f) $$ Hb
  isplitl [Hr]; · iexact Hr
  isplitl [Hb]; · iexact Hb
  isplitl [Ht]; · iexact Ht
  iexact Hz
theorem lane_close (b : Fin 2) (X : Arr (F := F) c b) (f₀ : Bufs (F := F) c b) :
    iprop(restP c b X ∗ bigSep Finset.univ fun sj : Fin 2 × Fin 8 => idle c b sj.1 sj.2 X)
      ⊢ iprop(arrP c b X ∗ (∃ f, bufP (F := F) c b f) ∗ bigSep Finset.univ fun sj : Fin 2 × Fin 8 => zeroP (F := F) c b sj.1 sj.2) := by
  rw [idles_eq, ← arr_toks]
  iintro ⟨Hr, Hb, Ht, Hz⟩
  isplitl [Hr Ht]
  · iapply (Transfers.pointsTo_toks_join fullShare 16)
    isplitl [Hr] <;> iassumption
  isplitl [Hb]; · iapply (places_back c b f₀); iexact Hb
  iexact Hz

theorem two_octs (Φ : Fin 2 → Fin 8 → sProp 𝕄) : (bigSep Finset.univ fun sj : Fin 2 × Fin 8 => Φ sj.1 sj.2) = iprop(oct (Φ 0) ∗ oct (Φ 1)) := by
  rw [bigSep_univ_prod, BI.bigSep_fin_two (fun s : Fin 2 => bigSep Finset.univ fun j : Fin 8 => Φ s j), oct_eq, oct_eq]; rfl

/-- The counters of the page copies, all at zero. -/
def pagesZero : sProp 𝕄 := bigSep Finset.univ fun x : Fin 2 × (Fin 2 × Fin 8) => zeroP (F := F) c x.1 x.2.1 x.2.2
theorem pagesZero_eq : pagesZero (F := F) c = iprop((bigSep Finset.univ fun sj : Fin 2 × Fin 8 => zeroP (F := F) c 0 sj.1 sj.2) ∗ bigSep Finset.univ fun sj : Fin 2 × Fin 8 => zeroP (F := F) c 1 sj.1 sj.2) := by
  unfold pagesZero
  rw [bigSep_univ_prod]
  exact BI.bigSep_fin_two (fun b : Fin 2 => bigSep Finset.univ fun sj : Fin 2 × Fin 8 => zeroP (F := F) c b sj.1 sj.2)

/-- Both arrays, both page buffers and the counters at zero make both slots of both lanes at rest; -/
theorem slack_open (X : ∀ b, Arr (F := F) c b) :
    iprop((arrP c 0 (X 0) ∗ arrP c 1 (X 1)) ∗ ((∃ f, bufP (F := F) c 0 f) ∗ (∃ f, bufP (F := F) c 1 f)) ∗ pagesZero (F := F) c)
      ⊢ iprop((restP c 0 (X 0) ∗ restP c 1 (X 1)) ∗ (slack c X 0 ∗ slack c X 1)) := by
  rw [pagesZero_eq]
  iintro ⟨⟨Ha0, Ha1⟩, ⟨Hb0, Hb1⟩, Hz0, Hz1⟩
  ihave H0 := (lane_open c 0 (X 0)) $$ [Ha0 Hb0 Hz0]
  · isplitl [Ha0]; · iexact Ha0
    isplitl [Hb0] <;> iassumption
  ihave H1 := (lane_open c 1 (X 1)) $$ [Ha1 Hb1 Hz1]
  · isplitl [Ha1]; · iexact Ha1
    isplitl [Hb1] <;> iassumption
  rw [two_octs (fun s j => idle c 0 s j (X 0)), two_octs (fun s j => idle c 1 s j (X 1))]
  icases H0 with ⟨Hr0, H00, H01⟩
  icases H1 with ⟨Hr1, H10, H11⟩
  isplitl [Hr0 Hr1]; · isplitl [Hr0] <;> iassumption
  isplitl [H00 H10]
  · isplitl [H00] <;> iassumption
  · isplitl [H01] <;> iassumption
/-- and back. -/
theorem slack_close (X : ∀ b, Arr (F := F) c b) (f₀ : ∀ b, Bufs (F := F) c b) :
    iprop((restP c 0 (X 0) ∗ restP c 1 (X 1)) ∗ (slack c X 0 ∗ slack c X 1))
      ⊢ iprop((arrP c 0 (X 0) ∗ arrP c 1 (X 1)) ∗ ((∃ f, bufP (F := F) c 0 f) ∗ (∃ f, bufP (F := F) c 1 f)) ∗ pagesZero (F := F) c) := by
  rw [pagesZero_eq]
  iintro ⟨⟨Hr0, Hr1⟩, ⟨H00, H10⟩, H01, H11⟩
  ihave H0 := ((Entails.of_eq (congrArg (fun P : sProp 𝕄 => iprop(restP c 0 (X 0) ∗ P)) (two_octs (fun s j => idle c 0 s j (X 0))).symm)).trans (lane_close c 0 (X 0) (f₀ 0))) $$ [Hr0 H00 H01]
  · isplitl [Hr0]; · iexact Hr0
    isplitl [H00] <;> iassumption
  ihave H1 := ((Entails.of_eq (congrArg (fun P : sProp 𝕄 => iprop(restP c 1 (X 1) ∗ P)) (two_octs (fun s j => idle c 1 s j (X 1))).symm)).trans (lane_close c 1 (X 1) (f₀ 1))) $$ [Hr1 H10 H11]
  · isplitl [Hr1]; · iexact Hr1
    isplitl [H10] <;> iassumption
  icases H0 with ⟨Ha0, Hb0, Hz0⟩
  icases H1 with ⟨Ha1, Hb1, Hz1⟩
  isplitl [Ha0 Ha1]; · isplitl [Ha0] <;> iassumption
  isplitl [Hb0 Hb1]; · isplitl [Hb0] <;> iassumption
  isplitl [Hz0] <;> iassumption

/-! ## The call's own counters -/

/-- The counters of the page copies, and of the copies between devices. -/
def osem : (Fin 2 × (Fin 2 × Fin 8)) ⊕ (Fin 2 × Fin 3) → SemLoc sig := Sum.elim (fun x => .dma (cell x.1 x.2.1 x.2.2).sem) osc
theorem osem_facts : Pipeline.OwnSemFacts spec0 osem := by decide +kernel

theorem ownSems_eq : (Pipeline.ownSems0 osem c : sProp 𝕄) = iprop(pagesZero (F := F) c ∗ tri (fun k => semVal (sendCell c k) 0) ∗ tri (fun k => semVal (recvCell c k) 0)) := by
  unfold Pipeline.ownSems0 pagesZero
  rw [bigSep_univ_sum, bigSep_univ_prod (fun x : Fin 2 × Fin 3 => (semVal ((c : Thread nD τ), osem (Sum.inr x)) 0 : sProp 𝕄)),
    BI.bigSep_fin_two (fun i : Fin 2 => bigSep Finset.univ fun k : Fin 3 => (semVal ((c : Thread nD τ), osem (Sum.inr (i, k))) 0 : sProp 𝕄)), tri_eq, tri_eq]
  rfl

end Cert.PagedKernelIdeal
-- ==== Proof.KernelIdeal.Region.lean ====
/-
  The call as one step of the pipeline: what it reads, what it leaves, and that the body meets its obligation.
-/
module

public import proofs.«01_k».proof.Proof.KernelIdeal.Body
public import proofs.«01_k».proof.Proof.KernelIdeal.Setup
public import proofs.«01_k».proof.Proof.Gen.KernelIdeal.Regions
public import proofs.«01_k».proof.Proof.Gen.KernelIdeal.Points
public import Idealize.ShloMosaic.Lib.Pipeline.RegionTalk

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (W : Dev nD → Valuation τ sig (Elt F)) (c : Dev nD)

/-! ## What the call reads, and what each device makes of it -/

/-- The queries, the table of pages and the counts, as the call finds them. -/
def qryOf : Qry (F := F) c := W c (Proc.devRef .tc main_arg0)
def tabOf : Tab (F := F) c := W c (Proc.devRef .tc main_v21)
def cntOf : Cnt (F := F) c := W c (Proc.devRef .tc main_v23)
/-- The two arrays of pages, which the call leaves where they are. -/
def pagesOf : ∀ b, Arr (F := F) c b
  | 0 => W c (Proc.devRef .tc main_arg1)
  | 1 => W c (Proc.devRef .tc main_arg2)
/-- All devices' partials. -/
def partsOf : Parts (F := F) := fun d => partials d (tabOf W d) (cntOf W d) (pagesOf W d) (qryOf W d)

/-- The pages a device reads are its own, and no row has more than there are places for. -/
structure InRange : Prop where
  tab : ∀ d r p, (entry d (tabOf W d) r p).toNat < 256
  cnt : ∀ d r, (count d (cntOf W d) r).toNat ≤ 256

/-! ## The call's proof data -/

def buffers : sProp 𝕄 := iprop((∃ f, comP (F := F) c f) ∗ (∃ f, bufP (F := F) c 0 f) ∗ (∃ f, bufP (F := F) c 1 f))
def arrays2 : sProp 𝕄 := iprop(arrP c 0 (pagesOf W c 0) ∗ arrP c 1 (pagesOf W c 1))
def before : sProp 𝕄 :=
  iprop((∃ κ, records (partsOf W) κ) ∗ opened (F := F) c ∗ levAts L lv ∗ pagesZero (F := F) c ∗ arrays2 W c ∗ buffers (F := F) c ∗ ∃ r, prngReg c r)
def afterwards : sProp 𝕄 := iprop(zeroed (F := F) c ∗ pagesZero (F := F) c ∗ arrays2 W c ∗ buffers (F := F) c ∗ ∃ r, prngReg c r)

def dat0 : Pipeline.Dat τ (Elt F) Unit ℕ UU ℕ cfg0 c where
  A w := W c (Proc.devRef .tc (Pipeline.arrRef spec0 w))
  after w _ := match w with
    | ⟨0, _⟩ => qryOf W c
    | ⟨1, _⟩ => tabOf W c
    | ⟨2, _⟩ => cntOf W c
    | ⟨3, _⟩ => outOf (partsOf W) c
  Φ t := if t.val = 0 then before W c else afterwards W c
  q _ := fullShare
  owed t := if t.val = 0 then O₀ c else 0

def pdats : (p : Fin 1) → (c : Dev nD) → Pipeline.Dat τ (Elt F) Unit ℕ UU ℕ (cfgs p) c
  | 0 => dat0 W

theorem last_ne : (Fin.last cfg0.N).val ≠ 0 := by rw [Fin.val_last, show cfg0.N = 1 from N_0]; decide
theorem phi_first : (dat0 W c).Φ t0_0.castSucc = before W c := by
  show (if (t0_0.castSucc).val = 0 then before W c else afterwards W c) = before W c
  exact if_pos rfl
theorem phi_last : (dat0 W c).Φ t0_0.succ = afterwards W c := by
  show (if (t0_0.succ).val = 0 then before W c else afterwards W c) = afterwards W c
  exact if_neg (by rw [Fin.val_succ]; exact Nat.succ_ne_zero _)
theorem owed_first : (dat0 W c).owed t0_0.castSucc = O₀ c := by
  show (if (t0_0.castSucc).val = 0 then O₀ c else 0) = O₀ c
  exact if_pos rfl
theorem owed_last : (dat0 W c).owed t0_0.succ = 0 := by
  show (if (t0_0.succ).val = 0 then O₀ c else 0) = 0
  exact if_neg (by rw [Fin.val_succ]; exact Nat.succ_ne_zero _)

theorem owesAt_intro {cfg : Pipeline.Cfg sig Λ₀} {c : Dev nD} (dat : Pipeline.Dat τ (Elt F) Unit ℕ UU ℕ cfg c) (t : Fin (cfg.N + 1))
    (O : CellTallies nD τ sig Unit) (h : dat.owed t = O) (hr : dat.recorded t = Set.univ) :
    iprop(∃ W, owes (c : Thread nD τ) O W) ⊢ (dat.owesAt () t : sProp 𝕄) := by
  unfold Pipeline.Dat.owesAt Pipeline.owesWithin Pipeline.Dat.bound
  rw [h, hr]
  iintro ⟨%W, H⟩
  iexists W
  isplitr; · ipureintro; exact fun _ _ => Or.inl trivial
  iexact H
theorem owesAt_elim {cfg : Pipeline.Cfg sig Λ₀} {c : Dev nD} (dat : Pipeline.Dat τ (Elt F) Unit ℕ UU ℕ cfg c) (t : Fin (cfg.N + 1))
    (O : CellTallies nD τ sig Unit) (h : dat.owed t = O) : (dat.owesAt () t : sProp 𝕄) ⊢ iprop(∃ W, owes (c : Thread nD τ) O W) := by
  unfold Pipeline.Dat.owesAt Pipeline.owesWithin
  rw [h]
  iintro ⟨%W, -, H⟩
  iexists W; iexact H

theorem read_0 (f : Buf (Elt F) ((c : Thread nD τ).loc main_arg0)) : ((cfg0.win 0).blk t0_0).view.read (Elt F) f = f :=
  Memref.read_access_unit_zero (Elt F) main_arg0
    (show (fun a => (win0_0.index t0_0) a * main_arg0.ty.shape.size a) = fun _ => 0 from funext fun a => by fin_cases a <;> decide) (fun a => by fin_cases a <;> decide) f
theorem read_1 (f : Buf (Elt F) ((c : Thread nD τ).loc main_v21)) : ((cfg0.win 1).blk t0_0).view.read (Elt F) f = f :=
  Memref.read_access_unit_zero (Elt F) main_v21
    (show (fun a => (win0_1.index t0_0) a * main_v21.ty.shape.size a) = fun _ => 0 from funext fun a => by fin_cases a <;> decide) (fun a => by fin_cases a <;> decide) f
theorem read_2 (f : Buf (Elt F) ((c : Thread nD τ).loc main_v23)) : ((cfg0.win 2).blk t0_0).view.read (Elt F) f = f :=
  Memref.read_access_unit_zero (Elt F) main_v23
    (show (fun a => (win0_2.index t0_0) a * main_v23.ty.shape.size a) = fun _ => 0 from funext fun a => by fin_cases a <;> decide) (fun a => by fin_cases a <;> decide) f
theorem read_3 (f : Buf (Elt F) ((c : Thread nD τ).loc main_v24)) : ((cfg0.win 3).blk t0_0).view.read (Elt F) f = f :=
  Memref.read_access_unit_zero (Elt F) main_v24
    (show (fun a => (win0_3.index t0_0) a * main_v24.ty.shape.size a) = fun _ => 0 from funext fun a => by fin_cases a <;> decide) (fun a => by fin_cases a <;> decide) f

theorem before_0 (d) : (dat0 W c).before 0 t0_0 d = qryOf W c :=
  ((dat0 W c).before_fetched 0 t0_0 (fetch0_0 _) d).trans (show (dat0 W c).fetched 0 t0_0 d = qryOf W c from by
    unfold Pipeline.Dat.fetched Pipeline.Dat.blockOf; dsimp only [dat0]; exact read_0 (F := F) c _)
theorem before_1 (d) : (dat0 W c).before 1 t0_0 d = tabOf W c :=
  ((dat0 W c).before_fetched 1 t0_0 (fetch0_1 _) d).trans (show (dat0 W c).fetched 1 t0_0 d = tabOf W c from by
    unfold Pipeline.Dat.fetched Pipeline.Dat.blockOf; dsimp only [dat0]; exact read_1 (F := F) c _)
theorem before_2 (d) : (dat0 W c).before 2 t0_0 d = cntOf W c :=
  ((dat0 W c).before_fetched 2 t0_0 (fetch0_2 _) d).trans (show (dat0 W c).fetched 2 t0_0 d = cntOf W c from by
    unfold Pipeline.Dat.fetched Pipeline.Dat.blockOf; dsimp only [dat0]; exact read_2 (F := F) c _)

/-! ## The body's obligation -/

/-- The whole step: the staged blocks, the buffers and the protocol in; the result out. -/
theorem step (hR : InRange W) :
    iprop(before W c ∗ (∃ V, owes (c : Thread nD τ) (O₀ c) V) ∗ qP c (qryOf W c) ∗ tabP c (tabOf W c) ∗ cntP c (cntOf W c) ∗ (∃ f, outP c f))
      ⊢ wp frame (wpE (defs₀ (F := F)) 𝒱₀ (c : Thread nD τ) none) Set.univ (cc0_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5)
          (fun _ => iprop(afterwards W c ∗ (∃ V, owes (c : Thread nD τ) 0 V) ∗ qP c (qryOf W c) ∗ tabP c (tabOf W c) ∗ cntP c (cntOf W c) ∗ outP c (outOf (partsOf W) c))) := by
  unfold before buffers arrays2
  iintro ⟨⟨⟨%κ, #HR⟩, Hop, #HL, Hz, Ha, ⟨Hc, Hb0, Hb1⟩, Hp⟩, HO, Hq, Ht, Hn, Ho⟩
  ihave Hs := (slack_open c (pagesOf W c)) $$ [Ha Hb0 Hb1 Hz]
  · isplitl [Ha]; · iexact Ha
    isplitl [Hb0 Hb1]; · isplitl [Hb0] <;> iassumption
    iexact Hz
  icases Hs with ⟨Hr, Hs⟩
  iapply (wp_wand_r _ _ _)
  isplitl [Hop Hs Hc Hq Ht Hn Ho HO]
  · iapply (body_run (partsOf W) κ c (tabOf W c) (hR.tab c) (cntOf W c) (hR.cnt c) (pagesOf W c) (qryOf W c) rfl)
    unfold keeps
    isplitr; · iexact HR
    isplitr; · iexact HL
    isplitl [Hs Hq Ht Hn]
    · isplitl [Ht]; · iexact Ht
      isplitl [Hn]; · iexact Hn
      isplitl [Hq]; · iexact Hq
      iexact Hs
    isplitl [Hc]; · iexact Hc
    isplitl [Ho]; · iexact Ho
    isplitl [HO]; · iexact HO
    iexact Hop
  · iintro %_ H
    unfold keeps afterwards buffers arrays2
    icases H with ⟨⟨Ht, Hn, Hq, Hs⟩, Hc, Ho, HO, Hz⟩
    ihave Hs := (slack_close c (pagesOf W c) fun b => Classical.choice inferInstance) $$ [Hs Hr]
    · isplitl [Hr] <;> iassumption
    icases Hs with ⟨Ha, ⟨Hb0, Hb1⟩, Hpz⟩
    isplitl [Hz Hpz Ha Hc Hb0 Hb1 Hp]
    · isplitl [Hz]; · iexact Hz
      isplitl [Hpz]; · iexact Hpz
      isplitl [Ha]; · iexact Ha
      isplitl [Hc Hb0 Hb1]
      · isplitl [Hc]; · iexact Hc
        isplitl [Hb0] <;> iassumption
      iexact Hp
    isplitl [HO]; · iexact HO
    isplitl [Hq]; · iexact Hq
    isplitl [Ht]; · iexact Ht
    isplitl [Hn] <;> iassumption

theorem owns_0 (X) : (owns (c : Thread nD τ) ((cfg0.win 0).stage (cfg0.slots t0_0 0)) fullShare X : sProp 𝕄) = qP c X := owns_whole (c : Thread nD τ) cc0_stg0_0 fullShare X
theorem owns_1 (X) : (owns (c : Thread nD τ) ((cfg0.win 1).stage (cfg0.slots t0_0 1)) fullShare X : sProp 𝕄) = tabP c X := owns_whole (c : Thread nD τ) cc0_stg1_0 fullShare X
theorem owns_2 (X) : (owns (c : Thread nD τ) ((cfg0.win 2).stage (cfg0.slots t0_0 2)) fullShare X : sProp 𝕄) = cntP c X := owns_whole (c : Thread nD τ) cc0_stg2_0 fullShare X
theorem owns_3 (X) : (owns (c : Thread nD τ) ((cfg0.win 3).stage (cfg0.slots t0_0 3)) fullShare X : sProp 𝕄) = outP c X := owns_whole (c : Thread nD τ) cc0_stg3_0 fullShare X

theorem body_row : (defs₀ (F := F)) .tc cfg0.body (cfg0.bodyArgs t0_0 (cfg0.slots t0_0)) = cc0_body (F := F) qM (Memref.isWhole_whole _) kM (Memref.isWhole_whole _) vM (Memref.isWhole_whole _) tabM (Memref.isWhole_whole _) cntM (Memref.isWhole_whole _) outM (Memref.isWhole_whole _) comM (Memref.isWhole_whole _) kbM (Memref.isWhole_whole _) vbM (Memref.isWhole_whole _) cc0_scratch3 cc0_scratch4 cc0_scratch5 := by
  unfold defs₀; rw [Defs.onTc_tc]

theorem enter_eq :
    iprop((dat0 W c).Φ t0_0.castSucc ∗ (dat0 W c).owesAt () t0_0.castSucc
        ∗ (∃ d, owns (c : Thread nD τ) ((cfg0.win 0).stage (cfg0.slots t0_0 0)) fullShare ((dat0 W c).before 0 t0_0 d))
        ∗ (∃ d, owns (c : Thread nD τ) ((cfg0.win 1).stage (cfg0.slots t0_0 1)) fullShare ((dat0 W c).before 1 t0_0 d))
        ∗ (∃ d, owns (c : Thread nD τ) ((cfg0.win 2).stage (cfg0.slots t0_0 2)) fullShare ((dat0 W c).before 2 t0_0 d))
        ∗ (∃ d, owns (c : Thread nD τ) ((cfg0.win 3).stage (cfg0.slots t0_0 3)) fullShare ((dat0 W c).before 3 t0_0 d)))
      ⊢ (iprop(before W c ∗ (∃ V, owes (c : Thread nD τ) (O₀ c) V) ∗ qP c (qryOf W c) ∗ tabP c (tabOf W c) ∗ cntP c (cntOf W c) ∗ (∃ f, outP c f)) : sProp 𝕄) := by
  rw [phi_first]
  iintro ⟨HΦ, HO, ⟨%d0, H0⟩, ⟨%d1, H1⟩, ⟨%d2, H2⟩, ⟨%d3, H3⟩⟩
  isplitl [HΦ]; · iexact HΦ
  isplitl [HO]; · iapply (owesAt_elim (dat0 W c) t0_0.castSucc (O₀ c) (owed_first W c)); iexact HO
  isplitl [H0]; · iapply (Entails.of_eq ((congrArg _ (before_0 W c d0)).trans (owns_0 c (qryOf W c)))); iexact H0
  isplitl [H1]; · iapply (Entails.of_eq ((congrArg _ (before_1 W c d1)).trans (owns_1 c (tabOf W c)))); iexact H1
  isplitl [H2]; · iapply (Entails.of_eq ((congrArg _ (before_2 W c d2)).trans (owns_2 c (cntOf W c)))); iexact H2
  iexists ((dat0 W c).before 3 t0_0 d3)
  iapply (Entails.of_eq (owns_3 c ((dat0 W c).before 3 t0_0 d3))); iexact H3

theorem leave_eq :
    (iprop(afterwards W c ∗ (∃ V, owes (c : Thread nD τ) 0 V) ∗ qP c (qryOf W c) ∗ tabP c (tabOf W c) ∗ cntP c (cntOf W c) ∗ outP c (outOf (partsOf W) c)) : sProp 𝕄)
      ⊢ iprop((dat0 W c).Φ t0_0.succ ∗ (dat0 W c).owesAt () t0_0.succ
        ∗ owns (c : Thread nD τ) ((cfg0.win 0).stage (cfg0.slots t0_0 0)) fullShare ((dat0 W c).after 0 t0_0)
        ∗ owns (c : Thread nD τ) ((cfg0.win 1).stage (cfg0.slots t0_0 1)) fullShare ((dat0 W c).after 1 t0_0)
        ∗ owns (c : Thread nD τ) ((cfg0.win 2).stage (cfg0.slots t0_0 2)) fullShare ((dat0 W c).after 2 t0_0)
        ∗ owns (c : Thread nD τ) ((cfg0.win 3).stage (cfg0.slots t0_0 3)) fullShare ((dat0 W c).after 3 t0_0)) := by
  rw [phi_last]
  iintro ⟨HΦ, HO, H0, H1, H2, H3⟩
  isplitl [HΦ]; · iexact HΦ
  isplitl [HO]; · iapply (owesAt_intro (dat0 W c) t0_0.succ 0 (owed_last W c) rfl); iexact HO
  isplitl [H0]; · iapply (Entails.of_eq (owns_0 c (qryOf W c)).symm); iexact H0
  isplitl [H1]; · iapply (Entails.of_eq (owns_1 c (tabOf W c)).symm); iexact H1
  isplitl [H2]; · iapply (Entails.of_eq (owns_2 c (cntOf W c)).symm); iexact H2
  iapply (Entails.of_eq (owns_3 c (outOf (partsOf W) c)).symm); iexact H3

theorem body_obligation (hR : InRange W) : Pipeline.BodyObligation (dat0 W c) (defs₀ (F := F)) 𝒱₀ () Set.univ := fun t => by
  obtain rfl := fin_N0 t
  rw [bigSep_W0, bigSep_W0, body_row]
  exact (enter_eq W c).trans ((step W c hR).trans (wp_mono _ _ _ fun _ => leave_eq W c))

end Cert.PagedKernelIdeal
-- ==== Proof.KernelIdeal.Record.lean ====
/-
  The call as a segment of the program: the buffers around it, its counters opened on entry, the result in place after.
-/
module

public import proofs.«01_k».proof.Proof.KernelIdeal.Region

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (W : Dev nD → Valuation τ sig (Elt F)) (c : Dev nD)

/-! ## The buffers around the call -/

/-- The arrays of pages, and every buffer that is no window's. -/
def pageRefs : Finset (DevRef τ sig) := {Proc.devRef .tc main_arg1, Proc.devRef .tc main_arg2}
def otherRefs : Finset (DevRef τ sig) := Pipeline.ucRefs τ sig \ Pipeline.arrRefs (τ := τ) spec0

theorem ref_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩
theorem arr_sub : Pipeline.arrRefs (τ := τ) spec0 ⊆ Pipeline.ucRefs τ sig := Pipeline.arrRefs_sub_ucRefs spec0 (by decide)
theorem page_sub : pageRefs ⊆ otherRefs := fun b hb => by
  rcases Finset.mem_insert.mp hb with rfl | hb
  · exact Finset.mem_sdiff.mpr ⟨ref_uc main_arg1 (by decide), by decide⟩
  · rw [Finset.mem_singleton.mp hb]
    exact Finset.mem_sdiff.mpr ⟨ref_uc main_arg2 (by decide), by decide⟩

/-- The buffers after the call: the result written. -/
def W' : Valuation τ sig (Elt F) := Function.update (W c) (Proc.devRef .tc main_v24) (outOf (partsOf W) c)
theorem W'_out : W' W c (Proc.devRef .tc main_v24) = outOf (partsOf W) c := Function.update_self ..
theorem W'_of (b : DevRef τ sig) (h : b ≠ Proc.devRef .tc main_v24) : W' W c b = W c b := Function.update_of_ne h ..

theorem held_pages (V : Valuation τ sig (Elt F)) :
    (StableHlo.held (c : Thread nD τ) pageRefs V : sProp 𝕄) = iprop(arrP c 0 (V (Proc.devRef .tc main_arg1)) ∗ arrP c 1 (V (Proc.devRef .tc main_arg2))) := by
  unfold StableHlo.held pageRefs
  rw [bigSep_eq_bigSepL_of_eq [Proc.devRef .tc main_arg1, Proc.devRef .tc main_arg2] (by decide) (by decide)]
  rfl

/-! ## Opening the counters of the copies -/

/-- What the launch leaves a device for the call. -/
def kept : sProp 𝕄 :=
  iprop((∃ κ, records (partsOf W) κ) ∗ atPos ER (barCell c) 0 ∅ 0 ∗ tri (fun k => openTok ER (sendCell c k)) ∗ tri (fun k => openTok ER (recvCell c k))
    ∗ tri (fun k => dutyTok ER (barCell (peer c k)) 0 k) ∗ tri (fun k => dutyTok ER (sendCell c k) 0 0) ∗ tri (fun k => dutyTok ER (recvCell (peer c k) k.rev) 0 0)
    ∗ cred (tallyAt (barCell c) () 3) ∗ tri (fun k => cred (tallyAt (recvCell c k) () NC)))
/-- The same once the counters are open. -/
def entered : sProp 𝕄 := iprop((∃ κ, records (partsOf W) κ) ∗ opened (F := F) c ∗ levAts L lv ∗ pagesZero (F := F) c)
def left : sProp 𝕄 := semVal (barCell c) 0

theorem open_one (A : Parts (F := F)) (κ : GSem nD τ sig → ℕ) {g : GSem nD τ sig} (hg : g ∈ (barCells ∪ scCells : Finset (GSem nD τ sig))) :
    iprop(records A κ ∗ openTok ER g ∗ semVal g 0) ⊢ (|={Set.univ}=> iprop(atPos ER g 0 ∅ 0 ∗ reached ER g 0) : sProp 𝕄) :=
  (BI.sep_mono (inv_at A κ hg) (Entails.refl _)).trans (Rounds.cell_open ER (rd A) (g := g) (Set.mem_univ (κ g)))

theorem open_tri (A : Parts (F := F)) (κ : GSem nD τ sig → ℕ) (g : Fin 3 → GSem nD τ sig) (hg : ∀ k, g k ∈ (barCells ∪ scCells : Finset (GSem nD τ sig))) :
    iprop(records A κ ∗ tri (fun k => openTok ER (g k)) ∗ tri (fun k => semVal (g k) 0))
      ⊢ (|={Set.univ}=> iprop(tri (fun k => atPos ER (g k) 0 ∅ 0) ∗ tri (fun k => reached ER (g k) 0)) : sProp 𝕄) := by
  iintro ⟨#HR, ⟨H0, H1, H2⟩, S0, S1, S2⟩
  imod (open_one A κ (hg 0)) $$ [H0 S0] with ⟨A0, R0⟩
  · isplitr; · iexact HR
    isplitl [H0] <;> iassumption
  imod (open_one A κ (hg 1)) $$ [H1 S1] with ⟨A1, R1⟩
  · isplitr; · iexact HR
    isplitl [H1] <;> iassumption
  imod (open_one A κ (hg 2)) $$ [H2 S2] with ⟨A2, R2⟩
  · isplitr; · iexact HR
    isplitl [H2] <;> iassumption
  imodintro
  isplitl [A0 A1 A2]
  · isplitl [A0]; · iexact A0
    isplitl [A1] <;> iassumption
  · isplitl [R0]; · iexact R0
    isplitl [R1] <;> iassumption

theorem open_all : iprop(kept W c ∗ Pipeline.ownSems0 osem c ∗ levAts L lv) ⊢ (|={Set.univ}=> entered W c : sProp 𝕄) := by
  rw [ownSems_eq]
  unfold kept entered opened
  iintro ⟨⟨⟨%κ, #HR⟩, Hb, Hos, Hor, Htb, Hts, Htr, Hcb, Hcr⟩, ⟨Hz, Hss, Hsr⟩, HL⟩
  imod (open_tri (partsOf W) κ (fun k => sendCell c k) (send_mem c)) $$ [Hos Hss] with ⟨Has, Hrs⟩
  · isplitr; · iexact HR
    isplitl [Hos] <;> iassumption
  imod (open_tri (partsOf W) κ (fun k => recvCell c k) (recv_mem c)) $$ [Hor Hsr] with ⟨Har, Hrr⟩
  · isplitr; · iexact HR
    isplitl [Hor] <;> iassumption
  imodintro
  isplitr; · iexists κ; iexact HR
  isplitr [HL Hz]
  · isplitl [Hb]; · iexact Hb
    isplitl [Has]; · iexact Has
    isplitl [Har]; · iexact Har
    isplitl [Hrs]; · iexact Hrs
    isplitl [Hrr]; · iexact Hrr
    isplitl [Htb]; · iexact Htb
    isplitl [Hts]; · iexact Hts
    isplitl [Htr]; · iexact Htr
    isplitl [Hcb] <;> iassumption
  isplitl [HL] <;> iassumption

/-! ## The record of the call -/

theorem phi_0 : (pdats W 0 c).Φ 0 = before W c := phi_first W c
theorem phi_N : (pdats W 0 c).Φ (Fin.last _) = afterwards W c := by
  rw [show (Fin.last cfg0.N) = t0_0.succ from Fin.ext (show cfg0.N = 0 + 1 from N_0)]
  exact phi_last W c
theorem owed_0 : (pdats W 0 c).owed 0 = O₀ c := owed_first W c
theorem owed_N : (pdats W 0 c).owed (Fin.last _) = 0 := by
  rw [show (Fin.last cfg0.N) = t0_0.succ from Fin.ext (show cfg0.N = 0 + 1 from N_0)]
  exact owed_last W c

theorem enter :
    iprop(Pipeline.scopedRest (Val := Elt F) spec0 c ∗ (∃ r, prngReg c r) ∗ StableHlo.held (c.tc : Thread nD τ) pageRefs (W c) ∗ entered W c) ⊢ (before W c : sProp 𝕄) := by
  rw [scopedRest0_eq, held_pages]
  unfold entered before arrays2 buffers
  iintro ⟨Hs, Hp, Ha, HR, Ho, HL, Hz⟩
  isplitl [HR]; · iexact HR
  isplitl [Ho]; · iexact Ho
  isplitl [HL]; · iexact HL
  isplitl [Hz]; · iexact Hz
  isplitl [Ha]; · iexact Ha
  isplitl [Hs]; · iexact Hs
  iexact Hp
theorem leave :
    (afterwards W c : sProp 𝕄) ⊢ iprop(Pipeline.scopedRest (Val := Elt F) spec0 c ∗ (∃ r, prngReg c r) ∗ StableHlo.held (c.tc : Thread nD τ) pageRefs (W' W c)
      ∗ Pipeline.ownSems0 osem c ∗ left (F := F) c) := by
  rw [scopedRest0_eq, held_pages, ownSems_eq, W'_of W c _ (by decide), W'_of W c _ (by decide)]
  unfold afterwards zeroed arrays2 buffers left
  iintro ⟨⟨Hb, Hs, Hr⟩, Hz, Ha, Hbuf, Hp⟩
  isplitl [Hbuf]; · iexact Hbuf
  isplitl [Hp]; · iexact Hp
  isplitl [Ha]; · iexact Ha
  isplitr [Hb]
  · isplitl [Hz]; · iexact Hz
    isplitl [Hs] <;> iassumption
  iexact Hb

theorem arr_out : (dat0 W c).arrAt 3 cfg0.N = outOf (partsOf W) c := by
  have hw : ((cfg0.win 3).blk t0_0).view.read (Elt F) ((dat0 W c).arrAt 3 cfg0.N) = (dat0 W c).flushed 3 t0_0 := by
    rw [show cfg0.N = t0_0.val + 1 from rfl, (dat0 W c).arrAt_succ (3 : Fin 4) t0_0, flush0_3, if_pos rfl]
    exact View.read_write_univ _ _
  exact (read_3 (F := F) c _).symm.trans hw
theorem arr_end (w : Fin 4) : (dat0 W c).arrAt w cfg0.N = W' W c (Proc.devRef .tc (Pipeline.arrRef spec0 w)) := by
  fin_cases w
  · exact ((dat0 W c).arrAt_in (0 : Fin 4) rfl _).trans (W'_of W c _ (by decide)).symm
  · exact ((dat0 W c).arrAt_in (1 : Fin 4) rfl _).trans (W'_of W c _ (by decide)).symm
  · exact ((dat0 W c).arrAt_in (2 : Fin 4) rfl _).trans (W'_of W c _ (by decide)).symm
  · exact (arr_out W c).trans (W'_out W c).symm

theorem stage_level : ∀ (w : Fin 4) (s : Fin (cfg0.win w).nbuf), recvIx (.dma ((cfg0.win w).sem s)) = none := by decide
theorem owed_level (t : Fin (cfg0.N + 1)) (g : GSem nD τ sig) (u : Unit) (h : 0 < (dat0 W c).owed t g u) : u ∈ L g ∧ 0 < lv g u := by
  have e : (dat0 W c).owed t = if t.val = 0 then O₀ c else 0 := rfl
  rw [e] at h
  split at h
  · exact O₀_level h
  · exact absurd h (Nat.lt_irrefl 0)

theorem cut : Pipeline.LevelCutOwed (pcfgs (F := F)) adm (pdats W) () L lv 0 (fun _ => 0) where
  hι d w s := by rw [L_tc]; exact Finset.mem_singleton_self _
  hιb d w s := by
    have h := stage_level w s
    show lv ((d : Thread nD τ), .dma ((cfg0.win w).sem s)) () ≤ 0
    unfold lv; rw [if_neg (fun h => by cases h), h]; exact le_refl _
  hD d t g u h := owed_level W d t g u h

set_option backward.isDefEq.respectTransparency.types false in
/-- The call as the kit's record: entered with the buffers at `W`, left with the result written. -/
def record (hR : InRange W) : Pipeline.RegionSeg (pcfgs (F := F)) adm (pdats W) () defs₀ 𝒱₀ L lv 0 :=
  Pipeline.RegionSeg.ofTalk (pcfgs (F := F)) adm (pdats W) () defs₀ 𝒱₀ L lv 0 osem osem_facts
    pageRefs otherRefs page_sub launch0.toP rfl (fun c => (body_obligation W c hR).loose)
    (fun _ => 0) O₀ (fun c => (owed_0 W c).trans (zero_add _).symm) (owed_N W) (fun _ => rfl)
    (fun c w => (pdats W 0 c).share_full (fun _ => rfl) w)
    W (W' W) (fun c b hb => W'_of W c b (fun h => (Finset.mem_sdiff.mp (Finset.mem_sdiff.mp hb).1).2 (by rw [h]; decide)))
    (kept W) (left (F := F)) (entered W) (left (F := F)) (open_all W)
    (fun c => (enter W c).trans (Entails.of_eq (phi_0 W c).symm))
    (fun c => (Entails.of_eq (phi_N W c)).trans (leave W c))
    (fun c => by iintro H; imodintro; iexact H)
    (fun _ => 0) (cut W) (fun _ => iprop(emp))
    (fun c w => rfl) (fun c w => arr_end W c w)

/-- What rides beside the buffers up to the call, -/
def riding : sProp 𝕄 := iprop((∃ r, prngReg c r) ∗ kept W c ∗ ∃ V, owes (c : Thread nD τ) (O₀ c) V)

theorem record_pre (hR : InRange W) : iprop(StableHlo.held (c : Thread nD τ) (Pipeline.ucRefs τ sig) (W c) ∗ riding W c) ⊢ (record W hR).pre c := by
  show _ ⊢ iprop(StableHlo.held (c.tc : Thread nD τ) (Pipeline.arrRefs (τ := τ) spec0) (W c) ∗ (∃ r, prngReg c r)
    ∗ (StableHlo.held (c.tc : Thread nD τ) otherRefs (W c) ∗ emp) ∗ kept W c ∗ ∃ Wd, owes (c : Thread nD τ) (0 + O₀ c) Wd)
  rw [StableHlo.held_sub_split (c.tc : Thread nD τ) arr_sub (W c), zero_add]
  unfold riding otherRefs
  iintro ⟨⟨Ha, Ho⟩, Hp, Hk, HO⟩
  isplitl [Ha]; · iexact Ha
  isplitl [Hp]; · iexact Hp
  isplitl [Ho]
  · isplitl [Ho]; · iexact Ho
    iempintro
  isplitl [Hk] <;> iassumption
/-- and after it. -/
theorem record_post (hR : InRange W) : (record W hR).post c
    ⊢ iprop((StableHlo.held (c : Thread nD τ) (Pipeline.ucRefs τ sig) (W' W c) ∗ semVal (barCell c) 0) ∗ ∃ V, owes (c : Thread nD τ) (0 : CellTallies nD τ sig Unit) V) := by
  show iprop(StableHlo.held (c.tc : Thread nD τ) (Pipeline.arrRefs (τ := τ) spec0) (W' W c) ∗ (∃ r, prngReg c r)
    ∗ (StableHlo.held (c.tc : Thread nD τ) otherRefs (W' W c) ∗ emp) ∗ left (F := F) c ∗ ∃ Wd, owes (c : Thread nD τ) (0 : CellTallies nD τ sig Unit) Wd) ⊢ _
  rw [StableHlo.held_sub_split (c.tc : Thread nD τ) arr_sub (W' W c)]
  unfold left otherRefs
  iintro ⟨Ha, -, ⟨Ho, -⟩, Hb, HO⟩
  isplitr [HO]
  · isplitl [Ha Ho]; · isplitl [Ha] <;> iassumption
    iexact Hb
  iexact HO

end Cert.PagedKernelIdeal
-- ==== Proof.KernelIdeal.Launch.lean ====
/-
  The launch: the counters' invariants made, tokens and credit dealt to the devices that spend them.
-/
module

public import proofs.«01_k».proof.Proof.KernelIdeal.Record

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (W : Dev nD → Valuation τ sig (Elt F)) (c : Dev nD)

/-! ## The duties' tokens, dealt to the devices that pay them -/

/-- Counter and duty of a token: a unit at the meeting point, a copy's departure, a copy's landing. -/
def tk : Fin 3 × Fin 3 → SemLoc sig × Fin 3
  | (0, k) => (.reg barS, k)
  | (1, k) => (.dma (sendS k), 0)
  | (2, k) => (.dma (recvS k), 0)
theorem tk_inj : Function.Injective tk := by decide
def allToks : Finset (GSem nD τ sig × ℕ × Fin 3) :=
  Finset.univ.map ⟨fun ck : Dev nD × (Fin 3 × Fin 3) => (((ck.1 : Thread nD τ), (tk ck.2).1), 0, (tk ck.2).2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
theorem repair {Φ Ψ : Dev nD → sProp 𝕄} : iprop(bigSep Finset.univ Φ ∗ bigSep Finset.univ Ψ) ⊢ (bigSep Finset.univ fun c => iprop(Φ c ∗ Ψ c)) :=
  Entails.of_eq (bigSep_sep' _ _ _).symm

def peerE (k : Fin 3) : Dev nD ≃ Dev nD := ⟨fun c => peer c k, fun c => peer c k.rev, fun c => peer_rev c k, fun c => rev_peer c k⟩

theorem tri_around (Φ : Dev nD → Fin 3 → sProp 𝕄) :
    (bigSep Finset.univ fun c : Dev nD => tri (Φ c)) = bigSep Finset.univ fun c : Dev nD => tri (fun k => Φ (peer c k) k) := by
  rw [bigSep_sep', bigSep_sep', bigSep_sep', bigSep_sep',
    bigSep_univ_equiv (peerE 0) (fun c => Φ c 0), bigSep_univ_equiv (peerE 1) (fun c => Φ c 1), bigSep_univ_equiv (peerE 2) (fun c => Φ c 2)]
  rfl
theorem tri_rev (Φ : Fin 3 → sProp 𝕄) : tri Φ ⊢ tri (fun k => Φ k.rev) := by
  show iprop(Φ 0 ∗ Φ 1 ∗ Φ 2) ⊢ iprop(Φ 2 ∗ Φ 1 ∗ Φ 0)
  iintro ⟨H0, H1, H2⟩
  isplitl [H2]; · iexact H2
  isplitl [H1]; · iexact H1
  iexact H0

theorem toks_dealt : (bigSep allToks fun x => (dutyTok ER x.1 x.2.1 x.2.2 : sProp 𝕄))
    ⊢ bigSep Finset.univ fun c : Dev nD => iprop(tri (fun k => dutyTok ER (barCell (peer c k)) 0 k) ∗ tri (fun k => dutyTok ER (sendCell c k) 0 0)
        ∗ tri (fun k => dutyTok ER (recvCell (peer c k) k.rev) 0 0)) := by
  have e : (bigSep allToks fun x => (dutyTok ER x.1 x.2.1 x.2.2 : sProp 𝕄))
      = bigSep Finset.univ fun c : Dev nD => iprop(tri (fun k => dutyTok ER (barCell c) 0 k) ∗ tri (fun k => dutyTok ER (sendCell c k) 0 0) ∗ tri (fun k => dutyTok ER (recvCell c k) 0 0)) := by
    unfold allToks
    rw [bigSep_map, bigSep_univ_prod]
    exact bigSep_congr fun c _ => by
      rw [bigSep_univ_prod, ← tri_eq, ← tri_eq, ← tri_eq]
      exact tri_eq fun i : Fin 3 => bigSep Finset.univ fun k : Fin 3 => (dutyTok ER ((c : Thread nD τ), (tk (i, k)).1) 0 (tk (i, k)).2 : sProp 𝕄)
  have e₁ : (bigSep Finset.univ fun c : Dev nD => tri (fun k => dutyTok ER (barCell c) 0 k) : sProp 𝕄)
      ⊢ bigSep Finset.univ fun c : Dev nD => tri (fun k => dutyTok ER (barCell (peer c k)) 0 k) :=
    Entails.of_eq (tri_around (F := F) fun c k => dutyTok ER (barCell c) 0 k)
  have e₂ : (bigSep Finset.univ fun c : Dev nD => tri (fun k => dutyTok ER (recvCell c k) 0 0) : sProp 𝕄)
      ⊢ bigSep Finset.univ fun c : Dev nD => tri (fun k => dutyTok ER (recvCell (peer c k) k.rev) 0 0) :=
    (bigSep_mono fun c _ => tri_rev fun k => dutyTok ER (recvCell c k) 0 0).trans
      (Entails.of_eq (tri_around (F := F) fun c k => dutyTok ER (recvCell c k.rev) 0 0))
  rw [e]
  iintro H
  ihave H1 := unpair $$ H; icases H1 with ⟨Hb, H2⟩
  ihave H3 := unpair $$ H2; icases H3 with ⟨Hs, Hr⟩
  iapply repair; isplitl [Hb]; · iapply e₁ $$ Hb
  iapply repair; isplitl [Hs]; · iexact Hs
  iapply e₂ $$ Hr

/-! ## The credit of the launch -/

theorem bar_bar (d : Dev nD) (k : Fin 3) : oB d k (barCell c) () = if c = peer d k then 1 else 0 := by
  rw [tallyAt_apply]
  by_cases h : c = peer d k
  · rw [if_pos h, if_pos ⟨by rw [h], rfl⟩]
  · rw [if_neg h, if_neg (fun e => h (congrArg (fun g : GSem nD τ sig => g.1.1) e.1))]
theorem recv_bar (d : Dev nD) (k : Fin 3) : oR d k (barCell c) () = 0 := by
  rw [tallyAt_apply, if_neg (fun e => recv_ne_bar k.rev (congrArg Prod.snd e.1).symm)]
theorem bar_recv (d : Dev nD) (k k' : Fin 3) : oB d k (recvCell c k') () = 0 := by
  rw [tallyAt_apply, if_neg (fun e => recv_ne_bar k' (congrArg Prod.snd e.1))]
theorem recv_recv (d : Dev nD) (k k' : Fin 3) : oR d k (recvCell c k') () = NC * if c = peer d k ∧ k' = k.rev then 1 else 0 := by
  rw [tallyAt_apply]
  by_cases h : c = peer d k ∧ k' = k.rev
  · rw [if_pos h, if_pos ⟨by rw [h.1, h.2], rfl⟩, Nat.mul_one]
  · rw [if_neg h, if_neg (fun e => h ⟨congrArg (fun g : GSem nD τ sig => g.1.1) e.1,
      recvS_inj (SemLoc.dma.inj (congrArg Prod.snd e.1))⟩), Nat.mul_zero]

theorem owed_bar (d : Dev nD) : O₀ d (barCell c) () = (if c = peer d 2 then 1 else 0) + (if c = peer d 1 then 1 else 0) + (if c = peer d 0 then 1 else 0) := by
  unfold O₀ owed₅ owed₄ owed₃ owed₂ owed₁
  simp only [Pi.add_apply, Finsupp.add_apply, Pi.zero_apply, Finsupp.zero_apply, Nat.zero_add]
  rw [bar_bar, bar_bar, bar_bar, recv_bar, recv_bar, recv_bar, Nat.zero_add]
theorem owed_recv (d : Dev nD) (k : Fin 3) : O₀ d (recvCell c k) ()
    = NC * ((if c = peer d 2 ∧ k = (2 : Fin 3).rev then 1 else 0) + (if c = peer d 1 ∧ k = (1 : Fin 3).rev then 1 else 0) + (if c = peer d 0 ∧ k = (0 : Fin 3).rev then 1 else 0)) := by
  unfold O₀ owed₅ owed₄ owed₃ owed₂ owed₁
  simp only [Pi.add_apply, Finsupp.add_apply, Pi.zero_apply, Finsupp.zero_apply, Nat.zero_add, Nat.mul_add]
  rw [bar_recv, bar_recv, bar_recv, recv_recv, recv_recv, recv_recv]
  rfl

theorem count_bar : ∀ c : Dev nD, (∑ d : Dev nD, ((if c = peer d 2 then 1 else 0) + (if c = peer d 1 then 1 else 0) + (if c = peer d 0 then 1 else 0))) = 3 := by decide
theorem count_recv : ∀ (c : Dev nD) (k : Fin 3), (∑ d : Dev nD, ((if c = peer d 2 ∧ k = (2 : Fin 3).rev then 1 else 0) + (if c = peer d 1 ∧ k = (1 : Fin 3).rev then 1 else 0) + (if c = peer d 0 ∧ k = (0 : Fin 3).rev then 1 else 0))) = 1 := by decide

theorem launch_bar : tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar c d, count_bar]
theorem launch_recv (k : Fin 3) : tallyOn (recvCell c k) (launchCredit (Pipeline.owing O₀) 0 (recvCell c k)) = (tallyAt (recvCell c k) () NC : CellTallies nD τ sig Unit) := by
  unfold tallyAt
  refine congrArg _ (Finsupp.ext fun u => ?_)
  cases u
  rw [Pipeline.launchCredit_owing, Finsupp.single_eq_same, Finset.sum_congr rfl fun d _ => owed_recv c d k, ← Finset.mul_sum, count_recv, Nat.mul_one]

def credEmb : Fin 3 ↪ SemLoc sig := ⟨fun k => .dma (recvS k), fun k k' h => recvS_inj (SemLoc.dma.inj h)⟩
theorem creds : (Pipeline.launchCred O₀ c : sProp 𝕄) ⊢ iprop(cred (tallyAt (barCell c) () 3) ∗ tri (fun k => cred (tallyAt (recvCell c k) () NC))) := by
  unfold Pipeline.launchCred
  rw [bigSep_univ_at _ (SemLoc.reg barS), launch_bar]
  refine sep_mono_right ?_
  have hsub : Finset.univ.map credEmb ⊆ Finset.univ.erase (SemLoc.reg barS : SemLoc sig) := fun s hs => by
    obtain ⟨k, -, rfl⟩ := Finset.mem_map.mp hs
    exact Finset.mem_erase.mpr ⟨recv_ne_bar k, Finset.mem_univ _⟩
  rw [← Finset.union_sdiff_of_subset hsub, bigSep_union Finset.disjoint_sdiff, bigSep_map, tri_eq]
  unfold tri
  show iprop((cred (tallyOn (recvCell c 0) (launchCredit (Pipeline.owing O₀) 0 (recvCell c 0))) ∗ cred (tallyOn (recvCell c 1) (launchCredit (Pipeline.owing O₀) 0 (recvCell c 1)))
    ∗ cred (tallyOn (recvCell c 2) (launchCredit (Pipeline.owing O₀) 0 (recvCell c 2)))) ∗ _) ⊢ (iprop(cred (tallyAt (recvCell c 0) () NC) ∗ cred (tallyAt (recvCell c 1) () NC) ∗ cred (tallyAt (recvCell c 2) () NC)) : sProp 𝕄)
  rw [launch_recv, launch_recv, launch_recv]
  iintro ⟨⟨H0, H1, H2⟩, -⟩
  isplitl [H0]; · iexact H0
  isplitl [H1] <;> iassumption

/-! ## The launch -/

/-- The launch element: the pipeline's, and the exchange's. -/
def u₀ : UU :=
  (initOf (Pipeline.cells cfgs cellOf_inj) (Pipeline.launchToks cfgs cellOf_inj), (Emb.inl : Emb XR (XR × Counters)) (launchOf barCells scCells allToks))
/-- All of a resource on device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev (BI.own (ER (launchOf barCells scCells allToks)))

/-- A device's own part of the exchange's ghost state. -/
def linear : sProp 𝕄 :=
  iprop(atPos ER (barCell c) 0 ∅ 0 ∗ (tri (fun k => openTok ER (sendCell c k)) ∗ tri (fun k => openTok ER (recvCell c k)))
    ∗ (tri (fun k => dutyTok ER (barCell (peer c k)) 0 k) ∗ tri (fun k => dutyTok ER (sendCell c k) 0 0) ∗ tri (fun k => dutyTok ER (recvCell (peer c k) k.rev) 0 0)))
/-- The rest of what the launch leaves it beside the buffers. -/
def bundle : sProp 𝕄 :=
  iprop((cred (tallyAt (barCell c) () 3) ∗ tri (fun k => cred (tallyAt (recvCell c k) () NC))) ∗ owes (c : Thread nD τ) (O₀ c) ∅ ∗ ∃ r, prngReg c r)

theorem riding_intro (κ : GSem nD τ sig → ℕ) : iprop(records (partsOf W) κ ∗ (linear (F := F) c ∗ bundle (F := F) c)) ⊢ riding W c := by
  unfold linear bundle riding kept
  iintro ⟨#HR, ⟨Hb, ⟨Hs, Hr⟩, Htb, Hts, Htr⟩, ⟨Hcb, Hcr⟩, HO, Hp⟩
  isplitl [Hp]; · iexact Hp
  isplitr [HO]
  · isplitr; · iexists κ; iexact HR
    isplitl [Hb]; · iexact Hb
    isplitl [Hs]; · iexact Hs
    isplitl [Hr]; · iexact Hr
    isplitl [Htb]; · iexact Htb
    isplitl [Hts]; · iexact Hts
    isplitl [Htr]; · iexact Htr
    isplitl [Hcb] <;> iassumption
  iexists ∅; iexact HO

theorem unscoped_eq : ∀ sm : SemLoc sig, sm.isScoped .tc = false → sm = .reg barS := by decide
theorem unscopedSems_eq : (unscopedSems0 c : sProp 𝕄) = semVal (barCell c) 0 := by
  unfold unscopedSems0
  rw [show (Finset.univ.filter fun sm : SemLoc sig => ¬ sm.isScoped .tc = true) = {.reg barS} from by decide, bigSep_singleton]

variable (ρ : Dev nD → PrngReg)
/-- Every device's share of the launch, from all that the launch makes. -/
theorem ride :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (riding W) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(bundle (F := F) c ∗ (semVal (barCell c) 0 ∗ G (F := F) c)) : sProp 𝕄) := by
    rw [unscopedSems_eq]
    unfold bundle
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hcores : (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(bundle (F := F) c ∗ (semVal (barCell c) 0 ∗ G (F := F) c)) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => iprop(tri (fun k => openTok ER (sendCell c k)) ∗ tri (fun k => openTok ER (recvCell c k)))) :=
    Entails.of_eq (by
      rw [bigSep_map, bigSep_univ_prod]
      exact bigSep_congr fun c _ => by
        rw [bigSep_univ_prod, ← tri_eq, ← tri_eq]
        exact BI.bigSep_fin_two (fun i : Fin 2 => bigSep Finset.univ fun k : Fin 3 => (openTok ER ((c : Thread nD τ), osc (i, k)) : sProp 𝕄)))
  iintro ⟨H, -⟩
  ihave H' := hcores $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells allToks)) from
    Entails.of_eq (bigSep_onDev (F := F) (BI.own (ER (launchOf barCells scCells allToks))))) $$ HG
  imod (Rounds.fund_launch ER (rd (partsOf W)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (partsOf W) κ) (Φ := fun c => iprop(linear (F := F) c ∗ bundle (F := F) c)) fun c _ => riding_intro W c κ)
  isplitr
  · unfold records
    isplitr; · iexact Hinv
    iexact Hr
  iapply repair
  isplitr [HB]
  · unfold linear
    iapply repair; isplitl [Hat]; · iapply hat $$ Hat
    iapply repair; isplitl [Hopen]; · iapply hopen $$ Hopen
    iapply (toks_dealt (F := F)); iexact Htok
  · iexact HB

end Cert.PagedKernelIdeal
-- ==== Proof.KernelIdeal.Run.lean ====
/-
  The run of the whole program: the host stretches, the call, and what memory and counters hold at the end.
-/
module

public import proofs.«01_k».proof.Proof.KernelIdeal.Launch

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ) (ρ : Dev nD → PrngReg)

/-- What the unscoped buffers hold at the end. -/
abbrev Vend : Dev nD → Valuation τ sig (Elt F) := W' (V8 m)
/-- The first device's own block: an output name for the generated valuations. -/
def outs : Outs (F := F) := fun _ r c => Vend m c (Proc.devRef .tc r)
theorem end_arg (c : Dev nD) (r : Ref sig .tc) (h : r ∉ ([main_v24] : List (Ref sig .tc))) : Vend m c (Proc.devRef .tc r) = V9 m (outs m) c (Proc.devRef .tc r) := by
  have e : (Proc.devRef .tc r : DevRef τ sig) ≠ Proc.devRef .tc main_v24 := StableHlo.devRef_ne_of_ne (List.ne_of_not_mem_cons h)
  rw [V9_of m (outs m) c r h]
  exact W'_of (V8 m) c _ e

set_option backward.isDefEq.respectTransparency.types false in
set_option maxHeartbeats 4000000 in
/-- From any memory with zero counters whose host stretches leave page numbers and lengths in range, every fair run of the
    program ends with each argument as launched, every device's result `outOf` of all devices' parts, and every counter at zero. -/
theorem run_main (hR : InRange (V8 m)) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v24) = outOf (partsOf (V8 m)) c) ∧ r.2.sem = fun _ => 0) :=
  Pipeline.θ_run_regions_kit_dev_sems (pcfgs (F := F)) adm (pdats (V8 m)) () cellOf_inj EP defs₀ 𝒱₀ L lv m ρ main
    (segs m 𝒱₀ L lv (fun _ => riding (V8 m)) () (pdats (V8 m)) (record (V8 m) hR))
    (fun c Q => by
      rewrite [main_chain c, Pipeline.Seg.run_eq_chain,
        show (segs m 𝒱₀ L lv (fun _ => riding (V8 m)) () (pdats (V8 m)) (record (V8 m) hR) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ riding (V8 m) c))
    (Tₙ := fun c => iprop(StableHlo.held (c : Thread nD τ) (Pipeline.ucRefs τ sig) (Vend m c) ∗ semVal (barCell c) 0))
    (hch := fun c => ⟨.rfl, .rfl, .rfl, .rfl, .rfl, .rfl, .rfl, .rfl, record_pre (V8 m) c hR, record_post (V8 m) c hR⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (ρ c) ∗ G (F := F) c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (ρ c) ∗ G (F := F) c))
              : sProp 𝕄) := by
        rw [← bigSep_sep']
        exact bigSep_mono fun c _ => by rw [← Pipeline.unscopedBufs_held (Ix := Unit) (Name := ℕ) (U := UU) (Lvl := ℕ) c (V0 m c)]; exact BI.Entails.refl _
      iintro ⟨H, Hla⟩
      ihave H' := hsplit $$ H
      icases H' with ⟨Hh, Hr⟩
      imod (ride (V8 m) ρ) $$ [Hr Hla] with HE
      · isplitl [Hr]; · iexact Hr
        iexact Hla
      imodintro
      rw [bigSep_sep']
      isplitl [Hh]; · iexact Hh
      iexact HE)
    (QY := fun c s => (∀ b ∈ Pipeline.ucRefs τ sig, s.mem ((c : Thread nD τ).1, b) = Vend m c b) ∧ s.sem (barCell c) = 0)
    (hfin := fun c s' => by
      unfold StableHlo.held
      iintro ⟨⟨Hh, Hb0⟩, HSI⟩
      icombine HSI Hb0 gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨h, by simpa using hb⟩
      · iexact HSI)
    (hQ := fun s h hs => ⟨fun c => by
        have key (r : Ref sig .tc) (hr : (Proc.devRef .tc r : DevRef τ sig) ∈ Pipeline.ucRefs τ sig) : s.mem ((c : Thread nD τ).loc r) = Vend m c (Proc.devRef .tc r) :=
          (h c).1 _ hr
        refine ⟨⟨?_, ?_, ?_, ?_, ?_⟩, ?_⟩
        · exact (key main_arg0 (Finset.mem_filter.mpr ⟨StableHlo.devRef_mem_tcRefs main_arg0, by decide⟩)).trans ((end_arg m c main_arg0 (by decide)).trans (V9_main_arg0 m (outs m) c))
        · exact (key main_arg1 (Finset.mem_filter.mpr ⟨StableHlo.devRef_mem_tcRefs main_arg1, by decide⟩)).trans ((end_arg m c main_arg1 (by decide)).trans (V9_main_arg1 m (outs m) c))
        · exact (key main_arg2 (Finset.mem_filter.mpr ⟨StableHlo.devRef_mem_tcRefs main_arg2, by decide⟩)).trans ((end_arg m c main_arg2 (by decide)).trans (V9_main_arg2 m (outs m) c))
        · exact (key main_arg3 (Finset.mem_filter.mpr ⟨StableHlo.devRef_mem_tcRefs main_arg3, by decide⟩)).trans ((end_arg m c main_arg3 (by decide)).trans (V9_main_arg3 m (outs m) c))
        · exact (key main_arg4 (Finset.mem_filter.mpr ⟨StableHlo.devRef_mem_tcRefs main_arg4, by decide⟩)).trans ((end_arg m c main_arg4 (by decide)).trans (V9_main_arg4 m (outs m) c))
        · exact (key main_v24 (Finset.mem_filter.mpr ⟨StableHlo.devRef_mem_tcRefs main_v24, by decide⟩)).trans (W'_out (V8 m) c),
      sem_eq_zero hs fun c sm hsm => by
        obtain rfl := unscoped_eq sm hsm
        exact (h c).2⟩)

end Cert.PagedKernelIdeal
-- ==== Proof.KernelIdeal.Host.lean ====
/-
  What the host stretches hand to the call: page numbers cut to the device's pages, and lengths that count the owned slots.
-/
module

public import proofs.«01_k».proof.Proof.KernelIdeal.Region
public import Idealize.ShloMosaic.Lib.Routing.Ops

@[expose] public section

noncomputable section

namespace Cert.PagedKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ) (c : Dev nD)

/-- Which of a row's slots the device owns and the row's length covers. -/
def mask : IVec S32x256 1 := V8 m c main_v14
theorem v14_eq : V7 m c main_v14 = mask m c := (V8_of m c main_v14 (by decide)).symm

/-- The three stretches that close the host code, from any contents before them. -/
theorem clip_at (U : Valuation τ sig (Elt F)) : (StableHlo.after hostOps0_6 U main_v21 : IVec S32x256 32)
    = minsi (broadcastInDim S32x256 ![] bcast_S_S32x256 (U main_c_4 : IVec S_ 32))
        (maxsi (broadcastInDim S32x256 ![] bcast_S_S32x256 (U main_c_3 : IVec S_ 32)) (U main_v20 : IVec S32x256 32)) := by
  after_results_simp
  rfl
theorem low_at (U : Valuation τ sig (Elt F)) : (StableHlo.after hostOps0_5 U main_c_3 : IVec S_ 32) = constantI S_ 32 0#32 := by
  after_results_simp
theorem high_at (U : Valuation τ sig (Elt F)) : (StableHlo.after hostOps0_5 U main_c_4 : IVec S_ 32) = constantI S_ 32 255#32 := by
  after_results_simp
theorem count_at (U : Valuation τ sig (Elt F)) : (StableHlo.after hostOps0_7 U main_v23 : IVec S32 32)
    = Host.reduce IntOp.addi (extui 32 (U main_v14 : IVec S32x256 1) natLt_1_32) (constantI S_ 32 0#32) reducesTo_S32x256_S32_d1 h_S_ := by
  after_results_simp

/-- The page table handed to the call: the sorted pages less the device's first, cut to the pages there are. -/
theorem v21_eq (r : Fin 32) (p : Fin 256) : tabOf (V8 m) c (ix2 (n0 := 32) (n1 := 256) r p)
    = IntOp.minsi 255#32 (IntOp.maxsi 0#32 ((V6 m c main_v20 : IVec S32x256 32) (ix2 (n0 := 32) (n1 := 256) r p))) := by
  show (V8 m c main_v21 : IVec S32x256 32) _ = _
  rw [V8_of m c main_v21 (by decide)]
  refine (congrFun (clip_at (V6 m c)) _).trans ?_
  rw [show (V6 m c main_c_3 : IVec S_ 32) = constantI S_ 32 0#32 from low_at (V5 m c), show (V6 m c main_c_4 : IVec S_ 32) = constantI S_ 32 255#32 from high_at (V5 m c)]
  rfl

/-- The lengths handed to the call: how many slots of a row the mask covers. -/
theorem v23_eq (r : Fin 32) : cntOf (V8 m) c (ix1 (n := 32) r) = BitVec.ofNat 32 (Nat.count (fun p => mask m c (ix2 (n0 := 32) (n1 := 256) r (Fin.ofNat 256 p)) = 1#1) 256) := by
  have h : (V8 m c main_v23 : IVec S32 32) = Host.reduce IntOp.addi (extui 32 (mask m c) natLt_1_32) (constantI S_ 32 0#32) reducesTo_S32x256_S32_d1 h_S_ := by
    rw [← v14_eq]
    exact count_at (V7 m c)
  show (V8 m c main_v23 : IVec S32 32) _ = _
  rw [h]
  exact Routing.reduce_count (n := 32) (m := 256) (by decide) (mask m c) natLt_1_32 reducesTo_S32x256_S32_d1 h_S_ r _ fun q => by
    rw [show Fin.ofNat 256 q.val = q from Fin.ext (Nat.mod_eq_of_lt q.isLt)]

theorem clip_range (x : BitVec 32) : (IntOp.minsi 255#32 (IntOp.maxsi 0#32 x)).toNat < 256 := by
  unfold IntOp.minsi IntOp.maxsi
  split <;> split <;> simp_all [BitVec.slt, BitVec.sle, BitVec.toInt_eq_toNat_cond] <;> omega

/-- What the host stretches leave is in range, whatever the arguments. -/
theorem inRange : InRange (V8 m) where
  tab d r p := by
    unfold entry
    rw [v21_eq]
    exact clip_range _
  cnt d r := by
    unfold count
    rw [v23_eq, BitVec.toNat_ofNat]
    exact (Nat.mod_le _ _).trans (Nat.count_le _)

end Cert.PagedKernelIdeal
-- ==== Proof.Value.Payloads.lean ====
/-
What the kernel's named values are over the extended reals, read at one index: the scores of a chunk of eight pages, the step of
the running maximum, sum and weighted sum, and the quotient of the combined partials.
-/
module

public import proofs.«01_k».proof.Proof.Gen.KernelIdeal.Skeleton
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.Value
public import Idealize.ShloMosaic.PureOps.Ideal.Laws
public import Idealize.ShloMosaic.PureOps.IdealRules

@[expose] public section

noncomputable section

namespace Cert.PagedPayloads

open Cert.KernelIdeal Cert.KernelIdeal.Gen
open Idealize.ShloMosaic Idealize.ShloMosaic.ValueIdx

/-- The scale of the queries. -/
abbrev scale : EReal := Ideal.ofBits .f32 0x3DB504F3#32

/-- The word that fills masked scores stands for minus infinity. -/
theorem mask_bot : Named.named (F := Ideal) κ "mask" (φ := .f32) 0xF149F2CA#32 = ⊥ := IdealRules.named_const.ideal_named_scalar _ _ _ _ rfl
/-- So does the word a maximum starts from. -/
theorem neutral_bot : Ideal.ofBits .f32 0xFF800000#32 = ⊥ := by simp [Ideal.ofBits, Ideal.ieee]

/-- A maximum over one axis, taken from minus infinity, is the supremum. -/
theorem max_single {s t : Shape} {a : Fin s.rank} (src : FVec Ideal s .f32) (h : s.Reduces [a] t) (j : t.Idx) :
    multiReduction .maximumf [a] t src 0xFF800000#32 h (.inl rfl) rfl j = Finset.univ.sup (fun k => src (h.lift j k)) := by
  refine (Ideal.multiReduction_maximumf_single src _ h _ _ j).trans ?_
  have : (FloatOps.ofBits (F := Ideal) .f32 0xFF800000#32 : EReal) = ⊥ := neutral_bot
  rw [this]
  rfl

/-- A sum over one axis. -/
theorem add_single {s t : Shape} {a : Fin s.rank} (src : FVec Ideal s .f32) (h : s.Reduces [a] t) (j : t.Idx) :
    multiReduction .add [a] t src 0x00000000#32 h (.inl rfl) rfl j = ∑ k : Fin (s.size a), src (h.lift j k) :=
  Ideal.multiReduction_add_single src _ h _ _ j

theorem pay2_apply (G : S1x8x32x16x128.Idx → EReal) (k : Fin 256) (h : Fin 16) (d : Fin 128) :
    k0_pay2 (F := Ideal) G (ix3 k h d) = G (ix5 0 ⟨k.val / 32, by omega⟩ ⟨k.val % 32, by omega⟩ h d) := by
  unfold k0_pay2
  rw [shapeCast_apply _ _ (ix3 k h d) (ix4 (n0 := 8) (n1 := 32) (n2 := 16) (n3 := 128) ⟨k.val / 32, by omega⟩ ⟨k.val % 32, by omega⟩ h d)
    (by rw [Shape.rowMajor_val_three, Shape.rowMajor_val_four]; show ((k.val / 32 * 32 + k.val % 32) * 16 + h.val) * 128 + d.val = (k.val * 16 + h.val) * 128 + d.val; omega)]
  exact shapeCast_apply _ _ _ _
    (by rw [Shape.rowMajor_val_four, Shape.rowMajor_val_five]; show (((0 * 8 + k.val / 32) * 32 + k.val % 32) * 16 + h.val) * 128 + d.val = ((k.val / 32 * 32 + k.val % 32) * 16 + h.val) * 128 + d.val; omega)
theorem pay3_apply (G : S1x8x32x16x128.Idx → EReal) (k : Fin 256) (h : Fin 16) (d : Fin 128) :
    k0_pay3 (F := Ideal) G (ix3 k h d) = G (ix5 0 ⟨k.val / 32, by omega⟩ ⟨k.val % 32, by omega⟩ h d) := pay2_apply G k h d

theorem pay4_apply (q : S16x128.Idx → EReal) (k : Fin 256) (h : Fin 16) (d : Fin 128) :
    k0_pay4 (F := Ideal) q (ix3 k h d) = q (ix2 h d) := by
  unfold k0_pay4
  rw [broadcastTo_apply _ _ (ix3 k h d) (ix3 (n0 := 1) (n1 := 16) (n2 := 128) 0 h d) (fun a => match a with | ⟨0, _⟩ => rfl | ⟨1, _⟩ => rfl | ⟨2, _⟩ => rfl)]
  exact shapeCast_apply _ _ _ _ (by rw [Shape.rowMajor_val_two, Shape.rowMajor_val_three]; show h.val * 128 + d.val = (0 * 16 + h.val) * 128 + d.val; omega)

theorem pay18_apply (q : S1x1x16x128.Idx → EReal) (h : Fin 16) (d : Fin 128) :
    k0_pay18 (F := Ideal) q (ix2 h d) = q (ix4 0 0 h d) * scale := by
  unfold k0_pay18
  show (shapeCast S16x128 q _ (ix2 h d) : EReal) * scale = _
  rw [shapeCast_apply _ _ (ix2 h d) (ix4 (n0 := 1) (n1 := 1) (n2 := 16) (n3 := 128) 0 0 h d)
    (by rw [Shape.rowMajor_val_two, Shape.rowMajor_val_four]; show ((0 * 1 + 0) * 16 + h.val) * 128 + d.val = h.val * 128 + d.val; omega)]

/-- The word that numbers a chunk's row by its page. -/
def pageWord (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem pageWord_eq : ∀ k : Fin 256, pageWord (BitVec.ofNat 32 k.val) = BitVec.ofNat 32 (k.val / 32) := by decide +kernel

theorem listed_word {T : BitVec 32} (hT : T.toNat ≤ 256) {t : ℕ} (ht : t < 32) (k : Fin 256) :
    IntOp.cmpi .slt (IntOp.addi (Scalar.muli (Scf.iv 0#32 1#32 t) 8#32) (BitVec.ofNat 32 (k.val / 32))) T = if 8 * t + k.val / 32 < T.toNat then 1#1 else 0#1 := by
  have e : IntOp.addi (Scalar.muli (Scf.iv 0#32 1#32 t) 8#32) (BitVec.ofNat 32 (k.val / 32)) = BitVec.ofNat 32 (8 * t + k.val / 32) := by
    unfold IntOp.addi Scalar.muli IntOp.muli Scf.iv
    apply BitVec.eq_of_toNat_eq
    simp [BitVec.toNat_add, BitVec.toNat_mul]
    omega
  rw [e]
  have h1 : (BitVec.ofNat 32 (8 * t + k.val / 32)).toNat = 8 * t + k.val / 32 := by
    rw [BitVec.toNat_ofNat]; apply Nat.mod_eq_of_lt; have := k.isLt; omega
  have h2 : (BitVec.ofNat 32 (8 * t + k.val / 32)).slt T = decide (8 * t + k.val / 32 < T.toNat) := by
    have := k.isLt
    rw [BitVec.slt, BitVec.toInt_eq_toNat_cond, BitVec.toInt_eq_toNat_cond, h1]
    rw [if_pos (by omega), if_pos (by omega)]
    simp only [Nat.cast_lt]
  unfold IntOp.cmpi
  simp only [h2]
  by_cases hc : 8 * t + k.val / 32 < T.toNat <;> simp [hc]

theorem pay5_apply {T : BitVec 32} (hT : T.toNat ≤ 256) {t : ℕ} (ht : t < 32) (A B : S256x16x128.Idx → EReal) (k : Fin 256) (h : Fin 16) :
    k0_pay5 (F := Ideal) k0_pay26 T (Scf.iv 0#32 1#32 t) A B (ix3 k h 0) = if 8 * t + k.val / 32 < T.toNat then ∑ d : Fin 128, A (ix3 k h d) * B (ix3 k h d) else ⊥ := by
  have e : k0_pay5 (F := Ideal) k0_pay26 T (Scf.iv 0#32 1#32 t) A B (ix3 k h 0)
      = Scalar.select (IntOp.cmpi .slt (IntOp.addi (Scalar.muli (Scf.iv 0#32 1#32 t) 8#32) (pageWord (iota .tc S256x16x1 32 [0] iota_S256x16x1_d0_w32 (ix3 k h 0)))) T)
        (shapeCast S256x16x1 (matmul dot_S4096x128_S128x1_S4096x1_1_0_0_1_n_n none
          (shapeCast S4096x128 (truncf .bf16 (mulf A B) bitsLt_bf16_f32) shapeCasts_S256x16x128_S4096x128) k0_pay26 (constant (F := Ideal) S4096x1 .f32 0x00000000#32)) shapeCasts_S4096x1_S256x16x1 (ix3 k h 0))
        (Named.named (F := Ideal) κ "mask" (φ := .f32) 0xF149F2CA#32) := rfl
  rw [e, mask_bot, iota_single_apply, show ((ix3 (n0 := 256) (n1 := 16) (n2 := 1) k h 0) 0).val = k.val from rfl, pageWord_eq, listed_word hT ht k]
  rw [shapeCast_apply _ _ (ix3 k h 0) (ix2 (n0 := 4096) (n1 := 1) ⟨k.val * 16 + h.val, by omega⟩ 0)
    (by rw [Shape.rowMajor_val_two, Shape.rowMajor_val_three]; show (k.val * 16 + h.val) * 1 + 0 = (k.val * 16 + h.val) * 1 + 0; rfl)]
  split_ifs with hc
  · rw [select_one]
    refine (Ideal.matmul_plain_apply (M := 4096) (K := 128) (N := 1) _ _ _ _ _ _).trans ?_
    rw [constant_apply, Ideal.ofBits_zero_f32, zero_add]
    refine Finset.sum_congr rfl fun d _ => ?_
    rw [shapeCast_apply _ _ (ix2 _ d) (ix3 (n0 := 256) (n1 := 16) (n2 := 128) k h d)
      (by rw [Shape.rowMajor_val_two, Shape.rowMajor_val_three]; rfl)]
    show A (ix3 k h d) * B (ix3 k h d) * Ideal.ofBits .bf16 0x3F80#16 = _
    rw [Ideal.ofBits_one_bf16, mul_one]
  · rw [select_zero]

section Step
variable {T : BitVec 32} {t : ℕ} (A B : S256x16x128.Idx → EReal) (m : S16x1.Idx → EReal)

theorem pay6_apply (h : Fin 16) :
    k0_pay6 (F := Ideal) k0_pay26 T m (Scf.iv 0#32 1#32 t) A B (ix2 h 0)
      = max (m (ix2 h 0)) (Finset.univ.sup fun k : Fin 256 => k0_pay5 (F := Ideal) k0_pay26 T (Scf.iv 0#32 1#32 t) A B (ix3 k h 0)) := by
  unfold k0_pay6
  rw [maximumf_apply]
  refine congrArg (max _) ((max_single _ _ _).trans (congrArg _ (funext fun k => congrArg _ ?_)))
  exact eq_ix3 (n0 := 256) (n1 := 16) (n2 := 1) _

theorem pay7_apply (h : Fin 16) :
    k0_pay7 (F := Ideal) k0_pay26 T m (Scf.iv 0#32 1#32 t) A B (ix2 h 0)
      = Ideal.exp (m (ix2 h 0) - k0_pay6 (F := Ideal) k0_pay26 T m (Scf.iv 0#32 1#32 t) A B (ix2 h 0)) := rfl

theorem pay8_apply (k : Fin 256) (h : Fin 16) :
    k0_pay8 (F := Ideal) k0_pay26 T m (Scf.iv 0#32 1#32 t) A B (ix3 k h 0)
      = Ideal.exp (k0_pay5 (F := Ideal) k0_pay26 T (Scf.iv 0#32 1#32 t) A B (ix3 k h 0) - k0_pay6 (F := Ideal) k0_pay26 T m (Scf.iv 0#32 1#32 t) A B (ix2 h 0)) := by
  unfold k0_pay8
  show Ideal.exp (_ - broadcastTo S256x16x1 _ _ (ix3 k h 0)) = _
  rw [broadcastTo_apply _ _ (ix3 k h 0) (ix3 (n0 := 1) (n1 := 16) (n2 := 1) 0 h 0) (fun a => match a with | ⟨0, _⟩ => rfl | ⟨1, _⟩ => rfl | ⟨2, _⟩ => rfl),
    shapeCast_apply _ _ (ix3 0 h 0) (ix2 (n0 := 16) (n1 := 1) h 0) (by rw [Shape.rowMajor_val_two, Shape.rowMajor_val_three]; show h.val * 1 + 0 = (0 * 16 + h.val) * 1 + 0; omega)]

theorem pay9_apply (l : S16x1.Idx → EReal) (h : Fin 16) :
    k0_pay9 (F := Ideal) k0_pay26 T m l (Scf.iv 0#32 1#32 t) A B (ix2 h 0)
      = l (ix2 h 0) * k0_pay7 (F := Ideal) k0_pay26 T m (Scf.iv 0#32 1#32 t) A B (ix2 h 0)
        + ∑ k : Fin 256, k0_pay8 (F := Ideal) k0_pay26 T m (Scf.iv 0#32 1#32 t) A B (ix3 k h 0) := by
  unfold k0_pay9
  rw [addf_apply, mulf_apply]
  refine congrArg (_ + ·) ((add_single _ _ _).trans (Finset.sum_congr rfl fun k _ => congrArg _ ?_))
  exact eq_ix3 (n0 := 256) (n1 := 16) (n2 := 1) _

end Step

theorem pay22_apply (acc : S16x128.Idx → EReal) (V : S256x16x128.Idx → EReal) (f : S16x1.Idx → EReal) (w : S256x16x1.Idx → EReal) (h : Fin 16) (d : Fin 128) :
    k0_pay22 (F := Ideal) acc V f w (ix2 h d) = acc (ix2 h d) * f (ix2 h 0) + ∑ k : Fin 256, w (ix3 k h 0) * V (ix3 k h d) := by
  unfold k0_pay22
  rw [addf_apply, mulf_apply,
    broadcastTo_apply _ _ (ix2 h d) (ix2 (n0 := 16) (n1 := 1) h 0) (fun a => match a with | ⟨0, _⟩ => rfl | ⟨1, _⟩ => rfl)]
  refine congrArg (_ + ·) ((add_single _ _ _).trans (Finset.sum_congr rfl fun (k : Fin 256) _ => ?_))
  rw [show (reduces_S256x16x128_S16x128.lift (ix2 (n0 := 16) (n1 := 128) h d) k) = ix3 (n0 := 256) (n1 := 16) (n2 := 128) k h d from eq_ix3 _, mulf_apply,
    broadcastTo_apply _ _ (ix3 k h d) (ix3 (n0 := 256) (n1 := 16) (n2 := 1) k h 0) (fun a => match a with | ⟨0, _⟩ => rfl | ⟨1, _⟩ => rfl | ⟨2, _⟩ => rfl),
    shapeCast_self]

theorem pay19_apply (h : Fin 16) : k0_pay19 (F := Ideal) (ix2 h 0) = (⊥ : EReal) := mask_bot
theorem pay20_apply (h : Fin 16) : k0_pay20 (F := Ideal) (ix2 h 0) = (0 : EReal) := Ideal.ofBits_zero_f32
theorem pay21_apply (h : Fin 16) (d : Fin 128) : k0_pay21 (F := Ideal) (ix2 h d) = (0 : EReal) := Ideal.ofBits_zero_f32

theorem pay24_apply (a : S16x128.Idx → EReal) (h : Fin 16) (d : Fin 128) : k0_pay24 (F := Ideal) a (ix5 0 0 0 h d) = a (ix2 h d) := by
  unfold k0_pay24
  exact shapeCast_apply _ _ _ _ (by rw [Shape.rowMajor_val_two, Shape.rowMajor_val_five]; show h.val * 128 + d.val = (((0 * 1 + 0) * 1 + 0) * 16 + h.val) * 128 + d.val; omega)
theorem pay25_apply (a : S16x1.Idx → EReal) (h : Fin 16) (d : Fin 128) : k0_pay25 (F := Ideal) a (ix2 h d) = a (ix2 h 0) := by
  unfold k0_pay25
  rw [broadcastTo_apply _ _ (ix2 h d) (ix2 (n0 := 16) (n1 := 1) h 0) (fun a => match a with | ⟨0, _⟩ => rfl | ⟨1, _⟩ => rfl), shapeCast_self]
theorem pay27_apply (a : S16x1.Idx → EReal) (h : Fin 16) (d : Fin 128) : k0_pay27 (F := Ideal) (k0_pay25 (F := Ideal) a) (ix5 0 0 0 h d) = a (ix2 h 0) :=
  (pay24_apply _ h d).trans (pay25_apply a h d)
theorem pay28_apply (a : S16x1.Idx → EReal) (h : Fin 16) (d : Fin 128) : k0_pay28 (F := Ideal) a (ix5 0 0 0 h d) = a (ix2 h 0) :=
  pay27_apply a h d

theorem pay1_apply (x : S32x16x128.Idx → EReal) (r : Fin 32) (h : Fin 16) (d : Fin 128) : k0_pay1 (F := Ideal) x (ix4 r 0 h d) = x (ix3 r h d) := by
  unfold k0_pay1
  exact shapeCast_apply _ _ _ _ (by rw [Shape.rowMajor_val_three, Shape.rowMajor_val_four]; show (r.val * 16 + h.val) * 128 + d.val = ((r.val * 1 + 0) * 16 + h.val) * 128 + d.val; omega)

theorem lane_apply (x : S4x1x32x16x128.Idx → EReal) (hc : S4x1x32x16x128.ShapeCasts S4x32x16x128) (i : Fin 4) (r : Fin 32) (h : Fin 16) (d : Fin 128) :
    shapeCast S4x32x16x128 x hc (ix4 i r h d) = x (ix5 i 0 r h d) :=
  shapeCast_apply _ _ _ _ (by rw [Shape.rowMajor_val_four, Shape.rowMajor_val_five]; show (((i.val * 1 + 0) * 32 + r.val) * 16 + h.val) * 128 + d.val = ((i.val * 32 + r.val) * 16 + h.val) * 128 + d.val; omega)

theorem pay29_apply (m a l : S4x1x32x16x128.Idx → EReal) (r : Fin 32) (h : Fin 16) (d : Fin 128) :
    k0_pay29 (F := Ideal) m a l (ix3 r h d) = Ideal.div
      (∑ i : Fin 4, a (ix5 i 0 r h d) * Ideal.exp (m (ix5 i 0 r h d) - Finset.univ.sup fun i => m (ix5 i 0 r h d)))
      (∑ i : Fin 4, l (ix5 i 0 r h d) * Ideal.exp (m (ix5 i 0 r h d) - Finset.univ.sup fun i => m (ix5 i 0 r h d))) := by
  have hl : ∀ i : Fin 4, reduces_S4x32x16x128_S32x16x128.lift (ix3 (n0 := 32) (n1 := 16) (n2 := 128) r h d) i = ix4 (n0 := 4) (n1 := 32) (n2 := 16) (n3 := 128) i r h d := fun i => eq_ix4 _
  have hb : ∀ (x : S32x16x128.Idx → EReal) (i : Fin 4), broadcastTo S4x32x16x128 (shapeCast S1x32x16x128 x shapeCasts_S32x16x128_S1x32x16x128) broadcasts_S1x32x16x128_S4x32x16x128 (ix4 i r h d) = x (ix3 r h d) := by
    intro x i
    rw [broadcastTo_apply _ _ (ix4 i r h d) (ix4 (n0 := 1) (n1 := 32) (n2 := 16) (n3 := 128) 0 r h d) (fun a => match a with | ⟨0, _⟩ => rfl | ⟨1, _⟩ => rfl | ⟨2, _⟩ => rfl | ⟨3, _⟩ => rfl)]
    exact shapeCast_apply _ _ _ _ (by rw [Shape.rowMajor_val_three, Shape.rowMajor_val_four]; show (r.val * 16 + h.val) * 128 + d.val = ((0 * 32 + r.val) * 16 + h.val) * 128 + d.val; omega)
  unfold k0_pay29
  rw [divf_apply]
  have key : ∀ (y : S4x1x32x16x128.Idx → EReal) (i : Fin 4),
      mulf (F := Ideal) (φ := .f32) (shapeCast S4x32x16x128 y shapeCasts_S4x1x32x16x128_S4x32x16x128) (exp (F := Ideal) (φ := .f32) (subf (F := Ideal) (φ := .f32) (shapeCast S4x32x16x128 m shapeCasts_S4x1x32x16x128_S4x32x16x128)
        (broadcastTo S4x32x16x128 (shapeCast S1x32x16x128 (multiReduction (F := Ideal) (φ := .f32) .maximumf [0] S32x16x128 (shapeCast S4x32x16x128 m shapeCasts_S4x1x32x16x128_S4x32x16x128) 0xFF800000#32 reduces_S4x32x16x128_S32x16x128 (.inl rfl) rfl) shapeCasts_S32x16x128_S1x32x16x128) broadcasts_S1x32x16x128_S4x32x16x128)))
        (reduces_S4x32x16x128_S32x16x128.lift (ix3 (n0 := 32) (n1 := 16) (n2 := 128) r h d) i)
      = y (ix5 i 0 r h d) * Ideal.exp (m (ix5 i 0 r h d) - Finset.univ.sup fun i => m (ix5 i 0 r h d)) := by
    intro y i
    rw [hl, mulf_apply, lane_apply]
    congr 1
    show Ideal.exp (shapeCast S4x32x16x128 m _ (ix4 i r h d) - broadcastTo S4x32x16x128 _ _ (ix4 i r h d)) = _
    rw [hb, lane_apply]
    refine congrArg (fun z => Ideal.exp (_ - z)) ((max_single _ _ _).trans (congrArg _ (funext fun (i : Fin 4) => ?_)))
    rw [hl, lane_apply]
  exact congrArg₂ Ideal.div ((add_single _ _ _).trans (Finset.sum_congr rfl fun i _ => key a i)) ((add_single _ _ _).trans (Finset.sum_congr rfl fun i _ => key l i))

end Cert.PagedPayloads

end
-- ==== Proof.Value.Softmax.lean ====
/-
Weighted sums of exponentials over the extended reals: moving a sum from one maximum to a larger one, dividing by the sum of the
weights, and cutting a sum over entries into the sums over the devices that own them.
-/
module

public import Idealize.ShloMosaic.PureOps.Ideal

@[expose] public section

noncomputable section

namespace Cert.PagedValue

open Idealize.ShloMosaic

variable {ι κ : Type*}

/-- A product by a non-negative real distributes over a sum of extended reals. -/
theorem sum_mul (S : Finset ι) (f : ι → EReal) (a : ℝ) (ha : 0 ≤ a) : (∑ i ∈ S, f i) * (a : EReal) = ∑ i ∈ S, f i * (a : EReal) := by
  classical
  induction S using Finset.induction_on with
  | empty => simp
  | insert i S hi ih =>
    rw [Finset.sum_insert hi, Finset.sum_insert hi, EReal.right_distrib_of_nonneg_of_ne_top (EReal.coe_nonneg.mpr ha) (EReal.coe_ne_top a), ih]

/-- The exponential of a difference that is not above zero is a non-negative real. -/
theorem exp_sub_real {m M : EReal} (h : m ≤ M) (hM : M ≠ ⊤) : ∃ a : ℝ, 0 ≤ a ∧ Ideal.exp (m - M) = (a : EReal) := by
  induction M using EReal.rec with
  | bot => obtain rfl : m = ⊥ := le_bot_iff.mp h; exact ⟨0, le_rfl, rfl⟩
  | top => exact absurd rfl hM
  | coe M =>
    induction m using EReal.rec with
    | bot => exact ⟨0, le_rfl, rfl⟩
    | top => exact absurd h (by simp)
    | coe m => exact ⟨Real.exp (m - M), (Real.exp_pos _).le, by rw [← EReal.coe_sub]; rfl⟩

/-- It is positive where the first term is above minus infinity. -/
theorem exp_sub_pos {m M : EReal} (h : m ≤ M) (hM : M ≠ ⊤) (hm : m ≠ ⊥) : 0 < Ideal.exp (m - M) := by
  induction M using EReal.rec with
  | bot => exact absurd (le_bot_iff.mp h) hm
  | top => exact absurd rfl hM
  | coe M =>
    induction m using EReal.rec with
    | bot => exact absurd rfl hm
    | top => exact absurd h (by simp)
    | coe m => rw [← EReal.coe_sub]; exact EReal.coe_pos.mpr (Real.exp_pos _)

theorem exp_bot_sub {M : EReal} : Ideal.exp (⊥ - M) = 0 := by rw [EReal.bot_sub]; rfl

/-- Exponentials of successive differences multiply. -/
theorem exp_trans {x m M : EReal} (hx : x ≤ m) (h : m ≤ M) (hM : M ≠ ⊤) : Ideal.exp (x - m) * Ideal.exp (m - M) = Ideal.exp (x - M) := by
  induction M using EReal.rec with
  | bot =>
    obtain rfl : m = ⊥ := le_bot_iff.mp h
    obtain rfl : x = ⊥ := le_bot_iff.mp hx
    rw [exp_bot_sub, zero_mul]
  | top => exact absurd rfl hM
  | coe M =>
    induction m using EReal.rec with
    | bot =>
      obtain rfl : x = ⊥ := le_bot_iff.mp hx
      rw [exp_bot_sub, exp_bot_sub, zero_mul]
    | top => exact absurd h (by simp)
    | coe m =>
      induction x using EReal.rec with
      | bot => rw [exp_bot_sub, exp_bot_sub, zero_mul]
      | top => exact absurd hx (by simp)
      | coe x =>
        rw [← EReal.coe_sub, ← EReal.coe_sub, ← EReal.coe_sub]
        show ((Real.exp (x - m) : ℝ) : EReal) * ((Real.exp (m - M) : ℝ) : EReal) = ((Real.exp (x - M) : ℝ) : EReal)
        rw [← EReal.coe_mul, ← Real.exp_add]
        congr 2; ring

/-- A weighted sum taken from the maximum `m` is moved to a larger maximum by one factor. -/
theorem rescale (S : Finset ι) (s V : ι → EReal) {m M : EReal} (hs : ∀ i ∈ S, s i ≤ m) (h : m ≤ M) (hM : M ≠ ⊤) :
    (∑ i ∈ S, Ideal.exp (s i - m) * V i) * Ideal.exp (m - M) = ∑ i ∈ S, Ideal.exp (s i - M) * V i := by
  obtain ⟨a, ha, e⟩ := exp_sub_real h hM
  rw [e, sum_mul S _ a ha]
  refine Finset.sum_congr rfl fun i hi => ?_
  rw [← exp_trans (hs i hi) h hM, e, mul_right_comm]

/-- The sum of the weights likewise. -/
theorem rescale_one (S : Finset ι) (s : ι → EReal) {m M : EReal} (hs : ∀ i ∈ S, s i ≤ m) (h : m ≤ M) (hM : M ≠ ⊤) :
    (∑ i ∈ S, Ideal.exp (s i - m)) * Ideal.exp (m - M) = ∑ i ∈ S, Ideal.exp (s i - M) := by
  simpa using rescale S s (fun _ => 1) hs h hM

/-- A sum of non-negative reals is one, and at least each of its terms. -/
theorem sum_real (S : Finset ι) (f : ι → EReal) (hf : ∀ i ∈ S, ∃ a : ℝ, 0 ≤ a ∧ f i = (a : EReal)) :
    ∃ a : ℝ, 0 ≤ a ∧ ∑ i ∈ S, f i = (a : EReal) ∧ ∀ i ∈ S, f i ≤ (a : EReal) := by
  classical
  induction S using Finset.induction_on with
  | empty => exact ⟨0, le_rfl, by simp, by simp⟩
  | insert i S hi ih =>
    obtain ⟨a, ha, ea, hle⟩ := ih fun k hk => hf k (Finset.mem_insert_of_mem hk)
    obtain ⟨b, hb, eb⟩ := hf i (Finset.mem_insert_self i S)
    refine ⟨b + a, add_nonneg hb ha, by rw [Finset.sum_insert hi, ea, eb, EReal.coe_add], fun k hk => ?_⟩
    rcases Finset.mem_insert.mp hk with rfl | hk
    · rw [eb]; exact EReal.coe_le_coe_iff.mpr (by linarith)
    · exact (hle k hk).trans (EReal.coe_le_coe_iff.mpr (by linarith))

/-- The weighted sum over the sum of the weights is the sum weighted by the normalised weights. -/
theorem quotient (S : Finset ι) (s V : ι → EReal) {M : EReal} (hs : ∀ i ∈ S, s i ≤ M) (hM : M ≠ ⊤) (k : ι) (hk : k ∈ S) (hb : s k ≠ ⊥) :
    Ideal.div (∑ i ∈ S, Ideal.exp (s i - M) * V i) (∑ i ∈ S, Ideal.exp (s i - M))
      = ∑ i ∈ S, Ideal.div (Ideal.exp (s i - M)) (∑ i ∈ S, Ideal.exp (s i - M)) * V i := by
  obtain ⟨a, ha, ea, hle⟩ := sum_real S (fun i => Ideal.exp (s i - M)) fun i hi => exp_sub_real (hs i hi) hM
  have hpos : 0 < a := EReal.coe_pos.mp ((exp_sub_pos (hs k hk) hM hb).trans_le (hle k hk))
  have hne : ((a : ℝ) : EReal) ≠ 0 := by simpa using hpos.ne'
  rw [ea]
  unfold Ideal.div
  rw [if_neg hne, ← EReal.coe_inv, sum_mul S _ _ (inv_nonneg.mpr ha)]
  refine Finset.sum_congr rfl fun i _ => ?_
  rw [if_neg hne, mul_right_comm]

/-! ## Entries listed by device -/

/-- A sum over `32·N` rows is one over `N` pages of 32 rows. -/
theorem sum_pages {M : Type*} [AddCommMonoid M] (N : ℕ) (f : ℕ → Fin 32 → M) :
    ∑ k ∈ Finset.range (32 * N), f (k / 32) (Fin.ofNat 32 k) = ∑ i ∈ Finset.range N, ∑ j : Fin 32, f i j := by
  induction N with
  | zero => simp
  | succ N ih =>
    have hr : ∀ x : Fin 32, f ((32 * N + x.val) / 32) (Fin.ofNat 32 (32 * N + x.val)) = f N x := by
      intro j
      have h1 : (32 * N + j.val) / 32 = N := by omega
      have h2 : Fin.ofNat 32 (32 * N + j.val) = j := Fin.ext (by simp [Fin.ofNat, Nat.mul_add_mod, Nat.mod_eq_of_lt j.isLt])
      rw [h1, h2]
    rw [Nat.mul_succ, Finset.sum_range_add, ih, Finset.sum_range_succ (n := N)]
    rw [Finset.sum_range (n := 32)]
    simp only [hr]

/-- What a list of entries enumerates: the first `n` are the pages for which `own` holds, each once. -/
structure Lists (n : ℕ) (slot : ℕ → Fin 256) (own : Fin 256 → Prop) : Prop where
  inj : ∀ i j, i < n → j < n → slot i = slot j → i = j
  mem : ∀ p, own p ↔ ∃ i, i < n ∧ slot i = p

theorem Lists.sum {M : Type*} [AddCommMonoid M] {n : ℕ} {slot : ℕ → Fin 256} {own : Fin 256 → Prop} [DecidablePred own] (h : Lists n slot own)
    {N : ℕ} (hN : n ≤ N) (H : Fin 256 → M) :
    ∑ i ∈ Finset.range N, (if i < n then H (slot i) else 0) = ∑ p, if own p then H p else 0 := by
  rw [← Finset.sum_filter, ← Finset.sum_filter]
  refine Finset.sum_bij (fun i _ => slot i) ?_ ?_ ?_ fun _ _ => rfl
  · intro i hi
    exact Finset.mem_filter.mpr ⟨Finset.mem_univ _, (h.mem _).mpr ⟨i, (Finset.mem_filter.mp hi).2, rfl⟩⟩
  · intro i hi j hj e
    exact h.inj i j (Finset.mem_filter.mp hi).2 (Finset.mem_filter.mp hj).2 e
  · intro p hp
    obtain ⟨i, hi, e⟩ := (h.mem p).mp (Finset.mem_filter.mp hp).2
    exact ⟨i, Finset.mem_filter.mpr ⟨Finset.mem_range.mpr (by omega), hi⟩, e⟩

/-- The rows that a device lists, masked past its pages, sum to the rows of the pages it owns. -/
theorem Lists.sum_rows {M : Type*} [AddCommMonoid M] {n : ℕ} {slot : ℕ → Fin 256} {own : Fin 256 → Prop} [DecidablePred own] (h : Lists n slot own)
    {N : ℕ} (hN : n ≤ N) (G : Fin 256 → Fin 32 → M) :
    ∑ k ∈ Finset.range (32 * N), (if k / 32 < n then G (slot (k / 32)) (Fin.ofNat 32 k) else 0) = ∑ p, if own p then ∑ j, G p j else 0 := by
  rw [sum_pages N (fun i j => if i < n then G (slot i) j else 0), ← h.sum hN]
  refine Finset.sum_congr rfl fun i _ => ?_
  split_ifs <;> simp

/-- Pages that each valid one of has exactly one owner: the owners' sums add up to the sum over the valid pages. -/
theorem sum_owners {M : Type*} [AddCommMonoid M] (own : Fin 4 → Fin 256 → Prop) (valid : Fin 256 → Prop) [∀ c, DecidablePred (own c)] [DecidablePred valid]
    (hv : ∀ p, valid p ↔ ∃ c, own c p) (hu : ∀ p c c', own c p → own c' p → c = c') (H : Fin 256 → M) :
    ∑ c, ∑ p, (if own c p then H p else 0) = ∑ p, if valid p then H p else 0 := by
  rw [Finset.sum_comm]
  refine Finset.sum_congr rfl fun p _ => ?_
  by_cases h : valid p
  · obtain ⟨c, hc⟩ := (hv p).mp h
    rw [if_pos h, Finset.sum_eq_single c (fun c' _ hne => if_neg fun h' => hne (hu p c' c h' hc)) (fun h' => absurd (Finset.mem_univ c) h'), if_pos hc]
  · rw [if_neg h]
    exact Finset.sum_eq_zero fun c _ => if_neg fun h' => h ((hv p).mpr ⟨c, h'⟩)

/-! ## The devices' partials combined -/

section Combine
variable (n N : Fin 4 → ℕ) (slot : Fin 4 → ℕ → Fin 256) (own : Fin 4 → Fin 256 → Prop) (valid : Fin 256 → Prop)
  (σ V : Fin 256 → Fin 32 → EReal) (W : Fin 4 → ℕ → EReal)

/-- The scores of the rows that device `c` lists, minus infinity past its pages. -/
def listed (c : Fin 4) (k : ℕ) : EReal := if k / 32 < n c then σ (slot c (k / 32)) (Fin.ofNat 32 k) else ⊥
/-- The largest of them. -/
def top (c : Fin 4) : EReal := (Finset.range (32 * N c)).sup (listed n slot σ c)
/-- The scores of all rows, minus infinity on the pages that are not valid. -/
def masked [DecidablePred valid] (x : Fin 256 × Fin 32) : EReal := if valid x.1 then σ x.1 x.2 else ⊥
/-- The largest of them. -/
def peak [DecidablePred valid] : EReal := Finset.univ.sup (masked valid σ)

variable {n N slot own valid σ V W}
variable [∀ c, DecidablePred (own c)] [DecidablePred valid]
variable (hl : ∀ c, Lists (n c) (slot c) (own c)) (hN : ∀ c, n c ≤ N c) (hv : ∀ p, valid p ↔ ∃ c, own c p) (hu : ∀ p c c', own c p → own c' p → c = c')
  (hσ : ∀ p j, σ p j ≠ ⊤)
include hl hN hv

/-- The maximum of the devices' maxima is the maximum over the valid rows. -/
theorem peak_eq : Finset.univ.sup (top n N slot σ) = peak valid σ := by
  apply le_antisymm
  · refine Finset.sup_le fun c _ => Finset.sup_le fun k hk => ?_
    unfold listed
    split_ifs with h
    · have ho : valid (slot c (k / 32)) := (hv _).mpr ⟨c, ((hl c).mem _).mpr ⟨_, h, rfl⟩⟩
      refine le_trans (le_of_eq ?_) (Finset.le_sup (f := masked valid σ) (Finset.mem_univ (slot c (k / 32), Fin.ofNat 32 k)))
      exact (if_pos ho).symm
    · exact bot_le
  · refine Finset.sup_le fun x _ => ?_
    unfold masked
    split_ifs with h
    · obtain ⟨c, hc⟩ := (hv _).mp h
      obtain ⟨i, hi, e⟩ := ((hl c).mem _).mp hc
      have hx := x.2.isLt
      have h1 : (32 * i + x.2.val) / 32 = i := by omega
      have h2 : Fin.ofNat 32 (32 * i + x.2.val) = x.2 := Fin.ext (by simp [Fin.ofNat, Nat.mul_add_mod, Nat.mod_eq_of_lt hx])
      have hlt : 32 * i + x.2.val < 32 * N c := by have := hN c; omega
      refine le_trans (le_of_eq ?_) ((Finset.le_sup (f := listed n slot σ c) (Finset.mem_range.mpr hlt)).trans (Finset.le_sup (f := top n N slot σ) (Finset.mem_univ c)))
      unfold listed
      rw [h1, h2, if_pos hi, e]
    · exact bot_le

omit hl hN hv [∀ c, DecidablePred (own c)] in
include hσ in
theorem peak_ne_top : peak valid σ ≠ ⊤ := by
  refine ne_of_lt ((Finset.sup_lt_iff bot_lt_top).mpr fun x _ => ?_)
  unfold masked
  split_ifs
  · exact lt_top_iff_ne_top.mpr (hσ _ _)
  · exact bot_lt_top

include hu hσ in
/-- The devices' weighted sums, moved to the common maximum, add up to the weighted sum over the valid rows. -/
theorem weighted_eq (hW : ∀ c k, k / 32 < n c → W c k = V (slot c (k / 32)) (Fin.ofNat 32 k)) :
    ∑ c, (∑ k ∈ Finset.range (32 * N c), Ideal.exp (listed n slot σ c k - top n N slot σ c) * W c k) * Ideal.exp (top n N slot σ c - Finset.univ.sup (top n N slot σ))
      = ∑ x : Fin 256 × Fin 32, Ideal.exp (masked valid σ x - peak valid σ) * V x.1 x.2 := by
  have hM := peak_eq hl hN hv (σ := σ)
  have hT := peak_ne_top (valid := valid) hσ
  have e : ∀ c, (∑ k ∈ Finset.range (32 * N c), Ideal.exp (listed n slot σ c k - top n N slot σ c) * W c k) * Ideal.exp (top n N slot σ c - Finset.univ.sup (top n N slot σ))
      = ∑ p, if own c p then ∑ j, Ideal.exp (σ p j - peak valid σ) * V p j else 0 := by
    intro c
    rw [rescale _ _ _ (m := top n N slot σ c) (fun i hi => Finset.le_sup (f := listed n slot σ c) hi) (Finset.le_sup (f := top n N slot σ) (Finset.mem_univ c)) (hM ▸ hT), hM,
      ← (hl c).sum_rows (hN c)]
    refine Finset.sum_congr rfl fun k _ => ?_
    unfold listed
    split_ifs with h
    · rw [hW c k h]
    · rw [exp_bot_sub, zero_mul]
  rw [Finset.sum_congr rfl fun c _ => e c, sum_owners own valid hv hu, Fintype.sum_prod_type]
  refine Finset.sum_congr rfl fun p _ => ?_
  unfold masked
  split_ifs with h
  · rfl
  · simp [exp_bot_sub]

include hu hσ in
/-- The devices' sums of weights likewise. -/
theorem weights_eq :
    ∑ c, (∑ k ∈ Finset.range (32 * N c), Ideal.exp (listed n slot σ c k - top n N slot σ c)) * Ideal.exp (top n N slot σ c - Finset.univ.sup (top n N slot σ))
      = ∑ x : Fin 256 × Fin 32, Ideal.exp (masked valid σ x - peak valid σ) := by
  simpa using weighted_eq hl hN hv hu hσ (V := fun _ _ => 1) (W := fun _ _ => 1) fun _ _ _ => rfl

include hu hσ in
/-- The quotient of the combined sums is the sum over all rows weighted by the normalised weights. -/
theorem combined_eq (hW : ∀ c k, k / 32 < n c → W c k = V (slot c (k / 32)) (Fin.ofNat 32 k)) (p₀ : Fin 256) (hp : valid p₀) (hb : σ p₀ 0 ≠ ⊥) :
    Ideal.div
      (∑ c, (∑ k ∈ Finset.range (32 * N c), Ideal.exp (listed n slot σ c k - top n N slot σ c) * W c k) * Ideal.exp (top n N slot σ c - Finset.univ.sup (top n N slot σ)))
      (∑ c, (∑ k ∈ Finset.range (32 * N c), Ideal.exp (listed n slot σ c k - top n N slot σ c)) * Ideal.exp (top n N slot σ c - Finset.univ.sup (top n N slot σ)))
      = ∑ x : Fin 256 × Fin 32, Ideal.div (Ideal.exp (masked valid σ x - peak valid σ)) (∑ x : Fin 256 × Fin 32, Ideal.exp (masked valid σ x - peak valid σ)) * V x.1 x.2 := by
  rw [weighted_eq hl hN hv hu hσ hW, weights_eq hl hN hv hu hσ]
  exact quotient Finset.univ (masked valid σ) (fun x => V x.1 x.2) (fun i hi => Finset.le_sup (f := masked valid σ) hi) (peak_ne_top hσ) (p₀, 0) (Finset.mem_univ _)
    (by unfold masked; rw [if_pos hp]; exact hb)

end Combine

end Cert.PagedValue

end
-- ==== Proof.Value.Carry.lean ====
/-
The running maximum, sum and weighted sum that a device keeps for one row, over the extended reals: after the chunks of a row they
are the maximum of the row's scores, the sum of their weights and the weighted sum of the values, and the kernel's result is the
quotient of the devices' sums moved to the common maximum.
-/
module

public import proofs.«01_k».proof.Proof.Value.Payloads
public import proofs.«01_k».proof.Proof.Value.Softmax
public import proofs.«01_k».proof.Proof.KernelIdeal.Body

@[expose] public section

noncomputable section

namespace Cert.PagedKernelIdeal

open Cert.KernelIdeal Cert.KernelIdeal.Gen Cert.PagedPayloads Cert.PagedValue
open Idealize.ShloMosaic Idealize.ShloMosaic.ValueIdx

/-- A supremum over a range, cut in two. -/
theorem sup_split (N m : ℕ) (f : ℕ → EReal) : (Finset.range (N + m)).sup f = max ((Finset.range N).sup f) (Finset.univ.sup fun k : Fin m => f (N + k.val)) := by
  apply le_antisymm
  · refine Finset.sup_le fun k hk => ?_
    have hk := Finset.mem_range.mp hk
    by_cases h : k < N
    · exact le_max_of_le_left (Finset.le_sup (Finset.mem_range.mpr h))
    · refine le_max_of_le_right (le_trans (le_of_eq ?_) (Finset.le_sup (f := fun k : Fin m => f (N + k.val)) (Finset.mem_univ ⟨k - N, by omega⟩)))
      show f k = f (N + (k - N))
      congr 1; omega
  · refine max_le (Finset.sup_mono (Finset.range_subset_range.mpr (by omega))) (Finset.sup_le fun k _ => ?_)
    exact Finset.le_sup (f := f) (Finset.mem_range.mpr (by have := k.isLt; omega))

/-- A sum over a range, cut in two. -/
theorem sum_split (N m : ℕ) (f : ℕ → EReal) : ∑ k ∈ Finset.range (N + m), f k = ∑ k ∈ Finset.range N, f k + ∑ k : Fin m, f (N + k.val) := by
  rw [Finset.sum_range_add, Finset.sum_range (n := m)]

section Row
variable (K V : S256x32x16x128.Idx → EReal) (q : S1x1x16x128.Idx → EReal) (h : Fin 16) (at' : ℕ → Fin 256)

/-- The score of row `j` of a page. -/
def pageScore (P : Fin 256) (j : Fin 32) : EReal := ∑ d : Fin 128, K (ix4 P j h d) * (q (ix4 0 0 h d) * scale)
/-- The scores of a row's listed pages in order, minus infinity past the first `n` pages. -/
def rowScore (n k : ℕ) : EReal := if k / 32 < n then pageScore K q h (at' (k / 32)) (Fin.ofNat 32 k) else ⊥
/-- The values of the row's listed pages in order. -/
def rowValue (d : Fin 128) (k : ℕ) : EReal := V (ix4 (at' (k / 32)) (Fin.ofNat 32 k) h d)
/-- The largest of the scores of the first `t` chunks. -/
def rowTop (n t : ℕ) : EReal := (Finset.range (256 * t)).sup (rowScore K q h at' n)

variable (c : Dev nD) (T : Tab (F := Ideal) c) (X : ∀ b, Arr (F := Ideal) c b) (r : ℕ)

/-- The page that a row lists at place `p`. -/
def pageAt (p : ℕ) : Fin 256 := pageOf (entry c T r p)

variable {K V q h at' c T X r}

theorem rows_div (t : ℕ) (k : Fin 256) : (256 * t + k.val) / 32 = 8 * t + k.val / 32 := by omega
theorem rows_mod (t : ℕ) (k : Fin 256) : Fin.ofNat 32 (256 * t + k.val) = ⟨k.val % 32, by omega⟩ := Fin.ext (by simp [Fin.ofNat]; omega)

theorem score_step {v : BitVec 32} (hv : v.toNat ≤ 256) {t : ℕ} (ht : t < 32) (k : Fin 256) :
    k0_pay5 (F := Ideal) k0_pay26 v (Scf.iv 0#32 1#32 t) (k0_pay2 (F := Ideal) (gathered (F := Ideal) c (X 0) (pg c T r t))) (k0_pay4 (F := Ideal) (k0_pay18 (F := Ideal) q)) (ix3 k h 0)
      = rowScore (X 0) q h (pageAt c T r) v.toNat (256 * t + k.val) := by
  rw [pay5_apply hv ht]
  unfold rowScore
  rw [rows_div, rows_mod]
  split_ifs
  · unfold pageScore
    refine Finset.sum_congr rfl fun d _ => ?_
    rw [pay2_apply, pay4_apply, pay18_apply]
    rfl
  · rfl

theorem value_step (t : ℕ) (k : Fin 256) (d : Fin 128) :
    k0_pay3 (F := Ideal) (gathered (F := Ideal) c (X 1) (pg c T r t)) (ix3 k h d) = rowValue (X 1) h (pageAt c T r) d (256 * t + k.val) := by
  rw [pay3_apply]
  unfold rowValue
  rw [rows_div, rows_mod]
  rfl

theorem rowTop_succ (n t : ℕ) : rowTop K q h at' n (t + 1) = max (rowTop K q h at' n t) (Finset.univ.sup fun k : Fin 256 => rowScore K q h at' n (256 * t + k.val)) := by
  unfold rowTop
  rw [Nat.mul_succ, sup_split]

theorem rowTop_ne_top (hs : ∀ P j, pageScore K q h P j ≠ ⊤) (n t : ℕ) : rowTop K q h at' n t ≠ ⊤ := by
  refine ne_of_lt ((Finset.sup_lt_iff bot_lt_top).mpr fun k _ => ?_)
  unfold rowScore
  split_ifs
  · exact lt_top_iff_ne_top.mpr (hs _ _)
  · exact bot_lt_top

/-- What a device keeps of a row after `t` chunks. -/
theorem carry_eq {v : BitVec 32} (hv : v.toNat ≤ 256) (hs : ∀ P j, pageScore (X 0) q h P j ≠ ⊤) {t : ℕ} (ht : t ≤ 32) :
    (carry (F := Ideal) c T X r v q t).1 (ix2 h 0) = rowTop (X 0) q h (pageAt c T r) v.toNat t
    ∧ (carry (F := Ideal) c T X r v q t).2.1 (ix2 h 0) = ∑ k ∈ Finset.range (256 * t), Ideal.exp (rowScore (X 0) q h (pageAt c T r) v.toNat k - rowTop (X 0) q h (pageAt c T r) v.toNat t)
    ∧ ∀ d, (carry (F := Ideal) c T X r v q t).2.2 (ix2 h d)
        = ∑ k ∈ Finset.range (256 * t), Ideal.exp (rowScore (X 0) q h (pageAt c T r) v.toNat k - rowTop (X 0) q h (pageAt c T r) v.toNat t) * rowValue (X 1) h (pageAt c T r) d k := by
  induction t with
  | zero => exact ⟨pay19_apply h, pay20_apply h, fun d => pay21_apply h d⟩
  | succ t ih =>
    obtain ⟨h1, h2, h3⟩ := ih (by omega)
    have ht' : t < 32 := by omega
    have hT := rowTop_ne_top (at' := pageAt c T r) hs v.toNat (t + 1)
    have hle : rowTop (X 0) q h (pageAt c T r) v.toNat t ≤ rowTop (X 0) q h (pageAt c T r) v.toNat (t + 1) := by rw [rowTop_succ]; exact le_max_left _ _
    have e1 : (carry (F := Ideal) c T X r v q (t + 1)).1 (ix2 h 0) = rowTop (X 0) q h (pageAt c T r) v.toNat (t + 1) := by
      refine (pay6_apply _ _ _ h).trans ?_
      rw [h1, rowTop_succ]
      exact congrArg (max _) (congrArg _ (funext fun k => score_step hv ht' k))
    have e7 : k0_pay7 (F := Ideal) k0_pay26 v (carry (F := Ideal) c T X r v q t).1 (Scf.iv 0#32 1#32 t) (k0_pay2 (F := Ideal) (gathered (F := Ideal) c (X 0) (pg c T r t))) (k0_pay4 (F := Ideal) (k0_pay18 (F := Ideal) q)) (ix2 h 0)
        = Ideal.exp (rowTop (X 0) q h (pageAt c T r) v.toNat t - rowTop (X 0) q h (pageAt c T r) v.toNat (t + 1)) := by
      refine (pay7_apply _ _ _ h).trans ?_
      rw [h1, ← e1]; rfl
    have e8 : ∀ k : Fin 256, k0_pay8 (F := Ideal) k0_pay26 v (carry (F := Ideal) c T X r v q t).1 (Scf.iv 0#32 1#32 t) (k0_pay2 (F := Ideal) (gathered (F := Ideal) c (X 0) (pg c T r t))) (k0_pay4 (F := Ideal) (k0_pay18 (F := Ideal) q)) (ix3 k h 0)
        = Ideal.exp (rowScore (X 0) q h (pageAt c T r) v.toNat (256 * t + k.val) - rowTop (X 0) q h (pageAt c T r) v.toNat (t + 1)) := by
      intro k
      refine (pay8_apply _ _ _ k h).trans ?_
      rw [score_step hv ht', ← e1]; rfl
    have hmem : ∀ k ∈ Finset.range (256 * t), rowScore (X 0) q h (pageAt c T r) v.toNat k ≤ rowTop (X 0) q h (pageAt c T r) v.toNat t := fun k hk => Finset.le_sup (f := rowScore (X 0) q h (pageAt c T r) v.toNat) hk
    refine ⟨e1, ?_, fun d => ?_⟩
    · refine (pay9_apply _ _ _ _ h).trans ?_
      rw [e7, h2, rescale_one _ _ hmem hle hT, Nat.mul_succ, sum_split]
      exact congrArg (_ + ·) (Finset.sum_congr rfl fun k _ => e8 k)
    · refine (pay22_apply _ _ _ _ h d).trans ?_
      rw [e7, h3 d, rescale _ _ _ hmem hle hT, Nat.mul_succ, sum_split]
      refine congrArg (_ + ·) (Finset.sum_congr rfl fun k _ => ?_)
      rw [e8 k, value_step]

end Row

section Partials
variable (c : Dev nD) (T : Tab (F := Ideal) c) (N : Cnt (F := Ideal) c) (X : ∀ b, Arr (F := Ideal) c b) (Q : Qry (F := Ideal) c) (r : Fin 32) (h : Fin 16) (d : Fin 128)

/-- The partials of a row: its weighted sum, its maximum and its sum of weights. -/
theorem partials_eq (hv : (count c N r.val).toNat ≤ 256) (hs : ∀ P j, pageScore (X 0) (query c Q r.val) h P j ≠ ⊤) :
    partials c T N X Q 1 r h d = rowTop (X 0) (query c Q r.val) h (pageAt c T r.val) (count c N r.val).toNat (chunks (count c N r.val).toNat)
    ∧ partials c T N X Q 2 r h d = ∑ k ∈ Finset.range (256 * chunks (count c N r.val).toNat), Ideal.exp (rowScore (X 0) (query c Q r.val) h (pageAt c T r.val) (count c N r.val).toNat k - rowTop (X 0) (query c Q r.val) h (pageAt c T r.val) (count c N r.val).toNat (chunks (count c N r.val).toNat))
    ∧ partials c T N X Q 0 r h d = ∑ k ∈ Finset.range (256 * chunks (count c N r.val).toNat), Ideal.exp (rowScore (X 0) (query c Q r.val) h (pageAt c T r.val) (count c N r.val).toNat k - rowTop (X 0) (query c Q r.val) h (pageAt c T r.val) (count c N r.val).toNat (chunks (count c N r.val).toNat)) * rowValue (X 1) h (pageAt c T r.val) d k := by
  obtain ⟨h1, h2, h3⟩ := carry_eq (T := T) (r := r.val) hv hs (chunks_le hv)
  unfold partials rowEnd
  generalize carry (F := Ideal) c T X r.val (count c N r.val) (query c Q r.val) (chunks (count c N r.val).toNat) = a at h1 h2 h3 ⊢
  exact ⟨(pay27_apply a.1 h d).trans h1, (pay28_apply a.2.1 h d).trans h2, (pay24_apply a.2.2 h d).trans (h3 d)⟩

end Partials

/-- The devices in the order a device meets them. -/
def aroundEquiv (c : Dev nD) : Fin 4 ≃ Fin 4 := Equiv.ofBijective (fun i => (around c i : Fin 4)) (by revert c; decide)

/-- The kernel's result: the quotient of the devices' sums moved to the common maximum. -/
theorem outOf_apply (A : Parts (F := Ideal)) (c : Dev nD) (r : Fin 32) (h : Fin 16) (d : Fin 128) :
    outOf A c (ix4 r 0 h d) = Ideal.div
      (∑ e : Fin 4, (A e 0 r h d : EReal) * Ideal.exp ((A e 1 r h d : EReal) - Finset.univ.sup fun e : Fin 4 => (A e 1 r h d : EReal)))
      (∑ e : Fin 4, (A e 2 r h d : EReal) * Ideal.exp ((A e 1 r h d : EReal) - Finset.univ.sup fun e : Fin 4 => (A e 1 r h d : EReal))) := by
  have hsup : (Finset.univ.sup fun i : Fin 4 => (A (around c i) 1 r h d : EReal)) = Finset.univ.sup fun e : Fin 4 => (A e 1 r h d : EReal) := by
    apply le_antisymm
    · exact Finset.sup_le fun i _ => Finset.le_sup (f := fun e : Fin 4 => (A e 1 r h d : EReal)) (Finset.mem_univ (around c i))
    · refine Finset.sup_le fun e _ => ?_
      obtain ⟨i, rfl⟩ := (aroundEquiv c).surjective e
      exact Finset.le_sup (f := fun i : Fin 4 => (A (around c i) 1 r h d : EReal)) (Finset.mem_univ i)
  unfold outOf
  refine (pay1_apply _ r h d).trans ((pay29_apply _ _ _ r h d).trans ?_)
  refine Eq.trans ?_ (congrArg₂ Ideal.div
    ((aroundEquiv c).sum_comp fun e : Fin 4 => (A e 0 r h d : EReal) * Ideal.exp ((A e 1 r h d : EReal) - Finset.univ.sup fun e : Fin 4 => (A e 1 r h d : EReal)))
    ((aroundEquiv c).sum_comp fun e : Fin 4 => (A e 2 r h d : EReal) * Ideal.exp ((A e 1 r h d : EReal) - Finset.univ.sup fun e : Fin 4 => (A e 1 r h d : EReal))))
  rw [← hsup]
  rfl

end Cert.PagedKernelIdeal

end
-- ==== Proof.Value.Order.lean ====
/-
Sorting a row of slots by whether they are marked, marked ones first: the first places hold exactly the marked slots.
-/
module

public import Idealize.ShloMosaic.Lib.SortFacts
public import Mathlib.Data.Nat.Count
public import Mathlib.Data.Fintype.Card
public import Mathlib.Order.Interval.Finset.Fin

@[expose] public section

noncomputable section

namespace Cert.PagedValue

open Idealize.ShloMosaic

/-- The order in which a stable sort lays out the slots when a marked slot goes before an unmarked one. -/
def order (k : Fin 256 → BitVec 1) : Fin 256 → Fin 256 := sortedFrom fun a b => IntOp.cmpi .ult (~~~ k a) (~~~ k b) == 1#1
/-- How many slots are marked. -/
def marked (k : Fin 256 → BitVec 1) : ℕ := Nat.count (fun p => k (Fin.ofNat 256 p) = 1#1) 256

theorem order_injective (k : Fin 256 → BitVec 1) : Function.Injective (order k) := sortedFrom_injective _
theorem order_surjective (k : Fin 256 → BitVec 1) : Function.Surjective (order k) := sortedFrom_surjective _

theorem before_iff (x y : BitVec 1) : (IntOp.cmpi .ult (~~~ x) (~~~ y) == 1#1) = true ↔ x = 1#1 ∧ y ≠ 1#1 := by
  revert x y; decide

/-- Before a marked slot every slot is marked. -/
theorem order_down (k : Fin 256 → BitVec 1) {i j : Fin 256} (h : i < j) (hj : k (order k j) = 1#1) : k (order k i) = 1#1 := by
  by_contra hi
  have h' := sortedFrom_noInversion (fun a b => IntOp.cmpi .ult (~~~ k a) (~~~ k b) == 1#1) (fun a b => IntOp.cmpi .ult (~~~ k a) (~~~ k b) == 1#1)
    (fun a b => by generalize k a = x; generalize k b = y; revert x y; decide) (fun _ _ h => h)
    (fun a b c => by generalize k a = x; generalize k b = y; generalize k c = z; revert x y z; decide) i j h
  have := (before_iff (k (order k j)) (k (order k i))).mpr ⟨hj, hi⟩
  exact absurd (this.symm.trans h') (by decide)

theorem marked_eq (k : Fin 256 → BitVec 1) : marked k = (Finset.univ.filter fun i : Fin 256 => k (order k i) = 1#1).card := by
  have h1 : marked k = (Finset.univ.filter fun p : Fin 256 => k p = 1#1).card := by
    unfold marked
    rw [Nat.count_eq_card_filter_range]
    refine (Finset.card_bij (fun (p : Fin 256) _ => p.val) (fun p hp => ?_) (fun a _ b _ h => Fin.ext h) (fun p hp => ?_)).symm
    · rw [Finset.mem_filter] at hp ⊢
      exact ⟨Finset.mem_range.mpr p.isLt, by rw [show Fin.ofNat 256 p.val = p from Fin.ext (Nat.mod_eq_of_lt p.isLt)]; exact hp.2⟩
    · rw [Finset.mem_filter, Finset.mem_range] at hp
      exact ⟨Fin.ofNat 256 p, Finset.mem_filter.mpr ⟨Finset.mem_univ _, hp.2⟩, Nat.mod_eq_of_lt hp.1⟩
  rw [h1]
  refine (Finset.card_bij (fun i _ => order k i) (fun i hi => ?_) (fun a _ b _ h => order_injective k h) (fun p hp => ?_)).symm
  · rw [Finset.mem_filter] at hi ⊢; exact ⟨Finset.mem_univ _, hi.2⟩
  · rw [Finset.mem_filter] at hp
    obtain ⟨i, hi⟩ := order_surjective k p
    exact ⟨i, Finset.mem_filter.mpr ⟨Finset.mem_univ _, by rw [hi]; exact hp.2⟩, hi⟩

theorem marked_le (k : Fin 256 → BitVec 1) : marked k ≤ 256 := Nat.count_le _

/-- The slot at a place is marked exactly where the place comes before the number of marked slots. -/
theorem order_iff (k : Fin 256 → BitVec 1) (i : Fin 256) : k (order k i) = 1#1 ↔ i.val < marked k := by
  rw [marked_eq]
  constructor
  · intro h
    have hs : Finset.Iic i ⊆ Finset.univ.filter fun i : Fin 256 => k (order k i) = 1#1 := fun j hj => by
      rw [Finset.mem_filter]
      rcases (Finset.mem_Iic.mp hj).lt_or_eq with hlt | rfl
      · exact ⟨Finset.mem_univ _, order_down k hlt h⟩
      · exact ⟨Finset.mem_univ _, h⟩
    have := Finset.card_le_card hs
    rw [Fin.card_Iic] at this
    omega
  · intro h
    by_contra hi
    have hs : (Finset.univ.filter fun i : Fin 256 => k (order k i) = 1#1) ⊆ Finset.Iio i := fun j hj => by
      rw [Finset.mem_filter] at hj
      rw [Finset.mem_Iio]
      by_contra hij
      rcases (not_lt.mp hij).lt_or_eq with hlt | rfl
      · exact hi (order_down k hlt hj.2)
      · exact hi hj.2
    have := Finset.card_le_card hs
    rw [Fin.card_Iio] at this
    omega

end Cert.PagedValue

end
-- ==== Proof.Value.HostTable.lean ====
/-
What the host stretches compute for a device: which slots of a row it owns, the order that brings these first, and the table of
its pages in that order.
-/
module

public import proofs.«01_k».proof.Proof.KernelIdeal.Host
public import proofs.«01_k».proof.Proof.Value.Order
public import Idealize.ShloMosaic.Lib.ReduceAll

@[expose] public section

noncomputable section

namespace Cert.PagedKernelIdeal

open Cert.KernelIdeal Cert.KernelIdeal.Gen Cert.PagedValue
open Idealize.ShloMosaic Idealize.ShloMosaic.TcCoe Idealize.ShloMosaic.Tactic
open Idealize.ShloMosaic.ValueIdx

variable {F : FTy → Type} [FloatOps F] [Named F]

variable (m : (ℓ : Loc nD τ sig) → Buf (Elt F) ℓ) (c : Dev nD)

/-- The table of pages and the lengths a device is given. -/
def table : IVec S32x256 32 := m ((c.tc : Thread nD τ).loc main_arg3)
def lens : IVec S32 32 := m ((c.tc : Thread nD τ).loc main_arg4)

/-! ## Words -/

/-- The sign of a word. -/
def sign (x : BitVec 32) : BitVec 32 := if x = 0 then 0 else if x.msb then -1 else 1
/-- The quotient by 256 rounded down, as the host code makes it of the quotient rounded to zero. -/
def floorDiv (x : BitVec 32) : BitVec 32 :=
  Scalar.select (IntOp.andi (IntOp.cmpi .ne (sign x) (sign 256#32)) (IntOp.cmpi .ne (IntOp.remsi .host x 256#32) 0#32))
    (IntOp.subi (IntOp.divsi .host x 256#32) 1#32) (IntOp.divsi .host x 256#32)
theorem select_of {α : Type} {b : BitVec 1} {x y : α} (h : b = 1#1) : Scalar.select b x y = x := if_pos h
/-- The place a device has on the axis of the mesh. -/
def placeWord (c : Dev nD) : BitVec 32 := IntOp.remui .host (IntOp.divui .host (Dev.word c) 1#32) 4#32
theorem placeWord_eq (c : Dev nD) : placeWord c = BitVec.ofNat 32 c.val := by revert c; decide +kernel

/-- Dividing a page of the pool names the device it lies on. -/
theorem floorDiv_eq (x : Fin 1024) : floorDiv (BitVec.ofNat 32 x.val) = BitVec.ofNat 32 (x.val / 256) := by
  revert x; decide +kernel

theorem wrapped_slot (i : Fin 256) :
    Scalar.select (IntOp.cmpi .slt (BitVec.ofNat 32 i.val) 0#32) (IntOp.addi (BitVec.ofNat 32 i.val) 256#32) (BitVec.ofNat 32 i.val) = BitVec.ofNat 32 i.val := by
  revert i; decide +kernel
theorem slot_inside (i : Fin 256) :
    IntOp.andi (IntOp.cmpi .sge (BitVec.ofNat 32 i.val) 0#32) (IntOp.cmpi .sle (BitVec.ofNat 32 i.val) 255#32) = 1#1 := by
  revert i; decide +kernel
theorem slot_clamped (i : Fin 256) : min (BitVec.ofNat 32 i.val).toInt.toNat 255 = i.val := by
  revert i; decide +kernel
/-- A page of the device's own, less the device's first page, is its place on the device, and the cut to the places leaves it. -/
theorem page_local (d : Fin 4) (P : Fin 256) :
    IntOp.minsi 255#32 (IntOp.maxsi 0#32 (IntOp.subi (BitVec.ofNat 32 (256 * d.val + P.val)) (IntOp.muli (BitVec.ofNat 32 d.val) 256#32))) = BitVec.ofNat 32 P.val := by
  revert d P; decide +kernel

/-! ## The stretches one by one -/

theorem place_at (U : Valuation τ sig (Elt F)) : (StableHlo.after (hostOps0 c) U main_v4 : IVec S_ 32) = constantI S_ 32 (placeWord c) := by
  after_results_simp
  rfl
theorem columns_at (U : Valuation τ sig (Elt F)) : (StableHlo.after (hostOps0 c) U main_v6 : IVec S1x256 32) = broadcastInDim S1x256 ![1] bcast_S256_S1x256_1 (iotaInDim S256 32 0) := by
  after_results_simp
theorem pages_at (U : Valuation τ sig (Elt F)) : (StableHlo.after (hostOps0 c) U main_c_1 : IVec S_ 32) = constantI S_ 32 256#32 := by
  after_results_simp
theorem floorDiv_at (U : Valuation τ sig (Elt F)) (h : (U main_c_1 : IVec S_ 32) = constantI S_ 32 256#32) :
    (StableHlo.after hostOps0_1 U main_v7 : IVec S32x256 32) = fun x => floorDiv ((U main_arg3 : IVec S32x256 32) x) := by
  after_results_simp
  simp only [StableHlo.TRef.ofBuf_toBuf]
  rw [h]
  rfl
theorem mask_at (U : Valuation τ sig (Elt F)) : (StableHlo.after hostOps0_2 U main_v14 : IVec S32x256 1)
    = andi (cmpi .eq (U main_v7 : IVec S32x256 32) (broadcastInDim S32x256 ![] bcast_S_S32x256 (U main_v4 : IVec S_ 32)))
        (cmpi .slt (broadcastInDim S32x256 ![0, 1] bcast_S1x256_S32x256_0_1 (U main_v6 : IVec S1x256 32))
          (broadcastInDim S32x256 ![0, 1] bcast_S32x1_S32x256_0_1 (broadcastInDim S32x1 ![0] bcast_S32_S32x1_0 (U main_arg4 : IVec S32 32)))) := by
  after_results_simp
theorem keys_at (U : Valuation τ sig (Elt F)) : (StableHlo.after hostOps0_2 U main_v15 : IVec S32x256 1)
    = noti (StableHlo.after hostOps0_2 U main_v14 : IVec S32x256 1) := by
  after_results_simp
theorem sort_at (U : Valuation τ sig (Elt F)) : (StableHlo.after hostOps0_3 U main_v16 : IVec S32x256 32)
    = (Host.sort2 S32x256 1 comparator_i1_i32_d1 (U main_v15 : IVec S32x256 1) (iotaInDim S32x256 32 1)).2 := by
  after_results_simp
  rfl
/-- The start indices of the gather along the rows. -/
def starts (v : IVec S32x256 32) : IVec S32x256x1 32 :=
  shapeCast S32x256x1 (select (cmpi .slt v (broadcastInDim S32x256 ![] bcast_S_S32x256 (constantI S_ 32 0#32)))
    (addi v (broadcastInDim S32x256 ![] bcast_S_S32x256 (constantI S_ 32 256#32))) v) shapeCasts_S32x256_S32x256x1
seal Host.reduce Host.gather in
set_option maxRecDepth 4000 in
theorem take_at (U : Valuation τ sig (Elt F)) : (StableHlo.after hostOps0_4 U main_v17 : IVec S32x256 32)
    = select (Host.reduce IntOp.andi (andi (cmpi .sge (starts (U main_v16 : IVec S32x256 32)) (broadcastInDim S32x256x1 ![] bcast_S_S32x256x1 (constantI S_ 32 0#32)))
          (cmpi .sle (starts (U main_v16 : IVec S32x256 32)) (broadcastInDim S32x256x1 ![0, 1, 2] bcast_S1x1x1_S32x256x1_0_1_2 (broadcastInDim S1x1x1 ![2] bcast_S1_S1x1x1_2 (constantI S1 32 255#32)))))
        (constantI S_ 1 1#1) reducesTo_S32x256x1_S32x256_d2 h_S_)
      (Host.gather gather_S32x256_S32x256x1_S32x256_n_1_0_0_1_2_11 (U main_arg3 : IVec S32x256 32) (starts (U main_v16 : IVec S32x256 32)))
      (broadcastInDim S32x256 ![] bcast_S_S32x256 (constantI S_ 32 2147483648#32)) := by
  after_results_simp
  simp only [StableHlo.TRef.ofBuf_toBuf]
  rfl
theorem local_at (U : Valuation τ sig (Elt F)) : (StableHlo.after hostOps0_5 U main_v20 : IVec S32x256 32)
    = subi (U main_v17 : IVec S32x256 32) (broadcastInDim S32x256 ![] bcast_S_S32x256 (muli (U main_v4 : IVec S_ 32) (constantI S_ 32 256#32))) := by
  after_results_simp

/-! ## The slots a device owns -/

theorem v4_eq : (V1 m c main_v4 : IVec S_ 32) = constantI S_ 32 (placeWord c) := place_at c _

/-- Device `c` owns slot `p` of row `r` when the slot's page lies on it and the row's length covers the slot. -/
theorem mask_eq (r : Fin 32) (p : Fin 256) : mask m c (ix2 (n0 := 32) (n1 := 256) r p)
    = IntOp.andi (IntOp.cmpi .eq (floorDiv (table m c (ix2 (n0 := 32) (n1 := 256) r p))) (BitVec.ofNat 32 c.val))
        (IntOp.cmpi .slt (BitVec.ofNat 32 p.val) (lens m c (ix1 (n := 32) r))) := by
  have h14 : (V8 m c main_v14 : IVec S32x256 1) = StableHlo.after hostOps0_2 (V2 m c) main_v14 := by
    rw [V8_of m c main_v14 (by decide), V7_of m c main_v14 (by decide), V6_of m c main_v14 (by decide), V5_of m c main_v14 (by decide), V4_of m c main_v14 (by decide)]
  have h7 : (V2 m c main_v7 : IVec S32x256 32) = fun x => floorDiv (table m c x) := by
    refine (floorDiv_at (V1 m c) (pages_at c _)).trans ?_
    rw [show (V1 m c main_arg3 : IVec S32x256 32) = table m c from V1_of m c main_arg3 (by decide)]
    rfl
  have h4 : (V2 m c main_v4 : IVec S_ 32) = constantI S_ 32 (placeWord c) := (V2_of m c main_v4 (by decide)).trans (v4_eq m c)
  have h6 : (V2 m c main_v6 : IVec S1x256 32) = broadcastInDim S1x256 ![1] bcast_S256_S1x256_1 (iotaInDim S256 32 0) :=
    (V2_of m c main_v6 (by decide)).trans (columns_at c _)
  have hl : (V2 m c main_arg4 : IVec S32 32) = lens m c := (V2_of m c main_arg4 (by decide)).trans (V1_of m c main_arg4 (by decide))
  unfold mask
  rw [h14, mask_at, h7, h4, h6, hl, ← placeWord_eq]
  show IntOp.andi (IntOp.cmpi .eq _ _) (IntOp.cmpi .slt _ _) = _
  rw [broadcastInDim_apply _ bcast_S1x256_S32x256_0_1 _ _ (ix2 (n0 := 1) (n1 := 256) 0 p) (fun a => match a with | ⟨0, _⟩ => rfl | ⟨1, _⟩ => rfl),
    broadcastInDim_apply _ bcast_S256_S1x256_1 _ _ (ix1 (n := 256) p) (fun a => match a with | ⟨0, _⟩ => rfl),
    broadcastInDim_apply _ bcast_S32x1_S32x256_0_1 _ _ (ix2 (n0 := 32) (n1 := 1) r 0) (fun a => match a with | ⟨0, _⟩ => rfl | ⟨1, _⟩ => rfl),
    broadcastInDim_apply _ bcast_S32_S32x1_0 _ _ (ix1 (n := 32) r) (fun a => match a with | ⟨0, _⟩ => rfl)]
  rfl

/-- The marks of a row's slots. -/
def marks (r : Fin 32) : Fin 256 → BitVec 1 := fun p => mask m c (ix2 (n0 := 32) (n1 := 256) r p)

/-- The sort lays out a row's slots with the owned ones first. -/
theorem v16_eq (r : Fin 32) (i : Fin 256) : (V4 m c main_v16 : IVec S32x256 32) (ix2 (n0 := 32) (n1 := 256) r i) = BitVec.ofNat 32 (order (marks m c r) i).val := by
  have h15 : (V3 m c main_v15 : IVec S32x256 1) = noti (mask m c) := by
    refine (keys_at (V2 m c)).trans (congrArg noti ?_)
    unfold mask
    rw [V8_of m c main_v14 (by decide), V7_of m c main_v14 (by decide), V6_of m c main_v14 (by decide), V5_of m c main_v14 (by decide), V4_of m c main_v14 (by decide)]
  have ha : ∀ k : Fin 256, Shape.Idx.along (s := S32x256) (ix2 (n0 := 32) (n1 := 256) r i) 1 k = ix2 (n0 := 32) (n1 := 256) r k := fun k => by
    funext a; match a with | ⟨0, _⟩ => rfl | ⟨1, _⟩ => rfl
  refine (congrFun (sort_at (V3 m c)) _).trans ?_
  rw [h15]
  unfold Host.sort2
  rw [dif_pos (by decide)]
  refine (congrArg (fun x : S32x256.Idx => BitVec.ofNat 32 (x 1).val) (ha _)).trans ?_
  refine congrArg (fun q : Fin 256 => BitVec.ofNat 32 q.val) (congrArg (fun R : Fin 256 → Fin 256 → Bool => sortedFrom R i) ?_)
  funext k k'
  exact congrArg₂ (fun a b => IntOp.cmpi .ult (~~~ mask m c a) (~~~ mask m c b) == 1#1) (ha k) (ha k')

theorem starts_apply (v : IVec S32x256 32) (r : Fin 32) (i q : Fin 256) (h : v (ix2 (n0 := 32) (n1 := 256) r i) = BitVec.ofNat 32 q.val) :
    starts v (ix3 (n0 := 32) (n1 := 256) (n2 := 1) r i 0) = BitVec.ofNat 32 q.val := by
  unfold starts
  rw [shapeCast_apply _ _ _ (ix2 (n0 := 32) (n1 := 256) r i) (by rw [Shape.rowMajor_val_two, Shape.rowMajor_val_three]; show r.val * 256 + i.val = (r.val * 256 + i.val) * 1 + 0; omega)]
  show Scalar.select (IntOp.cmpi .slt (v _) 0#32) (IntOp.addi (v _) 256#32) (v _) = _
  rw [h]
  exact wrapped_slot q

/-- The gather along a row reads the slot its start index names. -/
theorem gather_row_apply (x : IVec S32x256 32) (idx : IVec S32x256x1 32) (r : Fin 32) (i q : Fin 256)
    (h : idx (ix3 (n0 := 32) (n1 := 256) (n2 := 1) r i 0) = BitVec.ofNat 32 q.val) :
    Host.gather gather_S32x256_S32x256x1_S32x256_n_1_0_0_1_2_11 x idx (ix2 (n0 := 32) (n1 := 256) r i) = x (ix2 (n0 := 32) (n1 := 256) r q) := by
  unfold Host.gather
  congr 1
  funext a
  refine Fin.ext ?_
  generalize hd : gather_S32x256_S32x256x1_S32x256_n_1_0_0_1_2_11 = d
  show d.start (ix2 (n0 := 32) (n1 := 256) r i) idx a + d.batchCoord (ix2 (n0 := 32) (n1 := 256) r i) a + d.offCoord (ix2 (n0 := 32) (n1 := 256) r i) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32x256_S32x256x1_S32x256_n_1_0_0_1_2_11.operandBatchingDims from List.mem_singleton.mpr rfl)]
    rfl
  · rw [GatherDims.batchCoord_eq_zero _ _ _ (fun h => absurd (List.mem_singleton.mp h) (by decide : (1 : Fin 2) ≠ 0)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x256_S32x256x1_S32x256_n_1_0_0_1_2_11.startIndexMap from List.mem_singleton.mpr rfl)]
    have hsi : gather_S32x256_S32x256x1_S32x256_n_1_0_0_1_2_11.siIdx (ix2 (n0 := 32) (n1 := 256) r i)
        ⟨List.idxOf (1 : Fin 2) gather_S32x256_S32x256x1_S32x256_n_1_0_0_1_2_11.startIndexMap, List.idxOf_lt_length_iff.2 (List.mem_singleton.mpr rfl)⟩
          = ix3 (n0 := 32) (n1 := 256) (n2 := 1) r i 0 := by
      funext b; refine Fin.ext ?_
      match b with
      | ⟨0, _⟩ => rfl
      | ⟨1, _⟩ => rfl
      | ⟨2, _⟩ => rfl
    rw [hsi, h]
    exact slot_clamped q

/-- The table in the order of the sort. -/
theorem v17_eq (r : Fin 32) (i : Fin 256) : (V5 m c main_v17 : IVec S32x256 32) (ix2 (n0 := 32) (n1 := 256) r i) = table m c (ix2 (n0 := 32) (n1 := 256) r (order (marks m c r) i)) := by
  refine (congrFun (take_at (V4 m c)) _).trans ?_
  refine (select_of ?_).trans ?_
  rotate_left
  · rw [gather_row_apply _ _ r i _ (starts_apply _ r i _ (v16_eq m c r i)), show (V4 m c main_arg3 : IVec S32x256 32) = table m c from
      (V4_of m c main_arg3 (by decide)).trans <| (V3_of m c main_arg3 (by decide)).trans <| (V2_of m c main_arg3 (by decide)).trans (V1_of m c main_arg3 (by decide))]
  · refine Host.reduce_andi_one _ _ _ _ _ rfl fun j => ?_
    obtain ⟨r', i', rfl⟩ : ∃ (r' : Fin 32) (i' : Fin 256), j = ix3 (n0 := 32) (n1 := 256) (n2 := 1) r' i' 0 := ⟨j 0, j 1, by
      funext a
      match a with
      | ⟨0, _⟩ => rfl
      | ⟨1, _⟩ => rfl
      | ⟨2, _⟩ => exact Subsingleton.elim (α := Fin 1) _ _⟩
    show IntOp.andi (IntOp.cmpi .sge (starts _ _) 0#32) (IntOp.cmpi .sle (starts _ _) 255#32) = 1#1
    rw [starts_apply _ _ _ _ (v16_eq m c _ _)]
    exact slot_inside _

/-! ## What the call is handed -/

/-- Entry `i` of the table the call reads, for a place that names a page of the device. -/
theorem entry_eq (r : Fin 32) (i : Fin 256) (P : Fin 256) (h : table m c (ix2 (n0 := 32) (n1 := 256) r (order (marks m c r) i)) = BitVec.ofNat 32 (256 * c.val + P.val)) :
    tabOf (V8 m) c (ix2 (n0 := 32) (n1 := 256) r i) = BitVec.ofNat 32 P.val := by
  rw [v21_eq, show (V6 m c main_v20 : IVec S32x256 32) = _ from local_at (V5 m c),
    show (V5 m c main_v4 : IVec S_ 32) = constantI S_ 32 (placeWord c) from
      (V5_of m c main_v4 (by decide)).trans <| (V4_of m c main_v4 (by decide)).trans <| (V3_of m c main_v4 (by decide)).trans <| (V2_of m c main_v4 (by decide)).trans (v4_eq m c)]
  show IntOp.minsi 255#32 (IntOp.maxsi 0#32 (IntOp.subi ((V5 m c main_v17 : IVec S32x256 32) _) (IntOp.muli (placeWord c) 256#32))) = _
  rw [v17_eq, h, placeWord_eq]
  exact page_local c P

/-- The count the call reads is the number of owned slots. -/
theorem count_eq (r : Fin 32) : cntOf (V8 m) c (ix1 (n := 32) r) = BitVec.ofNat 32 (marked (marks m c r)) := v23_eq m c r

end Cert.PagedKernelIdeal

end
-- ==== Proof.Value.Reference.lean ====
/-
The reference read at an index: softmax attention over the slots a row's length covers, each slot's page looked up in the pool.
-/
module

public import proofs.«01_k».proof.Proof.Gen.ReferenceIdeal.Run
public import proofs.«01_k».proof.Proof.Value.Softmax
public import Idealize.ShloMosaic.Lib.TwoAxisContraction
public import Idealize.ShloMosaic.Lib.IdealHost
public import Idealize.ShloMosaic.Lib.Pipeline.Value
public import Idealize.ShloMosaic.Lib.ValueIdx

@[expose] public section

noncomputable section

namespace Cert.PagedReferenceIdeal

open Cert.ReferenceIdeal Cert.ReferenceIdeal.Gen Cert.ReferenceIdeal.Value Cert.PagedValue
open Idealize.ShloMosaic Idealize.ShloMosaic.TcCoe Idealize.ShloMosaic.ValueIdx

variable (m : (ℓ : Loc nD τ sig) → Buf (Elt Ideal) ℓ) (c : Dev nD)

/-! ## The arguments -/

def queries : S32x1x16x128.Idx → EReal := m ((c.tc : Thread nD τ).loc main_arg0)
def keys : S1024x32x16x128.Idx → EReal := m ((c.tc : Thread nD τ).loc main_arg1)
def values : S1024x32x16x128.Idx → EReal := m ((c.tc : Thread nD τ).loc main_arg2)
def table : IVec S32x256 32 := m ((c.tc : Thread nD τ).loc main_arg3)
def lens : IVec S32 32 := m ((c.tc : Thread nD τ).loc main_arg4)

/-! ## The operations at an index -/

/-- The page a start index names: read signed and cut to the pool. -/
def clamped (w : BitVec 32) : Fin 1024 := ⟨min w.toInt.toNat 1023, by omega⟩

/-- The gather takes, for every slot of every row, the page its start index names. -/
theorem gather_apply (x : S1024x32x16x128.Idx → EReal) (idx : IVec S32x256x1 32) (r : Fin 32) (p : Fin 256) (j : Fin 32) (h : Fin 16) (d : Fin 128) :
    Host.gather gather_S1024x32x16x128_S32x256x1_S32x256x32x16x128_234_0_n_n_0_2_13216128 x idx (ix5 r p j h d)
      = x (ix4 (clamped (idx (ix3 (n0 := 32) (n1 := 256) (n2 := 1) r p 0))) j h d) := by
  unfold Host.gather
  congr 1
  funext a
  refine Fin.ext ?_
  generalize hG : gather_S1024x32x16x128_S32x256x1_S32x256x32x16x128_234_0_n_n_0_2_13216128 = G
  show G.start (ix5 r p j h d) idx a + G.batchCoord (ix5 r p j h d) a + G.offCoord (ix5 r p j h d) a = _
  subst hG
  rw [GatherDims.batchCoord_eq_zero _ _ _ (fun h => absurd h (List.not_mem_nil))]
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S1024x32x16x128_S32x256x1_S32x256x32x16x128_234_0_n_n_0_2_13216128.startIndexMap from List.mem_singleton.mpr rfl)]
    have hsi : gather_S1024x32x16x128_S32x256x1_S32x256x32x16x128_234_0_n_n_0_2_13216128.siIdx (ix5 r p j h d)
        ⟨List.idxOf (0 : Fin 4) gather_S1024x32x16x128_S32x256x1_S32x256x32x16x128_234_0_n_n_0_2_13216128.startIndexMap, List.idxOf_lt_length_iff.2 (List.mem_singleton.mpr rfl)⟩
          = ix3 (n0 := 32) (n1 := 256) (n2 := 1) r p 0 := by
      funext b; refine Fin.ext ?_
      match b with
      | ⟨0, _⟩ => rfl
      | ⟨1, _⟩ => rfl
      | ⟨2, _⟩ => rfl
    rw [hsi]
    rfl
  all_goals
    rw [show gather_S1024x32x16x128_S32x256x1_S32x256x32x16x128_234_0_n_n_0_2_13216128.start (ix5 r p j h d) idx _ = 0 from dif_neg (fun h => absurd (List.mem_singleton.mp h) (by decide)), Nat.zero_add]
    unfold GatherDims.offCoord
    rw [dif_pos ((GatherDims.mem_sKept _ _).mpr ⟨fun h => absurd (List.mem_singleton.mp h) (by decide), List.not_mem_nil⟩)]
    rfl

/-- The scores' product: a sum over the depth. -/
theorem scores_apply (q : S32x16x128.Idx → EReal) (k : S32x256x32x16x128.Idx → EReal) (r : Fin 32) (h : Fin 16) (p : Fin 256) (j : Fin 32) :
    Host.dotGeneral (F := Ideal) (φ₁ := .f32) (φ₂ := .f32) dot_S32x16x128_S32x256x32x16x128_S32x16x256x32_2_4_n_12_01_03 none q k (ix4 r h p j)
      = ∑ d : Fin 128, q (ix3 r h d) * k (ix5 r p j h d) := by
  simp only [Host.dotGeneral]
  rw [Ideal.dotGeneral_apply, ← Equiv.sum_comp (contrEquiv1 dot_S32x16x128_S32x256x32x16x128_S32x16x256x32_2_4_n_12_01_03 128 rfl rfl).symm]
  refine Finset.sum_congr rfl fun d _ => ?_
  refine congrArg₂ (· * ·) (congrArg q ?_) (congrArg k ?_)
  · funext a; refine Fin.ext ?_
    match a with
    | ⟨0, _⟩ => rfl
    | ⟨1, _⟩ => rfl
    | ⟨2, _⟩ => rfl
  · funext a; refine Fin.ext ?_
    match a with
    | ⟨0, _⟩ => rfl
    | ⟨1, _⟩ => rfl
    | ⟨2, _⟩ => rfl
    | ⟨3, _⟩ => rfl
    | ⟨4, _⟩ => rfl

/-- The weighted sum's product: a sum over slots and rows of a page. -/
theorem weighted_apply (w : S32x16x256x32.Idx → EReal) (v : S32x256x32x16x128.Idx → EReal) (r : Fin 32) (h : Fin 16) (d : Fin 128) :
    Host.dotGeneral (F := Ideal) (φ₁ := .f32) (φ₂ := .f32) dot_S32x16x256x32_S32x256x32x16x128_S32x16x128_23_12_n_4_01_03 none w v (ix3 r h d)
      = ∑ x : Fin 256 × Fin 32, w (ix4 r h x.1 x.2) * v (ix5 r x.1 x.2 h d) := by
  simp only [Host.dotGeneral]
  rw [Ideal.dotGeneral_apply, ← Equiv.sum_comp (contrEquiv2 dot_S32x16x256x32_S32x256x32x16x128_S32x16x128_23_12_n_4_01_03 256 32 rfl rfl rfl).symm]
  refine Finset.sum_congr rfl fun x _ => ?_
  refine congrArg₂ (· * ·) (congrArg w ?_) (congrArg v ?_)
  · funext a; refine Fin.ext ?_
    match a with
    | ⟨0, _⟩ => rfl
    | ⟨1, _⟩ => rfl
    | ⟨2, _⟩ => rfl
    | ⟨3, _⟩ => rfl
  · funext a; refine Fin.ext ?_
    match a with
    | ⟨0, _⟩ => rfl
    | ⟨1, _⟩ => rfl
    | ⟨2, _⟩ => rfl
    | ⟨3, _⟩ => rfl
    | ⟨4, _⟩ => rfl

/-- A reduction over slots and rows keeps the indices of one row and head. -/
theorem drop_eq_iff (H : S32x16x256x32.ReducesTo [2, 3] S32x16) (i : S32x16x256x32.Idx) (r : Fin 32) (h : Fin 16) :
    H.drop i = ix2 r h ↔ i 0 = r ∧ i 1 = h := by
  constructor
  · intro e
    exact ⟨Fin.ext (congrArg Fin.val (congrFun e 0)), Fin.ext (congrArg Fin.val (congrFun e 1))⟩
  · rintro ⟨h0, h1⟩
    funext b
    match b with
    | ⟨0, _⟩ => exact Fin.ext (congrArg Fin.val h0)
    | ⟨1, _⟩ => exact Fin.ext (congrArg Fin.val h1)

theorem sum_apply (x : S32x16x256x32.Idx → EReal) (H : S32x16x256x32.ReducesTo [2, 3] S32x16) (hu : 0 < S_.numel) (r : Fin 32) (h : Fin 16) :
    Host.reduceAdd (F := Ideal) (φ := .f32) x (constant S_ .f32 0x00000000#32) H hu (ix2 r h) = ∑ y : Fin 256 × Fin 32, x (ix4 r h y.1 y.2) := by
  rw [hostReduceAdd_apply]
  unfold Ideal.hostReduceAdd
  rw [show (constant (F := Ideal) S_ .f32 0x00000000#32 (Shape.Idx.first hu) : EReal) = 0 from Ideal.ofBits_zero_f32, zero_add]
  refine Finset.sum_bij' (fun i _ => ((i 2 : Fin 256), (i 3 : Fin 32))) (fun y _ => ix4 r h y.1 y.2) (fun _ _ => Finset.mem_univ _) (fun y _ => ?_) (fun i hi => ?_) (fun _ _ => rfl) (fun i hi => ?_)
  · rw [Finset.mem_filter, drop_eq_iff]; exact ⟨Finset.mem_univ _, rfl, rfl⟩
  · rw [Finset.mem_filter, drop_eq_iff] at hi
    obtain ⟨_, rfl, rfl⟩ := hi
    exact (eq_ix4 i).symm
  · rw [Finset.mem_filter, drop_eq_iff] at hi
    obtain ⟨_, rfl, rfl⟩ := hi
    exact congrArg x (eq_ix4 i)

theorem low_bot : Ideal.ofBits .f32 0xFF800000#32 = ⊥ := by simp [Ideal.ofBits, Ideal.ieee]

theorem max_apply (x : S32x16x256x32.Idx → EReal) (H : S32x16x256x32.ReducesTo [2, 3] S32x16) (hu : 0 < S_.numel) (r : Fin 32) (h : Fin 16) :
    Host.reduce (FloatOps.maximumf (F := Ideal) (φ := .f32)) x (constant (F := Ideal) S_ .f32 0xFF800000#32) H hu (ix2 r h) = Finset.univ.sup fun y : Fin 256 × Fin 32 => x (ix4 r h y.1 y.2) := by
  rw [Host.reduce_eq_fold, show (constant (F := Ideal) S_ .f32 0xFF800000#32 (Shape.Idx.first hu) : EReal) = ⊥ from low_bot]
  show (Finset.univ.filter fun i => H.drop i = ix2 r h).sup x = _
  refine eq_of_forall_ge_iff fun b => ?_
  rw [Finset.sup_le_iff, Finset.sup_le_iff]
  constructor
  · intro e y _
    exact e _ (by rw [Finset.mem_filter, drop_eq_iff]; exact ⟨Finset.mem_univ _, rfl, rfl⟩)
  · intro e i hi
    rw [Finset.mem_filter, drop_eq_iff] at hi
    obtain ⟨_, rfl, rfl⟩ := hi
    have := e (i 2, i 3) (Finset.mem_univ _)
    rw [eq_ix4 i]
    exact this

/-! ## The reference's intermediate arrays -/

/-- The start indices of the lookup. -/
def starts : IVec S32x256x1 32 := broadcastInDim S32x256x1 ![0, 1] bcast_S32x256_S32x256x1_0_1
  (select (cmpi .slt (table m c) (broadcastInDim S32x256 ![] bcast_S_S32x256 (constantI S_ 32 0#32))) (addi (table m c) (broadcastInDim S32x256 ![] bcast_S_S32x256 (constantI S_ 32 1024#32))) (table m c))
/-- Which slots a row's length covers. -/
def covered : IVec S32x16x256x32 1 := broadcastInDim S32x16x256x32 ![0, 1, 2, 3] bcast_S32x1x256x1_S32x16x256x32_0_1_2_3 (broadcastInDim S32x1x256x1 ![0, 2] bcast_S32x256_S32x1x256x1_0_2
  (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 (lens m c)))))
/-- The scores, minus infinity where the slot is not covered. -/
def scores : FVec Ideal S32x16x256x32 .f32 := select (covered m c) (mulf (Host.dotGeneral (F := Ideal) (φ₁ := .f32) (φ₂ := .f32) dot_S32x16x128_S32x256x32x16x128_S32x16x256x32_2_4_n_12_01_03 none (shapeCast S32x16x128 (queries m c) shapeCasts_S32x1x16x128_S32x16x128)
    (Host.gather gather_S1024x32x16x128_S32x256x1_S32x256x32x16x128_234_0_n_n_0_2_13216128 (keys m c) (starts m c))) (broadcastInDim S32x16x256x32 ![] bcast_S_S32x16x256x32 (constant S_ .f32 0x3DB504F3#32)))
  (broadcastInDim S32x16x256x32 ![] bcast_S_S32x16x256x32 (id (constant S_ .f32 0xFF800000#32)))
/-- Their exponentials against the largest of a row and head. -/
def exps : FVec Ideal S32x16x256x32 .f32 := Host.exp (subf (scores m c) (broadcastInDim S32x16x256x32 ![0, 1, 2, 3] bcast_S32x16x1x1_S32x16x256x32_0_1_2_3 (broadcastInDim S32x16x1x1 ![0, 1] bcast_S32x16_S32x16x1x1_0_1
  (Host.reduce FloatOps.maximumf (scores m c) (constant S_ .f32 0xFF800000#32) reducesTo_S32x16x256x32_S32x16_d2_3 h_S_))))

/-- What the reference returns. -/
def result : S32x1x16x128.Idx → EReal := res_main_v36 m c
theorem result_eq : result m c = broadcastInDim S32x1x16x128 ![0, 2, 3] bcast_S32x16x128_S32x1x16x128_0_2_3 (Host.dotGeneral (F := Ideal) (φ₁ := .f32) (φ₂ := .f32) dot_S32x16x256x32_S32x256x32x16x128_S32x16x128_23_12_n_4_01_03 none
    (Host.divf (exps m c) (broadcastInDim S32x16x256x32 ![0, 1, 2, 3] bcast_S32x16x1x1_S32x16x256x32_0_1_2_3 (broadcastInDim S32x16x1x1 ![0, 1] bcast_S32x16_S32x16x1x1_0_1
      (Host.reduceAdd (exps m c) (constant S_ .f32 0x00000000#32) reducesTo_S32x16x256x32_S32x16_d2_3 h_S_))))
    (Host.gather gather_S1024x32x16x128_S32x256x1_S32x256x32x16x128_234_0_n_n_0_2_13216128 (values m c) (starts m c))) := by
  unfold result res_main_v36 exps scores covered starts queries keys values table lens
  rfl

/-- The page of slot `p` of row `r`: a negative number counts from the pool's end, and the lookup cuts what is outside. -/
def page (r : Fin 32) (p : Fin 256) : Fin 1024 := clamped (starts m c (ix3 (n0 := 32) (n1 := 256) (n2 := 1) r p 0))
/-- Whether row `r`'s length covers slot `p`. -/
def valid (r : Fin 32) (p : Fin 256) : Prop := IntOp.cmpi .slt (BitVec.ofNat 32 p.val) (lens m c (ix1 (n := 32) r)) = 1#1
instance (r : Fin 32) : DecidablePred (valid m c r) := fun _ => inferInstanceAs (Decidable (_ = _))
/-- The score of a row of slot `p`'s page. -/
def score (r : Fin 32) (h : Fin 16) (p : Fin 256) (j : Fin 32) : EReal :=
  (∑ d : Fin 128, queries m c (ix4 r 0 h d) * keys m c (ix4 (page m c r p) j h d)) * Ideal.ofBits .f32 0x3DB504F3#32

theorem page_eq (r : Fin 32) (p : Fin 256) (P : Fin 1024) (hP : table m c (ix2 (n0 := 32) (n1 := 256) r p) = BitVec.ofNat 32 P.val) : page m c r p = P := by
  have hw : ∀ P : Fin 1024, clamped (Scalar.select (IntOp.cmpi .slt (BitVec.ofNat 32 P.val) 0#32) (IntOp.addi (BitVec.ofNat 32 P.val) 1024#32) (BitVec.ofNat 32 P.val)) = P := by
    decide +kernel
  unfold page starts
  rw [broadcastInDim_apply _ bcast_S32x256_S32x256x1_0_1 _ _ (ix2 (n0 := 32) (n1 := 256) r p) (fun a => match a with | ⟨0, _⟩ => rfl | ⟨1, _⟩ => rfl)]
  show clamped (Scalar.select (IntOp.cmpi .slt (table m c _) 0#32) (IntOp.addi (table m c _) 1024#32) (table m c _)) = _
  rw [hP]
  exact hw P

theorem scores_eq (r : Fin 32) (h : Fin 16) (p : Fin 256) (j : Fin 32) : scores m c (ix4 r h p j) = masked (valid m c r) (score m c r h) (p, j) := by
  have hc : covered m c (ix4 r h p j) = IntOp.cmpi .slt (BitVec.ofNat 32 p.val) (lens m c (ix1 (n := 32) r)) := by
    unfold covered
    rw [broadcastInDim_apply _ bcast_S32x1x256x1_S32x16x256x32_0_1_2_3 _ _ (ix4 (n0 := 32) (n1 := 1) (n2 := 256) (n3 := 1) r 0 p 0) (fun a => match a with | ⟨0, _⟩ => rfl | ⟨1, _⟩ => rfl | ⟨2, _⟩ => rfl | ⟨3, _⟩ => rfl),
      broadcastInDim_apply _ bcast_S32x256_S32x1x256x1_0_2 _ _ (ix2 (n0 := 32) (n1 := 256) r p) (fun a => match a with | ⟨0, _⟩ => rfl | ⟨1, _⟩ => rfl)]
    show IntOp.cmpi .slt _ _ = _
    rw [broadcastInDim_apply _ bcast_S1x256_S32x256_0_1 _ _ (ix2 (n0 := 1) (n1 := 256) 0 p) (fun a => match a with | ⟨0, _⟩ => rfl | ⟨1, _⟩ => rfl),
      broadcastInDim_apply _ bcast_S256_S1x256_1 _ _ (ix1 (n := 256) p) (fun a => match a with | ⟨0, _⟩ => rfl),
      broadcastInDim_apply _ bcast_S32x1_S32x256_0_1 _ _ (ix2 (n0 := 32) (n1 := 1) r 0) (fun a => match a with | ⟨0, _⟩ => rfl | ⟨1, _⟩ => rfl),
      broadcastInDim_apply _ bcast_S32_S32x1_0 _ _ (ix1 (n := 32) r) (fun a => match a with | ⟨0, _⟩ => rfl)]
    rfl
  unfold scores masked
  rw [select_apply, hc]
  by_cases hv : valid m c r p
  · rw [if_pos hv, show IntOp.cmpi .slt (BitVec.ofNat 32 p.val) (lens m c (ix1 (n := 32) r)) = 1#1 from hv, select_one]
    show (Host.dotGeneral (F := Ideal) _ _ _ _ _ : EReal) * Ideal.ofBits .f32 0x3DB504F3#32 = _
    rw [scores_apply]
    unfold score
    congr 1
    refine Finset.sum_congr rfl fun d _ => ?_
    rw [gather_apply, shapeCast_apply _ _ _ (ix4 (n0 := 32) (n1 := 1) (n2 := 16) (n3 := 128) r 0 h d) (by
      rw [Shape.rowMajor_val_three, Shape.rowMajor_val_four]; show ((r.val * 1 + 0) * 16 + h.val) * 128 + d.val = (r.val * 16 + h.val) * 128 + d.val; omega)]
    rfl
  · rw [if_neg hv]
    show Scalar.select _ _ (Ideal.ofBits .f32 0xFF800000#32) = ⊥
    rw [low_bot]
    exact if_neg hv

theorem exps_eq (r : Fin 32) (h : Fin 16) (p : Fin 256) (j : Fin 32) :
    exps m c (ix4 r h p j) = Ideal.exp (masked (valid m c r) (score m c r h) (p, j) - peak (valid m c r) (score m c r h)) := by
  unfold exps
  show Ideal.exp (scores m c (ix4 r h p j) - _) = _
  rw [scores_eq, broadcastInDim_apply _ bcast_S32x16x1x1_S32x16x256x32_0_1_2_3 _ _ (ix4 (n0 := 32) (n1 := 16) (n2 := 1) (n3 := 1) r h 0 0) (fun a => match a with | ⟨0, _⟩ => rfl | ⟨1, _⟩ => rfl | ⟨2, _⟩ => rfl | ⟨3, _⟩ => rfl),
    broadcastInDim_apply _ bcast_S32x16_S32x16x1x1_0_1 _ _ (ix2 (n0 := 32) (n1 := 16) r h) (fun a => match a with | ⟨0, _⟩ => rfl | ⟨1, _⟩ => rfl), max_apply]
  unfold peak
  simp only [scores_eq]

/-- The reference at a row, head and depth: the values of all covered slots weighted by the normalised exponentials of their scores. -/
theorem result_apply (r : Fin 32) (h : Fin 16) (d : Fin 128) : result m c (ix4 (n0 := 32) (n1 := 1) (n2 := 16) (n3 := 128) r 0 h d)
    = ∑ x : Fin 256 × Fin 32, Ideal.div (Ideal.exp (masked (valid m c r) (score m c r h) x - peak (valid m c r) (score m c r h)))
        (∑ x : Fin 256 × Fin 32, Ideal.exp (masked (valid m c r) (score m c r h) x - peak (valid m c r) (score m c r h))) * values m c (ix4 (page m c r x.1) x.2 h d) := by
  rw [result_eq, broadcastInDim_apply _ bcast_S32x16x128_S32x1x16x128_0_2_3 _ _ (ix3 (n0 := 32) (n1 := 16) (n2 := 128) r h d) (fun a => match a with | ⟨0, _⟩ => rfl | ⟨1, _⟩ => rfl | ⟨2, _⟩ => rfl), weighted_apply]
  refine Finset.sum_congr rfl fun x _ => ?_
  rw [gather_apply, hostDivf_apply, exps_eq, broadcastInDim_apply _ bcast_S32x16x1x1_S32x16x256x32_0_1_2_3 _ _ (ix4 (n0 := 32) (n1 := 16) (n2 := 1) (n3 := 1) r h 0 0) (fun a => match a with | ⟨0, _⟩ => rfl | ⟨1, _⟩ => rfl | ⟨2, _⟩ => rfl | ⟨3, _⟩ => rfl),
    broadcastInDim_apply _ bcast_S32x16_S32x16x1x1_0_1 _ _ (ix2 (n0 := 32) (n1 := 16) r h) (fun a => match a with | ⟨0, _⟩ => rfl | ⟨1, _⟩ => rfl), sum_apply]
  simp only [exps_eq]
  rfl

end Cert.PagedReferenceIdeal

end
-- ==== Proof.Value.WellFormed.lean ====
/-
What the precondition says of the arrays of one device: the queries and the keys are finite, every row attends to a position, and the pages
a row reads are in the pool.
-/
module

public import proofs.«01_k».proof.Pre_well_formed_KernelIdeal
public import proofs.«01_k».proof.Pre_well_formed_ReferenceIdeal
public import Idealize.ShloMosaic.Lib.ReduceAll
public import Idealize.ShloMosaic.Lib.ValueIdx
public import Idealize.ShloMosaic.Lib.IdealHost

@[expose] public section

noncomputable section

namespace Cert.PagedValue

open Idealize.ShloMosaic Idealize.ShloMosaic.ValueIdx

/-- The side conditions of the precondition over a device's blocks. -/
theorem pre_facts : Cert.Pre_well_formed_KernelIdeal.Facts := by
  constructor <;> decide

/-- The side conditions of the precondition over whole arrays. -/
theorem pre_facts_whole : Cert.Pre_well_formed_ReferenceIdeal.Facts := by
  constructor <;> decide

open Cert.Pre_well_formed_KernelIdeal

/-- What the precondition says of a device's arrays. -/
structure Good (Q : S32x1x16x128.Idx → EReal) (K : S256x32x16x128.Idx → EReal) (T : IVec S32x256 32) (N : IVec S32 32) : Prop where
  query : ∀ i, Q i ≠ ⊤ ∧ Q i ≠ ⊥
  key : ∀ i, K i ≠ ⊤ ∧ K i ≠ ⊥
  length : ∀ r : Fin 32, 1 ≤ (N (ix1 (n := 32) r)).toInt
  page : ∀ (r : Fin 32) (p : Fin 256), (p.val : ℤ) < (N (ix1 (n := 32) r)).toInt → ∃ P : Fin 1024, T (ix2 (n0 := 32) (n1 := 256) r p) = BitVec.ofNat 32 P.val

/-- The bits of infinity are infinity. -/
theorem infinity : Ideal.ofBits .f32 0x7F800000#32 = ⊤ := by simp [Ideal.ofBits, Ideal.ieee]

/-- A number whose absolute value is less than infinity is neither infinity. -/
theorem finite_of_abs {x : EReal} (h : Ideal.cmp .olt (max x (-x)) (Ideal.ofBits .f32 0x7F800000#32) = 1#1) : x ≠ ⊤ ∧ x ≠ ⊥ := by
  rw [infinity] at h
  have hlt : max x (-x) < ⊤ := by
    by_contra hn
    simp [Ideal.cmp, hn] at h
  constructor
  · rintro rfl
    simp at hlt
  · rintro rfl
    simp at hlt

/-- A word at least 0 and less than 1024 names a page of the pool. -/
theorem page_of_range {w : BitVec 32} (h0 : 0 ≤ w.toInt) (h1 : w.toInt < 1024) : ∃ P : Fin 1024, w = BitVec.ofNat 32 P.val := by
  have hw := w.isLt
  rw [BitVec.toInt_eq_toNat_cond] at h0 h1
  refine ⟨⟨w.toNat, by split_ifs at h0 h1 <;> omega⟩, ?_⟩
  apply BitVec.eq_of_toNat_eq
  simp [BitVec.toNat_ofNat]

/-- A small number is the signed value of its word. -/
theorem toInt_small {n : ℕ} (h : n < 2048) : (BitVec.ofNat 32 n).toInt = n := by
  rw [BitVec.toInt_eq_toNat_cond, BitVec.toNat_ofNat]
  split_ifs <;> omega

seal Host.reduce

/-- The precondition at a device's arrays says that they are good. -/
theorem good_of_pre [Facts] (Q : FVec Ideal S32x1x16x128 .f32) (K V : FVec Ideal S256x32x16x128 .f32) (T : IVec S32x256 32) (N : IVec S32 32)
    (h : fn (F := Ideal) Q K V T N = fun _ => 1#1) : Good Q K T N := by
  haveI : Subsingleton S_.Idx := ⟨fun a b => funext fun k => k.elim0⟩
  have e := congrFun h (fun k => k.elim0)
  unfold fn fn_part1 at e
  obtain ⟨e1, eT⟩ := IntOp.andi_eq_one.1 e
  obtain ⟨e2, eN⟩ := IntOp.andi_eq_one.1 e1
  obtain ⟨eQ, eK⟩ := IntOp.andi_eq_one.1 e2
  refine ⟨fun i => ?_, fun i => ?_, fun r => ?_, fun r p hp => ?_⟩
  · exact finite_of_abs (Host.reduce_andi_all _ _ _ _ _ eQ i)
  · exact finite_of_abs (Host.reduce_andi_all _ _ _ _ _ eK i)
  · exact IntOp.cmpi_sge.1 (Host.reduce_andi_all _ _ _ _ _ eN (ix1 (n := 32) r))
  · have hx := Host.reduce_andi_all _ _ _ _ _ eT (ix2 (n0 := 32) (n1 := 256) r p)
    rcases IntOp.ori_eq_one.1 hx with hx | hx
    · obtain ⟨h0, h1⟩ := IntOp.andi_eq_one.1 hx
      exact page_of_range (IntOp.cmpi_sge.1 h0) (IntOp.cmpi_slt.1 h1)
    · exfalso
      have hx : IntOp.cmpi .sge (BitVec.ofNat 32 p.val) (N (ix1 (n := 32) r)) = 1#1 := by
        refine Eq.trans ?_ hx
        congr 1
        congr 1
        funext k
        fin_cases k
        rfl
      have := IntOp.cmpi_sge.1 hx
      rw [toInt_small (by omega)] at this
      omega

end Cert.PagedValue

end
-- ==== Proof.Value.Equal.lean ====
/-
The kernel's result and the reference's are the same array when the precondition holds and each device's pages are its block of the pool.
-/
module

public import proofs.«01_k».proof.Proof.Value.Carry
public import proofs.«01_k».proof.Proof.Value.HostTable
public import proofs.«01_k».proof.Proof.Value.Reference
public import proofs.«01_k».proof.Proof.Value.WellFormed
public import Idealize.ShloMosaic.Lib.Layout

@[expose] public section

noncomputable section

namespace Cert.PagedEqual

open Cert.PagedValue Cert.PagedPayloads Cert.PagedKernelIdeal
open Cert.KernelIdeal.Gen (V0 V1_of V2_of V3_of V4_of V5_of V6_of V7_of V8_of V8)
open Idealize.ShloMosaic Idealize.ShloMosaic.TcCoe Idealize.ShloMosaic.ValueIdx

/-! ## Scores of finite numbers -/

/-- A sum of real numbers, read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The scale is a real number. -/
theorem scale_real : ∃ s : ℝ, scale = (s : EReal) := by
  simp only [scale, Ideal.ofBits, Ideal.ieee]
  rw [if_neg (by decide), if_neg (by decide)]
  exact ⟨_, rfl⟩

/-- For finite keys and queries it makes no difference whether the queries are scaled or the score is, and the score is finite. -/
theorem scaled {k q : Fin 128 → EReal} (hk : ∀ d, k d ≠ ⊤ ∧ k d ≠ ⊥) (hq : ∀ d, q d ≠ ⊤ ∧ q d ≠ ⊥) :
    ∑ d, k d * (q d * scale) = (∑ d, q d * k d) * scale ∧ (∑ d, q d * k d) * scale ≠ ⊤ ∧ (∑ d, q d * k d) * scale ≠ ⊥ := by
  lift k to Fin 128 → ℝ using hk
  lift q to Fin 128 → ℝ using hq
  obtain ⟨s, hs⟩ := scale_real
  simp only [hs, ← EReal.coe_mul, coe_sum]
  refine ⟨congrArg _ ?_, EReal.coe_ne_top _, EReal.coe_ne_bot _⟩
  rw [Finset.sum_mul]
  exact Finset.sum_congr rfl fun d _ => by ring

/-! ## What the devices hold -/

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- A device's queries, keys and values. -/
def queries (m : KMem) (c : Dev Cert.KernelIdeal.nD) : Cert.Pre_well_formed_KernelIdeal.S32x1x16x128.Idx → EReal := m ((c.tc : Thread Cert.KernelIdeal.nD Cert.KernelIdeal.τ).loc Cert.KernelIdeal.main_arg0)
def keys (m : KMem) (c : Dev Cert.KernelIdeal.nD) : Cert.Pre_well_formed_KernelIdeal.S256x32x16x128.Idx → EReal := m ((c.tc : Thread Cert.KernelIdeal.nD Cert.KernelIdeal.τ).loc Cert.KernelIdeal.main_arg1)
def values (m : KMem) (c : Dev Cert.KernelIdeal.nD) : Cert.Pre_well_formed_KernelIdeal.S256x32x16x128.Idx → EReal := m ((c.tc : Thread Cert.KernelIdeal.nD Cert.KernelIdeal.τ).loc Cert.KernelIdeal.main_arg2)

/-- The devices hold good arrays that are their parts of the reference's. -/
structure Shared (m : KMem) (m' : RMem) : Prop where
  good : ∀ c : Fin 4, Good (queries m c) (keys m c) (table m c) (lens m c)
  query : ∀ c : Fin 4, queries m c = PagedReferenceIdeal.queries m' 0
  key : ∀ c : Fin 4, keys m c = Layout.block ⟨4, ![256, 32, 16, 128]⟩ ⟨4, ![1024, 32, 16, 128]⟩ 0 4 c (PagedReferenceIdeal.keys m' 0)
  value : ∀ c : Fin 4, values m c = Layout.block ⟨4, ![256, 32, 16, 128]⟩ ⟨4, ![1024, 32, 16, 128]⟩ 0 4 c (PagedReferenceIdeal.values m' 0)
  tab : ∀ c : Fin 4, table m c = PagedReferenceIdeal.table m' 0
  len : ∀ c : Fin 4, lens m c = PagedReferenceIdeal.lens m' 0

/-- A page of a device's block is a page of the pool. -/
theorem block_page (v : (⟨4, ![1024, 32, 16, 128]⟩ : Shape).Idx → EReal) (c : Fin 4) (P : Fin 256) (P' : Fin 1024) (hP : P'.val = c.val * 256 + P.val) (j : Fin 32) (h : Fin 16) (d : Fin 128) :
    Layout.block ⟨4, ![256, 32, 16, 128]⟩ ⟨4, ![1024, 32, 16, 128]⟩ 0 4 c v (by decide) (ix4 (n0 := 256) (n1 := 32) (n2 := 16) (n3 := 128) P j h d) = v (ix4 (n0 := 1024) (n1 := 32) (n2 := 16) (n3 := 128) P' j h d) := by
  rw [Layout.block_apply]
  refine congrArg v (funext fun a => Fin.ext ?_)
  rw [Layout.Tiles.idx_val]
  fin_cases a
  · exact hP.symm
  · rfl
  · rfl
  · rfl

/-- No host step of the kernel writes an argument. -/
theorem kept (m : KMem) (c : Fin 4) (r : Ref Cert.KernelIdeal.sig .tc)
    (h : r ∈ [Cert.KernelIdeal.main_arg0, Cert.KernelIdeal.main_arg1, Cert.KernelIdeal.main_arg2]) : V8 m c r = V0 m c r := by
  fin_cases h <;>
    exact (V8_of m c _ (by decide)).trans <| (V7_of m c _ (by decide)).trans <| (V6_of m c _ (by decide)).trans <| (V5_of m c _ (by decide)).trans <|
      (V4_of m c _ (by decide)).trans <| (V3_of m c _ (by decide)).trans <| (V2_of m c _ (by decide)).trans (V1_of m c _ (by decide))

/-! ## One row -/

variable {m : KMem} {m' : RMem} (S : Shared m m') (r : Fin 32)

/-- Whether a device owns the page of a slot. -/
def owned (m : KMem) (r : Fin 32) (c : Fin 4) (p : Fin 256) : Prop := marks m c r p = 1#1
instance (m : KMem) (r : Fin 32) (c : Fin 4) : DecidablePred (owned m r c) := fun _ => inferInstanceAs (Decidable (_ = _))
/-- How many pages of a row a device owns. -/
def pages (m : KMem) (r : Fin 32) (c : Fin 4) : ℕ := marked (marks m c r)
/-- Their slots in order. -/
def slots (m : KMem) (r : Fin 32) (c : Fin 4) (i : ℕ) : Fin 256 := order (marks m c r) (Fin.ofNat 256 i)

include S

/-- A valid slot's page is the one its word of the table names. -/
theorem table_page {p : Fin 256} (h : PagedReferenceIdeal.valid m' 0 r p) (c : Fin 4) :
    table m c (ix2 (n0 := 32) (n1 := 256) r p) = BitVec.ofNat 32 (PagedReferenceIdeal.page m' 0 r p).val := by
  have hl : (p.val : ℤ) < (lens m c (ix1 (n := 32) r)).toInt := by
    have := IntOp.cmpi_slt.1 h
    rw [toInt_small (by omega), ← S.len c] at this
    exact this
  obtain ⟨P, hP⟩ := (S.good c).page r p hl
  rw [PagedReferenceIdeal.page_eq m' 0 r p P (by rw [← S.tab c]; exact hP)]
  exact hP

/-- A device owns a slot when the slot is valid and its page is in the device's block. -/
theorem owned_iff (c : Fin 4) (p : Fin 256) : owned m r c p ↔ PagedReferenceIdeal.valid m' 0 r p ∧ (PagedReferenceIdeal.page m' 0 r p).val / 256 = c.val := by
  have hv : IntOp.cmpi .slt (BitVec.ofNat 32 p.val) (lens m c (ix1 (n := 32) r)) = 1#1 ↔ PagedReferenceIdeal.valid m' 0 r p := by
    rw [S.len c]; exact Iff.rfl
  have hw : ∀ P : Fin 1024, floorDiv (BitVec.ofNat 32 P.val) = BitVec.ofNat 32 c.val ↔ P.val / 256 = c.val := by
    intro P
    have hP := P.isLt
    have hc := c.isLt
    rw [floorDiv_eq, ← BitVec.toNat_inj, BitVec.toNat_ofNat, BitVec.toNat_ofNat, Nat.mod_eq_of_lt (by omega), Nat.mod_eq_of_lt (by omega)]
  unfold owned marks
  rw [mask_eq, IntOp.andi_eq_one, IntOp.cmpi_eq, hv]
  constructor
  · rintro ⟨h1, h2⟩
    rw [table_page S r h2 c] at h1
    exact ⟨h2, (hw _).1 h1⟩
  · rintro ⟨h1, h2⟩
    rw [table_page S r h1 c]
    exact ⟨(hw _).2 h2, h1⟩

omit S in
/-- The first places of the sorted order are the owned slots, each once. -/
theorem lists (c : Fin 4) : Lists (pages m r c) (slots m r c) (owned m r c) where
  inj i j hi hj e := by
    have hle := marked_le (marks m c r)
    have := congrArg Fin.val (order_injective _ e)
    simp only [Fin.ofNat] at this
    unfold pages at hi hj
    omega
  mem p := by
    have hle := marked_le (marks m c r)
    constructor
    · intro h
      obtain ⟨i, rfl⟩ := order_surjective (marks m c r) p
      refine ⟨i.val, (order_iff _ i).1 h, ?_⟩
      unfold slots
      congr 1
      exact Fin.ext (Nat.mod_eq_of_lt i.isLt)
    · rintro ⟨i, hi, rfl⟩
      refine (order_iff _ _).2 ?_
      show i % 256 < _
      exact lt_of_le_of_lt (Nat.mod_le _ _) hi

/-- Every page of the pool is finite. -/
theorem keys_finite (P : Fin 1024) (j : Fin 32) (h : Fin 16) (d : Fin 128) :
    PagedReferenceIdeal.keys m' 0 (ix4 (n0 := 1024) (n1 := 32) (n2 := 16) (n3 := 128) P j h d) ≠ ⊤ ∧ PagedReferenceIdeal.keys m' 0 (ix4 (n0 := 1024) (n1 := 32) (n2 := 16) (n3 := 128) P j h d) ≠ ⊥ := by
  have hP := P.isLt
  have e := block_page (PagedReferenceIdeal.keys m' 0) ⟨P.val / 256, by omega⟩ ⟨P.val % 256, by omega⟩ P (by show P.val = P.val / 256 * 256 + P.val % 256; omega) j h d
  rw [← S.key] at e
  rw [← e]
  exact (S.good _).key _

/-- The reference's scores are finite. -/
theorem score_finite (h : Fin 16) (p : Fin 256) (j : Fin 32) : PagedReferenceIdeal.score m' 0 r h p j ≠ ⊤ ∧ PagedReferenceIdeal.score m' 0 r h p j ≠ ⊥ :=
  (scaled (k := fun d => PagedReferenceIdeal.keys m' 0 (ix4 (PagedReferenceIdeal.page m' 0 r p) j h d)) (q := fun d => PagedReferenceIdeal.queries m' 0 (ix4 r 0 h d))
    (fun d => keys_finite S _ j h d) (fun d => by rw [← S.query 0]; exact (S.good 0).query _)).2

/-- A listed slot is valid, its page is in the device's block, and the device's table names it there. -/
theorem listed_slot (c : Fin 4) (i : ℕ) (hi : i < pages m r c) :
    (PagedReferenceIdeal.page m' 0 r (slots m r c i)).val = c.val * 256 + (pageAt c (tabOf (V8 m) c) r.val i).val := by
  obtain ⟨hv, hc⟩ := (owned_iff S r c _).1 (((lists r c).mem _).2 ⟨i, hi, rfl⟩)
  have ht := table_page S r hv c
  have hP := (PagedReferenceIdeal.page m' 0 r (slots m r c i)).isLt
  generalize (PagedReferenceIdeal.page m' 0 r (slots m r c i)).val = P at hc ht hP ⊢
  have e := entry_eq m c r (Fin.ofNat 256 i) ⟨P % 256, by omega⟩ (ht.trans (congrArg (BitVec.ofNat 32) (by show P = 256 * c.val + P % 256; omega)))
  have : (pageAt c (tabOf (V8 m) c) r.val i).val = P % 256 := by
    unfold pageAt entry
    rw [show (Fin.ofNat 32 r.val) = r from Fin.ext (Nat.mod_eq_of_lt r.isLt), e, pageOf_val]
    · show (BitVec.ofNat 32 (P % 256)).toNat = _
      rw [BitVec.toNat_ofNat]; omega
    · show (BitVec.ofNat 32 (P % 256)).toNat < _
      rw [BitVec.toNat_ofNat]; omega
  rw [this]
  omega

/-- A device's arrays of pages and queries when the call begins. -/
theorem held (c : Fin 4) : qryOf (V8 m) c = PagedReferenceIdeal.queries m' 0 ∧ pagesOf (V8 m) c 0 = keys m c ∧ pagesOf (V8 m) c 1 = values m c :=
  ⟨(kept m c Cert.KernelIdeal.main_arg0 (by decide)).trans (S.query c), kept m c Cert.KernelIdeal.main_arg1 (by decide), kept m c Cert.KernelIdeal.main_arg2 (by decide)⟩

/-- The row of queries that a device reads. -/
theorem row_query (c : Fin 4) (h : Fin 16) (d : Fin 128) : query c (qryOf (V8 m) c) r.val (ix4 0 0 h d) = PagedReferenceIdeal.queries m' 0 (ix4 r 0 h d) := by
  rw [(held S c).1]
  unfold query
  rw [show (Fin.ofNat 32 r.val) = r from Fin.ext (Nat.mod_eq_of_lt r.isLt)]

/-- A page's score on its device is finite. -/
theorem pageScore_ne_top (c : Fin 4) (h : Fin 16) (P : Fin 256) (j : Fin 32) : pageScore (pagesOf (V8 m) c 0) (query c (qryOf (V8 m) c) r.val) h P j ≠ ⊤ := by
  unfold pageScore
  simp only [row_query S r c, (held S c).2.1]
  have hs := scaled (k := fun d => keys m c (ix4 P j h d)) (q := fun d => PagedReferenceIdeal.queries m' 0 (ix4 r 0 h d))
    (fun d => (S.good c).key _) (fun d => by rw [← S.query 0]; exact (S.good 0).query _)
  exact hs.1 ▸ hs.2.1

/-- The scores a device computes are the reference's on the slots it lists. -/
theorem rowScore_eq (c : Fin 4) (h : Fin 16) :
    rowScore (pagesOf (V8 m) c 0) (query c (qryOf (V8 m) c) r.val) h (pageAt c (tabOf (V8 m) c) r.val) (pages m r c)
      = listed (pages m r) (slots m r) (PagedReferenceIdeal.score m' 0 r h) c := by
  funext k
  unfold rowScore listed
  by_cases hk : k / 32 < pages m r c
  · rw [if_pos hk, if_pos hk]
    have hp := listed_slot S r c _ hk
    unfold pageScore PagedReferenceIdeal.score
    simp only [row_query S r c, (held S c).2.1]
    refine Eq.trans ?_ (scaled (k := fun d => PagedReferenceIdeal.keys m' 0 (ix4 (PagedReferenceIdeal.page m' 0 r (slots m r c (k / 32))) (Fin.ofNat 32 k) h d))
      (q := fun d => PagedReferenceIdeal.queries m' 0 (ix4 r 0 h d)) (fun d => keys_finite S _ _ h d) (fun d => by rw [← S.query 0]; exact (S.good 0).query _)).1
    refine Finset.sum_congr rfl fun d _ => ?_
    rw [S.key c, block_page _ c _ _ hp]
  · rw [if_neg hk, if_neg hk]

/-- So are the values. -/
theorem rowValue_eq (c : Fin 4) (h : Fin 16) (d : Fin 128) (k : ℕ) (hk : k / 32 < pages m r c) :
    rowValue (pagesOf (V8 m) c 1) h (pageAt c (tabOf (V8 m) c) r.val) d k
      = PagedReferenceIdeal.values m' 0 (ix4 (PagedReferenceIdeal.page m' 0 r (slots m r c (k / 32))) (Fin.ofNat 32 k) h d) := by
  unfold rowValue
  rw [(held S c).2.2, S.value c, block_page _ c _ _ (listed_slot S r c _ hk)]

omit S in
/-- The count a device is given of a row. -/
theorem row_count (c : Fin 4) : (Cert.PagedKernelIdeal.count c (cntOf (V8 m) c) r.val).toNat = pages m r c := by
  have hle := marked_le (marks m c r)
  unfold Cert.PagedKernelIdeal.count pages
  rw [show (Fin.ofNat 32 r.val) = r from Fin.ext (Nat.mod_eq_of_lt r.isLt), count_eq, BitVec.toNat_ofNat]
  omega

/-- The pages of a row's chunks on a device. -/
def padded (m : KMem) (r : Fin 32) (c : Fin 4) : ℕ := 8 * chunks (pages m r c)

/-- A device's partials of a row, by the reference's scores and values. -/
theorem parts_eq (c : Fin 4) (h : Fin 16) (d : Fin 128) :
    partsOf (V8 m) c 1 r h d = top (pages m r) (padded m r) (slots m r) (PagedReferenceIdeal.score m' 0 r h) c
    ∧ partsOf (V8 m) c 2 r h d = ∑ k ∈ Finset.range (32 * padded m r c), Ideal.exp (listed (pages m r) (slots m r) (PagedReferenceIdeal.score m' 0 r h) c k
        - top (pages m r) (padded m r) (slots m r) (PagedReferenceIdeal.score m' 0 r h) c)
    ∧ partsOf (V8 m) c 0 r h d = ∑ k ∈ Finset.range (32 * padded m r c), Ideal.exp (listed (pages m r) (slots m r) (PagedReferenceIdeal.score m' 0 r h) c k
        - top (pages m r) (padded m r) (slots m r) (PagedReferenceIdeal.score m' 0 r h) c) * rowValue (pagesOf (V8 m) c 1) h (pageAt c (tabOf (V8 m) c) r.val) d k := by
  have hpad : 32 * padded m r c = 256 * chunks (pages m r c) := by unfold padded; omega
  have hp := partials_eq (h := h) (c := c) (T := tabOf (V8 m) c) (N := cntOf (V8 m) c) (X := pagesOf (V8 m) c) (Q := qryOf (V8 m) c) (r := r) (d := d)
    (by rw [row_count]; exact marked_le _) (pageScore_ne_top S r c h)
  have htop : rowTop (pagesOf (V8 m) c 0) (query c (qryOf (V8 m) c) r.val) h (pageAt c (tabOf (V8 m) c) r.val) (pages m r c) (chunks (pages m r c))
      = top (pages m r) (padded m r) (slots m r) (PagedReferenceIdeal.score m' 0 r h) c := by
    unfold rowTop top
    rw [rowScore_eq S r c h, hpad]
  rw [row_count, htop, rowScore_eq S r c h, ← hpad] at hp
  exact hp

/-- The kernel's result on every device is the reference's. -/
theorem result_eq (c : Fin 4) : outOf (partsOf (V8 m)) c = PagedReferenceIdeal.result m' 0 := by
  funext x
  obtain ⟨r, h, d, rfl⟩ : ∃ (r : Fin 32) (h : Fin 16) (d : Fin 128), x = ix4 (n0 := 32) (n1 := 1) (n2 := 16) (n3 := 128) r 0 h d :=
    ⟨x 0, x 2, x 3, funext fun a => by
      fin_cases a
      · rfl
      · exact Subsingleton.elim (α := Fin 1) _ _
      · rfl
      · rfl⟩
  rw [outOf_apply, PagedReferenceIdeal.result_apply]
  simp only [fun e => (parts_eq S r e h d).1, fun e => (parts_eq S r e h d).2.1, fun e => (parts_eq S r e h d).2.2]
  refine combined_eq (own := owned m r) (V := fun p j => PagedReferenceIdeal.values m' 0 (ix4 (PagedReferenceIdeal.page m' 0 r p) j h d))
    (W := fun e k => rowValue (pagesOf (V8 m) e 1) h (pageAt e (tabOf (V8 m) e) r.val) d k)
    (lists r) (fun e => ?_) (fun p => ?_) (fun p e e' h1 h2 => ?_) (fun p j => (score_finite S r h p j).1) (fun e k hk => rowValue_eq S r e h d k hk) 0 ?_ (score_finite S r h 0 0).2
  · unfold padded chunks; omega
  · constructor
    · intro hv
      have hP := (PagedReferenceIdeal.page m' 0 r p).isLt
      exact ⟨⟨(PagedReferenceIdeal.page m' 0 r p).val / 256, by omega⟩, (owned_iff S r _ p).2 ⟨hv, rfl⟩⟩
    · rintro ⟨e, he⟩
      exact ((owned_iff S r e p).1 he).1
  · exact Fin.ext (((owned_iff S r e p).1 h1).2.symm.trans ((owned_iff S r e' p).1 h2).2)
  · refine IntOp.cmpi_slt.2 ?_
    have := (S.good 0).length r
    rw [S.len 0] at this
    rw [toInt_small (by decide)]
    exact lt_of_lt_of_le (by decide) this

end Cert.PagedEqual

end
-- ==== Proof.Claims.lean ====
/-
  The claims: every program runs and leaves its arguments and counters as they were, the constant renamed in the idealized kernel
  is what its name says, and at exact floats the kernel's result on every device is the reference's.
-/
module

public import proofs.«01_k».proof.Defs
public import proofs.«01_k».proof.Proof.Kernel.Run
public import proofs.«01_k».proof.Proof.Kernel.Host
public import proofs.«01_k».proof.Proof.KernelIdeal.Run
public import proofs.«01_k».proof.Proof.KernelIdeal.Host
public import proofs.«01_k».proof.Proof.Gen.ReferenceIdeal.Run
public import proofs.«01_k».proof.Proof.Value.Equal
public import Idealize.ShloMosaic.Lib.Quiescent

@[expose] public section

noncomputable section

open Idealize.ShloMosaic Idealize.ShloMosaic.TcCoe Idealize.SL.Sem

namespace Cert.PagedClaims

/-- The kernel at the hardware's floats runs, and ends with its arguments unchanged and every counter at zero. -/
theorem frame_p : Cert.quiescent_Kernel (hKernel := Cert.Kernel.Gen.facts) := fun m ρ _ =>
  (θ_run Cert.Kernel.defs _ _).mono (fun _ h => ⟨fun c => (h.1 c).1, h.2⟩)
    (Cert.PagedKernel.run_main (F := Bits) m ρ (Cert.PagedKernel.inRange m))

/-- The kernel at exact floats runs, and ends with its arguments unchanged and every counter at zero. -/
theorem frame_pi : Cert.quiescent_KernelIdeal (hKernelIdeal := Cert.KernelIdeal.Gen.facts) := fun m ρ _ =>
  (θ_run Cert.KernelIdeal.defs _ _).mono (fun _ h => ⟨fun c => (h.1 c).1, h.2⟩)
    (Cert.PagedKernelIdeal.run_main (F := Ideal) m ρ (Cert.PagedKernelIdeal.inRange m))

/-- The reference runs, and ends with its arguments unchanged and every counter at zero. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask stands for minus infinity. -/
theorem preserves : Cert.preserves_Kernel_KernelIdeal :=
  IdealRules.named_const.statement Cert.KernelIdeal.κ "mask" .f32 0xF149F2CA#32 ⊥ rfl

/-- The kernel's frame, from memories of which the precondition holds. -/
theorem frame_pi_pre : Cert.quiescent_KernelIdeal_pre_well_formed_KernelIdeal (hKernelIdeal := Cert.KernelIdeal.Gen.facts)
    (hPre_well_formed_KernelIdeal := Cert.PagedValue.pre_facts) := fun m ρ _ => frame_pi m ρ trivial

/-- The reference's frame, from memories of which the precondition holds. -/
theorem frame_ri_pre : Cert.quiescent_ReferenceIdeal_pre_well_formed_ReferenceIdeal (hReferenceIdeal := Cert.ReferenceIdeal.Gen.facts)
    (hPre_well_formed_ReferenceIdeal := Cert.PagedValue.pre_facts_whole) := fun m ρ _ => frame_ri m ρ trivial

/-- At exact floats every device's result is the reference's. -/
theorem algebraic : Cert.algebraic_KernelIdeal_ReferenceIdeal_pre_well_formed_KernelIdeal (hKernelIdeal := Cert.KernelIdeal.Gen.facts)
    (hReferenceIdeal := Cert.ReferenceIdeal.Gen.facts) (hPre_well_formed_KernelIdeal := Cert.PagedValue.pre_facts) := by
  intro m ρ m' ρ' hpre hm
  have hS : Cert.PagedEqual.Shared m m' :=
    { good := fun c => @Cert.PagedValue.good_of_pre Cert.PagedValue.pre_facts _ _ _ _ _ (hpre c)
      query := fun c => (hm c).1
      key := fun c => (hm c).2.1
      value := fun c => (hm c).2.2.1
      tab := fun c => (hm c).2.2.2.1
      len := fun c => (hm c).2.2.2.2 }
  refine ⟨Cert.PagedReferenceIdeal.result m' 0, ?_, ?_⟩
  · exact (θ_run Cert.KernelIdeal.defs _ _).mono (fun _ h c => ⟨((h.1 c).2).trans (Cert.PagedEqual.result_eq hS c), (h.1 c).1⟩)
      (Cert.PagedKernelIdeal.run_main (F := Ideal) m ρ (Cert.PagedKernelIdeal.inRange m))
  · exact (θ_run Cert.ReferenceIdeal.defs _ _).mono (fun _ h => h 0) (Cert.ReferenceIdeal.Value.run (F := Ideal) m' ρ')

end Cert.PagedClaims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, PagedValue.pre_facts, PagedValue.pre_facts_whole,
    PagedClaims.frame_p, PagedClaims.frame_pi, PagedClaims.frame_pi_pre, PagedClaims.frame_ri, PagedClaims.frame_ri_pre, PagedClaims.preserves,
    PagedClaims.algebraic⟩

end Cert.Proof

end
